-- ==== Defs.lean ====
def Pre_Before (m : (ℓ : Loc Cert.Before.nD Cert.Before.τ Cert.Before.sig) → Buf (Elt Bits) ℓ) : Prop :=
  True

def Pre_BeforeIdeal (m : (ℓ : Loc Cert.BeforeIdeal.nD Cert.BeforeIdeal.τ Cert.BeforeIdeal.sig) → Buf (Elt Ideal) ℓ) : Prop :=
  True

def Pre_BeforeRefIdeal (m : (ℓ : Loc Cert.BeforeRefIdeal.nD Cert.BeforeRefIdeal.τ Cert.BeforeRefIdeal.sig) → Buf (Elt Ideal) ℓ) : Prop :=
  True

def Pre_Attention [hPre_lengths_in_cache : Cert.Pre_lengths_in_cache.Facts] (m : (ℓ : Loc Cert.Attention.nD Cert.Attention.τ Cert.Attention.sig) → Buf (Elt Bits) ℓ) : Prop :=
  ∀ c : Dev Cert.Attention.nD,
    (Cert.Pre_lengths_in_cache.fn (F := Bits) (m ((c.tc : Thread Cert.Attention.nD Cert.Attention.τ).loc Cert.Attention.main_arg0)) (m ((c.tc : Thread Cert.Attention.nD Cert.Attention.τ).loc Cert.Attention.main_arg1)) (m ((c.tc : Thread Cert.Attention.nD Cert.Attention.τ).loc Cert.Attention.main_arg2)) (m ((c.tc : Thread Cert.Attention.nD Cert.Attention.τ).loc Cert.Attention.main_arg3)) (m ((c.tc : Thread Cert.Attention.nD Cert.Attention.τ).loc Cert.Attention.main_arg4)) (m ((c.tc : Thread Cert.Attention.nD Cert.Attention.τ).loc Cert.Attention.main_arg5)) (m ((c.tc : Thread Cert.Attention.nD Cert.Attention.τ).loc Cert.Attention.main_arg6)) (m ((c.tc : Thread Cert.Attention.nD Cert.Attention.τ).loc Cert.Attention.main_arg7))) = (fun _ => 1#1)

def Pre_AttentionIdeal [hPre_lengths_in_cache : Cert.Pre_lengths_in_cache.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_lengths_in_cache.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Before [hBefore : Cert.Before.Facts] : Prop :=
  ∀ (m : (ℓ : Loc Cert.Before.nD Cert.Before.τ Cert.Before.sig) → Buf (Elt Bits) ℓ) (g : Dev Cert.Before.nD → PrngReg), Pre_Before m →
    θ_run (Cert.Before.defs (F := Bits)) (onTc (τ := Cert.Before.τ) (Cert.Before.main (F := Bits))) ⟨m, fun _ => 0, g⟩ (fun r => (∀ c : Dev Cert.Before.nD,
      r.2.mem ((c.tc : Thread Cert.Before.nD Cert.Before.τ).loc Cert.Before.main_arg0) = m ((c.tc : Thread Cert.Before.nD Cert.Before.τ).loc Cert.Before.main_arg0)
      ∧ r.2.mem ((c.tc : Thread Cert.Before.nD Cert.Before.τ).loc Cert.Before.main_arg1) = m ((c.tc : Thread Cert.Before.nD Cert.Before.τ).loc Cert.Before.main_arg1)
      ∧ r.2.mem ((c.tc : Thread Cert.Before.nD Cert.Before.τ).loc Cert.Before.main_arg2) = m ((c.tc : Thread Cert.Before.nD Cert.Before.τ).loc Cert.Before.main_arg2)
      ∧ r.2.mem ((c.tc : Thread Cert.Before.nD Cert.Before.τ).loc Cert.Before.main_arg3) = m ((c.tc : Thread Cert.Before.nD Cert.Before.τ).loc Cert.Before.main_arg3)
      ∧ r.2.mem ((c.tc : Thread Cert.Before.nD Cert.Before.τ).loc Cert.Before.main_arg4) = m ((c.tc : Thread Cert.Before.nD Cert.Before.τ).loc Cert.Before.main_arg4)
      ∧ r.2.mem ((c.tc : Thread Cert.Before.nD Cert.Before.τ).loc Cert.Before.main_arg5) = m ((c.tc : Thread Cert.Before.nD Cert.Before.τ).loc Cert.Before.main_arg5)
      ∧ r.2.mem ((c.tc : Thread Cert.Before.nD Cert.Before.τ).loc Cert.Before.main_arg6) = m ((c.tc : Thread Cert.Before.nD Cert.Before.τ).loc Cert.Before.main_arg6)
      ∧ r.2.mem ((c.tc : Thread Cert.Before.nD Cert.Before.τ).loc Cert.Before.main_arg7) = m ((c.tc : Thread Cert.Before.nD Cert.Before.τ).loc Cert.Before.main_arg7)
      ∧ r.2.mem ((c.tc : Thread Cert.Before.nD Cert.Before.τ).loc Cert.Before.main_arg8) = m ((c.tc : Thread Cert.Before.nD Cert.Before.τ).loc Cert.Before.main_arg8)
      ∧ r.2.mem ((c.tc : Thread Cert.Before.nD Cert.Before.τ).loc Cert.Before.main_arg9) = m ((c.tc : Thread Cert.Before.nD Cert.Before.τ).loc Cert.Before.main_arg9)
      ∧ r.2.mem ((c.tc : Thread Cert.Before.nD Cert.Before.τ).loc Cert.Before.main_arg10) = m ((c.tc : Thread Cert.Before.nD Cert.Before.τ).loc Cert.Before.main_arg10)
      ∧ r.2.mem ((c.tc : Thread Cert.Before.nD Cert.Before.τ).loc Cert.Before.main_arg11) = m ((c.tc : Thread Cert.Before.nD Cert.Before.τ).loc Cert.Before.main_arg11)
      ∧ r.2.mem ((c.tc : Thread Cert.Before.nD Cert.Before.τ).loc Cert.Before.main_arg12) = m ((c.tc : Thread Cert.Before.nD Cert.Before.τ).loc Cert.Before.main_arg12)
      ∧ r.2.mem ((c.tc : Thread Cert.Before.nD Cert.Before.τ).loc Cert.Before.main_arg13) = m ((c.tc : Thread Cert.Before.nD Cert.Before.τ).loc Cert.Before.main_arg13)
      ∧ r.2.mem ((c.tc : Thread Cert.Before.nD Cert.Before.τ).loc Cert.Before.main_arg14) = m ((c.tc : Thread Cert.Before.nD Cert.Before.τ).loc Cert.Before.main_arg14)
      ∧ r.2.mem ((c.tc : Thread Cert.Before.nD Cert.Before.τ).loc Cert.Before.main_arg15) = m ((c.tc : Thread Cert.Before.nD Cert.Before.τ).loc Cert.Before.main_arg15))
      ∧ r.2.sem = fun _ => 0)

def quiescent_BeforeIdeal [hBeforeIdeal : Cert.BeforeIdeal.Facts] : Prop :=
  ∀ (m : (ℓ : Loc Cert.BeforeIdeal.nD Cert.BeforeIdeal.τ Cert.BeforeIdeal.sig) → Buf (Elt Ideal) ℓ) (g : Dev Cert.BeforeIdeal.nD → PrngReg), Pre_BeforeIdeal m →
    θ_run (Cert.BeforeIdeal.defs (F := Ideal)) (onTc (τ := Cert.BeforeIdeal.τ) (Cert.BeforeIdeal.main (F := Ideal))) ⟨m, fun _ => 0, g⟩ (fun r => (∀ c : Dev Cert.BeforeIdeal.nD,
      r.2.mem ((c.tc : Thread Cert.BeforeIdeal.nD Cert.BeforeIdeal.τ).loc Cert.BeforeIdeal.main_arg0) = m ((c.tc : Thread Cert.BeforeIdeal.nD Cert.BeforeIdeal.τ).loc Cert.BeforeIdeal.main_arg0)
      ∧ r.2.mem ((c.tc : Thread Cert.BeforeIdeal.nD Cert.BeforeIdeal.τ).loc Cert.BeforeIdeal.main_arg1) = m ((c.tc : Thread Cert.BeforeIdeal.nD Cert.BeforeIdeal.τ).loc Cert.BeforeIdeal.main_arg1)
      ∧ r.2.mem ((c.tc : Thread Cert.BeforeIdeal.nD Cert.BeforeIdeal.τ).loc Cert.BeforeIdeal.main_arg2) = m ((c.tc : Thread Cert.BeforeIdeal.nD Cert.BeforeIdeal.τ).loc Cert.BeforeIdeal.main_arg2)
      ∧ r.2.mem ((c.tc : Thread Cert.BeforeIdeal.nD Cert.BeforeIdeal.τ).loc Cert.BeforeIdeal.main_arg3) = m ((c.tc : Thread Cert.BeforeIdeal.nD Cert.BeforeIdeal.τ).loc Cert.BeforeIdeal.main_arg3)
      ∧ r.2.mem ((c.tc : Thread Cert.BeforeIdeal.nD Cert.BeforeIdeal.τ).loc Cert.BeforeIdeal.main_arg4) = m ((c.tc : Thread Cert.BeforeIdeal.nD Cert.BeforeIdeal.τ).loc Cert.BeforeIdeal.main_arg4)
      ∧ r.2.mem ((c.tc : Thread Cert.BeforeIdeal.nD Cert.BeforeIdeal.τ).loc Cert.BeforeIdeal.main_arg5) = m ((c.tc : Thread Cert.BeforeIdeal.nD Cert.BeforeIdeal.τ).loc Cert.BeforeIdeal.main_arg5)
      ∧ r.2.mem ((c.tc : Thread Cert.BeforeIdeal.nD Cert.BeforeIdeal.τ).loc Cert.BeforeIdeal.main_arg6) = m ((c.tc : Thread Cert.BeforeIdeal.nD Cert.BeforeIdeal.τ).loc Cert.BeforeIdeal.main_arg6)
      ∧ r.2.mem ((c.tc : Thread Cert.BeforeIdeal.nD Cert.BeforeIdeal.τ).loc Cert.BeforeIdeal.main_arg7) = m ((c.tc : Thread Cert.BeforeIdeal.nD Cert.BeforeIdeal.τ).loc Cert.BeforeIdeal.main_arg7)
      ∧ r.2.mem ((c.tc : Thread Cert.BeforeIdeal.nD Cert.BeforeIdeal.τ).loc Cert.BeforeIdeal.main_arg8) = m ((c.tc : Thread Cert.BeforeIdeal.nD Cert.BeforeIdeal.τ).loc Cert.BeforeIdeal.main_arg8)
      ∧ r.2.mem ((c.tc : Thread Cert.BeforeIdeal.nD Cert.BeforeIdeal.τ).loc Cert.BeforeIdeal.main_arg9) = m ((c.tc : Thread Cert.BeforeIdeal.nD Cert.BeforeIdeal.τ).loc Cert.BeforeIdeal.main_arg9)
      ∧ r.2.mem ((c.tc : Thread Cert.BeforeIdeal.nD Cert.BeforeIdeal.τ).loc Cert.BeforeIdeal.main_arg10) = m ((c.tc : Thread Cert.BeforeIdeal.nD Cert.BeforeIdeal.τ).loc Cert.BeforeIdeal.main_arg10)
      ∧ r.2.mem ((c.tc : Thread Cert.BeforeIdeal.nD Cert.BeforeIdeal.τ).loc Cert.BeforeIdeal.main_arg11) = m ((c.tc : Thread Cert.BeforeIdeal.nD Cert.BeforeIdeal.τ).loc Cert.BeforeIdeal.main_arg11)
      ∧ r.2.mem ((c.tc : Thread Cert.BeforeIdeal.nD Cert.BeforeIdeal.τ).loc Cert.BeforeIdeal.main_arg12) = m ((c.tc : Thread Cert.BeforeIdeal.nD Cert.BeforeIdeal.τ).loc Cert.BeforeIdeal.main_arg12)
      ∧ r.2.mem ((c.tc : Thread Cert.BeforeIdeal.nD Cert.BeforeIdeal.τ).loc Cert.BeforeIdeal.main_arg13) = m ((c.tc : Thread Cert.BeforeIdeal.nD Cert.BeforeIdeal.τ).loc Cert.BeforeIdeal.main_arg13)
      ∧ r.2.mem ((c.tc : Thread Cert.BeforeIdeal.nD Cert.BeforeIdeal.τ).loc Cert.BeforeIdeal.main_arg14) = m ((c.tc : Thread Cert.BeforeIdeal.nD Cert.BeforeIdeal.τ).loc Cert.BeforeIdeal.main_arg14)
      ∧ r.2.mem ((c.tc : Thread Cert.BeforeIdeal.nD Cert.BeforeIdeal.τ).loc Cert.BeforeIdeal.main_arg15) = m ((c.tc : Thread Cert.BeforeIdeal.nD Cert.BeforeIdeal.τ).loc Cert.BeforeIdeal.main_arg15))
      ∧ r.2.sem = fun _ => 0)

def quiescent_BeforeRefIdeal [hBeforeRefIdeal : Cert.BeforeRefIdeal.Facts] : Prop :=
  ∀ (m : (ℓ : Loc Cert.BeforeRefIdeal.nD Cert.BeforeRefIdeal.τ Cert.BeforeRefIdeal.sig) → Buf (Elt Ideal) ℓ) (g : Dev Cert.BeforeRefIdeal.nD → PrngReg), Pre_BeforeRefIdeal m →
    θ_run (Cert.BeforeRefIdeal.defs (F := Ideal)) (onTc (τ := Cert.BeforeRefIdeal.τ) (Cert.BeforeRefIdeal.main (F := Ideal))) ⟨m, fun _ => 0, g⟩ (fun r => (∀ c : Dev Cert.BeforeRefIdeal.nD,
      r.2.mem ((c.tc : Thread Cert.BeforeRefIdeal.nD Cert.BeforeRefIdeal.τ).loc Cert.BeforeRefIdeal.main_arg0) = m ((c.tc : Thread Cert.BeforeRefIdeal.nD Cert.BeforeRefIdeal.τ).loc Cert.BeforeRefIdeal.main_arg0)
      ∧ r.2.mem ((c.tc : Thread Cert.BeforeRefIdeal.nD Cert.BeforeRefIdeal.τ).loc Cert.BeforeRefIdeal.main_arg1) = m ((c.tc : Thread Cert.BeforeRefIdeal.nD Cert.BeforeRefIdeal.τ).loc Cert.BeforeRefIdeal.main_arg1)
      ∧ r.2.mem ((c.tc : Thread Cert.BeforeRefIdeal.nD Cert.BeforeRefIdeal.τ).loc Cert.BeforeRefIdeal.main_arg2) = m ((c.tc : Thread Cert.BeforeRefIdeal.nD Cert.BeforeRefIdeal.τ).loc Cert.BeforeRefIdeal.main_arg2)
      ∧ r.2.mem ((c.tc : Thread Cert.BeforeRefIdeal.nD Cert.BeforeRefIdeal.τ).loc Cert.BeforeRefIdeal.main_arg3) = m ((c.tc : Thread Cert.BeforeRefIdeal.nD Cert.BeforeRefIdeal.τ).loc Cert.BeforeRefIdeal.main_arg3)
      ∧ r.2.mem ((c.tc : Thread Cert.BeforeRefIdeal.nD Cert.BeforeRefIdeal.τ).loc Cert.BeforeRefIdeal.main_arg4) = m ((c.tc : Thread Cert.BeforeRefIdeal.nD Cert.BeforeRefIdeal.τ).loc Cert.BeforeRefIdeal.main_arg4)
      ∧ r.2.mem ((c.tc : Thread Cert.BeforeRefIdeal.nD Cert.BeforeRefIdeal.τ).loc Cert.BeforeRefIdeal.main_arg5) = m ((c.tc : Thread Cert.BeforeRefIdeal.nD Cert.BeforeRefIdeal.τ).loc Cert.BeforeRefIdeal.main_arg5)
      ∧ r.2.mem ((c.tc : Thread Cert.BeforeRefIdeal.nD Cert.BeforeRefIdeal.τ).loc Cert.BeforeRefIdeal.main_arg6) = m ((c.tc : Thread Cert.BeforeRefIdeal.nD Cert.BeforeRefIdeal.τ).loc Cert.BeforeRefIdeal.main_arg6)
      ∧ r.2.mem ((c.tc : Thread Cert.BeforeRefIdeal.nD Cert.BeforeRefIdeal.τ).loc Cert.BeforeRefIdeal.main_arg7) = m ((c.tc : Thread Cert.BeforeRefIdeal.nD Cert.BeforeRefIdeal.τ).loc Cert.BeforeRefIdeal.main_arg7)
      ∧ r.2.mem ((c.tc : Thread Cert.BeforeRefIdeal.nD Cert.BeforeRefIdeal.τ).loc Cert.BeforeRefIdeal.main_arg8) = m ((c.tc : Thread Cert.BeforeRefIdeal.nD Cert.BeforeRefIdeal.τ).loc Cert.BeforeRefIdeal.main_arg8)
      ∧ r.2.mem ((c.tc : Thread Cert.BeforeRefIdeal.nD Cert.BeforeRefIdeal.τ).loc Cert.BeforeRefIdeal.main_arg9) = m ((c.tc : Thread Cert.BeforeRefIdeal.nD Cert.BeforeRefIdeal.τ).loc Cert.BeforeRefIdeal.main_arg9)
      ∧ r.2.mem ((c.tc : Thread Cert.BeforeRefIdeal.nD Cert.BeforeRefIdeal.τ).loc Cert.BeforeRefIdeal.main_arg10) = m ((c.tc : Thread Cert.BeforeRefIdeal.nD Cert.BeforeRefIdeal.τ).loc Cert.BeforeRefIdeal.main_arg10)
      ∧ r.2.mem ((c.tc : Thread Cert.BeforeRefIdeal.nD Cert.BeforeRefIdeal.τ).loc Cert.BeforeRefIdeal.main_arg11) = m ((c.tc : Thread Cert.BeforeRefIdeal.nD Cert.BeforeRefIdeal.τ).loc Cert.BeforeRefIdeal.main_arg11)
      ∧ r.2.mem ((c.tc : Thread Cert.BeforeRefIdeal.nD Cert.BeforeRefIdeal.τ).loc Cert.BeforeRefIdeal.main_arg12) = m ((c.tc : Thread Cert.BeforeRefIdeal.nD Cert.BeforeRefIdeal.τ).loc Cert.BeforeRefIdeal.main_arg12)
      ∧ r.2.mem ((c.tc : Thread Cert.BeforeRefIdeal.nD Cert.BeforeRefIdeal.τ).loc Cert.BeforeRefIdeal.main_arg13) = m ((c.tc : Thread Cert.BeforeRefIdeal.nD Cert.BeforeRefIdeal.τ).loc Cert.BeforeRefIdeal.main_arg13)
      ∧ r.2.mem ((c.tc : Thread Cert.BeforeRefIdeal.nD Cert.BeforeRefIdeal.τ).loc Cert.BeforeRefIdeal.main_arg14) = m ((c.tc : Thread Cert.BeforeRefIdeal.nD Cert.BeforeRefIdeal.τ).loc Cert.BeforeRefIdeal.main_arg14)
      ∧ r.2.mem ((c.tc : Thread Cert.BeforeRefIdeal.nD Cert.BeforeRefIdeal.τ).loc Cert.BeforeRefIdeal.main_arg15) = m ((c.tc : Thread Cert.BeforeRefIdeal.nD Cert.BeforeRefIdeal.τ).loc Cert.BeforeRefIdeal.main_arg15))
      ∧ r.2.sem = fun _ => 0)

def quiescent_Attention [hAttention : Cert.Attention.Facts] [hPre_lengths_in_cache : Cert.Pre_lengths_in_cache.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7))
      ∧ r.2.sem = fun _ => 0)

def quiescent_AttentionIdeal [hAttentionIdeal : Cert.AttentionIdeal.Facts] [hPre_lengths_in_cache : Cert.Pre_lengths_in_cache.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4)
      ∧ r.2.mem ((c.tc : Thread Cert.OutputRefIdeal.nD Cert.OutputRefIdeal.τ).loc Cert.OutputRefIdeal.main_arg5) = m ((c.tc : Thread Cert.OutputRefIdeal.nD Cert.OutputRefIdeal.τ).loc Cert.OutputRefIdeal.main_arg5)
      ∧ r.2.mem ((c.tc : Thread Cert.OutputRefIdeal.nD Cert.OutputRefIdeal.τ).loc Cert.OutputRefIdeal.main_arg6) = m ((c.tc : Thread Cert.OutputRefIdeal.nD Cert.OutputRefIdeal.τ).loc Cert.OutputRefIdeal.main_arg6))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7)
      ∧ r.2.mem ((c.tc : Thread Cert.GateUp.nD Cert.GateUp.τ).loc Cert.GateUp.main_arg8) = m ((c.tc : Thread Cert.GateUp.nD Cert.GateUp.τ).loc Cert.GateUp.main_arg8))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
      ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7)
      ∧ r.2.mem ((c.tc : Thread Cert.GateUpRefIdeal.nD Cert.GateUpRefIdeal.τ).loc Cert.GateUpRefIdeal.main_arg8) = m ((c.tc : Thread Cert.GateUpRefIdeal.nD Cert.GateUpRefIdeal.τ).loc Cert.GateUpRefIdeal.main_arg8))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def preserves_Before_BeforeIdeal : Prop :=
  IdealRules.bf16_pair.BufferStatement Cert.BeforeIdeal.S4x15x2x256 Cert.BeforeIdeal.S4x15x1x256
  ∧ IdealRules.bf16_pair.PackStatement Cert.BeforeIdeal.S15x256
  ∧ IdealRules.bf16_pair.Statement Cert.BeforeIdeal.S1x15x2x256 Cert.BeforeIdeal.S1x15x1x256
  ∧ IdealRules.bf16_pair.PackStatement Cert.BeforeIdeal.S128x256
  ∧ IdealRules.bf16_pair.Statement Cert.BeforeIdeal.S256x256 Cert.BeforeIdeal.S128x256
  ∧ IdealRules.bf16_pair.Statement Cert.BeforeIdeal.S1x1x2x256 Cert.BeforeIdeal.S1x1x1x256
  ∧ IdealRules.bf16_pair.Statement Cert.BeforeIdeal.S64x256 Cert.BeforeIdeal.S32x256

def algebraic_BeforeIdeal_BeforeRefIdeal [hBeforeIdeal : Cert.BeforeIdeal.Facts] [hBeforeRefIdeal : Cert.BeforeRefIdeal.Facts] : Prop :=
  ∀ (m : (ℓ : Loc Cert.BeforeIdeal.nD Cert.BeforeIdeal.τ Cert.BeforeIdeal.sig) → Buf (Elt Ideal) ℓ) (g : Dev Cert.BeforeIdeal.nD → PrngReg)
    (m' : (ℓ : Loc Cert.BeforeRefIdeal.nD Cert.BeforeRefIdeal.τ Cert.BeforeRefIdeal.sig) → Buf (Elt Ideal) ℓ) (g' : Dev Cert.BeforeRefIdeal.nD → PrngReg), Pre_BeforeIdeal m →
    (∀ c : Dev Cert.BeforeIdeal.nD,
      m' ((c.tc : Thread Cert.BeforeRefIdeal.nD Cert.BeforeRefIdeal.τ).loc Cert.BeforeRefIdeal.main_arg0) = m ((c.tc : Thread Cert.BeforeIdeal.nD Cert.BeforeIdeal.τ).loc Cert.BeforeIdeal.main_arg0)
      ∧ m' ((c.tc : Thread Cert.BeforeRefIdeal.nD Cert.BeforeRefIdeal.τ).loc Cert.BeforeRefIdeal.main_arg1) = m ((c.tc : Thread Cert.BeforeIdeal.nD Cert.BeforeIdeal.τ).loc Cert.BeforeIdeal.main_arg1)
      ∧ m' ((c.tc : Thread Cert.BeforeRefIdeal.nD Cert.BeforeRefIdeal.τ).loc Cert.BeforeRefIdeal.main_arg2) = m ((c.tc : Thread Cert.BeforeIdeal.nD Cert.BeforeIdeal.τ).loc Cert.BeforeIdeal.main_arg2)
      ∧ m' ((c.tc : Thread Cert.BeforeRefIdeal.nD Cert.BeforeRefIdeal.τ).loc Cert.BeforeRefIdeal.main_arg3) = m ((c.tc : Thread Cert.BeforeIdeal.nD Cert.BeforeIdeal.τ).loc Cert.BeforeIdeal.main_arg3)
      ∧ m' ((c.tc : Thread Cert.BeforeRefIdeal.nD Cert.BeforeRefIdeal.τ).loc Cert.BeforeRefIdeal.main_arg4) = m ((c.tc : Thread Cert.BeforeIdeal.nD Cert.BeforeIdeal.τ).loc Cert.BeforeIdeal.main_arg4)
      ∧ m' ((c.tc : Thread Cert.BeforeRefIdeal.nD Cert.BeforeRefIdeal.τ).loc Cert.BeforeRefIdeal.main_arg5) = m ((c.tc : Thread Cert.BeforeIdeal.nD Cert.BeforeIdeal.τ).loc Cert.BeforeIdeal.main_arg5)
      ∧ m' ((c.tc : Thread Cert.BeforeRefIdeal.nD Cert.BeforeRefIdeal.τ).loc Cert.BeforeRefIdeal.main_arg6) = m ((c.tc : Thread Cert.BeforeIdeal.nD Cert.BeforeIdeal.τ).loc Cert.BeforeIdeal.main_arg6)
      ∧ m' ((c.tc : Thread Cert.BeforeRefIdeal.nD Cert.BeforeRefIdeal.τ).loc Cert.BeforeRefIdeal.main_arg7) = m ((c.tc : Thread Cert.BeforeIdeal.nD Cert.BeforeIdeal.τ).loc Cert.BeforeIdeal.main_arg7)
      ∧ m' ((c.tc : Thread Cert.BeforeRefIdeal.nD Cert.BeforeRefIdeal.τ).loc Cert.BeforeRefIdeal.main_arg8) = m ((c.tc : Thread Cert.BeforeIdeal.nD Cert.BeforeIdeal.τ).loc Cert.BeforeIdeal.main_arg8)
      ∧ m' ((c.tc : Thread Cert.BeforeRefIdeal.nD Cert.BeforeRefIdeal.τ).loc Cert.BeforeRefIdeal.main_arg9) = m ((c.tc : Thread Cert.BeforeIdeal.nD Cert.BeforeIdeal.τ).loc Cert.BeforeIdeal.main_arg9)
      ∧ m' ((c.tc : Thread Cert.BeforeRefIdeal.nD Cert.BeforeRefIdeal.τ).loc Cert.BeforeRefIdeal.main_arg10) = m ((c.tc : Thread Cert.BeforeIdeal.nD Cert.BeforeIdeal.τ).loc Cert.BeforeIdeal.main_arg10)
      ∧ m' ((c.tc : Thread Cert.BeforeRefIdeal.nD Cert.BeforeRefIdeal.τ).loc Cert.BeforeRefIdeal.main_arg11) = m ((c.tc : Thread Cert.BeforeIdeal.nD Cert.BeforeIdeal.τ).loc Cert.BeforeIdeal.main_arg11)
      ∧ m' ((c.tc : Thread Cert.BeforeRefIdeal.nD Cert.BeforeRefIdeal.τ).loc Cert.BeforeRefIdeal.main_arg12) = m ((c.tc : Thread Cert.BeforeIdeal.nD Cert.BeforeIdeal.τ).loc Cert.BeforeIdeal.main_arg12)
      ∧ m' ((c.tc : Thread Cert.BeforeRefIdeal.nD Cert.BeforeRefIdeal.τ).loc Cert.BeforeRefIdeal.main_arg13) = m ((c.tc : Thread Cert.BeforeIdeal.nD Cert.BeforeIdeal.τ).loc Cert.BeforeIdeal.main_arg13)
      ∧ m' ((c.tc : Thread Cert.BeforeRefIdeal.nD Cert.BeforeRefIdeal.τ).loc Cert.BeforeRefIdeal.main_arg14) = m ((c.tc : Thread Cert.BeforeIdeal.nD Cert.BeforeIdeal.τ).loc Cert.BeforeIdeal.main_arg14)
      ∧ m' ((c.tc : Thread Cert.BeforeRefIdeal.nD Cert.BeforeRefIdeal.τ).loc Cert.BeforeRefIdeal.main_arg15) = m ((c.tc : Thread Cert.BeforeIdeal.nD Cert.BeforeIdeal.τ).loc Cert.BeforeIdeal.main_arg15)) →
    ∃ (v0 : (c : Dev Cert.BeforeIdeal.nD) → Buf (Elt Ideal) ((c.tc : Thread Cert.BeforeIdeal.nD Cert.BeforeIdeal.τ).loc Cert.BeforeIdeal.main_v18)) (v1 : (c : Dev Cert.BeforeIdeal.nD) → Buf (Elt Ideal) ((c.tc : Thread Cert.BeforeIdeal.nD Cert.BeforeIdeal.τ).loc Cert.BeforeIdeal.main_v19)) (v2 : (c : Dev Cert.BeforeIdeal.nD) → Buf (Elt Ideal) ((c.tc : Thread Cert.BeforeIdeal.nD Cert.BeforeIdeal.τ).loc Cert.BeforeIdeal.main_v20)),
      θ_run (Cert.BeforeIdeal.defs (F := Ideal)) (onTc (τ := Cert.BeforeIdeal.τ) (Cert.BeforeIdeal.main (F := Ideal))) ⟨m, fun _ => 0, g⟩ (fun r => ∀ c : Dev Cert.BeforeIdeal.nD,
          r.2.mem ((c.tc : Thread Cert.BeforeIdeal.nD Cert.BeforeIdeal.τ).loc Cert.BeforeIdeal.main_v18) = v0 c
          ∧ r.2.mem ((c.tc : Thread Cert.BeforeIdeal.nD Cert.BeforeIdeal.τ).loc Cert.BeforeIdeal.main_v19) = v1 c
          ∧ r.2.mem ((c.tc : Thread Cert.BeforeIdeal.nD Cert.BeforeIdeal.τ).loc Cert.BeforeIdeal.main_v20) = v2 c
          ∧ r.2.mem ((c.tc : Thread Cert.BeforeIdeal.nD Cert.BeforeIdeal.τ).loc Cert.BeforeIdeal.main_arg0) = m ((c.tc : Thread Cert.BeforeIdeal.nD Cert.BeforeIdeal.τ).loc Cert.BeforeIdeal.main_arg0)
          ∧ r.2.mem ((c.tc : Thread Cert.BeforeIdeal.nD Cert.BeforeIdeal.τ).loc Cert.BeforeIdeal.main_arg1) = m ((c.tc : Thread Cert.BeforeIdeal.nD Cert.BeforeIdeal.τ).loc Cert.BeforeIdeal.main_arg1)
          ∧ r.2.mem ((c.tc : Thread Cert.BeforeIdeal.nD Cert.BeforeIdeal.τ).loc Cert.BeforeIdeal.main_arg2) = m ((c.tc : Thread Cert.BeforeIdeal.nD Cert.BeforeIdeal.τ).loc Cert.BeforeIdeal.main_arg2)
          ∧ r.2.mem ((c.tc : Thread Cert.BeforeIdeal.nD Cert.BeforeIdeal.τ).loc Cert.BeforeIdeal.main_arg3) = m ((c.tc : Thread Cert.BeforeIdeal.nD Cert.BeforeIdeal.τ).loc Cert.BeforeIdeal.main_arg3)
          ∧ r.2.mem ((c.tc : Thread Cert.BeforeIdeal.nD Cert.BeforeIdeal.τ).loc Cert.BeforeIdeal.main_arg4) = m ((c.tc : Thread Cert.BeforeIdeal.nD Cert.BeforeIdeal.τ).loc Cert.BeforeIdeal.main_arg4)
          ∧ r.2.mem ((c.tc : Thread Cert.BeforeIdeal.nD Cert.BeforeIdeal.τ).loc Cert.BeforeIdeal.main_arg5) = m ((c.tc : Thread Cert.BeforeIdeal.nD Cert.BeforeIdeal.τ).loc Cert.BeforeIdeal.main_arg5)
          ∧ r.2.mem ((c.tc : Thread Cert.BeforeIdeal.nD Cert.BeforeIdeal.τ).loc Cert.BeforeIdeal.main_arg6) = m ((c.tc : Thread Cert.BeforeIdeal.nD Cert.BeforeIdeal.τ).loc Cert.BeforeIdeal.main_arg6)
          ∧ r.2.mem ((c.tc : Thread Cert.BeforeIdeal.nD Cert.BeforeIdeal.τ).loc Cert.BeforeIdeal.main_arg7) = m ((c.tc : Thread Cert.BeforeIdeal.nD Cert.BeforeIdeal.τ).loc Cert.BeforeIdeal.main_arg7)
          ∧ r.2.mem ((c.tc : Thread Cert.BeforeIdeal.nD Cert.BeforeIdeal.τ).loc Cert.BeforeIdeal.main_arg8) = m ((c.tc : Thread Cert.BeforeIdeal.nD Cert.BeforeIdeal.τ).loc Cert.BeforeIdeal.main_arg8)
          ∧ r.2.mem ((c.tc : Thread Cert.BeforeIdeal.nD Cert.BeforeIdeal.τ).loc Cert.BeforeIdeal.main_arg9) = m ((c.tc : Thread Cert.BeforeIdeal.nD Cert.BeforeIdeal.τ).loc Cert.BeforeIdeal.main_arg9)
          ∧ r.2.mem ((c.tc : Thread Cert.BeforeIdeal.nD Cert.BeforeIdeal.τ).loc Cert.BeforeIdeal.main_arg10) = m ((c.tc : Thread Cert.BeforeIdeal.nD Cert.BeforeIdeal.τ).loc Cert.BeforeIdeal.main_arg10)
          ∧ r.2.mem ((c.tc : Thread Cert.BeforeIdeal.nD Cert.BeforeIdeal.τ).loc Cert.BeforeIdeal.main_arg11) = m ((c.tc : Thread Cert.BeforeIdeal.nD Cert.BeforeIdeal.τ).loc Cert.BeforeIdeal.main_arg11)
          ∧ r.2.mem ((c.tc : Thread Cert.BeforeIdeal.nD Cert.BeforeIdeal.τ).loc Cert.BeforeIdeal.main_arg12) = m ((c.tc : Thread Cert.BeforeIdeal.nD Cert.BeforeIdeal.τ).loc Cert.BeforeIdeal.main_arg12)
          ∧ r.2.mem ((c.tc : Thread Cert.BeforeIdeal.nD Cert.BeforeIdeal.τ).loc Cert.BeforeIdeal.main_arg13) = m ((c.tc : Thread Cert.BeforeIdeal.nD Cert.BeforeIdeal.τ).loc Cert.BeforeIdeal.main_arg13)
          ∧ r.2.mem ((c.tc : Thread Cert.BeforeIdeal.nD Cert.BeforeIdeal.τ).loc Cert.BeforeIdeal.main_arg14) = m ((c.tc : Thread Cert.BeforeIdeal.nD Cert.BeforeIdeal.τ).loc Cert.BeforeIdeal.main_arg14)
          ∧ r.2.mem ((c.tc : Thread Cert.BeforeIdeal.nD Cert.BeforeIdeal.τ).loc Cert.BeforeIdeal.main_arg15) = m ((c.tc : Thread Cert.BeforeIdeal.nD Cert.BeforeIdeal.τ).loc Cert.BeforeIdeal.main_arg15))
      ∧ θ_run (Cert.BeforeRefIdeal.defs (F := Ideal)) (onTc (τ := Cert.BeforeRefIdeal.τ) (Cert.BeforeRefIdeal.main (F := Ideal))) ⟨m', fun _ => 0, g'⟩ (fun r => ∀ c : Dev Cert.BeforeRefIdeal.nD,
          r.2.mem ((c.tc : Thread Cert.BeforeRefIdeal.nD Cert.BeforeRefIdeal.τ).loc Cert.BeforeRefIdeal.main_v224) = v0 c
          ∧ r.2.mem ((c.tc : Thread Cert.BeforeRefIdeal.nD Cert.BeforeRefIdeal.τ).loc Cert.BeforeRefIdeal.main_v250) = v1 c
          ∧ r.2.mem ((c.tc : Thread Cert.BeforeRefIdeal.nD Cert.BeforeRefIdeal.τ).loc Cert.BeforeRefIdeal.main_v251) = v2 c
          ∧ r.2.mem ((c.tc : Thread Cert.BeforeRefIdeal.nD Cert.BeforeRefIdeal.τ).loc Cert.BeforeRefIdeal.main_arg0) = m' ((c.tc : Thread Cert.BeforeRefIdeal.nD Cert.BeforeRefIdeal.τ).loc Cert.BeforeRefIdeal.main_arg0)
          ∧ r.2.mem ((c.tc : Thread Cert.BeforeRefIdeal.nD Cert.BeforeRefIdeal.τ).loc Cert.BeforeRefIdeal.main_arg1) = m' ((c.tc : Thread Cert.BeforeRefIdeal.nD Cert.BeforeRefIdeal.τ).loc Cert.BeforeRefIdeal.main_arg1)
          ∧ r.2.mem ((c.tc : Thread Cert.BeforeRefIdeal.nD Cert.BeforeRefIdeal.τ).loc Cert.BeforeRefIdeal.main_arg2) = m' ((c.tc : Thread Cert.BeforeRefIdeal.nD Cert.BeforeRefIdeal.τ).loc Cert.BeforeRefIdeal.main_arg2)
          ∧ r.2.mem ((c.tc : Thread Cert.BeforeRefIdeal.nD Cert.BeforeRefIdeal.τ).loc Cert.BeforeRefIdeal.main_arg3) = m' ((c.tc : Thread Cert.BeforeRefIdeal.nD Cert.BeforeRefIdeal.τ).loc Cert.BeforeRefIdeal.main_arg3)
          ∧ r.2.mem ((c.tc : Thread Cert.BeforeRefIdeal.nD Cert.BeforeRefIdeal.τ).loc Cert.BeforeRefIdeal.main_arg4) = m' ((c.tc : Thread Cert.BeforeRefIdeal.nD Cert.BeforeRefIdeal.τ).loc Cert.BeforeRefIdeal.main_arg4)
          ∧ r.2.mem ((c.tc : Thread Cert.BeforeRefIdeal.nD Cert.BeforeRefIdeal.τ).loc Cert.BeforeRefIdeal.main_arg5) = m' ((c.tc : Thread Cert.BeforeRefIdeal.nD Cert.BeforeRefIdeal.τ).loc Cert.BeforeRefIdeal.main_arg5)
          ∧ r.2.mem ((c.tc : Thread Cert.BeforeRefIdeal.nD Cert.BeforeRefIdeal.τ).loc Cert.BeforeRefIdeal.main_arg6) = m' ((c.tc : Thread Cert.BeforeRefIdeal.nD Cert.BeforeRefIdeal.τ).loc Cert.BeforeRefIdeal.main_arg6)
          ∧ r.2.mem ((c.tc : Thread Cert.BeforeRefIdeal.nD Cert.BeforeRefIdeal.τ).loc Cert.BeforeRefIdeal.main_arg7) = m' ((c.tc : Thread Cert.BeforeRefIdeal.nD Cert.BeforeRefIdeal.τ).loc Cert.BeforeRefIdeal.main_arg7)
          ∧ r.2.mem ((c.tc : Thread Cert.BeforeRefIdeal.nD Cert.BeforeRefIdeal.τ).loc Cert.BeforeRefIdeal.main_arg8) = m' ((c.tc : Thread Cert.BeforeRefIdeal.nD Cert.BeforeRefIdeal.τ).loc Cert.BeforeRefIdeal.main_arg8)
          ∧ r.2.mem ((c.tc : Thread Cert.BeforeRefIdeal.nD Cert.BeforeRefIdeal.τ).loc Cert.BeforeRefIdeal.main_arg9) = m' ((c.tc : Thread Cert.BeforeRefIdeal.nD Cert.BeforeRefIdeal.τ).loc Cert.BeforeRefIdeal.main_arg9)
          ∧ r.2.mem ((c.tc : Thread Cert.BeforeRefIdeal.nD Cert.BeforeRefIdeal.τ).loc Cert.BeforeRefIdeal.main_arg10) = m' ((c.tc : Thread Cert.BeforeRefIdeal.nD Cert.BeforeRefIdeal.τ).loc Cert.BeforeRefIdeal.main_arg10)
          ∧ r.2.mem ((c.tc : Thread Cert.BeforeRefIdeal.nD Cert.BeforeRefIdeal.τ).loc Cert.BeforeRefIdeal.main_arg11) = m' ((c.tc : Thread Cert.BeforeRefIdeal.nD Cert.BeforeRefIdeal.τ).loc Cert.BeforeRefIdeal.main_arg11)
          ∧ r.2.mem ((c.tc : Thread Cert.BeforeRefIdeal.nD Cert.BeforeRefIdeal.τ).loc Cert.BeforeRefIdeal.main_arg12) = m' ((c.tc : Thread Cert.BeforeRefIdeal.nD Cert.BeforeRefIdeal.τ).loc Cert.BeforeRefIdeal.main_arg12)
          ∧ r.2.mem ((c.tc : Thread Cert.BeforeRefIdeal.nD Cert.BeforeRefIdeal.τ).loc Cert.BeforeRefIdeal.main_arg13) = m' ((c.tc : Thread Cert.BeforeRefIdeal.nD Cert.BeforeRefIdeal.τ).loc Cert.BeforeRefIdeal.main_arg13)
          ∧ r.2.mem ((c.tc : Thread Cert.BeforeRefIdeal.nD Cert.BeforeRefIdeal.τ).loc Cert.BeforeRefIdeal.main_arg14) = m' ((c.tc : Thread Cert.BeforeRefIdeal.nD Cert.BeforeRefIdeal.τ).loc Cert.BeforeRefIdeal.main_arg14)
          ∧ r.2.mem ((c.tc : Thread Cert.BeforeRefIdeal.nD Cert.BeforeRefIdeal.τ).loc Cert.BeforeRefIdeal.main_arg15) = m' ((c.tc : Thread Cert.BeforeRefIdeal.nD Cert.BeforeRefIdeal.τ).loc Cert.BeforeRefIdeal.main_arg15))

def preserves_Attention_AttentionIdeal : Prop :=
  IdealRules.bf16_pair.PackStatement Cert.AttentionIdeal.S8x128
  ∧ IdealRules.bf16_pair.Statement Cert.AttentionIdeal.S128x128 Cert.AttentionIdeal.S64x128

def preserves_Output_OutputIdeal : Prop :=
  IdealRules.bf16_pair.BufferStatement Cert.OutputIdeal.S4x16x2x256 Cert.OutputIdeal.S4x16x1x256
  ∧ IdealRules.bf16_pair.PackStatement Cert.OutputIdeal.S16x256
  ∧ IdealRules.bf16_pair.Statement Cert.OutputIdeal.S1x16x2x256 Cert.OutputIdeal.S1x16x1x256
  ∧ IdealRules.bf16_pair.PackStatement Cert.OutputIdeal.S128x256
  ∧ IdealRules.bf16_pair.Statement Cert.OutputIdeal.S256x256 Cert.OutputIdeal.S128x256
  ∧ IdealRules.bf16_pair.Statement Cert.OutputIdeal.S1x1x2x256 Cert.OutputIdeal.S1x1x1x256
  ∧ IdealRules.bf16_pair.Statement Cert.OutputIdeal.S64x256 Cert.OutputIdeal.S32x256

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)
      ∧ m' ((c.tc : Thread Cert.OutputRefIdeal.nD Cert.OutputRefIdeal.τ).loc Cert.OutputRefIdeal.main_arg5) = m ((c.tc : Thread Cert.OutputIdeal.nD Cert.OutputIdeal.τ).loc Cert.OutputIdeal.main_arg5)
      ∧ m' ((c.tc : Thread Cert.OutputRefIdeal.nD Cert.OutputRefIdeal.τ).loc Cert.OutputRefIdeal.main_arg6) = m ((c.tc : Thread Cert.OutputIdeal.nD Cert.OutputIdeal.τ).loc Cert.OutputIdeal.main_arg6)) →
    ∃ (v0 : (c : Dev Cert.OutputIdeal.nD) → Buf (Elt Ideal) ((c.tc : Thread Cert.OutputIdeal.nD Cert.OutputIdeal.τ).loc Cert.OutputIdeal.main_v7)) (v1 : (c : Dev Cert.OutputIdeal.nD) → Buf (Elt Ideal) ((c.tc : Thread Cert.OutputIdeal.nD Cert.OutputIdeal.τ).loc Cert.OutputIdeal.main_v9)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v7) = v0 c
          ∧ r.2.mem ((c.tc : Thread Cert.OutputIdeal.nD Cert.OutputIdeal.τ).loc Cert.OutputIdeal.main_v9) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v66) = v0 c
          ∧ r.2.mem ((c.tc : Thread Cert.OutputRefIdeal.nD Cert.OutputRefIdeal.τ).loc Cert.OutputRefIdeal.main_v83) = v1 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4)
          ∧ r.2.mem ((c.tc : Thread Cert.OutputRefIdeal.nD Cert.OutputRefIdeal.τ).loc Cert.OutputRefIdeal.main_arg5) = m' ((c.tc : Thread Cert.OutputRefIdeal.nD Cert.OutputRefIdeal.τ).loc Cert.OutputRefIdeal.main_arg5)
          ∧ r.2.mem ((c.tc : Thread Cert.OutputRefIdeal.nD Cert.OutputRefIdeal.τ).loc Cert.OutputRefIdeal.main_arg6) = m' ((c.tc : Thread Cert.OutputRefIdeal.nD Cert.OutputRefIdeal.τ).loc Cert.OutputRefIdeal.main_arg6))

def preserves_GateUp_GateUpIdeal : Prop :=
  IdealRules.bf16_pair.BufferStatement Cert.GateUpIdeal.S4x15x2x256 Cert.GateUpIdeal.S4x15x1x256
  ∧ IdealRules.bf16_pair.PackStatement Cert.GateUpIdeal.S15x256
  ∧ IdealRules.bf16_pair.Statement Cert.GateUpIdeal.S1x15x2x256 Cert.GateUpIdeal.S1x15x1x256
  ∧ IdealRules.bf16_pair.PackStatement Cert.GateUpIdeal.S128x256
  ∧ IdealRules.bf16_pair.Statement Cert.GateUpIdeal.S256x256 Cert.GateUpIdeal.S128x256
  ∧ IdealRules.bf16_pair.Statement Cert.GateUpIdeal.S1x1x2x256 Cert.GateUpIdeal.S1x1x1x256
  ∧ IdealRules.bf16_pair.Statement Cert.GateUpIdeal.S64x256 Cert.GateUpIdeal.S32x256

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)
      ∧ m' ((c.tc : Thread Cert.GateUpRefIdeal.nD Cert.GateUpRefIdeal.τ).loc Cert.GateUpRefIdeal.main_arg8) = m ((c.tc : Thread Cert.GateUpIdeal.nD Cert.GateUpIdeal.τ).loc Cert.GateUpIdeal.main_arg8)) →
    ∃ (v0 : (c : Dev Cert.GateUpIdeal.nD) → Buf (Elt Ideal) ((c.tc : Thread Cert.GateUpIdeal.nD Cert.GateUpIdeal.τ).loc Cert.GateUpIdeal.main_v8)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v8) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
          ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v129) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7)
          ∧ r.2.mem ((c.tc : Thread Cert.GateUpRefIdeal.nD Cert.GateUpRefIdeal.τ).loc Cert.GateUpRefIdeal.main_arg8) = m' ((c.tc : Thread Cert.GateUpRefIdeal.nD Cert.GateUpRefIdeal.τ).loc Cert.GateUpRefIdeal.main_arg8))

def preserves_Down_DownIdeal : Prop :=
  IdealRules.bf16_pair.BufferStatement Cert.DownIdeal.S4x60x2x256 Cert.DownIdeal.S4x60x1x256
  ∧ IdealRules.bf16_pair.PackStatement Cert.DownIdeal.S60x256
  ∧ IdealRules.bf16_pair.Statement Cert.DownIdeal.S1x60x2x256 Cert.DownIdeal.S1x60x1x256
  ∧ IdealRules.bf16_pair.PackStatement Cert.DownIdeal.S128x256
  ∧ IdealRules.bf16_pair.Statement Cert.DownIdeal.S256x256 Cert.DownIdeal.S128x256
  ∧ IdealRules.bf16_pair.Statement Cert.DownIdeal.S1x1x2x256 Cert.DownIdeal.S1x1x1x256
  ∧ IdealRules.bf16_pair.Statement Cert.DownIdeal.S64x256 Cert.DownIdeal.S32x256

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v63) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def Claim : Prop :=
  ∃ (hBefore : Cert.Before.Facts) (hBeforeIdeal : Cert.BeforeIdeal.Facts) (hBeforeRefIdeal : Cert.BeforeRefIdeal.Facts) (hAttention : Cert.Attention.Facts) (hAttentionIdeal : Cert.AttentionIdeal.Facts) (hAttentionRefIdeal : Cert.AttentionRefIdeal.Facts) (hOutput : Cert.Output.Facts) (hOutputIdeal : Cert.OutputIdeal.Facts) (hOutputRefIdeal : Cert.OutputRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hPre_lengths_in_cache : Cert.Pre_lengths_in_cache.Facts),
    quiescent_Before (hBefore := hBefore)
    ∧ quiescent_BeforeIdeal (hBeforeIdeal := hBeforeIdeal)
    ∧ quiescent_BeforeRefIdeal (hBeforeRefIdeal := hBeforeRefIdeal)
    ∧ quiescent_Attention (hAttention := hAttention) (hPre_lengths_in_cache := hPre_lengths_in_cache)
    ∧ quiescent_AttentionIdeal (hAttentionIdeal := hAttentionIdeal) (hPre_lengths_in_cache := hPre_lengths_in_cache)
    ∧ quiescent_AttentionRefIdeal (hAttentionRefIdeal := hAttentionRefIdeal)
    ∧ quiescent_Output (hOutput := hOutput)
    ∧ quiescent_OutputIdeal (hOutputIdeal := hOutputIdeal)
    ∧ quiescent_OutputRefIdeal (hOutputRefIdeal := hOutputRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_Before_BeforeIdeal
    ∧ algebraic_BeforeIdeal_BeforeRefIdeal (hBeforeIdeal := hBeforeIdeal) (hBeforeRefIdeal := hBeforeRefIdeal)
    ∧ preserves_Attention_AttentionIdeal
    ∧ preserves_Output_OutputIdeal
    ∧ algebraic_OutputIdeal_OutputRefIdeal (hOutputIdeal := hOutputIdeal) (hOutputRefIdeal := hOutputRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== Pre_lengths_in_cache.lean ====
abbrev S112x16x256 : Shape := ⟨3, ![112, 16, 256]⟩
abbrev S112x4x256 : Shape := ⟨3, ![112, 4, 256]⟩
abbrev S112x1024x4x256 : Shape := ⟨4, ![112, 1024, 4, 256]⟩
abbrev S112x1024x4x8 : Shape := ⟨4, ![112, 1024, 4, 8]⟩
abbrev S112 : Shape := ⟨1, ![112]⟩
abbrev S_ : Shape := ⟨0, ![]⟩

class Facts : Prop where
  bcast_S_S112 : S_.BroadcastsInDim S112 (![] : Fin 0 → Fin S112.rank)

variable [Facts]

def fn {F : FTy → Type} [FloatOps F] (main_arg0 : FVec F S112x16x256 .bf16) (main_arg1 : FVec F S112x4x256 .bf16) (main_arg2 : FVec F S112x4x256 .bf16) (main_arg3 : IVec S112x1024x4x256 8) (main_arg4 : FVec F S112x1024x4x8 .bf16) (main_arg5 : IVec S112x1024x4x256 8) (main_arg6 : FVec F S112x1024x4x8 .bf16) (main_arg7 : IVec S112 32) : IVec S112 1 :=
  let main_c : IVec S_ 32 := constantI S_ 32 1024#32
  let main_v0 : IVec S112 32 := broadcastInDim S112 ![] bcast_S_S112 main_c
  let main_v1 : IVec S112 1 := cmpi .sle main_arg7 main_v0
  main_v1
-- ==== Before.lean ====
abbrev S112x1x3840 : Shape := ⟨3, ![112, 1, 3840]⟩
abbrev S3840 : Shape := ⟨1, ![3840]⟩
abbrev S4096x15x128 : Shape := ⟨3, ![4096, 15, 128]⟩
abbrev S4096x15x12 : Shape := ⟨3, ![4096, 15, 12]⟩
abbrev S4096x15 : Shape := ⟨2, ![4096, 15]⟩
abbrev S1024x15x128 : Shape := ⟨3, ![1024, 15, 128]⟩
abbrev S1024x15x12 : Shape := ⟨3, ![1024, 15, 12]⟩
abbrev S1024x15 : Shape := ⟨2, ![1024, 15]⟩
abbrev S112x128 : Shape := ⟨2, ![112, 128]⟩
abbrev S112x3840 : Shape := ⟨2, ![112, 3840]⟩
abbrev S1x3840 : Shape := ⟨2, ![1, 3840]⟩
abbrev S112 : Shape := ⟨1, ![112]⟩
abbrev S112x1 : Shape := ⟨2, ![112, 1]⟩
abbrev S112x128x1 : Shape := ⟨3, ![112, 128, 1]⟩
abbrev S15x4096x128 : Shape := ⟨3, ![15, 4096, 128]⟩
abbrev S12x15x4096 : Shape := ⟨3, ![12, 15, 4096]⟩
abbrev S15x4096 : Shape := ⟨2, ![15, 4096]⟩
abbrev S112x4096 : Shape := ⟨2, ![112, 4096]⟩
abbrev S15x256x128 : Shape := ⟨3, ![15, 256, 128]⟩
abbrev S12x15x256 : Shape := ⟨3, ![12, 15, 256]⟩
abbrev S15x256 : Shape := ⟨2, ![15, 256]⟩
abbrev S112x256 : Shape := ⟨2, ![112, 256]⟩
abbrev S3840x256 : Shape := ⟨2, ![3840, 256]⟩
abbrev S4x15x256 : Shape := ⟨3, ![4, 15, 256]⟩
abbrev S1x15x256 : Shape := ⟨3, ![1, 15, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S64x256 : Shape := ⟨2, ![64, 256]⟩
abbrev S32x256 : Shape := ⟨2, ![32, 256]⟩
abbrev S15x1024x128 : Shape := ⟨3, ![15, 1024, 128]⟩
abbrev S12x15x1024 : Shape := ⟨3, ![12, 15, 1024]⟩
abbrev S15x1024 : Shape := ⟨2, ![15, 1024]⟩
abbrev S112x1024 : Shape := ⟨2, ![112, 1024]⟩
abbrev S112x16x256 : Shape := ⟨3, ![112, 16, 256]⟩
abbrev S112x1x4x256 : Shape := ⟨4, ![112, 1, 4, 256]⟩

abbrev nBuf : Space → Nat
  | .hbm => 37
  | .vmem => 49
  | .smem => 0
  | _ => 0

abbrev bufTy : (tb : Table) → Fin (tcTables nBuf tb) → BufTy
  | .hbm, ⟨0, _⟩ => ⟨S112x1x3840, .bf16⟩
  | .hbm, ⟨1, _⟩ => ⟨S3840, .f32⟩
  | .hbm, ⟨2, _⟩ => ⟨S4096x15x128, .i8⟩
  | .hbm, ⟨3, _⟩ => ⟨S4096x15x12, .i8⟩
  | .hbm, ⟨4, _⟩ => ⟨S4096x15, .bf16⟩
  | .hbm, ⟨5, _⟩ => ⟨S4096x15, .bf16⟩
  | .hbm, ⟨6, _⟩ => ⟨S1024x15x128, .i8⟩
  | .hbm, ⟨7, _⟩ => ⟨S1024x15x12, .i8⟩
  | .hbm, ⟨8, _⟩ => ⟨S1024x15, .bf16⟩
  | .hbm, ⟨9, _⟩ => ⟨S1024x15, .bf16⟩
  | .hbm, ⟨10, _⟩ => ⟨S1024x15x128, .i8⟩
  | .hbm, ⟨11, _⟩ => ⟨S1024x15x12, .i8⟩
  | .hbm, ⟨12, _⟩ => ⟨S1024x15, .bf16⟩
  | .hbm, ⟨13, _⟩ => ⟨S1024x15, .bf16⟩
  | .hbm, ⟨14, _⟩ => ⟨S112x128, .f32⟩
  | .hbm, ⟨15, _⟩ => ⟨S112x128, .f32⟩
  | .hbm, ⟨16, _⟩ => ⟨S112x3840, .bf16⟩
  | .hbm, ⟨17, _⟩ => ⟨S1x3840, .f32⟩
  | .hbm, ⟨18, _⟩ => ⟨S112x3840, .bf16⟩
  | .hbm, ⟨19, _⟩ => ⟨S15x4096x128, .i8⟩
  | .hbm, ⟨20, _⟩ => ⟨S12x15x4096, .i8⟩
  | .hbm, ⟨21, _⟩ => ⟨S15x4096, .bf16⟩
  | .hbm, ⟨22, _⟩ => ⟨S15x4096, .bf16⟩
  | .hbm, ⟨23, _⟩ => ⟨S112x4096, .bf16⟩
  | .hbm, ⟨24, _⟩ => ⟨S15x1024x128, .i8⟩
  | .hbm, ⟨25, _⟩ => ⟨S12x15x1024, .i8⟩
  | .hbm, ⟨26, _⟩ => ⟨S15x1024, .bf16⟩
  | .hbm, ⟨27, _⟩ => ⟨S15x1024, .bf16⟩
  | .hbm, ⟨28, _⟩ => ⟨S112x1024, .bf16⟩
  | .hbm, ⟨29, _⟩ => ⟨S15x1024x128, .i8⟩
  | .hbm, ⟨30, _⟩ => ⟨S12x15x1024, .i8⟩
  | .hbm, ⟨31, _⟩ => ⟨S15x1024, .bf16⟩
  | .hbm, ⟨32, _⟩ => ⟨S15x1024, .bf16⟩
  | .hbm, ⟨33, _⟩ => ⟨S112x1024, .bf16⟩
  | .hbm, ⟨34, _⟩ => ⟨S112x16x256, .bf16⟩
  | .hbm, ⟨35, _⟩ => ⟨S112x1x4x256, .bf16⟩
  | .hbm, ⟨36, _⟩ => ⟨S112x1x4x256, .bf16⟩
  | .local _ .vmem, ⟨0, _⟩ => ⟨S112x3840, .bf16⟩
  | .local _ .vmem, ⟨1, _⟩ => ⟨S1x3840, .f32⟩
  | .local _ .vmem, ⟨2, _⟩ => ⟨S112x3840, .bf16⟩
  | .local _ .vmem, ⟨3, _⟩ => ⟨S112x3840, .bf16⟩
  | .local _ .vmem, ⟨4, _⟩ => ⟨S15x256x128, .i8⟩
  | .local _ .vmem, ⟨5, _⟩ => ⟨S15x256x128, .i8⟩
  | .local _ .vmem, ⟨6, _⟩ => ⟨S12x15x256, .i8⟩
  | .local _ .vmem, ⟨7, _⟩ => ⟨S12x15x256, .i8⟩
  | .local _ .vmem, ⟨8, _⟩ => ⟨S15x256, .bf16⟩
  | .local _ .vmem, ⟨9, _⟩ => ⟨S15x256, .bf16⟩
  | .local _ .vmem, ⟨10, _⟩ => ⟨S15x256, .bf16⟩
  | .local _ .vmem, ⟨11, _⟩ => ⟨S15x256, .bf16⟩
  | .local _ .vmem, ⟨12, _⟩ => ⟨S112x128, .f32⟩
  | .local _ .vmem, ⟨13, _⟩ => ⟨S112x128, .f32⟩
  | .local _ .vmem, ⟨14, _⟩ => ⟨S112x256, .bf16⟩
  | .local _ .vmem, ⟨15, _⟩ => ⟨S112x256, .bf16⟩
  | .local _ .vmem, ⟨16, _⟩ => ⟨S3840x256, .bf16⟩
  | .local _ .vmem, ⟨17, _⟩ => ⟨S4x15x256, .i32⟩
  | .local _ .vmem, ⟨18, _⟩ => ⟨S4x15x256, .i32⟩
  | .local _ .vmem, ⟨19, _⟩ => ⟨S112x3840, .bf16⟩
  | .local _ .vmem, ⟨20, _⟩ => ⟨S15x256x128, .i8⟩
  | .local _ .vmem, ⟨21, _⟩ => ⟨S15x256x128, .i8⟩
  | .local _ .vmem, ⟨22, _⟩ => ⟨S12x15x256, .i8⟩
  | .local _ .vmem, ⟨23, _⟩ => ⟨S12x15x256, .i8⟩
  | .local _ .vmem, ⟨24, _⟩ => ⟨S15x256, .bf16⟩
  | .local _ .vmem, ⟨25, _⟩ => ⟨S15x256, .bf16⟩
  | .local _ .vmem, ⟨26, _⟩ => ⟨S15x256, .bf16⟩
  | .local _ .vmem, ⟨27, _⟩ => ⟨S15x256, .bf16⟩
  | .local _ .vmem, ⟨28, _⟩ => ⟨S112x128, .f32⟩
  | .local _ .vmem, ⟨29, _⟩ => ⟨S112x128, .f32⟩
  | .local _ .vmem, ⟨30, _⟩ => ⟨S112x256, .bf16⟩
  | .local _ .vmem, ⟨31, _⟩ => ⟨S112x256, .bf16⟩
  | .local _ .vmem, ⟨32, _⟩ => ⟨S3840x256, .bf16⟩
  | .local _ .vmem, ⟨33, _⟩ => ⟨S4x15x256, .i32⟩
  | .local _ .vmem, ⟨34, _⟩ => ⟨S4x15x256, .i32⟩
  | .local _ .vmem, ⟨35, _⟩ => ⟨S112x3840, .bf16⟩
  | .local _ .vmem, ⟨36, _⟩ => ⟨S15x256x128, .i8⟩
  | .local _ .vmem, ⟨37, _⟩ => ⟨S15x256x128, .i8⟩
  | .local _ .vmem, ⟨38, _⟩ => ⟨S12x15x256, .i8⟩
  | .local _ .vmem, ⟨39, _⟩ => ⟨S12x15x256, .i8⟩
  | .local _ .vmem, ⟨40, _⟩ => ⟨S15x256, .bf16⟩
  | .local _ .vmem, ⟨41, _⟩ => ⟨S15x256, .bf16⟩
  | .local _ .vmem, ⟨42, _⟩ => ⟨S15x256, .bf16⟩
  | .local _ .vmem, ⟨43, _⟩ => ⟨S15x256, .bf16⟩
  | .local _ .vmem, ⟨44, _⟩ => ⟨S112x256, .bf16⟩
  | .local _ .vmem, ⟨45, _⟩ => ⟨S112x256, .bf16⟩
  | .local _ .vmem, ⟨46, _⟩ => ⟨S3840x256, .bf16⟩
  | .local _ .vmem, ⟨47, _⟩ => ⟨S4x15x256, .i32⟩
  | .local _ .vmem, ⟨48, _⟩ => ⟨S4x15x256, .i32⟩
  | _, _ => ⟨S112x1x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_scratch0 : Ref sig .tc := ⟨.vmem, 46, rfl⟩
abbrev cc3_scratch1 : Ref sig .tc := ⟨.vmem, 47, rfl⟩
abbrev cc3_scratch2 : Ref sig .tc := ⟨.vmem, 48, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem7_0 : DmaSem sig := 27
abbrev cc2_sem7_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39

abbrev nD : Nat := 1
abbrev τ : Topo := Topo.v7x

variable {F : FTy → Type} [BitOps F]

abbrev grid0 : Pipeline.Grid := .none

abbrev stage0_0 : Fin 1 → Memref sig .tc .vmem S112x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

@[reducible] def k1_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k1_off1 (k1_t1 : Fin k1_t1_loop.trips) : Fin 3 → Nat :=
  let c0_i32 : BitVec 32 := 0#32
  let c1_i32 : BitVec 32 := 1#32
  let arg12 : BitVec 32 := Scf.iv c0_i32 c1_i32 k1_t1
  let v275 : Index := Scalar.indexCast arg12
  let c0_118 : Index := 0#32
  let c0_119 : Index := 0#32
  ![v275.toNat, 0, 0]
def k1_off2 (k1_t1 : Fin k1_t1_loop.trips) : Fin 3 → Nat :=
  let c0_122 : Index := 0#32
  let c0_i32 : BitVec 32 := 0#32
  let c1_i32 : BitVec 32 := 1#32
  let arg12 : BitVec 32 := Scf.iv c0_i32 c1_i32 k1_t1
  let v288 : Index := Scalar.indexCast arg12
  let c0_123 : Index := 0#32
  ![0, v288.toNat, 0]
def k1_off3 (k1_t1 : Fin k1_t1_loop.trips) : Fin 3 → Nat :=
  let c1_124 : Index := 1#32
  let c0_i32 : BitVec 32 := 0#32
  let c1_i32 : BitVec 32 := 1#32
  let arg12 : BitVec 32 := Scf.iv c0_i32 c1_i32 k1_t1
  let v291 : Index := Scalar.indexCast arg12
  let c0_125 : Index := 0#32
  ![1, v291.toNat, 0]
def k1_off4 (k1_t1 : Fin k1_t1_loop.trips) : Fin 3 → Nat :=
  let c2_126 : Index := 2#32
  let c0_i32 : BitVec 32 := 0#32
  let c1_i32 : BitVec 32 := 1#32
  let arg12 : BitVec 32 := Scf.iv c0_i32 c1_i32 k1_t1
  let v294 : Index := Scalar.indexCast arg12
  let c0_127 : Index := 0#32
  ![2, v294.toNat, 0]
def k1_off5 (k1_t1 : Fin k1_t1_loop.trips) : Fin 3 → Nat :=
  let c3_128 : Index := 3#32
  let c0_i32 : BitVec 32 := 0#32
  let c1_i32 : BitVec 32 := 1#32
  let arg12 : BitVec 32 := Scf.iv c0_i32 c1_i32 k1_t1
  let v297 : Index := Scalar.indexCast arg12
  let c0_129 : Index := 0#32
  ![3, v297.toNat, 0]
def k1_mult1 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32 : BitVec 32 := 256#32
  let v340 : BitVec 32 := Scalar.muli arg12 c256_i32
  let c0_i32_138 : BitVec 32 := 0#32
  let v341 : BitVec 32 := Scalar.addi v340 c0_i32_138
  v341
def k1_off6 (k1_t1 : Fin k1_t1_loop.trips) (c0_i32_138 : BitVec 32) : Fin 2 → Nat :=
  let c0_i32 : BitVec 32 := 0#32
  let c1_i32 : BitVec 32 := 1#32
  let arg12 : BitVec 32 := Scf.iv c0_i32 c1_i32 k1_t1
  let c256_i32 : BitVec 32 := 256#32
  let v340 : BitVec 32 := Scalar.muli arg12 c256_i32
  let v341 : BitVec 32 := Scalar.addi v340 c0_i32_138
  let v342 : BitVec 32 := v341
  let v343 : Index := Scalar.indexCast v342
  let c0_139 : Index := 0#32
  ![v343.toNat, 0]
def k1_mult2 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32_140 : BitVec 32 := 256#32
  let v347 : BitVec 32 := Scalar.muli arg12 c256_i32_140
  let c64_i32_141 : BitVec 32 := 64#32
  let v348 : BitVec 32 := Scalar.addi v347 c64_i32_141
  v348
def k1_mult3 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32_143 : BitVec 32 := 256#32
  let v354 : BitVec 32 := Scalar.muli arg12 c256_i32_143
  let c128_i32_144 : BitVec 32 := 128#32
  let v355 : BitVec 32 := Scalar.addi v354 c128_i32_144
  v355
def k1_mult4 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32_146 : BitVec 32 := 256#32
  let v361 : BitVec 32 := Scalar.muli arg12 c256_i32_146
  let c192_i32 : BitVec 32 := 192#32
  let v362 : BitVec 32 := Scalar.addi v361 c192_i32
  v362
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x3840 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S15x256x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12x15x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S15x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S15x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S112x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S112x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S112x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

@[reducible] def k2_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k2_off1 (k2_t1 : Fin k2_t1_loop.trips) : Fin 3 → Nat :=
  let c0_i32 : BitVec 32 := 0#32
  let c1_i32 : BitVec 32 := 1#32
  let arg12 : BitVec 32 := Scf.iv c0_i32 c1_i32 k2_t1
  let v275 : Index := Scalar.indexCast arg12
  let c0_118 : Index := 0#32
  let c0_119 : Index := 0#32
  ![v275.toNat, 0, 0]
def k2_off2 (k2_t1 : Fin k2_t1_loop.trips) : Fin 3 → Nat :=
  let c0_122 : Index := 0#32
  let c0_i32 : BitVec 32 := 0#32
  let c1_i32 : BitVec 32 := 1#32
  let arg12 : BitVec 32 := Scf.iv c0_i32 c1_i32 k2_t1
  let v288 : Index := Scalar.indexCast arg12
  let c0_123 : Index := 0#32
  ![0, v288.toNat, 0]
def k2_off3 (k2_t1 : Fin k2_t1_loop.trips) : Fin 3 → Nat :=
  let c1_124 : Index := 1#32
  let c0_i32 : BitVec 32 := 0#32
  let c1_i32 : BitVec 32 := 1#32
  let arg12 : BitVec 32 := Scf.iv c0_i32 c1_i32 k2_t1
  let v291 : Index := Scalar.indexCast arg12
  let c0_125 : Index := 0#32
  ![1, v291.toNat, 0]
def k2_off4 (k2_t1 : Fin k2_t1_loop.trips) : Fin 3 → Nat :=
  let c2_126 : Index := 2#32
  let c0_i32 : BitVec 32 := 0#32
  let c1_i32 : BitVec 32 := 1#32
  let arg12 : BitVec 32 := Scf.iv c0_i32 c1_i32 k2_t1
  let v294 : Index := Scalar.indexCast arg12
  let c0_127 : Index := 0#32
  ![2, v294.toNat, 0]
def k2_off5 (k2_t1 : Fin k2_t1_loop.trips) : Fin 3 → Nat :=
  let c3_128 : Index := 3#32
  let c0_i32 : BitVec 32 := 0#32
  let c1_i32 : BitVec 32 := 1#32
  let arg12 : BitVec 32 := Scf.iv c0_i32 c1_i32 k2_t1
  let v297 : Index := Scalar.indexCast arg12
  let c0_129 : Index := 0#32
  ![3, v297.toNat, 0]
def k2_mult1 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32 : BitVec 32 := 256#32
  let v340 : BitVec 32 := Scalar.muli arg12 c256_i32
  let c0_i32_138 : BitVec 32 := 0#32
  let v341 : BitVec 32 := Scalar.addi v340 c0_i32_138
  v341
def k2_off6 (k2_t1 : Fin k2_t1_loop.trips) (c0_i32_138 : BitVec 32) : Fin 2 → Nat :=
  let c0_i32 : BitVec 32 := 0#32
  let c1_i32 : BitVec 32 := 1#32
  let arg12 : BitVec 32 := Scf.iv c0_i32 c1_i32 k2_t1
  let c256_i32 : BitVec 32 := 256#32
  let v340 : BitVec 32 := Scalar.muli arg12 c256_i32
  let v341 : BitVec 32 := Scalar.addi v340 c0_i32_138
  let v342 : BitVec 32 := v341
  let v343 : Index := Scalar.indexCast v342
  let c0_139 : Index := 0#32
  ![v343.toNat, 0]
def k2_mult2 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32_140 : BitVec 32 := 256#32
  let v347 : BitVec 32 := Scalar.muli arg12 c256_i32_140
  let c64_i32_141 : BitVec 32 := 64#32
  let v348 : BitVec 32 := Scalar.addi v347 c64_i32_141
  v348
def k2_mult3 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32_143 : BitVec 32 := 256#32
  let v354 : BitVec 32 := Scalar.muli arg12 c256_i32_143
  let c128_i32_144 : BitVec 32 := 128#32
  let v355 : BitVec 32 := Scalar.addi v354 c128_i32_144
  v355
def k2_mult4 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32_146 : BitVec 32 := 256#32
  let v361 : BitVec 32 := Scalar.muli arg12 c256_i32_146
  let c192_i32 : BitVec 32 := 192#32
  let v362 : BitVec 32 := Scalar.addi v361 c192_i32
  v362
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S112x3840 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S15x256x128 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12x15x256 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S15x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S15x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S112x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S112x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S112x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

@[reducible] def k3_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k3_off1 (k3_t1 : Fin k3_t1_loop.trips) : Fin 3 → Nat :=
  let c0_i32 : BitVec 32 := 0#32
  let c1_i32 : BitVec 32 := 1#32
  let arg10 : BitVec 32 := Scf.iv c0_i32 c1_i32 k3_t1
  let v185 : Index := Scalar.indexCast arg10
  let c0_88 : Index := 0#32
  let c0_89 : Index := 0#32
  ![v185.toNat, 0, 0]
def k3_off2 (k3_t1 : Fin k3_t1_loop.trips) : Fin 3 → Nat :=
  let c0_92 : Index := 0#32
  let c0_i32 : BitVec 32 := 0#32
  let c1_i32 : BitVec 32 := 1#32
  let arg10 : BitVec 32 := Scf.iv c0_i32 c1_i32 k3_t1
  let v198 : Index := Scalar.indexCast arg10
  let c0_93 : Index := 0#32
  ![0, v198.toNat, 0]
def k3_off3 (k3_t1 : Fin k3_t1_loop.trips) : Fin 3 → Nat :=
  let c1_94 : Index := 1#32
  let c0_i32 : BitVec 32 := 0#32
  let c1_i32 : BitVec 32 := 1#32
  let arg10 : BitVec 32 := Scf.iv c0_i32 c1_i32 k3_t1
  let v201 : Index := Scalar.indexCast arg10
  let c0_95 : Index := 0#32
  ![1, v201.toNat, 0]
def k3_off4 (k3_t1 : Fin k3_t1_loop.trips) : Fin 3 → Nat :=
  let c2_96 : Index := 2#32
  let c0_i32 : BitVec 32 := 0#32
  let c1_i32 : BitVec 32 := 1#32
  let arg10 : BitVec 32 := Scf.iv c0_i32 c1_i32 k3_t1
  let v204 : Index := Scalar.indexCast arg10
  let c0_97 : Index := 0#32
  ![2, v204.toNat, 0]
def k3_off5 (k3_t1 : Fin k3_t1_loop.trips) : Fin 3 → Nat :=
  let c3_98 : Index := 3#32
  let c0_i32 : BitVec 32 := 0#32
  let c1_i32 : BitVec 32 := 1#32
  let arg10 : BitVec 32 := Scf.iv c0_i32 c1_i32 k3_t1
  let v207 : Index := Scalar.indexCast arg10
  let c0_99 : Index := 0#32
  ![3, v207.toNat, 0]
def k3_mult1 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32 : BitVec 32 := 256#32
  let v250 : BitVec 32 := Scalar.muli arg10 c256_i32
  let c0_i32_108 : BitVec 32 := 0#32
  let v251 : BitVec 32 := Scalar.addi v250 c0_i32_108
  v251
def k3_off6 (k3_t1 : Fin k3_t1_loop.trips) (c0_i32_108 : BitVec 32) : Fin 2 → Nat :=
  let c0_i32 : BitVec 32 := 0#32
  let c1_i32 : BitVec 32 := 1#32
  let arg10 : BitVec 32 := Scf.iv c0_i32 c1_i32 k3_t1
  let c256_i32 : BitVec 32 := 256#32
  let v250 : BitVec 32 := Scalar.muli arg10 c256_i32
  let v251 : BitVec 32 := Scalar.addi v250 c0_i32_108
  let v252 : BitVec 32 := v251
  let v253 : Index := Scalar.indexCast v252
  let c0_109 : Index := 0#32
  ![v253.toNat, 0]
def k3_mult2 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32_110 : BitVec 32 := 256#32
  let v257 : BitVec 32 := Scalar.muli arg10 c256_i32_110
  let c64_i32 : BitVec 32 := 64#32
  let v258 : BitVec 32 := Scalar.addi v257 c64_i32
  v258
def k3_mult3 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32_112 : BitVec 32 := 256#32
  let v264 : BitVec 32 := Scalar.muli arg10 c256_i32_112
  let c128_i32 : BitVec 32 := 128#32
  let v265 : BitVec 32 := Scalar.addi v264 c128_i32
  v265
def k3_mult4 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32_114 : BitVec 32 := 256#32
  let v271 : BitVec 32 := Scalar.muli arg10 c256_i32_114
  let c192_i32 : BitVec 32 := 192#32
  let v272 : BitVec 32 := Scalar.addi v271 c192_i32
  v272
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S112x3840 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S15x256x128 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S12x15x256 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S15x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S15x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S112x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== BeforeIdeal.lean ====
abbrev S112x1x3840 : Shape := ⟨3, ![112, 1, 3840]⟩
abbrev S3840 : Shape := ⟨1, ![3840]⟩
abbrev S4096x15x128 : Shape := ⟨3, ![4096, 15, 128]⟩
abbrev S4096x15x12 : Shape := ⟨3, ![4096, 15, 12]⟩
abbrev S4096x15 : Shape := ⟨2, ![4096, 15]⟩
abbrev S1024x15x128 : Shape := ⟨3, ![1024, 15, 128]⟩
abbrev S1024x15x12 : Shape := ⟨3, ![1024, 15, 12]⟩
abbrev S1024x15 : Shape := ⟨2, ![1024, 15]⟩
abbrev S112x128 : Shape := ⟨2, ![112, 128]⟩
abbrev S112x3840 : Shape := ⟨2, ![112, 3840]⟩
abbrev S1x3840 : Shape := ⟨2, ![1, 3840]⟩
abbrev S112 : Shape := ⟨1, ![112]⟩
abbrev S112x1 : Shape := ⟨2, ![112, 1]⟩
abbrev S112x128x1 : Shape := ⟨3, ![112, 128, 1]⟩
abbrev S15x4096x128 : Shape := ⟨3, ![15, 4096, 128]⟩
abbrev S12x15x4096 : Shape := ⟨3, ![12, 15, 4096]⟩
abbrev S15x4096 : Shape := ⟨2, ![15, 4096]⟩
abbrev S112x4096 : Shape := ⟨2, ![112, 4096]⟩
abbrev S15x256x128 : Shape := ⟨3, ![15, 256, 128]⟩
abbrev S12x15x256 : Shape := ⟨3, ![12, 15, 256]⟩
abbrev S15x256 : Shape := ⟨2, ![15, 256]⟩
abbrev S112x256 : Shape := ⟨2, ![112, 256]⟩
abbrev S3840x256 : Shape := ⟨2, ![3840, 256]⟩
abbrev S4x15x256 : Shape := ⟨3, ![4, 15, 256]⟩
abbrev S4x15x2x256 : Shape := ⟨4, ![4, 15, 2, 256]⟩
abbrev S4x15x1x256 : Shape := ⟨4, ![4, 15, 1, 256]⟩
abbrev S1x15x256 : Shape := ⟨3, ![1, 15, 256]⟩
abbrev S1x15x2x256 : Shape := ⟨4, ![1, 15, 2, 256]⟩
abbrev S1x15x1x256 : Shape := ⟨4, ![1, 15, 1, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x1x2x256 : Shape := ⟨4, ![1, 1, 2, 256]⟩
abbrev S1x1x1x256 : Shape := ⟨4, ![1, 1, 1, 256]⟩
abbrev S1x256 : Shape := ⟨2, ![1, 256]⟩
abbrev S64x256 : Shape := ⟨2, ![64, 256]⟩
abbrev S32x256 : Shape := ⟨2, ![32, 256]⟩
abbrev S15x1024x128 : Shape := ⟨3, ![15, 1024, 128]⟩
abbrev S12x15x1024 : Shape := ⟨3, ![12, 15, 1024]⟩
abbrev S15x1024 : Shape := ⟨2, ![15, 1024]⟩
abbrev S112x1024 : Shape := ⟨2, ![112, 1024]⟩
abbrev S112x16x256 : Shape := ⟨3, ![112, 16, 256]⟩
abbrev S112x1x4x256 : Shape := ⟨4, ![112, 1, 4, 256]⟩

abbrev nBuf : Space → Nat
  | .hbm => 37
  | .vmem => 49
  | .smem => 0
  | _ => 0

abbrev bufTy : (tb : Table) → Fin (tcTables nBuf tb) → BufTy
  | .hbm, ⟨0, _⟩ => ⟨S112x1x3840, .bf16⟩
  | .hbm, ⟨1, _⟩ => ⟨S3840, .f32⟩
  | .hbm, ⟨2, _⟩ => ⟨S4096x15x128, .i8⟩
  | .hbm, ⟨3, _⟩ => ⟨S4096x15x12, .i8⟩
  | .hbm, ⟨4, _⟩ => ⟨S4096x15, .bf16⟩
  | .hbm, ⟨5, _⟩ => ⟨S4096x15, .bf16⟩
  | .hbm, ⟨6, _⟩ => ⟨S1024x15x128, .i8⟩
  | .hbm, ⟨7, _⟩ => ⟨S1024x15x12, .i8⟩
  | .hbm, ⟨8, _⟩ => ⟨S1024x15, .bf16⟩
  | .hbm, ⟨9, _⟩ => ⟨S1024x15, .bf16⟩
  | .hbm, ⟨10, _⟩ => ⟨S1024x15x128, .i8⟩
  | .hbm, ⟨11, _⟩ => ⟨S1024x15x12, .i8⟩
  | .hbm, ⟨12, _⟩ => ⟨S1024x15, .bf16⟩
  | .hbm, ⟨13, _⟩ => ⟨S1024x15, .bf16⟩
  | .hbm, ⟨14, _⟩ => ⟨S112x128, .f32⟩
  | .hbm, ⟨15, _⟩ => ⟨S112x128, .f32⟩
  | .hbm, ⟨16, _⟩ => ⟨S112x3840, .bf16⟩
  | .hbm, ⟨17, _⟩ => ⟨S1x3840, .f32⟩
  | .hbm, ⟨18, _⟩ => ⟨S112x3840, .bf16⟩
  | .hbm, ⟨19, _⟩ => ⟨S15x4096x128, .i8⟩
  | .hbm, ⟨20, _⟩ => ⟨S12x15x4096, .i8⟩
  | .hbm, ⟨21, _⟩ => ⟨S15x4096, .bf16⟩
  | .hbm, ⟨22, _⟩ => ⟨S15x4096, .bf16⟩
  | .hbm, ⟨23, _⟩ => ⟨S112x4096, .bf16⟩
  | .hbm, ⟨24, _⟩ => ⟨S15x1024x128, .i8⟩
  | .hbm, ⟨25, _⟩ => ⟨S12x15x1024, .i8⟩
  | .hbm, ⟨26, _⟩ => ⟨S15x1024, .bf16⟩
  | .hbm, ⟨27, _⟩ => ⟨S15x1024, .bf16⟩
  | .hbm, ⟨28, _⟩ => ⟨S112x1024, .bf16⟩
  | .hbm, ⟨29, _⟩ => ⟨S15x1024x128, .i8⟩
  | .hbm, ⟨30, _⟩ => ⟨S12x15x1024, .i8⟩
  | .hbm, ⟨31, _⟩ => ⟨S15x1024, .bf16⟩
  | .hbm, ⟨32, _⟩ => ⟨S15x1024, .bf16⟩
  | .hbm, ⟨33, _⟩ => ⟨S112x1024, .bf16⟩
  | .hbm, ⟨34, _⟩ => ⟨S112x16x256, .bf16⟩
  | .hbm, ⟨35, _⟩ => ⟨S112x1x4x256, .bf16⟩
  | .hbm, ⟨36, _⟩ => ⟨S112x1x4x256, .bf16⟩
  | .local _ .vmem, ⟨0, _⟩ => ⟨S112x3840, .bf16⟩
  | .local _ .vmem, ⟨1, _⟩ => ⟨S1x3840, .f32⟩
  | .local _ .vmem, ⟨2, _⟩ => ⟨S112x3840, .bf16⟩
  | .local _ .vmem, ⟨3, _⟩ => ⟨S112x3840, .bf16⟩
  | .local _ .vmem, ⟨4, _⟩ => ⟨S15x256x128, .i8⟩
  | .local _ .vmem, ⟨5, _⟩ => ⟨S15x256x128, .i8⟩
  | .local _ .vmem, ⟨6, _⟩ => ⟨S12x15x256, .i8⟩
  | .local _ .vmem, ⟨7, _⟩ => ⟨S12x15x256, .i8⟩
  | .local _ .vmem, ⟨8, _⟩ => ⟨S15x256, .bf16⟩
  | .local _ .vmem, ⟨9, _⟩ => ⟨S15x256, .bf16⟩
  | .local _ .vmem, ⟨10, _⟩ => ⟨S15x256, .bf16⟩
  | .local _ .vmem, ⟨11, _⟩ => ⟨S15x256, .bf16⟩
  | .local _ .vmem, ⟨12, _⟩ => ⟨S112x128, .f32⟩
  | .local _ .vmem, ⟨13, _⟩ => ⟨S112x128, .f32⟩
  | .local _ .vmem, ⟨14, _⟩ => ⟨S112x256, .bf16⟩
  | .local _ .vmem, ⟨15, _⟩ => ⟨S112x256, .bf16⟩
  | .local _ .vmem, ⟨16, _⟩ => ⟨S3840x256, .bf16⟩
  | .local _ .vmem, ⟨17, _⟩ => ⟨S4x15x2x256, .bf16⟩
  | .local _ .vmem, ⟨18, _⟩ => ⟨S4x15x2x256, .bf16⟩
  | .local _ .vmem, ⟨19, _⟩ => ⟨S112x3840, .bf16⟩
  | .local _ .vmem, ⟨20, _⟩ => ⟨S15x256x128, .i8⟩
  | .local _ .vmem, ⟨21, _⟩ => ⟨S15x256x128, .i8⟩
  | .local _ .vmem, ⟨22, _⟩ => ⟨S12x15x256, .i8⟩
  | .local _ .vmem, ⟨23, _⟩ => ⟨S12x15x256, .i8⟩
  | .local _ .vmem, ⟨24, _⟩ => ⟨S15x256, .bf16⟩
  | .local _ .vmem, ⟨25, _⟩ => ⟨S15x256, .bf16⟩
  | .local _ .vmem, ⟨26, _⟩ => ⟨S15x256, .bf16⟩
  | .local _ .vmem, ⟨27, _⟩ => ⟨S15x256, .bf16⟩
  | .local _ .vmem, ⟨28, _⟩ => ⟨S112x128, .f32⟩
  | .local _ .vmem, ⟨29, _⟩ => ⟨S112x128, .f32⟩
  | .local _ .vmem, ⟨30, _⟩ => ⟨S112x256, .bf16⟩
  | .local _ .vmem, ⟨31, _⟩ => ⟨S112x256, .bf16⟩
  | .local _ .vmem, ⟨32, _⟩ => ⟨S3840x256, .bf16⟩
  | .local _ .vmem, ⟨33, _⟩ => ⟨S4x15x2x256, .bf16⟩
  | .local _ .vmem, ⟨34, _⟩ => ⟨S4x15x2x256, .bf16⟩
  | .local _ .vmem, ⟨35, _⟩ => ⟨S112x3840, .bf16⟩
  | .local _ .vmem, ⟨36, _⟩ => ⟨S15x256x128, .i8⟩
  | .local _ .vmem, ⟨37, _⟩ => ⟨S15x256x128, .i8⟩
  | .local _ .vmem, ⟨38, _⟩ => ⟨S12x15x256, .i8⟩
  | .local _ .vmem, ⟨39, _⟩ => ⟨S12x15x256, .i8⟩
  | .local _ .vmem, ⟨40, _⟩ => ⟨S15x256, .bf16⟩
  | .local _ .vmem, ⟨41, _⟩ => ⟨S15x256, .bf16⟩
  | .local _ .vmem, ⟨42, _⟩ => ⟨S15x256, .bf16⟩
  | .local _ .vmem, ⟨43, _⟩ => ⟨S15x256, .bf16⟩
  | .local _ .vmem, ⟨44, _⟩ => ⟨S112x256, .bf16⟩
  | .local _ .vmem, ⟨45, _⟩ => ⟨S112x256, .bf16⟩
  | .local _ .vmem, ⟨46, _⟩ => ⟨S3840x256, .bf16⟩
  | .local _ .vmem, ⟨47, _⟩ => ⟨S4x15x2x256, .bf16⟩
  | .local _ .vmem, ⟨48, _⟩ => ⟨S4x15x2x256, .bf16⟩
  | _, _ => ⟨S112x1x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_scratch0 : Ref sig .tc := ⟨.vmem, 46, rfl⟩
abbrev cc3_scratch1 : Ref sig .tc := ⟨.vmem, 47, rfl⟩
abbrev cc3_scratch2 : Ref sig .tc := ⟨.vmem, 48, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem7_0 : DmaSem sig := 27
abbrev cc2_sem7_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := .none

abbrev stage0_0 : Fin 1 → Memref sig .tc .vmem S112x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

@[reducible] def k1_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k1_off1 (k1_t1 : Fin k1_t1_loop.trips) : Fin 3 → Nat :=
  let c0_i32 : BitVec 32 := 0#32
  let c1_i32 : BitVec 32 := 1#32
  let arg12 : BitVec 32 := Scf.iv c0_i32 c1_i32 k1_t1
  let v275 : Index := Scalar.indexCast arg12
  let c0_118 : Index := 0#32
  let c0_119 : Index := 0#32
  ![v275.toNat, 0, 0]
def k1_off2 (k1_t1 : Fin k1_t1_loop.trips) : Fin 4 → Nat :=
  let c0_122 : Index := 0#32
  let c0_i32 : BitVec 32 := 0#32
  let c1_i32 : BitVec 32 := 1#32
  let arg12 : BitVec 32 := Scf.iv c0_i32 c1_i32 k1_t1
  let v288 : Index := Scalar.indexCast arg12
  let c0_123 : Index := 0#32
  ![0, v288.toNat, 0, 0]
def k1_off3 (k1_t1 : Fin k1_t1_loop.trips) : Fin 4 → Nat :=
  let c1_124 : Index := 1#32
  let c0_i32 : BitVec 32 := 0#32
  let c1_i32 : BitVec 32 := 1#32
  let arg12 : BitVec 32 := Scf.iv c0_i32 c1_i32 k1_t1
  let v291 : Index := Scalar.indexCast arg12
  let c0_125 : Index := 0#32
  ![1, v291.toNat, 0, 0]
def k1_off4 (k1_t1 : Fin k1_t1_loop.trips) : Fin 4 → Nat :=
  let c2_126 : Index := 2#32
  let c0_i32 : BitVec 32 := 0#32
  let c1_i32 : BitVec 32 := 1#32
  let arg12 : BitVec 32 := Scf.iv c0_i32 c1_i32 k1_t1
  let v294 : Index := Scalar.indexCast arg12
  let c0_127 : Index := 0#32
  ![2, v294.toNat, 0, 0]
def k1_off5 (k1_t1 : Fin k1_t1_loop.trips) : Fin 4 → Nat :=
  let c3_128 : Index := 3#32
  let c0_i32 : BitVec 32 := 0#32
  let c1_i32 : BitVec 32 := 1#32
  let arg12 : BitVec 32 := Scf.iv c0_i32 c1_i32 k1_t1
  let v297 : Index := Scalar.indexCast arg12
  let c0_129 : Index := 0#32
  ![3, v297.toNat, 0, 0]
def k1_mult1 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32 : BitVec 32 := 256#32
  let v340 : BitVec 32 := Scalar.muli arg12 c256_i32
  let c0_i32_138 : BitVec 32 := 0#32
  let v341 : BitVec 32 := Scalar.addi v340 c0_i32_138
  v341
def k1_off6 (k1_t1 : Fin k1_t1_loop.trips) (c0_i32_138 : BitVec 32) : Fin 2 → Nat :=
  let c0_i32 : BitVec 32 := 0#32
  let c1_i32 : BitVec 32 := 1#32
  let arg12 : BitVec 32 := Scf.iv c0_i32 c1_i32 k1_t1
  let c256_i32 : BitVec 32 := 256#32
  let v340 : BitVec 32 := Scalar.muli arg12 c256_i32
  let v341 : BitVec 32 := Scalar.addi v340 c0_i32_138
  let v342 : BitVec 32 := v341
  let v343 : Index := Scalar.indexCast v342
  let c0_139 : Index := 0#32
  ![v343.toNat, 0]
def k1_mult2 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32_140 : BitVec 32 := 256#32
  let v347 : BitVec 32 := Scalar.muli arg12 c256_i32_140
  let c64_i32_141 : BitVec 32 := 64#32
  let v348 : BitVec 32 := Scalar.addi v347 c64_i32_141
  v348
def k1_mult3 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32_143 : BitVec 32 := 256#32
  let v354 : BitVec 32 := Scalar.muli arg12 c256_i32_143
  let c128_i32_144 : BitVec 32 := 128#32
  let v355 : BitVec 32 := Scalar.addi v354 c128_i32_144
  v355
def k1_mult4 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32_146 : BitVec 32 := 256#32
  let v361 : BitVec 32 := Scalar.muli arg12 c256_i32_146
  let c192_i32 : BitVec 32 := 192#32
  let v362 : BitVec 32 := Scalar.addi v361 c192_i32
  v362
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x3840 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S15x256x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12x15x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S15x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S15x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S112x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S112x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S112x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

@[reducible] def k2_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k2_off1 (k2_t1 : Fin k2_t1_loop.trips) : Fin 3 → Nat :=
  let c0_i32 : BitVec 32 := 0#32
  let c1_i32 : BitVec 32 := 1#32
  let arg12 : BitVec 32 := Scf.iv c0_i32 c1_i32 k2_t1
  let v275 : Index := Scalar.indexCast arg12
  let c0_118 : Index := 0#32
  let c0_119 : Index := 0#32
  ![v275.toNat, 0, 0]
def k2_off2 (k2_t1 : Fin k2_t1_loop.trips) : Fin 4 → Nat :=
  let c0_122 : Index := 0#32
  let c0_i32 : BitVec 32 := 0#32
  let c1_i32 : BitVec 32 := 1#32
  let arg12 : BitVec 32 := Scf.iv c0_i32 c1_i32 k2_t1
  let v288 : Index := Scalar.indexCast arg12
  let c0_123 : Index := 0#32
  ![0, v288.toNat, 0, 0]
def k2_off3 (k2_t1 : Fin k2_t1_loop.trips) : Fin 4 → Nat :=
  let c1_124 : Index := 1#32
  let c0_i32 : BitVec 32 := 0#32
  let c1_i32 : BitVec 32 := 1#32
  let arg12 : BitVec 32 := Scf.iv c0_i32 c1_i32 k2_t1
  let v291 : Index := Scalar.indexCast arg12
  let c0_125 : Index := 0#32
  ![1, v291.toNat, 0, 0]
def k2_off4 (k2_t1 : Fin k2_t1_loop.trips) : Fin 4 → Nat :=
  let c2_126 : Index := 2#32
  let c0_i32 : BitVec 32 := 0#32
  let c1_i32 : BitVec 32 := 1#32
  let arg12 : BitVec 32 := Scf.iv c0_i32 c1_i32 k2_t1
  let v294 : Index := Scalar.indexCast arg12
  let c0_127 : Index := 0#32
  ![2, v294.toNat, 0, 0]
def k2_off5 (k2_t1 : Fin k2_t1_loop.trips) : Fin 4 → Nat :=
  let c3_128 : Index := 3#32
  let c0_i32 : BitVec 32 := 0#32
  let c1_i32 : BitVec 32 := 1#32
  let arg12 : BitVec 32 := Scf.iv c0_i32 c1_i32 k2_t1
  let v297 : Index := Scalar.indexCast arg12
  let c0_129 : Index := 0#32
  ![3, v297.toNat, 0, 0]
def k2_mult1 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32 : BitVec 32 := 256#32
  let v340 : BitVec 32 := Scalar.muli arg12 c256_i32
  let c0_i32_138 : BitVec 32 := 0#32
  let v341 : BitVec 32 := Scalar.addi v340 c0_i32_138
  v341
def k2_off6 (k2_t1 : Fin k2_t1_loop.trips) (c0_i32_138 : BitVec 32) : Fin 2 → Nat :=
  let c0_i32 : BitVec 32 := 0#32
  let c1_i32 : BitVec 32 := 1#32
  let arg12 : BitVec 32 := Scf.iv c0_i32 c1_i32 k2_t1
  let c256_i32 : BitVec 32 := 256#32
  let v340 : BitVec 32 := Scalar.muli arg12 c256_i32
  let v341 : BitVec 32 := Scalar.addi v340 c0_i32_138
  let v342 : BitVec 32 := v341
  let v343 : Index := Scalar.indexCast v342
  let c0_139 : Index := 0#32
  ![v343.toNat, 0]
def k2_mult2 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32_140 : BitVec 32 := 256#32
  let v347 : BitVec 32 := Scalar.muli arg12 c256_i32_140
  let c64_i32_141 : BitVec 32 := 64#32
  let v348 : BitVec 32 := Scalar.addi v347 c64_i32_141
  v348
def k2_mult3 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32_143 : BitVec 32 := 256#32
  let v354 : BitVec 32 := Scalar.muli arg12 c256_i32_143
  let c128_i32_144 : BitVec 32 := 128#32
  let v355 : BitVec 32 := Scalar.addi v354 c128_i32_144
  v355
def k2_mult4 (k2_t1 : Fin k2_t1_loop.trips) : BitVec 32 :=
  let c0_i32 : BitVec 32 := 0#32
  let c1_i32 : BitVec 32 := 1#32
  let arg12 : BitVec 32 := Scf.iv c0_i32 c1_i32 k2_t1
  let c256_i32_146 : BitVec 32 := 256#32
  let v361 : BitVec 32 := Scalar.muli arg12 c256_i32_146
  let c192_i32 : BitVec 32 := 192#32
  let v362 : BitVec 32 := Scalar.addi v361 c192_i32
  v362
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S112x3840 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S15x256x128 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12x15x256 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S15x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S15x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S112x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S112x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S112x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

@[reducible] def k3_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k3_off1 (k3_t1 : Fin k3_t1_loop.trips) : Fin 3 → Nat :=
  let c0_i32 : BitVec 32 := 0#32
  let c1_i32 : BitVec 32 := 1#32
  let arg10 : BitVec 32 := Scf.iv c0_i32 c1_i32 k3_t1
  let v185 : Index := Scalar.indexCast arg10
  let c0_88 : Index := 0#32
  let c0_89 : Index := 0#32
  ![v185.toNat, 0, 0]
def k3_off2 (k3_t1 : Fin k3_t1_loop.trips) : Fin 4 → Nat :=
  let c0_92 : Index := 0#32
  let c0_i32 : BitVec 32 := 0#32
  let c1_i32 : BitVec 32 := 1#32
  let arg10 : BitVec 32 := Scf.iv c0_i32 c1_i32 k3_t1
  let v198 : Index := Scalar.indexCast arg10
  let c0_93 : Index := 0#32
  ![0, v198.toNat, 0, 0]
def k3_off3 (k3_t1 : Fin k3_t1_loop.trips) : Fin 4 → Nat :=
  let c1_94 : Index := 1#32
  let c0_i32 : BitVec 32 := 0#32
  let c1_i32 : BitVec 32 := 1#32
  let arg10 : BitVec 32 := Scf.iv c0_i32 c1_i32 k3_t1
  let v201 : Index := Scalar.indexCast arg10
  let c0_95 : Index := 0#32
  ![1, v201.toNat, 0, 0]
def k3_off4 (k3_t1 : Fin k3_t1_loop.trips) : Fin 4 → Nat :=
  let c2_96 : Index := 2#32
  let c0_i32 : BitVec 32 := 0#32
  let c1_i32 : BitVec 32 := 1#32
  let arg10 : BitVec 32 := Scf.iv c0_i32 c1_i32 k3_t1
  let v204 : Index := Scalar.indexCast arg10
  let c0_97 : Index := 0#32
  ![2, v204.toNat, 0, 0]
def k3_off5 (k3_t1 : Fin k3_t1_loop.trips) : Fin 4 → Nat :=
  let c3_98 : Index := 3#32
  let c0_i32 : BitVec 32 := 0#32
  let c1_i32 : BitVec 32 := 1#32
  let arg10 : BitVec 32 := Scf.iv c0_i32 c1_i32 k3_t1
  let v207 : Index := Scalar.indexCast arg10
  let c0_99 : Index := 0#32
  ![3, v207.toNat, 0, 0]
def k3_mult1 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32 : BitVec 32 := 256#32
  let v250 : BitVec 32 := Scalar.muli arg10 c256_i32
  let c0_i32_108 : BitVec 32 := 0#32
  let v251 : BitVec 32 := Scalar.addi v250 c0_i32_108
  v251
def k3_off6 (k3_t1 : Fin k3_t1_loop.trips) (c0_i32_108 : BitVec 32) : Fin 2 → Nat :=
  let c0_i32 : BitVec 32 := 0#32
  let c1_i32 : BitVec 32 := 1#32
  let arg10 : BitVec 32 := Scf.iv c0_i32 c1_i32 k3_t1
  let c256_i32 : BitVec 32 := 256#32
  let v250 : BitVec 32 := Scalar.muli arg10 c256_i32
  let v251 : BitVec 32 := Scalar.addi v250 c0_i32_108
  let v252 : BitVec 32 := v251
  let v253 : Index := Scalar.indexCast v252
  let c0_109 : Index := 0#32
  ![v253.toNat, 0]
def k3_mult2 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32_110 : BitVec 32 := 256#32
  let v257 : BitVec 32 := Scalar.muli arg10 c256_i32_110
  let c64_i32 : BitVec 32 := 64#32
  let v258 : BitVec 32 := Scalar.addi v257 c64_i32
  v258
def k3_mult3 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32_112 : BitVec 32 := 256#32
  let v264 : BitVec 32 := Scalar.muli arg10 c256_i32_112
  let c128_i32 : BitVec 32 := 128#32
  let v265 : BitVec 32 := Scalar.addi v264 c128_i32
  v265
def k3_mult4 (k3_t1 : Fin k3_t1_loop.trips) : BitVec 32 :=
  let c0_i32 : BitVec 32 := 0#32
  let c1_i32 : BitVec 32 := 1#32
  let arg10 : BitVec 32 := Scf.iv c0_i32 c1_i32 k3_t1
  let c256_i32_114 : BitVec 32 := 256#32
  let v271 : BitVec 32 := Scalar.muli arg10 c256_i32_114
  let c192_i32 : BitVec 32 := 192#32
  let v272 : BitVec 32 := Scalar.addi v271 c192_i32
  v272
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S112x3840 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S15x256x128 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S12x15x256 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S15x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S15x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S112x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== BeforeRefIdeal.lean ====
abbrev S112x1x3840 : Shape := ⟨3, ![112, 1, 3840]⟩
abbrev S3840 : Shape := ⟨1, ![3840]⟩
abbrev S4096x15x128 : Shape := ⟨3, ![4096, 15, 128]⟩
abbrev S4096x15x12 : Shape := ⟨3, ![4096, 15, 12]⟩
abbrev S4096x15 : Shape := ⟨2, ![4096, 15]⟩
abbrev S1024x15x128 : Shape := ⟨3, ![1024, 15, 128]⟩
abbrev S1024x15x12 : Shape := ⟨3, ![1024, 15, 12]⟩
abbrev S1024x15 : Shape := ⟨2, ![1024, 15]⟩
abbrev S112x128 : Shape := ⟨2, ![112, 128]⟩
abbrev S112x3840 : Shape := ⟨2, ![112, 3840]⟩
abbrev S_ : Shape := ⟨0, ![]⟩
abbrev S112 : Shape := ⟨1, ![112]⟩
abbrev S112x1 : Shape := ⟨2, ![112, 1]⟩
abbrev S1x3840 : Shape := ⟨2, ![1, 3840]⟩
abbrev S4096x15x4 : Shape := ⟨3, ![4096, 15, 4]⟩
abbrev S4096x15x8 : Shape := ⟨3, ![4096, 15, 8]⟩
abbrev S4096x15x1 : Shape := ⟨3, ![4096, 15, 1]⟩
abbrev S4096x15x4x2 : Shape := ⟨4, ![4096, 15, 4, 2]⟩
abbrev S4096x15x4x32 : Shape := ⟨4, ![4096, 15, 4, 32]⟩
abbrev S4096x15x4x1 : Shape := ⟨4, ![4096, 15, 4, 1]⟩
abbrev S112x15x4x2x32 : Shape := ⟨5, ![112, 15, 4, 2, 32]⟩
abbrev S112x15x4x1x32 : Shape := ⟨5, ![112, 15, 4, 1, 32]⟩
abbrev S112x15x4x32 : Shape := ⟨4, ![112, 15, 4, 32]⟩
abbrev S112x4096 : Shape := ⟨2, ![112, 4096]⟩
abbrev S1024x15x4 : Shape := ⟨3, ![1024, 15, 4]⟩
abbrev S1024x15x8 : Shape := ⟨3, ![1024, 15, 8]⟩
abbrev S1024x15x1 : Shape := ⟨3, ![1024, 15, 1]⟩
abbrev S1024x15x4x2 : Shape := ⟨4, ![1024, 15, 4, 2]⟩
abbrev S1024x15x4x32 : Shape := ⟨4, ![1024, 15, 4, 32]⟩
abbrev S1024x15x4x1 : Shape := ⟨4, ![1024, 15, 4, 1]⟩
abbrev S112x1024 : Shape := ⟨2, ![112, 1024]⟩
abbrev S112x16x256 : Shape := ⟨3, ![112, 16, 256]⟩
abbrev S112x16x128x2 : Shape := ⟨4, ![112, 16, 128, 2]⟩
abbrev S112x16x128x1 : Shape := ⟨4, ![112, 16, 128, 1]⟩
abbrev S112x16x128 : Shape := ⟨3, ![112, 16, 128]⟩
abbrev S112x1x128 : Shape := ⟨3, ![112, 1, 128]⟩
abbrev S112x4x256 : Shape := ⟨3, ![112, 4, 256]⟩
abbrev S112x4x128x2 : Shape := ⟨4, ![112, 4, 128, 2]⟩
abbrev S112x4x128x1 : Shape := ⟨4, ![112, 4, 128, 1]⟩
abbrev S112x4x128 : Shape := ⟨3, ![112, 4, 128]⟩
abbrev S112x1x4x256 : Shape := ⟨4, ![112, 1, 4, 256]⟩

abbrev nBuf : Space → Nat
  | .hbm => 301
  | .vmem => 0
  | .smem => 0
  | _ => 0

abbrev hbmTy0_0 (i : Nat) : BufTy := match i % 128 with
  | 0 => ⟨S112x1x3840, .bf16⟩
  | 1 => ⟨S3840, .f32⟩
  | 2 => ⟨S4096x15x128, .i8⟩
  | 3 => ⟨S4096x15x12, .i8⟩
  | 4 => ⟨S4096x15, .bf16⟩
  | 5 => ⟨S4096x15, .bf16⟩
  | 6 => ⟨S1024x15x128, .i8⟩
  | 7 => ⟨S1024x15x12, .i8⟩
  | 8 => ⟨S1024x15, .bf16⟩
  | 9 => ⟨S1024x15, .bf16⟩
  | 10 => ⟨S1024x15x128, .i8⟩
  | 11 => ⟨S1024x15x12, .i8⟩
  | 12 => ⟨S1024x15, .bf16⟩
  | 13 => ⟨S1024x15, .bf16⟩
  | 14 => ⟨S112x128, .f32⟩
  | 15 => ⟨S112x128, .f32⟩
  | 16 => ⟨S112x3840, .bf16⟩
  | 17 => ⟨S112x3840, .f32⟩
  | 18 => ⟨S112x3840, .f32⟩
  | 19 => ⟨S_, .f32⟩
  | 20 => ⟨S112, .f32⟩
  | 21 => ⟨S112x1, .f32⟩
  | 22 => ⟨S_, .f32⟩
  | 23 => ⟨S112x1, .f32⟩
  | 24 => ⟨S112x1, .f32⟩
  | 25 => ⟨S_, .f32⟩
  | 26 => ⟨S112x1, .f32⟩
  | 27 => ⟨S112x1, .f32⟩
  | 28 => ⟨S112x1, .f32⟩
  | 29 => ⟨S112x3840, .f32⟩
  | 30 => ⟨S112x3840, .f32⟩
  | 31 => ⟨S1x3840, .f32⟩
  | 32 => ⟨S112x3840, .f32⟩
  | 33 => ⟨S112x3840, .f32⟩
  | 34 => ⟨S112x3840, .bf16⟩
  | 35 => ⟨S4096x15x12, .i32⟩
  | 36 => ⟨S4096x15x128, .i32⟩
  | 37 => ⟨S4096x15x4, .i32⟩
  | 38 => ⟨S4096x15x4, .i32⟩
  | 39 => ⟨S4096x15x4, .i32⟩
  | 40 => ⟨S_, .i32⟩
  | 41 => ⟨S4096x15x4, .i32⟩
  | 42 => ⟨S4096x15x4, .i32⟩
  | 43 => ⟨S_, .i32⟩
  | 44 => ⟨S4096x15x4, .i32⟩
  | 45 => ⟨S4096x15x4, .i32⟩
  | 46 => ⟨S_, .i32⟩
  | 47 => ⟨S4096x15x4, .i32⟩
  | 48 => ⟨S4096x15x4, .i32⟩
  | 49 => ⟨S_, .i32⟩
  | 50 => ⟨S4096x15x4, .i32⟩
  | 51 => ⟨S4096x15x4, .i32⟩
  | 52 => ⟨S4096x15x4, .i32⟩
  | 53 => ⟨S4096x15x8, .i32⟩
  | 54 => ⟨S_, .i32⟩
  | 55 => ⟨S4096x15x4, .i32⟩
  | 56 => ⟨S4096x15x4, .i32⟩
  | 57 => ⟨S_, .i32⟩
  | 58 => ⟨S4096x15x4, .i32⟩
  | 59 => ⟨S4096x15x4, .i32⟩
  | 60 => ⟨S_, .i32⟩
  | 61 => ⟨S4096x15x4, .i32⟩
  | 62 => ⟨S4096x15x4, .i32⟩
  | 63 => ⟨S_, .i32⟩
  | 64 => ⟨S4096x15x4, .i32⟩
  | 65 => ⟨S4096x15x4, .i32⟩
  | 66 => ⟨S4096x15x4, .i32⟩
  | 67 => ⟨S4096x15x8, .i32⟩
  | 68 => ⟨S4096x15x1, .bf16⟩
  | 69 => ⟨S4096x15x8, .bf16⟩
  | 70 => ⟨S4096x15x8, .bf16⟩
  | 71 => ⟨S4096x15x8, .bf16⟩
  | 72 => ⟨S4096x15x4x2, .bf16⟩
  | 73 => ⟨S4096x15x1, .bf16⟩
  | 74 => ⟨S4096x15x8, .bf16⟩
  | 75 => ⟨S4096x15x8, .bf16⟩
  | 76 => ⟨S4096x15x8, .bf16⟩
  | 77 => ⟨S4096x15x4x2, .bf16⟩
  | 78 => ⟨S4096x15x4x32, .i32⟩
  | 79 => ⟨S_, .i32⟩
  | 80 => ⟨S4096x15x4x32, .i32⟩
  | 81 => ⟨S4096x15x4x32, .i32⟩
  | 82 => ⟨S4096x15x4x32, .bf16⟩
  | 83 => ⟨S4096x15x4x1, .bf16⟩
  | 84 => ⟨S4096x15x4x32, .bf16⟩
  | 85 => ⟨S4096x15x4x32, .bf16⟩
  | 86 => ⟨S4096x15x4x1, .bf16⟩
  | 87 => ⟨S4096x15x4x32, .bf16⟩
  | 88 => ⟨S4096x15x4x32, .bf16⟩
  | 89 => ⟨S_, .i32⟩
  | 90 => ⟨S4096x15x4x32, .i32⟩
  | 91 => ⟨S4096x15x4x32, .i32⟩
  | 92 => ⟨S4096x15x4x32, .bf16⟩
  | 93 => ⟨S4096x15x4x1, .bf16⟩
  | 94 => ⟨S4096x15x4x32, .bf16⟩
  | 95 => ⟨S4096x15x4x32, .bf16⟩
  | 96 => ⟨S4096x15x4x1, .bf16⟩
  | 97 => ⟨S4096x15x4x32, .bf16⟩
  | 98 => ⟨S4096x15x4x32, .bf16⟩
  | 99 => ⟨S112x15x4x2x32, .bf16⟩
  | 100 => ⟨S112x15x4x1x32, .bf16⟩
  | 101 => ⟨S112x15x4x32, .bf16⟩
  | 102 => ⟨S112x4096, .f32⟩
  | 103 => ⟨S112x15x4x1x32, .bf16⟩
  | 104 => ⟨S112x15x4x32, .bf16⟩
  | 105 => ⟨S112x4096, .f32⟩
  | 106 => ⟨S112x4096, .f32⟩
  | 107 => ⟨S1024x15x12, .i32⟩
  | 108 => ⟨S1024x15x128, .i32⟩
  | 109 => ⟨S1024x15x4, .i32⟩
  | 110 => ⟨S1024x15x4, .i32⟩
  | 111 => ⟨S1024x15x4, .i32⟩
  | 112 => ⟨S_, .i32⟩
  | 113 => ⟨S1024x15x4, .i32⟩
  | 114 => ⟨S1024x15x4, .i32⟩
  | 115 => ⟨S_, .i32⟩
  | 116 => ⟨S1024x15x4, .i32⟩
  | 117 => ⟨S1024x15x4, .i32⟩
  | 118 => ⟨S_, .i32⟩
  | 119 => ⟨S1024x15x4, .i32⟩
  | 120 => ⟨S1024x15x4, .i32⟩
  | 121 => ⟨S_, .i32⟩
  | 122 => ⟨S1024x15x4, .i32⟩
  | 123 => ⟨S1024x15x4, .i32⟩
  | 124 => ⟨S1024x15x4, .i32⟩
  | 125 => ⟨S1024x15x8, .i32⟩
  | 126 => ⟨S_, .i32⟩
  | 127 => ⟨S1024x15x4, .i32⟩
  | _ => ⟨S112x1x3840, .bf16⟩

abbrev hbmTy0_1 (i : Nat) : BufTy := match i % 128 with
  | 0 => ⟨S1024x15x4, .i32⟩
  | 1 => ⟨S_, .i32⟩
  | 2 => ⟨S1024x15x4, .i32⟩
  | 3 => ⟨S1024x15x4, .i32⟩
  | 4 => ⟨S_, .i32⟩
  | 5 => ⟨S1024x15x4, .i32⟩
  | 6 => ⟨S1024x15x4, .i32⟩
  | 7 => ⟨S_, .i32⟩
  | 8 => ⟨S1024x15x4, .i32⟩
  | 9 => ⟨S1024x15x4, .i32⟩
  | 10 => ⟨S1024x15x4, .i32⟩
  | 11 => ⟨S1024x15x8, .i32⟩
  | 12 => ⟨S1024x15x1, .bf16⟩
  | 13 => ⟨S1024x15x8, .bf16⟩
  | 14 => ⟨S1024x15x8, .bf16⟩
  | 15 => ⟨S1024x15x8, .bf16⟩
  | 16 => ⟨S1024x15x4x2, .bf16⟩
  | 17 => ⟨S1024x15x1, .bf16⟩
  | 18 => ⟨S1024x15x8, .bf16⟩
  | 19 => ⟨S1024x15x8, .bf16⟩
  | 20 => ⟨S1024x15x8, .bf16⟩
  | 21 => ⟨S1024x15x4x2, .bf16⟩
  | 22 => ⟨S1024x15x4x32, .i32⟩
  | 23 => ⟨S_, .i32⟩
  | 24 => ⟨S1024x15x4x32, .i32⟩
  | 25 => ⟨S1024x15x4x32, .i32⟩
  | 26 => ⟨S1024x15x4x32, .bf16⟩
  | 27 => ⟨S1024x15x4x1, .bf16⟩
  | 28 => ⟨S1024x15x4x32, .bf16⟩
  | 29 => ⟨S1024x15x4x32, .bf16⟩
  | 30 => ⟨S1024x15x4x1, .bf16⟩
  | 31 => ⟨S1024x15x4x32, .bf16⟩
  | 32 => ⟨S1024x15x4x32, .bf16⟩
  | 33 => ⟨S_, .i32⟩
  | 34 => ⟨S1024x15x4x32, .i32⟩
  | 35 => ⟨S1024x15x4x32, .i32⟩
  | 36 => ⟨S1024x15x4x32, .bf16⟩
  | 37 => ⟨S1024x15x4x1, .bf16⟩
  | 38 => ⟨S1024x15x4x32, .bf16⟩
  | 39 => ⟨S1024x15x4x32, .bf16⟩
  | 40 => ⟨S1024x15x4x1, .bf16⟩
  | 41 => ⟨S1024x15x4x32, .bf16⟩
  | 42 => ⟨S1024x15x4x32, .bf16⟩
  | 43 => ⟨S112x15x4x2x32, .bf16⟩
  | 44 => ⟨S112x15x4x1x32, .bf16⟩
  | 45 => ⟨S112x15x4x32, .bf16⟩
  | 46 => ⟨S112x1024, .f32⟩
  | 47 => ⟨S112x15x4x1x32, .bf16⟩
  | 48 => ⟨S112x15x4x32, .bf16⟩
  | 49 => ⟨S112x1024, .f32⟩
  | 50 => ⟨S112x1024, .f32⟩
  | 51 => ⟨S1024x15x12, .i32⟩
  | 52 => ⟨S1024x15x128, .i32⟩
  | 53 => ⟨S1024x15x4, .i32⟩
  | 54 => ⟨S1024x15x4, .i32⟩
  | 55 => ⟨S1024x15x4, .i32⟩
  | 56 => ⟨S_, .i32⟩
  | 57 => ⟨S1024x15x4, .i32⟩
  | 58 => ⟨S1024x15x4, .i32⟩
  | 59 => ⟨S_, .i32⟩
  | 60 => ⟨S1024x15x4, .i32⟩
  | 61 => ⟨S1024x15x4, .i32⟩
  | 62 => ⟨S_, .i32⟩
  | 63 => ⟨S1024x15x4, .i32⟩
  | 64 => ⟨S1024x15x4, .i32⟩
  | 65 => ⟨S_, .i32⟩
  | 66 => ⟨S1024x15x4, .i32⟩
  | 67 => ⟨S1024x15x4, .i32⟩
  | 68 => ⟨S1024x15x4, .i32⟩
  | 69 => ⟨S1024x15x8, .i32⟩
  | 70 => ⟨S_, .i32⟩
  | 71 => ⟨S1024x15x4, .i32⟩
  | 72 => ⟨S1024x15x4, .i32⟩
  | 73 => ⟨S_, .i32⟩
  | 74 => ⟨S1024x15x4, .i32⟩
  | 75 => ⟨S1024x15x4, .i32⟩
  | 76 => ⟨S_, .i32⟩
  | 77 => ⟨S1024x15x4, .i32⟩
  | 78 => ⟨S1024x15x4, .i32⟩
  | 79 => ⟨S_, .i32⟩
  | 80 => ⟨S1024x15x4, .i32⟩
  | 81 => ⟨S1024x15x4, .i32⟩
  | 82 => ⟨S1024x15x4, .i32⟩
  | 83 => ⟨S1024x15x8, .i32⟩
  | 84 => ⟨S1024x15x1, .bf16⟩
  | 85 => ⟨S1024x15x8, .bf16⟩
  | 86 => ⟨S1024x15x8, .bf16⟩
  | 87 => ⟨S1024x15x8, .bf16⟩
  | 88 => ⟨S1024x15x4x2, .bf16⟩
  | 89 => ⟨S1024x15x1, .bf16⟩
  | 90 => ⟨S1024x15x8, .bf16⟩
  | 91 => ⟨S1024x15x8, .bf16⟩
  | 92 => ⟨S1024x15x8, .bf16⟩
  | 93 => ⟨S1024x15x4x2, .bf16⟩
  | 94 => ⟨S1024x15x4x32, .i32⟩
  | 95 => ⟨S_, .i32⟩
  | 96 => ⟨S1024x15x4x32, .i32⟩
  | 97 => ⟨S1024x15x4x32, .i32⟩
  | 98 => ⟨S1024x15x4x32, .bf16⟩
  | 99 => ⟨S1024x15x4x1, .bf16⟩
  | 100 => ⟨S1024x15x4x32, .bf16⟩
  | 101 => ⟨S1024x15x4x32, .bf16⟩
  | 102 => ⟨S1024x15x4x1, .bf16⟩
  | 103 => ⟨S1024x15x4x32, .bf16⟩
  | 104 => ⟨S1024x15x4x32, .bf16⟩
  | 105 => ⟨S_, .i32⟩
  | 106 => ⟨S1024x15x4x32, .i32⟩
  | 107 => ⟨S1024x15x4x32, .i32⟩
  | 108 => ⟨S1024x15x4x32, .bf16⟩
  | 109 => ⟨S1024x15x4x1, .bf16⟩
  | 110 => ⟨S1024x15x4x32, .bf16⟩
  | 111 => ⟨S1024x15x4x32, .bf16⟩
  | 112 => ⟨S1024x15x4x1, .bf16⟩
  | 113 => ⟨S1024x15x4x32, .bf16⟩
  | 114 => ⟨S1024x15x4x32, .bf16⟩
  | 115 => ⟨S112x15x4x2x32, .bf16⟩
  | 116 => ⟨S112x15x4x1x32, .bf16⟩
  | 117 => ⟨S112x15x4x32, .bf16⟩
  | 118 => ⟨S112x1024, .f32⟩
  | 119 => ⟨S112x15x4x1x32, .bf16⟩
  | 120 => ⟨S112x15x4x32, .bf16⟩
  | 121 => ⟨S112x1024, .f32⟩
  | 122 => ⟨S112x1024, .f32⟩
  | 123 => ⟨S112x16x256, .f32⟩
  | 124 => ⟨S112x16x128x2, .f32⟩
  | 125 => ⟨S112x16x128x1, .f32⟩
  | 126 => ⟨S112x16x128, .f32⟩
  | 127 => ⟨S112x16x128x1, .f32⟩
  | _ => ⟨S112x1x3840, .bf16⟩

abbrev hbmTy0_2 (i : Nat) : BufTy := match i % 128 with
  | 0 => ⟨S112x16x128, .f32⟩
  | 1 => ⟨S112x1x128, .f32⟩
  | 2 => ⟨S112x1x128, .f32⟩
  | 3 => ⟨S112x16x128, .f32⟩
  | 4 => ⟨S112x16x128, .f32⟩
  | 5 => ⟨S112x16x128, .f32⟩
  | 6 => ⟨S112x16x128, .f32⟩
  | 7 => ⟨S112x16x128, .f32⟩
  | 8 => ⟨S112x16x128, .f32⟩
  | 9 => ⟨S112x16x128, .f32⟩
  | 10 => ⟨S112x16x128, .f32⟩
  | 11 => ⟨S112x16x128, .f32⟩
  | 12 => ⟨S112x16x128, .f32⟩
  | 13 => ⟨S112x16x128x1, .f32⟩
  | 14 => ⟨S112x16x128x1, .f32⟩
  | 15 => ⟨S112x16x128x2, .f32⟩
  | 16 => ⟨S112x16x256, .f32⟩
  | 17 => ⟨S112x16x256, .bf16⟩
  | 18 => ⟨S112x4x256, .f32⟩
  | 19 => ⟨S112x4x128x2, .f32⟩
  | 20 => ⟨S112x4x128x1, .f32⟩
  | 21 => ⟨S112x4x128, .f32⟩
  | 22 => ⟨S112x4x128x1, .f32⟩
  | 23 => ⟨S112x4x128, .f32⟩
  | 24 => ⟨S112x1x128, .f32⟩
  | 25 => ⟨S112x1x128, .f32⟩
  | 26 => ⟨S112x4x128, .f32⟩
  | 27 => ⟨S112x4x128, .f32⟩
  | 28 => ⟨S112x4x128, .f32⟩
  | 29 => ⟨S112x4x128, .f32⟩
  | 30 => ⟨S112x4x128, .f32⟩
  | 31 => ⟨S112x4x128, .f32⟩
  | 32 => ⟨S112x4x128, .f32⟩
  | 33 => ⟨S112x4x128, .f32⟩
  | 34 => ⟨S112x4x128, .f32⟩
  | 35 => ⟨S112x4x128, .f32⟩
  | 36 => ⟨S112x4x128x1, .f32⟩
  | 37 => ⟨S112x4x128x1, .f32⟩
  | 38 => ⟨S112x4x128x2, .f32⟩
  | 39 => ⟨S112x4x256, .f32⟩
  | 40 => ⟨S112x4x256, .bf16⟩
  | 41 => ⟨S112x4x256, .f32⟩
  | 42 => ⟨S112x4x256, .bf16⟩
  | 43 => ⟨S112x1x4x256, .bf16⟩
  | 44 => ⟨S112x1x4x256, .bf16⟩
  | _ => ⟨S112x1x3840, .bf16⟩

abbrev hbmTy (i : Nat) : BufTy := match i / 128 with
  | 0 => hbmTy0_0 i
  | 1 => hbmTy0_1 i
  | 2 => hbmTy0_2 i
  | _ => ⟨S112x1x3840, .bf16⟩

abbrev bufTy : (tb : Table) → Fin (tcTables nBuf tb) → BufTy
  | .hbm, ⟨i, _⟩ => hbmTy i
  | _, _ => ⟨S112x1x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_11 : Ref sig .tc := ⟨.hbm, 112, rfl⟩
abbrev main_v83 : Ref sig .tc := ⟨.hbm, 113, rfl⟩
abbrev main_v84 : Ref sig .tc := ⟨.hbm, 114, rfl⟩
abbrev main_c_12 : Ref sig .tc := ⟨.hbm, 115, rfl⟩
abbrev main_v85 : Ref sig .tc := ⟨.hbm, 116, rfl⟩
abbrev main_v86 : Ref sig .tc := ⟨.hbm, 117, rfl⟩
abbrev main_c_13 : Ref sig .tc := ⟨.hbm, 118, rfl⟩
abbrev main_v87 : Ref sig .tc := ⟨.hbm, 119, rfl⟩
abbrev main_v88 : Ref sig .tc := ⟨.hbm, 120, rfl⟩
abbrev main_c_14 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_15 : Ref sig .tc := ⟨.hbm, 126, rfl⟩
abbrev main_v93 : Ref sig .tc := ⟨.hbm, 127, rfl⟩
abbrev main_v94 : Ref sig .tc := ⟨.hbm, 128, rfl⟩
abbrev main_c_16 : Ref sig .tc := ⟨.hbm, 129, rfl⟩
abbrev main_v95 : Ref sig .tc := ⟨.hbm, 130, rfl⟩
abbrev main_v96 : Ref sig .tc := ⟨.hbm, 131, rfl⟩
abbrev main_c_17 : Ref sig .tc := ⟨.hbm, 132, rfl⟩
abbrev main_v97 : Ref sig .tc := ⟨.hbm, 133, rfl⟩
abbrev main_v98 : Ref sig .tc := ⟨.hbm, 134, rfl⟩
abbrev main_c_18 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_19 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_20 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_c_21 : Ref sig .tc := ⟨.hbm, 184, rfl⟩
abbrev main_v145 : Ref sig .tc := ⟨.hbm, 185, rfl⟩
abbrev main_v146 : Ref sig .tc := ⟨.hbm, 186, rfl⟩
abbrev main_c_22 : Ref sig .tc := ⟨.hbm, 187, rfl⟩
abbrev main_v147 : Ref sig .tc := ⟨.hbm, 188, rfl⟩
abbrev main_v148 : Ref sig .tc := ⟨.hbm, 189, rfl⟩
abbrev main_c_23 : Ref sig .tc := ⟨.hbm, 190, rfl⟩
abbrev main_v149 : Ref sig .tc := ⟨.hbm, 191, rfl⟩
abbrev main_v150 : Ref sig .tc := ⟨.hbm, 192, rfl⟩
abbrev main_c_24 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_c_25 : Ref sig .tc := ⟨.hbm, 198, rfl⟩
abbrev main_v155 : Ref sig .tc := ⟨.hbm, 199, rfl⟩
abbrev main_v156 : Ref sig .tc := ⟨.hbm, 200, rfl⟩
abbrev main_c_26 : Ref sig .tc := ⟨.hbm, 201, rfl⟩
abbrev main_v157 : Ref sig .tc := ⟨.hbm, 202, rfl⟩
abbrev main_v158 : Ref sig .tc := ⟨.hbm, 203, rfl⟩
abbrev main_c_27 : Ref sig .tc := ⟨.hbm, 204, rfl⟩
abbrev main_v159 : Ref sig .tc := ⟨.hbm, 205, rfl⟩
abbrev main_v160 : Ref sig .tc := ⟨.hbm, 206, rfl⟩
abbrev main_c_28 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_c_29 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_c_30 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩

abbrev nD : Nat := 1
abbrev τ : Topo := Topo.v7x

variable {F : FTy → Type} [FloatOps F]
-- ==== Attention.lean ====
abbrev S112x16x256 : Shape := ⟨3, ![112, 16, 256]⟩
abbrev S112x4x256 : Shape := ⟨3, ![112, 4, 256]⟩
abbrev S112x1024x4x256 : Shape := ⟨4, ![112, 1024, 4, 256]⟩
abbrev S112x1024x4x8 : Shape := ⟨4, ![112, 1024, 4, 8]⟩
abbrev S112 : Shape := ⟨1, ![112]⟩
abbrev S112x4x8x1024 : Shape := ⟨4, ![112, 4, 8, 1024]⟩
abbrev S1x16x256 : Shape := ⟨3, ![1, 16, 256]⟩
abbrev S1x4x256 : Shape := ⟨3, ![1, 4, 256]⟩
abbrev S1x1024x4x256 : Shape := ⟨4, ![1, 1024, 4, 256]⟩
abbrev S1x4x8x1024 : Shape := ⟨4, ![1, 4, 8, 1024]⟩
abbrev S16x1024 : Shape := ⟨2, ![16, 1024]⟩
abbrev S1 : Shape := ⟨1, ![1]⟩
abbrev S16x128 : Shape := ⟨2, ![16, 128]⟩
abbrev S16x256 : Shape := ⟨2, ![16, 256]⟩
abbrev S16x128x1 : Shape := ⟨3, ![16, 128, 1]⟩
abbrev S8x128 : Shape := ⟨2, ![8, 128]⟩
abbrev S1x1x8x128 : Shape := ⟨4, ![1, 1, 8, 128]⟩
abbrev S1x128x4x128 : Shape := ⟨4, ![1, 128, 4, 128]⟩
abbrev S128x4x128 : Shape := ⟨3, ![128, 4, 128]⟩
abbrev S128x1x128 : Shape := ⟨3, ![128, 1, 128]⟩
abbrev S128x128 : Shape := ⟨2, ![128, 128]⟩
abbrev S512x128 : Shape := ⟨2, ![512, 128]⟩
abbrev S1x128 : Shape := ⟨2, ![1, 128]⟩
abbrev S64x128 : Shape := ⟨2, ![64, 128]⟩
abbrev S1024x128 : Shape := ⟨2, ![1024, 128]⟩
abbrev S4x256 : Shape := ⟨2, ![4, 256]⟩
abbrev S1x256 : Shape := ⟨2, ![1, 256]⟩
abbrev S16 : Shape := ⟨1, ![16]⟩
abbrev S16x1 : Shape := ⟨2, ![16, 1]⟩
abbrev S1x16x128 : Shape := ⟨3, ![1, 16, 128]⟩

abbrev nBuf : Space → Nat
  | .hbm => 10
  | .vmem => 18
  | .smem => 1
  | _ => 0

abbrev bufTy : (tb : Table) → Fin (tcTables nBuf tb) → BufTy
  | .hbm, ⟨0, _⟩ => ⟨S112x16x256, .bf16⟩
  | .hbm, ⟨1, _⟩ => ⟨S112x4x256, .bf16⟩
  | .hbm, ⟨2, _⟩ => ⟨S112x4x256, .bf16⟩
  | .hbm, ⟨3, _⟩ => ⟨S112x1024x4x256, .i8⟩
  | .hbm, ⟨4, _⟩ => ⟨S112x1024x4x8, .bf16⟩
  | .hbm, ⟨5, _⟩ => ⟨S112x1024x4x256, .i8⟩
  | .hbm, ⟨6, _⟩ => ⟨S112x1024x4x8, .bf16⟩
  | .hbm, ⟨7, _⟩ => ⟨S112x4x8x1024, .bf16⟩
  | .hbm, ⟨8, _⟩ => ⟨S112x4x8x1024, .bf16⟩
  | .hbm, ⟨9, _⟩ => ⟨S112x16x256, .f32⟩
  | .local _ .vmem, ⟨0, _⟩ => ⟨S1x16x256, .bf16⟩
  | .local _ .vmem, ⟨1, _⟩ => ⟨S1x16x256, .bf16⟩
  | .local _ .vmem, ⟨2, _⟩ => ⟨S1x4x256, .bf16⟩
  | .local _ .vmem, ⟨3, _⟩ => ⟨S1x4x256, .bf16⟩
  | .local _ .vmem, ⟨4, _⟩ => ⟨S1x4x256, .bf16⟩
  | .local _ .vmem, ⟨5, _⟩ => ⟨S1x4x256, .bf16⟩
  | .local _ .vmem, ⟨6, _⟩ => ⟨S1x1024x4x256, .i8⟩
  | .local _ .vmem, ⟨7, _⟩ => ⟨S1x1024x4x256, .i8⟩
  | .local _ .vmem, ⟨8, _⟩ => ⟨S1x4x8x1024, .bf16⟩
  | .local _ .vmem, ⟨9, _⟩ => ⟨S1x4x8x1024, .bf16⟩
  | .local _ .vmem, ⟨10, _⟩ => ⟨S1x1024x4x256, .i8⟩
  | .local _ .vmem, ⟨11, _⟩ => ⟨S1x1024x4x256, .i8⟩
  | .local _ .vmem, ⟨12, _⟩ => ⟨S1x4x8x1024, .bf16⟩
  | .local _ .vmem, ⟨13, _⟩ => ⟨S1x4x8x1024, .bf16⟩
  | .local _ .vmem, ⟨14, _⟩ => ⟨S1x16x256, .f32⟩
  | .local _ .vmem, ⟨15, _⟩ => ⟨S1x16x256, .f32⟩
  | .local _ .vmem, ⟨16, _⟩ => ⟨S16x1024, .f32⟩
  | .local _ .vmem, ⟨17, _⟩ => ⟨S16x1024, .f32⟩
  | .local _ .smem, ⟨0, _⟩ => ⟨S112, .i32⟩
  | _, _ => ⟨S112x16x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![112], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_57 : BitVec 32 := 1#32
  ⟨c0_i32_55, v183, c1_i32_57⟩

def k0_mult1 (v1 : BitVec 32) (k0_t1 : Fin (k0_t1_loop v1).trips) : BitVec 32 :=
  let c0_i32_55 : BitVec 32 := 0#32
  let c1_i32_57 : BitVec 32 := 1#32
  let arg12 : BitVec 32 := Scf.iv c0_i32_55 c1_i32_57 k0_t1
  let c128_i32_138 : BitVec 32 := 128#32
  let v408 : BitVec 32 := Scalar.muli arg12 c128_i32_138
  v408
def k0_off2 (v1 : BitVec 32) (k0_t1 : Fin (k0_t1_loop v1).trips) : Fin 4 → Nat :=
  let c0_139 : Index := 0#32
  let c0_140 : Index := 0#32
  let c0_141 : Index := 0#32
  let c0_i32_55 : BitVec 32 := 0#32
  let c1_i32_57 : BitVec 32 := 1#32
  let arg12 : BitVec 32 := Scf.iv c0_i32_55 c1_i32_57 k0_t1
  let c128_i32_138 : BitVec 32 := 128#32
  let v408 : BitVec 32 := Scalar.muli arg12 c128_i32_138
  let v409 : BitVec 32 := v408
  let v410 : Index := Scalar.indexCast v409
  ![0, 0, 0, v410.toNat]
def k0_off3 (v1 : BitVec 32) (k0_t1 : Fin (k0_t1_loop v1).trips) : Fin 4 → Nat :=
  let c0_142 : Index := 0#32
  let c1 : Index := 1#32
  let c0_143 : Index := 0#32
  let c0_i32_55 : BitVec 32 := 0#32
  let c1_i32_57 : BitVec 32 := 1#32
  let arg12 : BitVec 32 := Scf.iv c0_i32_55 c1_i32_57 k0_t1
  let c128_i32_138 : BitVec 32 := 128#32
  let v408 : BitVec 32 := Scalar.muli arg12 c128_i32_138
  let v409 : BitVec 32 := v408
  let v414 : Index := Scalar.indexCast v409
  ![0, 1, 0, v414.toNat]
def k0_off4 (v1 : BitVec 32) (k0_t1 : Fin (k0_t1_loop v1).trips) : Fin 4 → Nat :=
  let c0_144 : Index := 0#32
  let c2 : Index := 2#32
  let c0_145 : Index := 0#32
  let c0_i32_55 : BitVec 32 := 0#32
  let c1_i32_57 : BitVec 32 := 1#32
  let arg12 : BitVec 32 := Scf.iv c0_i32_55 c1_i32_57 k0_t1
  let c128_i32_138 : BitVec 32 := 128#32
  let v408 : BitVec 32 := Scalar.muli arg12 c128_i32_138
  let v409 : BitVec 32 := v408
  let v418 : Index := Scalar.indexCast v409
  ![0, 2, 0, v418.toNat]
def k0_off5 (v1 : BitVec 32) (k0_t1 : Fin (k0_t1_loop v1).trips) : Fin 4 → Nat :=
  let c0_146 : Index := 0#32
  let c3 : Index := 3#32
  let c0_147 : Index := 0#32
  let c0_i32_55 : BitVec 32 := 0#32
  let c1_i32_57 : BitVec 32 := 1#32
  let arg12 : BitVec 32 := Scf.iv c0_i32_55 c1_i32_57 k0_t1
  let c128_i32_138 : BitVec 32 := 128#32
  let v408 : BitVec 32 := Scalar.muli arg12 c128_i32_138
  let v409 : BitVec 32 := v408
  let v422 : Index := Scalar.indexCast v409
  ![0, 3, 0, v422.toNat]
def k0_off6 (v1 : BitVec 32) (k0_t1 : Fin (k0_t1_loop v1).trips) : Fin 4 → Nat :=
  let c0_148 : Index := 0#32
  let c0_i32_55 : BitVec 32 := 0#32
  let c1_i32_57 : BitVec 32 := 1#32
  let arg12 : BitVec 32 := Scf.iv c0_i32_55 c1_i32_57 k0_t1
  let c128_i32_138 : BitVec 32 := 128#32
  let v408 : BitVec 32 := Scalar.muli arg12 c128_i32_138
  let v409 : BitVec 32 := v408
  let v428 : Index := Scalar.indexCast v409
  let c0_149 : Index := 0#32
  let c0_150 : Index := 0#32
  ![0, v428.toNat, 0, 0]
def k0_off7 (v1 : BitVec 32) (k0_t1 : Fin (k0_t1_loop v1).trips) : Fin 4 → Nat :=
  let c0_159 : Index := 0#32
  let c0_i32_55 : BitVec 32 := 0#32
  let c1_i32_57 : BitVec 32 := 1#32
  let arg12 : BitVec 32 := Scf.iv c0_i32_55 c1_i32_57 k0_t1
  let c128_i32_138 : BitVec 32 := 128#32
  let v408 : BitVec 32 := Scalar.muli arg12 c128_i32_138
  let v409 : BitVec 32 := v408
  let v488 : Index := Scalar.indexCast v409
  let c0_160 : Index := 0#32
  let c128_161 : Index := 128#32
  ![0, v488.toNat, 0, 128]
def k0_mult2 (v1 : BitVec 32) (k0_t1 : Fin (k0_t1_loop v1).trips) : BitVec 32 :=
  let c0_i32_55 : BitVec 32 := 0#32
  let c1_i32_57 : BitVec 32 := 1#32
  let arg12 : BitVec 32 := Scf.iv c0_i32_55 c1_i32_57 k0_t1
  let c128_i32_174 : BitVec 32 := 128#32
  let v559 : BitVec 32 := Scalar.muli arg12 c128_i32_174
  v559
def k0_off8 (v1 : BitVec 32) (k0_t1 : Fin (k0_t1_loop v1).trips) : Fin 2 → Nat :=
  let c0_175 : Index := 0#32
  let c0_i32_55 : BitVec 32 := 0#32
  let c1_i32_57 : BitVec 32 := 1#32
  let arg12 : BitVec 32 := Scf.iv c0_i32_55 c1_i32_57 k0_t1
  let c128_i32_174 : BitVec 32 := 128#32
  let v559 : BitVec 32 := Scalar.muli arg12 c128_i32_174
  let v560 : BitVec 32 := v559
  let v561 : Index := Scalar.indexCast v560
  ![0, v561.toNat]
@[reducible] def k0_t2_loop (v1 : BitVec 32) : Scf.Loop 32 :=
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let v180 : BitVec 32 := Scalar.addi c0_i32_55 v179
  let c1_i32_58 : BitVec 32 := 1#32
  ⟨v183, v180, c1_i32_58⟩
def k0_mult3 (v1 : BitVec 32) (k0_t2 : Fin (k0_t2_loop v1).trips) : BitVec 32 :=
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_138 : BitVec 32 := 128#32
  let v408 : BitVec 32 := Scalar.muli arg12 c128_i32_138
  v408
def k0_off9 (v1 : BitVec 32) (k0_t2 : Fin (k0_t2_loop v1).trips) : Fin 4 → Nat :=
  let c0_139 : Index := 0#32
  let c0_140 : Index := 0#32
  let c0_141 : Index := 0#32
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_138 : BitVec 32 := 128#32
  let v408 : BitVec 32 := Scalar.muli arg12 c128_i32_138
  let v409 : BitVec 32 := v408
  let v410 : Index := Scalar.indexCast v409
  ![0, 0, 0, v410.toNat]
def k0_off10 (v1 : BitVec 32) (k0_t2 : Fin (k0_t2_loop v1).trips) : Fin 4 → Nat :=
  let c0_142 : Index := 0#32
  let c1 : Index := 1#32
  let c0_143 : Index := 0#32
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_138 : BitVec 32 := 128#32
  let v408 : BitVec 32 := Scalar.muli arg12 c128_i32_138
  let v409 : BitVec 32 := v408
  let v414 : Index := Scalar.indexCast v409
  ![0, 1, 0, v414.toNat]
def k0_off11 (v1 : BitVec 32) (k0_t2 : Fin (k0_t2_loop v1).trips) : Fin 4 → Nat :=
  let c0_144 : Index := 0#32
  let c2 : Index := 2#32
  let c0_145 : Index := 0#32
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_138 : BitVec 32 := 128#32
  let v408 : BitVec 32 := Scalar.muli arg12 c128_i32_138
  let v409 : BitVec 32 := v408
  let v418 : Index := Scalar.indexCast v409
  ![0, 2, 0, v418.toNat]
def k0_off12 (v1 : BitVec 32) (k0_t2 : Fin (k0_t2_loop v1).trips) : Fin 4 → Nat :=
  let c0_146 : Index := 0#32
  let c3 : Index := 3#32
  let c0_147 : Index := 0#32
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_138 : BitVec 32 := 128#32
  let v408 : BitVec 32 := Scalar.muli arg12 c128_i32_138
  let v409 : BitVec 32 := v408
  let v422 : Index := Scalar.indexCast v409
  ![0, 3, 0, v422.toNat]
def k0_off13 (v1 : BitVec 32) (k0_t2 : Fin (k0_t2_loop v1).trips) : Fin 4 → Nat :=
  let c0_148 : Index := 0#32
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_138 : BitVec 32 := 128#32
  let v408 : BitVec 32 := Scalar.muli arg12 c128_i32_138
  let v409 : BitVec 32 := v408
  let v428 : Index := Scalar.indexCast v409
  let c0_149 : Index := 0#32
  let c0_150 : Index := 0#32
  ![0, v428.toNat, 0, 0]
def k0_off14 (v1 : BitVec 32) (k0_t2 : Fin (k0_t2_loop v1).trips) : Fin 4 → Nat :=
  let c0_159 : Index := 0#32
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_138 : BitVec 32 := 128#32
  let v408 : BitVec 32 := Scalar.muli arg12 c128_i32_138
  let v409 : BitVec 32 := v408
  let v488 : Index := Scalar.indexCast v409
  let c0_160 : Index := 0#32
  let c128_161 : Index := 128#32
  ![0, v488.toNat, 0, 128]
def k0_mult4 (v1 : BitVec 32) (k0_t2 : Fin (k0_t2_loop v1).trips) : BitVec 32 :=
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_174 : BitVec 32 := 128#32
  let v559 : BitVec 32 := Scalar.muli arg12 c128_i32_174
  v559
def k0_off15 (v1 : BitVec 32) (k0_t2 : Fin (k0_t2_loop v1).trips) : Fin 2 → Nat :=
  let c0_175 : Index := 0#32
  let c0_i32_55 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v179 : BitVec 32 := Scalar.subi v20 c0_i32_55
  let c1_i32_56 : BitVec 32 := 1#32
  let v181 : BitVec 32 := Scalar.divsi v179 c1_i32_56
  let v182 : BitVec 32 := Scalar.muli v181 c1_i32_56
  let v183 : BitVec 32 := Scalar.addi c0_i32_55 v182
  let c1_i32_58 : BitVec 32 := 1#32
  let arg12 : BitVec 32 := Scf.iv v183 c1_i32_58 k0_t2
  let c128_i32_174 : BitVec 32 := 128#32
  let v559 : BitVec 32 := Scalar.muli arg12 c128_i32_174
  let v560 : BitVec 32 := v559
  let v561 : Index := Scalar.indexCast v560
  ![0, v561.toNat]
@[reducible] def k0_t3_loop (v1 : BitVec 32) : Scf.Loop 32 :=
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_80 : BitVec 32 := 1#32
  ⟨c0_i32_78, v251, c1_i32_80⟩
def k0_mult5 (v1 : BitVec 32) (k0_t3 : Fin (k0_t3_loop v1).trips) : BitVec 32 :=
  let c0_i32_78 : BitVec 32 := 0#32
  let c1_i32_80 : BitVec 32 := 1#32
  let arg12 : BitVec 32 := Scf.iv c0_i32_78 c1_i32_80 k0_t3
  let c128_i32_138 : BitVec 32 := 128#32
  let v408 : BitVec 32 := Scalar.muli arg12 c128_i32_138
  v408
def k0_off16 (v1 : BitVec 32) (k0_t3 : Fin (k0_t3_loop v1).trips) : Fin 4 → Nat :=
  let c0_139 : Index := 0#32
  let c0_140 : Index := 0#32
  let c0_141 : Index := 0#32
  let c0_i32_78 : BitVec 32 := 0#32
  let c1_i32_80 : BitVec 32 := 1#32
  let arg12 : BitVec 32 := Scf.iv c0_i32_78 c1_i32_80 k0_t3
  let c128_i32_138 : BitVec 32 := 128#32
  let v408 : BitVec 32 := Scalar.muli arg12 c128_i32_138
  let v409 : BitVec 32 := v408
  let v410 : Index := Scalar.indexCast v409
  ![0, 0, 0, v410.toNat]
def k0_off17 (v1 : BitVec 32) (k0_t3 : Fin (k0_t3_loop v1).trips) : Fin 4 → Nat :=
  let c0_142 : Index := 0#32
  let c1 : Index := 1#32
  let c0_143 : Index := 0#32
  let c0_i32_78 : BitVec 32 := 0#32
  let c1_i32_80 : BitVec 32 := 1#32
  let arg12 : BitVec 32 := Scf.iv c0_i32_78 c1_i32_80 k0_t3
  let c128_i32_138 : BitVec 32 := 128#32
  let v408 : BitVec 32 := Scalar.muli arg12 c128_i32_138
  let v409 : BitVec 32 := v408
  let v414 : Index := Scalar.indexCast v409
  ![0, 1, 0, v414.toNat]
def k0_off18 (v1 : BitVec 32) (k0_t3 : Fin (k0_t3_loop v1).trips) : Fin 4 → Nat :=
  let c0_144 : Index := 0#32
  let c2 : Index := 2#32
  let c0_145 : Index := 0#32
  let c0_i32_78 : BitVec 32 := 0#32
  let c1_i32_80 : BitVec 32 := 1#32
  let arg12 : BitVec 32 := Scf.iv c0_i32_78 c1_i32_80 k0_t3
  let c128_i32_138 : BitVec 32 := 128#32
  let v408 : BitVec 32 := Scalar.muli arg12 c128_i32_138
  let v409 : BitVec 32 := v408
  let v418 : Index := Scalar.indexCast v409
  ![0, 2, 0, v418.toNat]
def k0_off19 (v1 : BitVec 32) (k0_t3 : Fin (k0_t3_loop v1).trips) : Fin 4 → Nat :=
  let c0_146 : Index := 0#32
  let c3 : Index := 3#32
  let c0_147 : Index := 0#32
  let c0_i32_78 : BitVec 32 := 0#32
  let c1_i32_80 : BitVec 32 := 1#32
  let arg12 : BitVec 32 := Scf.iv c0_i32_78 c1_i32_80 k0_t3
  let c128_i32_138 : BitVec 32 := 128#32
  let v408 : BitVec 32 := Scalar.muli arg12 c128_i32_138
  let v409 : BitVec 32 := v408
  let v422 : Index := Scalar.indexCast v409
  ![0, 3, 0, v422.toNat]
def k0_off20 (v1 : BitVec 32) (k0_t3 : Fin (k0_t3_loop v1).trips) : Fin 4 → Nat :=
  let c0_148 : Index := 0#32
  let c0_i32_78 : BitVec 32 := 0#32
  let c1_i32_80 : BitVec 32 := 1#32
  let arg12 : BitVec 32 := Scf.iv c0_i32_78 c1_i32_80 k0_t3
  let c128_i32_138 : BitVec 32 := 128#32
  let v408 : BitVec 32 := Scalar.muli arg12 c128_i32_138
  let v409 : BitVec 32 := v408
  let v428 : Index := Scalar.indexCast v409
  let c0_149 : Index := 0#32
  let c0_150 : Index := 0#32
  ![0, v428.toNat, 0, 0]
def k0_off21 (v1 : BitVec 32) (k0_t3 : Fin (k0_t3_loop v1).trips) : Fin 4 → Nat :=
  let c0_159 : Index := 0#32
  let c0_i32_78 : BitVec 32 := 0#32
  let c1_i32_80 : BitVec 32 := 1#32
  let arg12 : BitVec 32 := Scf.iv c0_i32_78 c1_i32_80 k0_t3
  let c128_i32_138 : BitVec 32 := 128#32
  let v408 : BitVec 32 := Scalar.muli arg12 c128_i32_138
  let v409 : BitVec 32 := v408
  let v488 : Index := Scalar.indexCast v409
  let c0_160 : Index := 0#32
  let c128_161 : Index := 128#32
  ![0, v488.toNat, 0, 128]
def k0_mult6 (v1 : BitVec 32) (k0_t3 : Fin (k0_t3_loop v1).trips) : BitVec 32 :=
  let c0_i32_78 : BitVec 32 := 0#32
  let c1_i32_80 : BitVec 32 := 1#32
  let arg12 : BitVec 32 := Scf.iv c0_i32_78 c1_i32_80 k0_t3
  let c128_i32_170 : BitVec 32 := 128#32
  let v549 : BitVec 32 := Scalar.muli arg12 c128_i32_170
  v549
def k0_off22 (v1 : BitVec 32) (k0_t3 : Fin (k0_t3_loop v1).trips) : Fin 2 → Nat :=
  let c0_171 : Index := 0#32
  let c0_i32_78 : BitVec 32 := 0#32
  let c1_i32_80 : BitVec 32 := 1#32
  let arg12 : BitVec 32 := Scf.iv c0_i32_78 c1_i32_80 k0_t3
  let c128_i32_170 : BitVec 32 := 128#32
  let v549 : BitVec 32 := Scalar.muli arg12 c128_i32_170
  let v550 : BitVec 32 := v549
  let v551 : Index := Scalar.indexCast v550
  ![0, v551.toNat]
@[reducible] def k0_t4_loop (v1 : BitVec 32) : Scf.Loop 32 :=
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let v248 : BitVec 32 := Scalar.addi c0_i32_78 v247
  let c1_i32_81 : BitVec 32 := 1#32
  ⟨v251, v248, c1_i32_81⟩
def k0_mult7 (v1 : BitVec 32) (k0_t4 : Fin (k0_t4_loop v1).trips) : BitVec 32 :=
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_138 : BitVec 32 := 128#32
  let v408 : BitVec 32 := Scalar.muli arg12 c128_i32_138
  v408
def k0_off23 (v1 : BitVec 32) (k0_t4 : Fin (k0_t4_loop v1).trips) : Fin 4 → Nat :=
  let c0_139 : Index := 0#32
  let c0_140 : Index := 0#32
  let c0_141 : Index := 0#32
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_138 : BitVec 32 := 128#32
  let v408 : BitVec 32 := Scalar.muli arg12 c128_i32_138
  let v409 : BitVec 32 := v408
  let v410 : Index := Scalar.indexCast v409
  ![0, 0, 0, v410.toNat]
def k0_off24 (v1 : BitVec 32) (k0_t4 : Fin (k0_t4_loop v1).trips) : Fin 4 → Nat :=
  let c0_142 : Index := 0#32
  let c1 : Index := 1#32
  let c0_143 : Index := 0#32
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_138 : BitVec 32 := 128#32
  let v408 : BitVec 32 := Scalar.muli arg12 c128_i32_138
  let v409 : BitVec 32 := v408
  let v414 : Index := Scalar.indexCast v409
  ![0, 1, 0, v414.toNat]
def k0_off25 (v1 : BitVec 32) (k0_t4 : Fin (k0_t4_loop v1).trips) : Fin 4 → Nat :=
  let c0_144 : Index := 0#32
  let c2 : Index := 2#32
  let c0_145 : Index := 0#32
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_138 : BitVec 32 := 128#32
  let v408 : BitVec 32 := Scalar.muli arg12 c128_i32_138
  let v409 : BitVec 32 := v408
  let v418 : Index := Scalar.indexCast v409
  ![0, 2, 0, v418.toNat]
def k0_off26 (v1 : BitVec 32) (k0_t4 : Fin (k0_t4_loop v1).trips) : Fin 4 → Nat :=
  let c0_146 : Index := 0#32
  let c3 : Index := 3#32
  let c0_147 : Index := 0#32
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_138 : BitVec 32 := 128#32
  let v408 : BitVec 32 := Scalar.muli arg12 c128_i32_138
  let v409 : BitVec 32 := v408
  let v422 : Index := Scalar.indexCast v409
  ![0, 3, 0, v422.toNat]
def k0_off27 (v1 : BitVec 32) (k0_t4 : Fin (k0_t4_loop v1).trips) : Fin 4 → Nat :=
  let c0_148 : Index := 0#32
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_138 : BitVec 32 := 128#32
  let v408 : BitVec 32 := Scalar.muli arg12 c128_i32_138
  let v409 : BitVec 32 := v408
  let v428 : Index := Scalar.indexCast v409
  let c0_149 : Index := 0#32
  let c0_150 : Index := 0#32
  ![0, v428.toNat, 0, 0]
def k0_off28 (v1 : BitVec 32) (k0_t4 : Fin (k0_t4_loop v1).trips) : Fin 4 → Nat :=
  let c0_159 : Index := 0#32
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_138 : BitVec 32 := 128#32
  let v408 : BitVec 32 := Scalar.muli arg12 c128_i32_138
  let v409 : BitVec 32 := v408
  let v488 : Index := Scalar.indexCast v409
  let c0_160 : Index := 0#32
  let c128_161 : Index := 128#32
  ![0, v488.toNat, 0, 128]
def k0_mult8 (v1 : BitVec 32) (k0_t4 : Fin (k0_t4_loop v1).trips) : BitVec 32 :=
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_170 : BitVec 32 := 128#32
  let v549 : BitVec 32 := Scalar.muli arg12 c128_i32_170
  v549
def k0_off29 (v1 : BitVec 32) (k0_t4 : Fin (k0_t4_loop v1).trips) : Fin 2 → Nat :=
  let c0_171 : Index := 0#32
  let c0_i32_78 : BitVec 32 := 0#32
  let c128_i32 : BitVec 32 := 128#32
  let v2 : BitVec 32 := Scalar.addi v1 c128_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32_0 : BitVec 32 := 128#32
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let v4 : BitVec 32 := Scalar.divsi v3 c128_i32_0
  let c1_i32_5 : BitVec 32 := 1#32
  let v19 : BitVec 32 := Scalar.subi v4 c1_i32_5
  let v20 : BitVec 32 := Scalar.select v18 v19 v4
  let v247 : BitVec 32 := Scalar.subi v20 c0_i32_78
  let c1_i32_79 : BitVec 32 := 1#32
  let v249 : BitVec 32 := Scalar.divsi v247 c1_i32_79
  let v250 : BitVec 32 := Scalar.muli v249 c1_i32_79
  let v251 : BitVec 32 := Scalar.addi c0_i32_78 v250
  let c1_i32_81 : BitVec 32 := 1#32
  let arg12 : BitVec 32 := Scf.iv v251 c1_i32_81 k0_t4
  let c128_i32_170 : BitVec 32 := 128#32
  let v549 : BitVec 32 := Scalar.muli arg12 c128_i32_170
  let v550 : BitVec 32 := v549
  let v551 : Index := Scalar.indexCast v550
  ![0, v551.toNat]

def k0_chk1_0 (v1 : BitVec 32) : Prop :=
  ((k0_t1_loop v1).OK) ∧
  (∀ k0_t1 : Fin (k0_t1_loop v1).trips, 128 ∣ (k0_mult1 v1 k0_t1).toNat) ∧
  (∀ k0_t1 : Fin (k0_t1_loop v1).trips, ∀ a, (k0_off2 v1 k0_t1) a + S1x1x8x128.size a ≤ S1x4x8x1024.size a) ∧
  (∀ k0_t1 : Fin (k0_t1_loop v1).trips, ∀ a, (k0_off3 v1 k0_t1) a + S1x1x8x128.size a ≤ S1x4x8x1024.size a) ∧
  (∀ k0_t1 : Fin (k0_t1_loop v1).trips, ∀ a, (k0_off4 v1 k0_t1) a + S1x1x8x128.size a ≤ S1x4x8x1024.size a) ∧
  (∀ k0_t1 : Fin (k0_t1_loop v1).trips, ∀ a, (k0_off5 v1 k0_t1) a + S1x1x8x128.size a ≤ S1x4x8x1024.size a) ∧
  (∀ k0_t1 : Fin (k0_t1_loop v1).trips, ∀ a, (k0_off6 v1 k0_t1) a + S1x128x4x128.size a ≤ S1x1024x4x256.size a) ∧
  (∀ k0_t1 : Fin (k0_t1_loop v1).trips, ∀ a, (k0_off7 v1 k0_t1) a + S1x128x4x128.size a ≤ S1x1024x4x256.size a) ∧
  (∀ k0_t1 : Fin (k0_t1_loop v1).trips, 128 ∣ (k0_mult2 v1 k0_t1).toNat) ∧
  (∀ k0_t1 : Fin (k0_t1_loop v1).trips, ∀ a, (k0_off8 v1 k0_t1) a + S16x128.size a ≤ S16x1024.size a) ∧
  ((k0_t2_loop v1).OK) ∧
  (∀ k0_t2 : Fin (k0_t2_loop v1).trips, 128 ∣ (k0_mult3 v1 k0_t2).toNat) ∧
  (∀ k0_t2 : Fin (k0_t2_loop v1).trips, ∀ a, (k0_off9 v1 k0_t2) a + S1x1x8x128.size a ≤ S1x4x8x1024.size a) ∧
  (∀ k0_t2 : Fin (k0_t2_loop v1).trips, ∀ a, (k0_off10 v1 k0_t2) a + S1x1x8x128.size a ≤ S1x4x8x1024.size a) ∧
  (∀ k0_t2 : Fin (k0_t2_loop v1).trips, ∀ a, (k0_off11 v1 k0_t2) a + S1x1x8x128.size a ≤ S1x4x8x1024.size a) ∧
  (∀ k0_t2 : Fin (k0_t2_loop v1).trips, ∀ a, (k0_off12 v1 k0_t2) a + S1x1x8x128.size a ≤ S1x4x8x1024.size a) ∧
  (∀ k0_t2 : Fin (k0_t2_loop v1).trips, ∀ a, (k0_off13 v1 k0_t2) a + S1x128x4x128.size a ≤ S1x1024x4x256.size a) ∧
  (∀ k0_t2 : Fin (k0_t2_loop v1).trips, ∀ a, (k0_off14 v1 k0_t2) a + S1x128x4x128.size a ≤ S1x1024x4x256.size a) ∧
  (∀ k0_t2 : Fin (k0_t2_loop v1).trips, 128 ∣ (k0_mult4 v1 k0_t2).toNat) ∧
  (∀ k0_t2 : Fin (k0_t2_loop v1).trips, ∀ a, (k0_off15 v1 k0_t2) a + S16x128.size a ≤ S16x1024.size a) ∧
  ((k0_t3_loop v1).OK) ∧
  (∀ k0_t3 : Fin (k0_t3_loop v1).trips, 128 ∣ (k0_mult5 v1 k0_t3).toNat) ∧
  (∀ k0_t3 : Fin (k0_t3_loop v1).trips, ∀ a, (k0_off16 v1 k0_t3) a + S1x1x8x128.size a ≤ S1x4x8x1024.size a) ∧
  (∀ k0_t3 : Fin (k0_t3_loop v1).trips, ∀ a, (k0_off17 v1 k0_t3) a + S1x1x8x128.size a ≤ S1x4x8x1024.size a) ∧
  (∀ k0_t3 : Fin (k0_t3_loop v1).trips, ∀ a, (k0_off18 v1 k0_t3) a + S1x1x8x128.size a ≤ S1x4x8x1024.size a) ∧
  (∀ k0_t3 : Fin (k0_t3_loop v1).trips, ∀ a, (k0_off19 v1 k0_t3) a + S1x1x8x128.size a ≤ S1x4x8x1024.size a) ∧
  (∀ k0_t3 : Fin (k0_t3_loop v1).trips, ∀ a, (k0_off20 v1 k0_t3) a + S1x128x4x128.size a ≤ S1x1024x4x256.size a) ∧
  (∀ k0_t3 : Fin (k0_t3_loop v1).trips, ∀ a, (k0_off21 v1 k0_t3) a + S1x128x4x128.size a ≤ S1x1024x4x256.size a) ∧
  (∀ k0_t3 : Fin (k0_t3_loop v1).trips, 128 ∣ (k0_mult6 v1 k0_t3).toNat) ∧
  (∀ k0_t3 : Fin (k0_t3_loop v1).trips, ∀ a, (k0_off22 v1 k0_t3) a + S16x128.size a ≤ S16x1024.size a) ∧
  ((k0_t4_loop v1).OK) ∧
  (∀ k0_t4 : Fin (k0_t4_loop v1).trips, 128 ∣ (k0_mult7 v1 k0_t4).toNat)
def k0_chk1_1 (v1 : BitVec 32) : Prop :=
  (∀ k0_t4 : Fin (k0_t4_loop v1).trips, ∀ a, (k0_off23 v1 k0_t4) a + S1x1x8x128.size a ≤ S1x4x8x1024.size a) ∧
  (∀ k0_t4 : Fin (k0_t4_loop v1).trips, ∀ a, (k0_off24 v1 k0_t4) a + S1x1x8x128.size a ≤ S1x4x8x1024.size a) ∧
  (∀ k0_t4 : Fin (k0_t4_loop v1).trips, ∀ a, (k0_off25 v1 k0_t4) a + S1x1x8x128.size a ≤ S1x4x8x1024.size a) ∧
  (∀ k0_t4 : Fin (k0_t4_loop v1).trips, ∀ a, (k0_off26 v1 k0_t4) a + S1x1x8x128.size a ≤ S1x4x8x1024.size a) ∧
  (∀ k0_t4 : Fin (k0_t4_loop v1).trips, ∀ a, (k0_off27 v1 k0_t4) a + S1x128x4x128.size a ≤ S1x1024x4x256.size a) ∧
  (∀ k0_t4 : Fin (k0_t4_loop v1).trips, ∀ a, (k0_off28 v1 k0_t4) a + S1x128x4x128.size a ≤ S1x1024x4x256.size a) ∧
  (∀ k0_t4 : Fin (k0_t4_loop v1).trips, 128 ∣ (k0_mult8 v1 k0_t4).toNat) ∧
  (∀ k0_t4 : Fin (k0_t4_loop v1).trips, ∀ a, (k0_off29 v1 k0_t4) a + S16x128.size a ≤ S16x1024.size a)
def k0_chk1 (v1 : BitVec 32) : Prop :=
  k0_chk1_0 v1 ∧
  k0_chk1_1 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 128 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x1x8x128.size a ≤ S1x4x8x1024.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S1x1x8x128.size a ≤ S1x4x8x1024.size a := fun v1 k0_hw1 k0_t1 => k0_hw1.1.2.2.2.1 k0_t1
theorem k0_off4_inb : ∀ (v1 : BitVec 32) (k0_hw1 : k0_chk1 v1) (k0_t1 : Fin (k0_t1_loop v1).trips), ∀ a, (k0_off4 v1 k0_t1) a + S1x1x8x128.size a ≤ S1x4x8x1024.size a := fun v1 k0_hw1 k0_t1 => k0_hw1.1.2.2.2.2.1 k0_t1
theorem k0_off5_inb : ∀ (v1 : BitVec 32) (k0_hw1 : k0_chk1 v1) (k0_t1 : Fin (k0_t1_loop v1).trips), ∀ a, (k0_off5 v1 k0_t1) a + S1x1x8x128.size a ≤ S1x4x8x1024.size a := fun v1 k0_hw1 k0_t1 => k0_hw1.1.2.2.2.2.2.1 k0_t1
theorem k0_off6_inb : ∀ (v1 : BitVec 32) (k0_hw1 : k0_chk1 v1) (k0_t1 : Fin (k0_t1_loop v1).trips), ∀ a, (k0_off6 v1 k0_t1) a + S1x128x4x128.size a ≤ S1x1024x4x256.size a := fun v1 k0_hw1 k0_t1 => k0_hw1.1.2.2.2.2.2.2.1 k0_t1
theorem k0_off7_inb : ∀ (v1 : BitVec 32) (k0_hw1 : k0_chk1 v1) (k0_t1 : Fin (k0_t1_loop v1).trips), ∀ a, (k0_off7 v1 k0_t1) a + S1x128x4x128.size a ≤ S1x1024x4x256.size a := fun v1 k0_hw1 k0_t1 => k0_hw1.1.2.2.2.2.2.2.2.1 k0_t1
theorem k0_mult2_dvd : ∀ (v1 : BitVec 32) (k0_hw1 : k0_chk1 v1) (k0_t1 : Fin (k0_t1_loop v1).trips), 128 ∣ (k0_mult2 v1 k0_t1).toNat := fun v1 k0_hw1 k0_t1 => k0_hw1.1.2.2.2.2.2.2.2.2.1 k0_t1
theorem k0_off8_inb : ∀ (v1 : BitVec 32) (k0_hw1 : k0_chk1 v1) (k0_t1 : Fin (k0_t1_loop v1).trips), ∀ a, (k0_off8 v1 k0_t1) a + S16x128.size a ≤ S16x1024.size a := fun v1 k0_hw1 k0_t1 => k0_hw1.1.2.2.2.2.2.2.2.2.2.1 k0_t1
theorem k0_t2_ok : ∀ (v1 : BitVec 32) (k0_hw1 : k0_chk1 v1), (k0_t2_loop v1).OK := fun v1 k0_hw1 => k0_hw1.1.2.2.2.2.2.2.2.2.2.2.1
theorem k0_mult3_dvd : ∀ (v1 : BitVec 32) (k0_hw1 : k0_chk1 v1) (k0_t2 : Fin (k0_t2_loop v1).trips), 128 ∣ (k0_mult3 v1 k0_t2).toNat := fun v1 k0_hw1 k0_t2 => k0_hw1.1.2.2.2.2.2.2.2.2.2.2.2.1 k0_t2
theorem k0_off9_inb : ∀ (v1 : BitVec 32) (k0_hw1 : k0_chk1 v1) (k0_t2 : Fin (k0_t2_loop v1).trips), ∀ a, (k0_off9 v1 k0_t2) a + S1x1x8x128.size a ≤ S1x4x8x1024.size a := fun v1 k0_hw1 k0_t2 => k0_hw1.1.2.2.2.2.2.2.2.2.2.2.2.2.1 k0_t2
theorem k0_off10_inb : ∀ (v1 : BitVec 32) (k0_hw1 : k0_chk1 v1) (k0_t2 : Fin (k0_t2_loop v1).trips), ∀ a, (k0_off10 v1 k0_t2) a + S1x1x8x128.size a ≤ S1x4x8x1024.size a := fun v1 k0_hw1 k0_t2 => k0_hw1.1.2.2.2.2.2.2.2.2.2.2.2.2.2.1 k0_t2
theorem k0_off11_inb : ∀ (v1 : BitVec 32) (k0_hw1 : k0_chk1 v1) (k0_t2 : Fin (k0_t2_loop v1).trips), ∀ a, (k0_off11 v1 k0_t2) a + S1x1x8x128.size a ≤ S1x4x8x1024.size a := fun v1 k0_hw1 k0_t2 => k0_hw1.1.2.2.2.2.2.2.2.2.2.2.2.2.2.2.1 k0_t2
theorem k0_off12_inb : ∀ (v1 : BitVec 32) (k0_hw1 : k0_chk1 v1) (k0_t2 : Fin (k0_t2_loop v1).trips), ∀ a, (k0_off12 v1 k0_t2) a + S1x1x8x128.size a ≤ S1x4x8x1024.size a := fun v1 k0_hw1 k0_t2 => k0_hw1.1.2.2.2.2.2.2.2.2.2.2.2.2.2.2.2.1 k0_t2
theorem k0_off13_inb : ∀ (v1 : BitVec 32) (k0_hw1 : k0_chk1 v1) (k0_t2 : Fin (k0_t2_loop v1).trips), ∀ a, (k0_off13 v1 k0_t2) a + S1x128x4x128.size a ≤ S1x1024x4x256.size a := fun v1 k0_hw1 k0_t2 => k0_hw1.1.2.2.2.2.2.2.2.2.2.2.2.2.2.2.2.2.1 k0_t2
theorem k0_off14_inb : ∀ (v1 : BitVec 32) (k0_hw1 : k0_chk1 v1) (k0_t2 : Fin (k0_t2_loop v1).trips), ∀ a, (k0_off14 v1 k0_t2) a + S1x128x4x128.size a ≤ S1x1024x4x256.size a := fun v1 k0_hw1 k0_t2 => k0_hw1.1.2.2.2.2.2.2.2.2.2.2.2.2.2.2.2.2.2.1 k0_t2
theorem k0_mult4_dvd : ∀ (v1 : BitVec 32) (k0_hw1 : k0_chk1 v1) (k0_t2 : Fin (k0_t2_loop v1).trips), 128 ∣ (k0_mult4 v1 k0_t2).toNat := fun v1 k0_hw1 k0_t2 => k0_hw1.1.2.2.2.2.2.2.2.2.2.2.2.2.2.2.2.2.2.2.1 k0_t2
theorem k0_off15_inb : ∀ (v1 : BitVec 32) (k0_hw1 : k0_chk1 v1) (k0_t2 : Fin (k0_t2_loop v1).trips), ∀ a, (k0_off15 v1 k0_t2) a + S16x128.size a ≤ S16x1024.size a := fun v1 k0_hw1 k0_t2 => k0_hw1.1.2.2.2.2.2.2.2.2.2.2.2.2.2.2.2.2.2.2.2.1 k0_t2
theorem k0_t3_ok : ∀ (v1 : BitVec 32) (k0_hw1 : k0_chk1 v1), (k0_t3_loop v1).OK := fun v1 k0_hw1 => k0_hw1.1.2.2.2.2.2.2.2.2.2.2.2.2.2.2.2.2.2.2.2.2.1
theorem k0_mult5_dvd : ∀ (v1 : BitVec 32) (k0_hw1 : k0_chk1 v1) (k0_t3 : Fin (k0_t3_loop v1).trips), 128 ∣ (k0_mult5 v1 k0_t3).toNat := fun v1 k0_hw1 k0_t3 => k0_hw1.1.2.2.2.2.2.2.2.2.2.2.2.2.2.2.2.2.2.2.2.2.2.1 k0_t3
theorem k0_off16_inb : ∀ (v1 : BitVec 32) (k0_hw1 : k0_chk1 v1) (k0_t3 : Fin (k0_t3_loop v1).trips), ∀ a, (k0_off16 v1 k0_t3) a + S1x1x8x128.size a ≤ S1x4x8x1024.size a := fun v1 k0_hw1 k0_t3 => k0_hw1.1.2.2.2.2.2.2.2.2.2.2.2.2.2.2.2.2.2.2.2.2.2.2.1 k0_t3
theorem k0_off17_inb : ∀ (v1 : BitVec 32) (k0_hw1 : k0_chk1 v1) (k0_t3 : Fin (k0_t3_loop v1).trips), ∀ a, (k0_off17 v1 k0_t3) a + S1x1x8x128.size a ≤ S1x4x8x1024.size a := fun v1 k0_hw1 k0_t3 => k0_hw1.1.2.2.2.2.2.2.2.2.2.2.2.2.2.2.2.2.2.2.2.2.2.2.2.1 k0_t3
theorem k0_off18_inb : ∀ (v1 : BitVec 32) (k0_hw1 : k0_chk1 v1) (k0_t3 : Fin (k0_t3_loop v1).trips), ∀ a, (k0_off18 v1 k0_t3) a + S1x1x8x128.size a ≤ S1x4x8x1024.size a := fun v1 k0_hw1 k0_t3 => k0_hw1.1.2.2.2.2.2.2.2.2.2.2.2.2.2.2.2.2.2.2.2.2.2.2.2.2.1 k0_t3
theorem k0_off19_inb : ∀ (v1 : BitVec 32) (k0_hw1 : k0_chk1 v1) (k0_t3 : Fin (k0_t3_loop v1).trips), ∀ a, (k0_off19 v1 k0_t3) a + S1x1x8x128.size a ≤ S1x4x8x1024.size a := fun v1 k0_hw1 k0_t3 => k0_hw1.1.2.2.2.2.2.2.2.2.2.2.2.2.2.2.2.2.2.2.2.2.2.2.2.2.2.1 k0_t3
theorem k0_off20_inb : ∀ (v1 : BitVec 32) (k0_hw1 : k0_chk1 v1) (k0_t3 : Fin (k0_t3_loop v1).trips), ∀ a, (k0_off20 v1 k0_t3) a + S1x128x4x128.size a ≤ S1x1024x4x256.size a := fun v1 k0_hw1 k0_t3 => k0_hw1.1.2.2.2.2.2.2.2.2.2.2.2.2.2.2.2.2.2.2.2.2.2.2.2.2.2.2.1 k0_t3
theorem k0_off21_inb : ∀ (v1 : BitVec 32) (k0_hw1 : k0_chk1 v1) (k0_t3 : Fin (k0_t3_loop v1).trips), ∀ a, (k0_off21 v1 k0_t3) a + S1x128x4x128.size a ≤ S1x1024x4x256.size a := fun v1 k0_hw1 k0_t3 => k0_hw1.1.2.2.2.2.2.2.2.2.2.2.2.2.2.2.2.2.2.2.2.2.2.2.2.2.2.2.2.1 k0_t3
theorem k0_mult6_dvd : ∀ (v1 : BitVec 32) (k0_hw1 : k0_chk1 v1) (k0_t3 : Fin (k0_t3_loop v1).trips), 128 ∣ (k0_mult6 v1 k0_t3).toNat := fun v1 k0_hw1 k0_t3 => k0_hw1.1.2.2.2.2.2.2.2.2.2.2.2.2.2.2.2.2.2.2.2.2.2.2.2.2.2.2.2.2.1 k0_t3
theorem k0_off22_inb : ∀ (v1 : BitVec 32) (k0_hw1 : k0_chk1 v1) (k0_t3 : Fin (k0_t3_loop v1).trips), ∀ a, (k0_off22 v1 k0_t3) a + S16x128.size a ≤ S16x1024.size a := fun v1 k0_hw1 k0_t3 => k0_hw1.1.2.2.2.2.2.2.2.2.2.2.2.2.2.2.2.2.2.2.2.2.2.2.2.2.2.2.2.2.2.1 k0_t3
theorem k0_t4_ok : ∀ (v1 : BitVec 32) (k0_hw1 : k0_chk1 v1), (k0_t4_loop v1).OK := fun v1 k0_hw1 => k0_hw1.1.2.2.2.2.2.2.2.2.2.2.2.2.2.2.2.2.2.2.2.2.2.2.2.2.2.2.2.2.2.2.1
theorem k0_mult7_dvd : ∀ (v1 : BitVec 32) (k0_hw1 : k0_chk1 v1) (k0_t4 : Fin (k0_t4_loop v1).trips), 128 ∣ (k0_mult7 v1 k0_t4).toNat := fun v1 k0_hw1 k0_t4 => k0_hw1.1.2.2.2.2.2.2.2.2.2.2.2.2.2.2.2.2.2.2.2.2.2.2.2.2.2.2.2.2.2.2.2 k0_t4
theorem k0_off23_inb : ∀ (v1 : BitVec 32) (k0_hw1 : k0_chk1 v1) (k0_t4 : Fin (k0_t4_loop v1).trips), ∀ a, (k0_off23 v1 k0_t4) a + S1x1x8x128.size a ≤ S1x4x8x1024.size a := fun v1 k0_hw1 k0_t4 => k0_hw1.2.1 k0_t4
theorem k0_off24_inb : ∀ (v1 : BitVec 32) (k0_hw1 : k0_chk1 v1) (k0_t4 : Fin (k0_t4_loop v1).trips), ∀ a, (k0_off24 v1 k0_t4) a + S1x1x8x128.size a ≤ S1x4x8x1024.size a := fun v1 k0_hw1 k0_t4 => k0_hw1.2.2.1 k0_t4
theorem k0_off25_inb : ∀ (v1 : BitVec 32) (k0_hw1 : k0_chk1 v1) (k0_t4 : Fin (k0_t4_loop v1).trips), ∀ a, (k0_off25 v1 k0_t4) a + S1x1x8x128.size a ≤ S1x4x8x1024.size a := fun v1 k0_hw1 k0_t4 => k0_hw1.2.2.2.1 k0_t4
theorem k0_off26_inb : ∀ (v1 : BitVec 32) (k0_hw1 : k0_chk1 v1) (k0_t4 : Fin (k0_t4_loop v1).trips), ∀ a, (k0_off26 v1 k0_t4) a + S1x1x8x128.size a ≤ S1x4x8x1024.size a := fun v1 k0_hw1 k0_t4 => k0_hw1.2.2.2.2.1 k0_t4
theorem k0_off27_inb : ∀ (v1 : BitVec 32) (k0_hw1 : k0_chk1 v1) (k0_t4 : Fin (k0_t4_loop v1).trips), ∀ a, (k0_off27 v1 k0_t4) a + S1x128x4x128.size a ≤ S1x1024x4x256.size a := fun v1 k0_hw1 k0_t4 => k0_hw1.2.2.2.2.2.1 k0_t4
theorem k0_off28_inb : ∀ (v1 : BitVec 32) (k0_hw1 : k0_chk1 v1) (k0_t4 : Fin (k0_t4_loop v1).trips), ∀ a, (k0_off28 v1 k0_t4) a + S1x128x4x128.size a ≤ S1x1024x4x256.size a := fun v1 k0_hw1 k0_t4 => k0_hw1.2.2.2.2.2.2.1 k0_t4
theorem k0_mult8_dvd : ∀ (v1 : BitVec 32) (k0_hw1 : k0_chk1 v1) (k0_t4 : Fin (k0_t4_loop v1).trips), 128 ∣ (k0_mult8 v1 k0_t4).toNat := fun v1 k0_hw1 k0_t4 => k0_hw1.2.2.2.2.2.2.2.1 k0_t4
theorem k0_off29_inb : ∀ (v1 : BitVec 32) (k0_hw1 : k0_chk1 v1) (k0_t4 : Fin (k0_t4_loop v1).trips), ∀ a, (k0_off29 v1 k0_t4) a + S16x128.size a ≤ S16x1024.size a := fun v1 k0_hw1 k0_t4 => k0_hw1.2.2.2.2.2.2.2.2 k0_t4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x4x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x4x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x8x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttentionIdeal.lean ====
variable {F : FTy → Type} [FloatOps F]
-- ==== AttentionRefIdeal.lean ====
abbrev S112x16x256 : Shape := ⟨3, ![112, 16, 256]⟩
abbrev S112x4x256 : Shape := ⟨3, ![112, 4, 256]⟩
abbrev S112x1024x4x256 : Shape := ⟨4, ![112, 1024, 4, 256]⟩
abbrev S112x1024x4x8 : Shape := ⟨4, ![112, 1024, 4, 8]⟩
abbrev S112 : Shape := ⟨1, ![112]⟩
abbrev S112x4x4x256 : Shape := ⟨4, ![112, 4, 4, 256]⟩
abbrev S112x1024x4x8x32 : Shape := ⟨5, ![112, 1024, 4, 8, 32]⟩
abbrev S112x1024x4x8x1 : Shape := ⟨5, ![112, 1024, 4, 8, 1]⟩
abbrev S112x4x4x1024 : Shape := ⟨4, ![112, 4, 4, 1024]⟩
abbrev S_ : Shape := ⟨0, ![]⟩
abbrev S112x4x4 : Shape := ⟨3, ![112, 4, 4]⟩
abbrev S1024 : Shape := ⟨1, ![1024]⟩
abbrev S1x1024 : Shape := ⟨2, ![1, 1024]⟩
abbrev S112x1 : Shape := ⟨2, ![112, 1]⟩
abbrev S112x1024 : Shape := ⟨2, ![112, 1024]⟩
abbrev S112x1x1x1024 : Shape := ⟨4, ![112, 1, 1, 1024]⟩
abbrev S112x4x4x1 : Shape := ⟨4, ![112, 4, 4, 1]⟩
abbrev S112x4x1x256 : Shape := ⟨4, ![112, 4, 1, 256]⟩

abbrev nBuf : Space → Nat
  | .hbm => 74
  | .vmem => 0
  | .smem => 0
  | _ => 0

abbrev bufTy : (tb : Table) → Fin (tcTables nBuf tb) → BufTy
  | .hbm, ⟨0, _⟩ => ⟨S112x16x256, .bf16⟩
  | .hbm, ⟨1, _⟩ => ⟨S112x4x256, .bf16⟩
  | .hbm, ⟨2, _⟩ => ⟨S112x4x256, .bf16⟩
  | .hbm, ⟨3, _⟩ => ⟨S112x1024x4x256, .i8⟩
  | .hbm, ⟨4, _⟩ => ⟨S112x1024x4x8, .bf16⟩
  | .hbm, ⟨5, _⟩ => ⟨S112x1024x4x256, .i8⟩
  | .hbm, ⟨6, _⟩ => ⟨S112x1024x4x8, .bf16⟩
  | .hbm, ⟨7, _⟩ => ⟨S112, .i32⟩
  | .hbm, ⟨8, _⟩ => ⟨S112x4x4x256, .bf16⟩
  | .hbm, ⟨9, _⟩ => ⟨S112x1024x4x256, .i32⟩
  | .hbm, ⟨10, _⟩ => ⟨S112x1024x4x256, .bf16⟩
  | .hbm, ⟨11, _⟩ => ⟨S112x1024x4x8x32, .bf16⟩
  | .hbm, ⟨12, _⟩ => ⟨S112x1024x4x8x1, .bf16⟩
  | .hbm, ⟨13, _⟩ => ⟨S112x1024x4x8x32, .bf16⟩
  | .hbm, ⟨14, _⟩ => ⟨S112x1024x4x8x32, .bf16⟩
  | .hbm, ⟨15, _⟩ => ⟨S112x1024x4x256, .bf16⟩
  | .hbm, ⟨16, _⟩ => ⟨S112x1024x4x256, .i32⟩
  | .hbm, ⟨17, _⟩ => ⟨S112x1024x4x256, .bf16⟩
  | .hbm, ⟨18, _⟩ => ⟨S112x1024x4x8x32, .bf16⟩
  | .hbm, ⟨19, _⟩ => ⟨S112x1024x4x8x1, .bf16⟩
  | .hbm, ⟨20, _⟩ => ⟨S112x1024x4x8x32, .bf16⟩
  | .hbm, ⟨21, _⟩ => ⟨S112x1024x4x8x32, .bf16⟩
  | .hbm, ⟨22, _⟩ => ⟨S112x1024x4x256, .bf16⟩
  | .hbm, ⟨23, _⟩ => ⟨S112x4x4x1024, .f32⟩
  | .hbm, ⟨24, _⟩ => ⟨S_, .f32⟩
  | .hbm, ⟨25, _⟩ => ⟨S112x4x4x1024, .f32⟩
  | .hbm, ⟨26, _⟩ => ⟨S112x4x4x1024, .f32⟩
  | .hbm, ⟨27, _⟩ => ⟨S112x4x4, .f32⟩
  | .hbm, ⟨28, _⟩ => ⟨S_, .f32⟩
  | .hbm, ⟨29, _⟩ => ⟨S112x4x4, .f32⟩
  | .hbm, ⟨30, _⟩ => ⟨S112x4x4, .f32⟩
  | .hbm, ⟨31, _⟩ => ⟨S1024, .i32⟩
  | .hbm, ⟨32, _⟩ => ⟨S1x1024, .i32⟩
  | .hbm, ⟨33, _⟩ => ⟨S112x1, .i32⟩
  | .hbm, ⟨34, _⟩ => ⟨S112x1024, .i32⟩
  | .hbm, ⟨35, _⟩ => ⟨S112x1024, .i32⟩
  | .hbm, ⟨36, _⟩ => ⟨S112x1024, .i1⟩
  | .hbm, ⟨37, _⟩ => ⟨S112x1x1x1024, .i1⟩
  | .hbm, ⟨38, _⟩ => ⟨S_, .f32⟩
  | .hbm, ⟨39, _⟩ => ⟨S_, .f32⟩
  | .hbm, ⟨40, _⟩ => ⟨S112x4x4x1024, .i1⟩
  | .hbm, ⟨41, _⟩ => ⟨S112x4x4x1024, .f32⟩
  | .hbm, ⟨42, _⟩ => ⟨S112x4x4x1024, .f32⟩
  | .hbm, ⟨43, _⟩ => ⟨S_, .f32⟩
  | .hbm, ⟨44, _⟩ => ⟨S112x4x4, .f32⟩
  | .hbm, ⟨45, _⟩ => ⟨S112x4x4, .f32⟩
  | .hbm, ⟨46, _⟩ => ⟨S112x4x4x1, .f32⟩
  | .hbm, ⟨47, _⟩ => ⟨S112x4x4x1024, .f32⟩
  | .hbm, ⟨48, _⟩ => ⟨S112x4x4x1024, .f32⟩
  | .hbm, ⟨49, _⟩ => ⟨S112x4x4x1024, .f32⟩
  | .hbm, ⟨50, _⟩ => ⟨S112x4x4, .f32⟩
  | .hbm, ⟨51, _⟩ => ⟨S112x4x4, .f32⟩
  | .hbm, ⟨52, _⟩ => ⟨S_, .f32⟩
  | .hbm, ⟨53, _⟩ => ⟨S112x4x4, .f32⟩
  | .hbm, ⟨54, _⟩ => ⟨S112x4x4, .f32⟩
  | .hbm, ⟨55, _⟩ => ⟨S_, .f32⟩
  | .hbm, ⟨56, _⟩ => ⟨S112x4x4, .f32⟩
  | .hbm, ⟨57, _⟩ => ⟨S112x4x4, .f32⟩
  | .hbm, ⟨58, _⟩ => ⟨S112x4x4x1, .f32⟩
  | .hbm, ⟨59, _⟩ => ⟨S112x4x4x1024, .f32⟩
  | .hbm, ⟨60, _⟩ => ⟨S112x4x4x1024, .f32⟩
  | .hbm, ⟨61, _⟩ => ⟨S112x4x4x1024, .bf16⟩
  | .hbm, ⟨62, _⟩ => ⟨S112x4x4, .f32⟩
  | .hbm, ⟨63, _⟩ => ⟨S112x4x4, .bf16⟩
  | .hbm, ⟨64, _⟩ => ⟨S112x4x4x256, .f32⟩
  | .hbm, ⟨65, _⟩ => ⟨S112x4x4, .f32⟩
  | .hbm, ⟨66, _⟩ => ⟨S112x4x4x1, .f32⟩
  | .hbm, ⟨67, _⟩ => ⟨S112x4x256, .f32⟩
  | .hbm, ⟨68, _⟩ => ⟨S112x4x1x256, .f32⟩
  | .hbm, ⟨69, _⟩ => ⟨S112x4x4x256, .f32⟩
  | .hbm, ⟨70, _⟩ => ⟨S112x4x4x256, .f32⟩
  | .hbm, ⟨71, _⟩ => ⟨S112x4x4x256, .f32⟩
  | .hbm, ⟨72, _⟩ => ⟨S112x4x4x256, .f32⟩
  | .hbm, ⟨73, _⟩ => ⟨S112x16x256, .f32⟩
  | _, _ => ⟨S112x16x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Output.lean ====
abbrev S112x16x256 : Shape := ⟨3, ![112, 16, 256]⟩
abbrev S112x1x3840 : Shape := ⟨3, ![112, 1, 3840]⟩
abbrev S3840 : Shape := ⟨1, ![3840]⟩
abbrev S3840x16x128 : Shape := ⟨3, ![3840, 16, 128]⟩
abbrev S3840x16x12 : Shape := ⟨3, ![3840, 16, 12]⟩
abbrev S3840x16 : Shape := ⟨2, ![3840, 16]⟩
abbrev S112x3840 : Shape := ⟨2, ![112, 3840]⟩
abbrev S112x4096 : Shape := ⟨2, ![112, 4096]⟩
abbrev S112x128 : Shape := ⟨2, ![112, 128]⟩
abbrev S112x128x1 : Shape := ⟨3, ![112, 128, 1]⟩
abbrev S16x3840x128 : Shape := ⟨3, ![16, 3840, 128]⟩
abbrev S12x16x3840 : Shape := ⟨3, ![12, 16, 3840]⟩
abbrev S16x3840 : Shape := ⟨2, ![16, 3840]⟩
abbrev S16x256x128 : Shape := ⟨3, ![16, 256, 128]⟩
abbrev S12x16x256 : Shape := ⟨3, ![12, 16, 256]⟩
abbrev S16x256 : Shape := ⟨2, ![16, 256]⟩
abbrev S112x256 : Shape := ⟨2, ![112, 256]⟩
abbrev S4096x256 : Shape := ⟨2, ![4096, 256]⟩
abbrev S4x16x256 : Shape := ⟨3, ![4, 16, 256]⟩
abbrev S1x16x256 : Shape := ⟨3, ![1, 16, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S64x256 : Shape := ⟨2, ![64, 256]⟩
abbrev S32x256 : Shape := ⟨2, ![32, 256]⟩
abbrev S1x3840 : Shape := ⟨2, ![1, 3840]⟩
abbrev S112 : Shape := ⟨1, ![112]⟩
abbrev S112x1 : Shape := ⟨2, ![112, 1]⟩

abbrev nBuf : Space → Nat
  | .hbm => 17
  | .vmem => 21
  | .smem => 0
  | _ => 0

abbrev bufTy : (tb : Table) → Fin (tcTables nBuf tb) → BufTy
  | .hbm, ⟨0, _⟩ => ⟨S112x16x256, .f32⟩
  | .hbm, ⟨1, _⟩ => ⟨S112x1x3840, .bf16⟩
  | .hbm, ⟨2, _⟩ => ⟨S3840, .f32⟩
  | .hbm, ⟨3, _⟩ => ⟨S3840x16x128, .i8⟩
  | .hbm, ⟨4, _⟩ => ⟨S3840x16x12, .i8⟩
  | .hbm, ⟨5, _⟩ => ⟨S3840x16, .bf16⟩
  | .hbm, ⟨6, _⟩ => ⟨S3840x16, .bf16⟩
  | .hbm, ⟨7, _⟩ => ⟨S112x3840, .bf16⟩
  | .hbm, ⟨8, _⟩ => ⟨S112x4096, .f32⟩
  | .hbm, ⟨9, _⟩ => ⟨S112x4096, .bf16⟩
  | .hbm, ⟨10, _⟩ => ⟨S16x3840x128, .i8⟩
  | .hbm, ⟨11, _⟩ => ⟨S12x16x3840, .i8⟩
  | .hbm, ⟨12, _⟩ => ⟨S16x3840, .bf16⟩
  | .hbm, ⟨13, _⟩ => ⟨S16x3840, .bf16⟩
  | .hbm, ⟨14, _⟩ => ⟨S112x3840, .f32⟩
  | .hbm, ⟨15, _⟩ => ⟨S1x3840, .f32⟩
  | .hbm, ⟨16, _⟩ => ⟨S112x3840, .bf16⟩
  | .local _ .vmem, ⟨0, _⟩ => ⟨S112x4096, .f32⟩
  | .local _ .vmem, ⟨1, _⟩ => ⟨S112x4096, .bf16⟩
  | .local _ .vmem, ⟨2, _⟩ => ⟨S112x4096, .bf16⟩
  | .local _ .vmem, ⟨3, _⟩ => ⟨S16x256x128, .i8⟩
  | .local _ .vmem, ⟨4, _⟩ => ⟨S16x256x128, .i8⟩
  | .local _ .vmem, ⟨5, _⟩ => ⟨S12x16x256, .i8⟩
  | .local _ .vmem, ⟨6, _⟩ => ⟨S12x16x256, .i8⟩
  | .local _ .vmem, ⟨7, _⟩ => ⟨S16x256, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S112x256, .bf16⟩
  | .local _ .vmem, ⟨12, _⟩ => ⟨S112x256, .bf16⟩
  | .local _ .vmem, ⟨13, _⟩ => ⟨S112x256, .f32⟩
  | .local _ .vmem, ⟨14, _⟩ => ⟨S112x256, .f32⟩
  | .local _ .vmem, ⟨15, _⟩ => ⟨S4096x256, .bf16⟩
  | .local _ .vmem, ⟨16, _⟩ => ⟨S4x16x256, .i32⟩
  | .local _ .vmem, ⟨17, _⟩ => ⟨S4x16x256, .i32⟩
  | .local _ .vmem, ⟨18, _⟩ => ⟨S112x3840, .f32⟩
  | .local _ .vmem, ⟨19, _⟩ => ⟨S1x3840, .f32⟩
  | .local _ .vmem, ⟨20, _⟩ => ⟨S112x3840, .bf16⟩
  | _, _ => ⟨S112x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem1_0 : DmaSem sig := 16
abbrev cc2_sem2_0 : DmaSem sig := 17

abbrev nD : Nat := 1
abbrev τ : Topo := Topo.v7x

variable {F : FTy → Type} [BitOps F]

abbrev grid0 : Pipeline.Grid := .none

abbrev stage0_0 : Fin 1 → Memref sig .tc .vmem S112x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![15], ![false]⟩

@[reducible] def k1_t1_loop : Scf.Loop 32 :=
  let c0_i32 : BitVec 32 := 0#32
  let c16_i32 : BitVec 32 := 16#32
  let v178 : BitVec 32 := Scalar.addi c0_i32 c16_i32
  let c1_i32 : BitVec 32 := 1#32
  ⟨c0_i32, v178, c1_i32⟩
def k1_off1 (k1_t1 : Fin k1_t1_loop.trips) : Fin 3 → Nat :=
  let c0_i32 : BitVec 32 := 0#32
  let c1_i32 : BitVec 32 := 1#32
  let arg11 : BitVec 32 := Scf.iv c0_i32 c1_i32 k1_t1
  let v188 : Index := Scalar.indexCast arg11
  let c0_89 : Index := 0#32
  let c0_90 : Index := 0#32
  ![v188.toNat, 0, 0]
def k1_off2 (k1_t1 : Fin k1_t1_loop.trips) : Fin 3 → Nat :=
  let c0_93 : Index := 0#32
  let c0_i32 : BitVec 32 := 0#32
  let c1_i32 : BitVec 32 := 1#32
  let arg11 : BitVec 32 := Scf.iv c0_i32 c1_i32 k1_t1
  let v201 : Index := Scalar.indexCast arg11
  let c0_94 : Index := 0#32
  ![0, v201.toNat, 0]
def k1_off3 (k1_t1 : Fin k1_t1_loop.trips) : Fin 3 → Nat :=
  let c1_95 : Index := 1#32
  let c0_i32 : BitVec 32 := 0#32
  let c1_i32 : BitVec 32 := 1#32
  let arg11 : BitVec 32 := Scf.iv c0_i32 c1_i32 k1_t1
  let v204 : Index := Scalar.indexCast arg11
  let c0_96 : Index := 0#32
  ![1, v204.toNat, 0]
def k1_off4 (k1_t1 : Fin k1_t1_loop.trips) : Fin 3 → Nat :=
  let c2_97 : Index := 2#32
  let c0_i32 : BitVec 32 := 0#32
  let c1_i32 : BitVec 32 := 1#32
  let arg11 : BitVec 32 := Scf.iv c0_i32 c1_i32 k1_t1
  let v207 : Index := Scalar.indexCast arg11
  let c0_98 : Index := 0#32
  ![2, v207.toNat, 0]
def k1_off5 (k1_t1 : Fin k1_t1_loop.trips) : Fin 3 → Nat :=
  let c3_99 : Index := 3#32
  let c0_i32 : BitVec 32 := 0#32
  let c1_i32 : BitVec 32 := 1#32
  let arg11 : BitVec 32 := Scf.iv c0_i32 c1_i32 k1_t1
  let v210 : Index := Scalar.indexCast arg11
  let c0_100 : Index := 0#32
  ![3, v210.toNat, 0]
def k1_mult1 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32 : BitVec 32 := 256#32
  let v253 : BitVec 32 := Scalar.muli arg11 c256_i32
  let c0_i32_109 : BitVec 32 := 0#32
  let v254 : BitVec 32 := Scalar.addi v253 c0_i32_109
  v254
def k1_off6 (k1_t1 : Fin k1_t1_loop.trips) (c0_i32_109 : BitVec 32) : Fin 2 → Nat :=
  let c0_i32 : BitVec 32 := 0#32
  let c1_i32 : BitVec 32 := 1#32
  let arg11 : BitVec 32 := Scf.iv c0_i32 c1_i32 k1_t1
  let c256_i32 : BitVec 32 := 256#32
  let v253 : BitVec 32 := Scalar.muli arg11 c256_i32
  let v254 : BitVec 32 := Scalar.addi v253 c0_i32_109
  let v255 : BitVec 32 := v254
  let v256 : Index := Scalar.indexCast v255
  let c0_110 : Index := 0#32
  ![v256.toNat, 0]
def k1_mult2 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32_111 : BitVec 32 := 256#32
  let v260 : BitVec 32 := Scalar.muli arg11 c256_i32_111
  let c64_i32 : BitVec 32 := 64#32
  let v261 : BitVec 32 := Scalar.addi v260 c64_i32
  v261
def k1_mult3 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32_113 : BitVec 32 := 256#32
  let v267 : BitVec 32 := Scalar.muli arg11 c256_i32_113
  let c128_i32 : BitVec 32 := 128#32
  let v268 : BitVec 32 := Scalar.addi v267 c128_i32
  v268
def k1_mult4 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32_115 : BitVec 32 := 256#32
  let v274 : BitVec 32 := Scalar.muli arg11 c256_i32_115
  let c192_i32 : BitVec 32 := 192#32
  let v275 : BitVec 32 := Scalar.addi v274 c192_i32
  v275
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x256x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12x16x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S112x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S112x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S112x3840 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x3840 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S112x3840 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== OutputIdeal.lean ====
abbrev S112x16x256 : Shape := ⟨3, ![112, 16, 256]⟩
abbrev S112x1x3840 : Shape := ⟨3, ![112, 1, 3840]⟩
abbrev S3840 : Shape := ⟨1, ![3840]⟩
abbrev S3840x16x128 : Shape := ⟨3, ![3840, 16, 128]⟩
abbrev S3840x16x12 : Shape := ⟨3, ![3840, 16, 12]⟩
abbrev S3840x16 : Shape := ⟨2, ![3840, 16]⟩
abbrev S112x3840 : Shape := ⟨2, ![112, 3840]⟩
abbrev S112x4096 : Shape := ⟨2, ![112, 4096]⟩
abbrev S112x128 : Shape := ⟨2, ![112, 128]⟩
abbrev S112x128x1 : Shape := ⟨3, ![112, 128, 1]⟩
abbrev S16x3840x128 : Shape := ⟨3, ![16, 3840, 128]⟩
abbrev S12x16x3840 : Shape := ⟨3, ![12, 16, 3840]⟩
abbrev S16x3840 : Shape := ⟨2, ![16, 3840]⟩
abbrev S16x256x128 : Shape := ⟨3, ![16, 256, 128]⟩
abbrev S12x16x256 : Shape := ⟨3, ![12, 16, 256]⟩
abbrev S16x256 : Shape := ⟨2, ![16, 256]⟩
abbrev S112x256 : Shape := ⟨2, ![112, 256]⟩
abbrev S4096x256 : Shape := ⟨2, ![4096, 256]⟩
abbrev S4x16x256 : Shape := ⟨3, ![4, 16, 256]⟩
abbrev S4x16x2x256 : Shape := ⟨4, ![4, 16, 2, 256]⟩
abbrev S4x16x1x256 : Shape := ⟨4, ![4, 16, 1, 256]⟩
abbrev S1x16x256 : Shape := ⟨3, ![1, 16, 256]⟩
abbrev S1x16x2x256 : Shape := ⟨4, ![1, 16, 2, 256]⟩
abbrev S1x16x1x256 : Shape := ⟨4, ![1, 16, 1, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x1x2x256 : Shape := ⟨4, ![1, 1, 2, 256]⟩
abbrev S1x1x1x256 : Shape := ⟨4, ![1, 1, 1, 256]⟩
abbrev S1x256 : Shape := ⟨2, ![1, 256]⟩
abbrev S64x256 : Shape := ⟨2, ![64, 256]⟩
abbrev S32x256 : Shape := ⟨2, ![32, 256]⟩
abbrev S1x3840 : Shape := ⟨2, ![1, 3840]⟩
abbrev S112 : Shape := ⟨1, ![112]⟩
abbrev S112x1 : Shape := ⟨2, ![112, 1]⟩

abbrev nBuf : Space → Nat
  | .hbm => 17
  | .vmem => 21
  | .smem => 0
  | _ => 0

abbrev bufTy : (tb : Table) → Fin (tcTables nBuf tb) → BufTy
  | .hbm, ⟨0, _⟩ => ⟨S112x16x256, .f32⟩
  | .hbm, ⟨1, _⟩ => ⟨S112x1x3840, .bf16⟩
  | .hbm, ⟨2, _⟩ => ⟨S3840, .f32⟩
  | .hbm, ⟨3, _⟩ => ⟨S3840x16x128, .i8⟩
  | .hbm, ⟨4, _⟩ => ⟨S3840x16x12, .i8⟩
  | .hbm, ⟨5, _⟩ => ⟨S3840x16, .bf16⟩
  | .hbm, ⟨6, _⟩ => ⟨S3840x16, .bf16⟩
  | .hbm, ⟨7, _⟩ => ⟨S112x3840, .bf16⟩
  | .hbm, ⟨8, _⟩ => ⟨S112x4096, .f32⟩
  | .hbm, ⟨9, _⟩ => ⟨S112x4096, .bf16⟩
  | .hbm, ⟨10, _⟩ => ⟨S16x3840x128, .i8⟩
  | .hbm, ⟨11, _⟩ => ⟨S12x16x3840, .i8⟩
  | .hbm, ⟨12, _⟩ => ⟨S16x3840, .bf16⟩
  | .hbm, ⟨13, _⟩ => ⟨S16x3840, .bf16⟩
  | .hbm, ⟨14, _⟩ => ⟨S112x3840, .f32⟩
  | .hbm, ⟨15, _⟩ => ⟨S1x3840, .f32⟩
  | .hbm, ⟨16, _⟩ => ⟨S112x3840, .bf16⟩
  | .local _ .vmem, ⟨0, _⟩ => ⟨S112x4096, .f32⟩
  | .local _ .vmem, ⟨1, _⟩ => ⟨S112x4096, .bf16⟩
  | .local _ .vmem, ⟨2, _⟩ => ⟨S112x4096, .bf16⟩
  | .local _ .vmem, ⟨3, _⟩ => ⟨S16x256x128, .i8⟩
  | .local _ .vmem, ⟨4, _⟩ => ⟨S16x256x128, .i8⟩
  | .local _ .vmem, ⟨5, _⟩ => ⟨S12x16x256, .i8⟩
  | .local _ .vmem, ⟨6, _⟩ => ⟨S12x16x256, .i8⟩
  | .local _ .vmem, ⟨7, _⟩ => ⟨S16x256, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S112x256, .bf16⟩
  | .local _ .vmem, ⟨12, _⟩ => ⟨S112x256, .bf16⟩
  | .local _ .vmem, ⟨13, _⟩ => ⟨S112x256, .f32⟩
  | .local _ .vmem, ⟨14, _⟩ => ⟨S112x256, .f32⟩
  | .local _ .vmem, ⟨15, _⟩ => ⟨S4096x256, .bf16⟩
  | .local _ .vmem, ⟨16, _⟩ => ⟨S4x16x2x256, .bf16⟩
  | .local _ .vmem, ⟨17, _⟩ => ⟨S4x16x2x256, .bf16⟩
  | .local _ .vmem, ⟨18, _⟩ => ⟨S112x3840, .f32⟩
  | .local _ .vmem, ⟨19, _⟩ => ⟨S1x3840, .f32⟩
  | .local _ .vmem, ⟨20, _⟩ => ⟨S112x3840, .bf16⟩
  | _, _ => ⟨S112x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem1_0 : DmaSem sig := 16
abbrev cc2_sem2_0 : DmaSem sig := 17

abbrev nD : Nat := 1
abbrev τ : Topo := Topo.v7x

variable {F : FTy → Type} [FloatOps F]

abbrev grid0 : Pipeline.Grid := .none

abbrev stage0_0 : Fin 1 → Memref sig .tc .vmem S112x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![15], ![false]⟩

@[reducible] def k1_t1_loop : Scf.Loop 32 :=
  let c0_i32 : BitVec 32 := 0#32
  let c16_i32 : BitVec 32 := 16#32
  let v178 : BitVec 32 := Scalar.addi c0_i32 c16_i32
  let c1_i32 : BitVec 32 := 1#32
  ⟨c0_i32, v178, c1_i32⟩
def k1_off1 (k1_t1 : Fin k1_t1_loop.trips) : Fin 3 → Nat :=
  let c0_i32 : BitVec 32 := 0#32
  let c1_i32 : BitVec 32 := 1#32
  let arg11 : BitVec 32 := Scf.iv c0_i32 c1_i32 k1_t1
  let v188 : Index := Scalar.indexCast arg11
  let c0_89 : Index := 0#32
  let c0_90 : Index := 0#32
  ![v188.toNat, 0, 0]
def k1_off2 (k1_t1 : Fin k1_t1_loop.trips) : Fin 4 → Nat :=
  let c0_93 : Index := 0#32
  let c0_i32 : BitVec 32 := 0#32
  let c1_i32 : BitVec 32 := 1#32
  let arg11 : BitVec 32 := Scf.iv c0_i32 c1_i32 k1_t1
  let v201 : Index := Scalar.indexCast arg11
  let c0_94 : Index := 0#32
  ![0, v201.toNat, 0, 0]
def k1_off3 (k1_t1 : Fin k1_t1_loop.trips) : Fin 4 → Nat :=
  let c1_95 : Index := 1#32
  let c0_i32 : BitVec 32 := 0#32
  let c1_i32 : BitVec 32 := 1#32
  let arg11 : BitVec 32 := Scf.iv c0_i32 c1_i32 k1_t1
  let v204 : Index := Scalar.indexCast arg11
  let c0_96 : Index := 0#32
  ![1, v204.toNat, 0, 0]
def k1_off4 (k1_t1 : Fin k1_t1_loop.trips) : Fin 4 → Nat :=
  let c2_97 : Index := 2#32
  let c0_i32 : BitVec 32 := 0#32
  let c1_i32 : BitVec 32 := 1#32
  let arg11 : BitVec 32 := Scf.iv c0_i32 c1_i32 k1_t1
  let v207 : Index := Scalar.indexCast arg11
  let c0_98 : Index := 0#32
  ![2, v207.toNat, 0, 0]
def k1_off5 (k1_t1 : Fin k1_t1_loop.trips) : Fin 4 → Nat :=
  let c3_99 : Index := 3#32
  let c0_i32 : BitVec 32 := 0#32
  let c1_i32 : BitVec 32 := 1#32
  let arg11 : BitVec 32 := Scf.iv c0_i32 c1_i32 k1_t1
  let v210 : Index := Scalar.indexCast arg11
  let c0_100 : Index := 0#32
  ![3, v210.toNat, 0, 0]
def k1_mult1 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32 : BitVec 32 := 256#32
  let v253 : BitVec 32 := Scalar.muli arg11 c256_i32
  let c0_i32_109 : BitVec 32 := 0#32
  let v254 : BitVec 32 := Scalar.addi v253 c0_i32_109
  v254
def k1_off6 (k1_t1 : Fin k1_t1_loop.trips) (c0_i32_109 : BitVec 32) : Fin 2 → Nat :=
  let c0_i32 : BitVec 32 := 0#32
  let c1_i32 : BitVec 32 := 1#32
  let arg11 : BitVec 32 := Scf.iv c0_i32 c1_i32 k1_t1
  let c256_i32 : BitVec 32 := 256#32
  let v253 : BitVec 32 := Scalar.muli arg11 c256_i32
  let v254 : BitVec 32 := Scalar.addi v253 c0_i32_109
  let v255 : BitVec 32 := v254
  let v256 : Index := Scalar.indexCast v255
  let c0_110 : Index := 0#32
  ![v256.toNat, 0]
def k1_mult2 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32_111 : BitVec 32 := 256#32
  let v260 : BitVec 32 := Scalar.muli arg11 c256_i32_111
  let c64_i32 : BitVec 32 := 64#32
  let v261 : BitVec 32 := Scalar.addi v260 c64_i32
  v261
def k1_mult3 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32_113 : BitVec 32 := 256#32
  let v267 : BitVec 32 := Scalar.muli arg11 c256_i32_113
  let c128_i32 : BitVec 32 := 128#32
  let v268 : BitVec 32 := Scalar.addi v267 c128_i32
  v268
def k1_mult4 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32_115 : BitVec 32 := 256#32
  let v274 : BitVec 32 := Scalar.muli arg11 c256_i32_115
  let c192_i32 : BitVec 32 := 192#32
  let v275 : BitVec 32 := Scalar.addi v274 c192_i32
  v275
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x256x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12x16x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S112x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S112x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S112x3840 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x3840 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S112x3840 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== OutputRefIdeal.lean ====
abbrev S112x16x256 : Shape := ⟨3, ![112, 16, 256]⟩
abbrev S112x1x3840 : Shape := ⟨3, ![112, 1, 3840]⟩
abbrev S3840 : Shape := ⟨1, ![3840]⟩
abbrev S3840x16x128 : Shape := ⟨3, ![3840, 16, 128]⟩
abbrev S3840x16x12 : Shape := ⟨3, ![3840, 16, 12]⟩
abbrev S3840x16 : Shape := ⟨2, ![3840, 16]⟩
abbrev S112x3840 : Shape := ⟨2, ![112, 3840]⟩
abbrev S112x4096 : Shape := ⟨2, ![112, 4096]⟩
abbrev S3840x16x4 : Shape := ⟨3, ![3840, 16, 4]⟩
abbrev S_ : Shape := ⟨0, ![]⟩
abbrev S3840x16x8 : Shape := ⟨3, ![3840, 16, 8]⟩
abbrev S3840x16x1 : Shape := ⟨3, ![3840, 16, 1]⟩
abbrev S3840x16x4x2 : Shape := ⟨4, ![3840, 16, 4, 2]⟩
abbrev S3840x16x4x32 : Shape := ⟨4, ![3840, 16, 4, 32]⟩
abbrev S3840x16x4x1 : Shape := ⟨4, ![3840, 16, 4, 1]⟩
abbrev S112x16x4x2x32 : Shape := ⟨5, ![112, 16, 4, 2, 32]⟩
abbrev S112x16x4x1x32 : Shape := ⟨5, ![112, 16, 4, 1, 32]⟩
abbrev S112x16x4x32 : Shape := ⟨4, ![112, 16, 4, 32]⟩
abbrev S112 : Shape := ⟨1, ![112]⟩
abbrev S112x1 : Shape := ⟨2, ![112, 1]⟩
abbrev S1x3840 : Shape := ⟨2, ![1, 3840]⟩
abbrev S112x60x2x32 : Shape := ⟨4, ![112, 60, 2, 32]⟩
abbrev S112x60x32x2 : Shape := ⟨4, ![112, 60, 32, 2]⟩

abbrev nBuf : Space → Nat
  | .hbm => 104
  | .vmem => 0
  | .smem => 0
  | _ => 0

abbrev bufTy : (tb : Table) → Fin (tcTables nBuf tb) → BufTy
  | .hbm, ⟨0, _⟩ => ⟨S112x16x256, .f32⟩
  | .hbm, ⟨1, _⟩ => ⟨S112x1x3840, .bf16⟩
  | .hbm, ⟨2, _⟩ => ⟨S3840, .f32⟩
  | .hbm, ⟨3, _⟩ => ⟨S3840x16x128, .i8⟩
  | .hbm, ⟨4, _⟩ => ⟨S3840x16x12, .i8⟩
  | .hbm, ⟨5, _⟩ => ⟨S3840x16, .bf16⟩
  | .hbm, ⟨6, _⟩ => ⟨S3840x16, .bf16⟩
  | .hbm, ⟨7, _⟩ => ⟨S112x3840, .bf16⟩
  | .hbm, ⟨8, _⟩ => ⟨S112x3840, .f32⟩
  | .hbm, ⟨9, _⟩ => ⟨S112x4096, .f32⟩
  | .hbm, ⟨10, _⟩ => ⟨S112x4096, .bf16⟩
  | .hbm, ⟨11, _⟩ => ⟨S3840x16x12, .i32⟩
  | .hbm, ⟨12, _⟩ => ⟨S3840x16x128, .i32⟩
  | .hbm, ⟨13, _⟩ => ⟨S3840x16x4, .i32⟩
  | .hbm, ⟨14, _⟩ => ⟨S3840x16x4, .i32⟩
  | .hbm, ⟨15, _⟩ => ⟨S3840x16x4, .i32⟩
  | .hbm, ⟨16, _⟩ => ⟨S_, .i32⟩
  | .hbm, ⟨17, _⟩ => ⟨S3840x16x4, .i32⟩
  | .hbm, ⟨18, _⟩ => ⟨S3840x16x4, .i32⟩
  | .hbm, ⟨19, _⟩ => ⟨S_, .i32⟩
  | .hbm, ⟨20, _⟩ => ⟨S3840x16x4, .i32⟩
  | .hbm, ⟨21, _⟩ => ⟨S3840x16x4, .i32⟩
  | .hbm, ⟨22, _⟩ => ⟨S_, .i32⟩
  | .hbm, ⟨23, _⟩ => ⟨S3840x16x4, .i32⟩
  | .hbm, ⟨24, _⟩ => ⟨S3840x16x4, .i32⟩
  | .hbm, ⟨25, _⟩ => ⟨S_, .i32⟩
  | .hbm, ⟨26, _⟩ => ⟨S3840x16x4, .i32⟩
  | .hbm, ⟨27, _⟩ => ⟨S3840x16x4, .i32⟩
  | .hbm, ⟨28, _⟩ => ⟨S3840x16x4, .i32⟩
  | .hbm, ⟨29, _⟩ => ⟨S3840x16x8, .i32⟩
  | .hbm, ⟨30, _⟩ => ⟨S_, .i32⟩
  | .hbm, ⟨31, _⟩ => ⟨S3840x16x4, .i32⟩
  | .hbm, ⟨32, _⟩ => ⟨S3840x16x4, .i32⟩
  | .hbm, ⟨33, _⟩ => ⟨S_, .i32⟩
  | .hbm, ⟨34, _⟩ => ⟨S3840x16x4, .i32⟩
  | .hbm, ⟨35, _⟩ => ⟨S3840x16x4, .i32⟩
  | .hbm, ⟨36, _⟩ => ⟨S_, .i32⟩
  | .hbm, ⟨37, _⟩ => ⟨S3840x16x4, .i32⟩
  | .hbm, ⟨38, _⟩ => ⟨S3840x16x4, .i32⟩
  | .hbm, ⟨39, _⟩ => ⟨S_, .i32⟩
  | .hbm, ⟨40, _⟩ => ⟨S3840x16x4, .i32⟩
  | .hbm, ⟨41, _⟩ => ⟨S3840x16x4, .i32⟩
  | .hbm, ⟨42, _⟩ => ⟨S3840x16x4, .i32⟩
  | .hbm, ⟨43, _⟩ => ⟨S3840x16x8, .i32⟩
  | .hbm, ⟨44, _⟩ => ⟨S3840x16x1, .bf16⟩
  | .hbm, ⟨45, _⟩ => ⟨S3840x16x8, .bf16⟩
  | .hbm, ⟨46, _⟩ => ⟨S3840x16x8, .bf16⟩
  | .hbm, ⟨47, _⟩ => ⟨S3840x16x8, .bf16⟩
  | .hbm, ⟨48, _⟩ => ⟨S3840x16x4x2, .bf16⟩
  | .hbm, ⟨49, _⟩ => ⟨S3840x16x1, .bf16⟩
  | .hbm, ⟨50, _⟩ => ⟨S3840x16x8, .bf16⟩
  | .hbm, ⟨51, _⟩ => ⟨S3840x16x8, .bf16⟩
  | .hbm, ⟨52, _⟩ => ⟨S3840x16x8, .bf16⟩
  | .hbm, ⟨53, _⟩ => ⟨S3840x16x4x2, .bf16⟩
  | .hbm, ⟨54, _⟩ => ⟨S3840x16x4x32, .i32⟩
  | .hbm, ⟨55, _⟩ => ⟨S_, .i32⟩
  | .hbm, ⟨56, _⟩ => ⟨S3840x16x4x32, .i32⟩
  | .hbm, ⟨57, _⟩ => ⟨S3840x16x4x32, .i32⟩
  | .hbm, ⟨58, _⟩ => ⟨S3840x16x4x32, .bf16⟩
  | .hbm, ⟨59, _⟩ => ⟨S3840x16x4x1, .bf16⟩
  | .hbm, ⟨60, _⟩ => ⟨S3840x16x4x32, .bf16⟩
  | .hbm, ⟨61, _⟩ => ⟨S3840x16x4x32, .bf16⟩
  | .hbm, ⟨62, _⟩ => ⟨S3840x16x4x1, .bf16⟩
  | .hbm, ⟨63, _⟩ => ⟨S3840x16x4x32, .bf16⟩
  | .hbm, ⟨64, _⟩ => ⟨S3840x16x4x32, .bf16⟩
  | .hbm, ⟨65, _⟩ => ⟨S_, .i32⟩
  | .hbm, ⟨66, _⟩ => ⟨S3840x16x4x32, .i32⟩
  | .hbm, ⟨67, _⟩ => ⟨S3840x16x4x32, .i32⟩
  | .hbm, ⟨68, _⟩ => ⟨S3840x16x4x32, .bf16⟩
  | .hbm, ⟨69, _⟩ => ⟨S3840x16x4x1, .bf16⟩
  | .hbm, ⟨70, _⟩ => ⟨S3840x16x4x32, .bf16⟩
  | .hbm, ⟨71, _⟩ => ⟨S3840x16x4x32, .bf16⟩
  | .hbm, ⟨72, _⟩ => ⟨S3840x16x4x1, .bf16⟩
  | .hbm, ⟨73, _⟩ => ⟨S3840x16x4x32, .bf16⟩
  | .hbm, ⟨74, _⟩ => ⟨S3840x16x4x32, .bf16⟩
  | .hbm, ⟨75, _⟩ => ⟨S112x16x4x2x32, .bf16⟩
  | .hbm, ⟨76, _⟩ => ⟨S112x16x4x1x32, .bf16⟩
  | .hbm, ⟨77, _⟩ => ⟨S112x16x4x32, .bf16⟩
  | .hbm, ⟨78, _⟩ => ⟨S112x3840, .f32⟩
  | .hbm, ⟨79, _⟩ => ⟨S112x16x4x1x32, .bf16⟩
  | .hbm, ⟨80, _⟩ => ⟨S112x16x4x32, .bf16⟩
  | .hbm, ⟨81, _⟩ => ⟨S112x3840, .f32⟩
  | .hbm, ⟨82, _⟩ => ⟨S112x3840, .f32⟩
  | .hbm, ⟨83, _⟩ => ⟨S112x3840, .f32⟩
  | .hbm, ⟨84, _⟩ => ⟨S112x3840, .f32⟩
  | .hbm, ⟨85, _⟩ => ⟨S_, .f32⟩
  | .hbm, ⟨86, _⟩ => ⟨S112, .f32⟩
  | .hbm, ⟨87, _⟩ => ⟨S112x1, .f32⟩
  | .hbm, ⟨88, _⟩ => ⟨S_, .f32⟩
  | .hbm, ⟨89, _⟩ => ⟨S112x1, .f32⟩
  | .hbm, ⟨90, _⟩ => ⟨S112x1, .f32⟩
  | .hbm, ⟨91, _⟩ => ⟨S_, .f32⟩
  | .hbm, ⟨92, _⟩ => ⟨S112x1, .f32⟩
  | .hbm, ⟨93, _⟩ => ⟨S112x1, .f32⟩
  | .hbm, ⟨94, _⟩ => ⟨S112x1, .f32⟩
  | .hbm, ⟨95, _⟩ => ⟨S112x3840, .f32⟩
  | .hbm, ⟨96, _⟩ => ⟨S112x3840, .f32⟩
  | .hbm, ⟨97, _⟩ => ⟨S1x3840, .f32⟩
  | .hbm, ⟨98, _⟩ => ⟨S112x3840, .f32⟩
  | .hbm, ⟨99, _⟩ => ⟨S112x3840, .f32⟩
  | .hbm, ⟨100, _⟩ => ⟨S112x3840, .bf16⟩
  | .hbm, ⟨101, _⟩ => ⟨S112x60x2x32, .bf16⟩
  | .hbm, ⟨102, _⟩ => ⟨S112x60x32x2, .bf16⟩
  | .hbm, ⟨103, _⟩ => ⟨S112x3840, .bf16⟩
  | _, _ => ⟨S112x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== GateUp.lean ====
abbrev S112x3840 : Shape := ⟨2, ![112, 3840]⟩
abbrev S15360x15x128 : Shape := ⟨3, ![15360, 15, 128]⟩
abbrev S15360x15x12 : Shape := ⟨3, ![15360, 15, 12]⟩
abbrev S15360x15 : Shape := ⟨2, ![15360, 15]⟩
abbrev S15x15360x128 : Shape := ⟨3, ![15, 15360, 128]⟩
abbrev S12x15x15360 : Shape := ⟨3, ![12, 15, 15360]⟩
abbrev S15x15360 : Shape := ⟨2, ![15, 15360]⟩
abbrev S112x15360 : Shape := ⟨2, ![112, 15360]⟩
abbrev S15x256x128 : Shape := ⟨3, ![15, 256, 128]⟩
abbrev S12x15x256 : Shape := ⟨3, ![12, 15, 256]⟩
abbrev S15x256 : Shape := ⟨2, ![15, 256]⟩
abbrev S112x256 : Shape := ⟨2, ![112, 256]⟩
abbrev S3840x256 : Shape := ⟨2, ![3840, 256]⟩
abbrev S4x15x256 : Shape := ⟨3, ![4, 15, 256]⟩
abbrev S1x15x256 : Shape := ⟨3, ![1, 15, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S64x256 : Shape := ⟨2, ![64, 256]⟩
abbrev S32x256 : Shape := ⟨2, ![32, 256]⟩
abbrev S112x128 : Shape := ⟨2, ![112, 128]⟩
abbrev S112x128x1 : Shape := ⟨3, ![112, 128, 1]⟩

abbrev nBuf : Space → Nat
  | .hbm => 18
  | .vmem => 22
  | .smem => 0
  | _ => 0

abbrev bufTy : (tb : Table) → Fin (tcTables nBuf tb) → BufTy
  | .hbm, ⟨0, _⟩ => ⟨S112x3840, .bf16⟩
  | .hbm, ⟨1, _⟩ => ⟨S15360x15x128, .i8⟩
  | .hbm, ⟨2, _⟩ => ⟨S15360x15x12, .i8⟩
  | .hbm, ⟨3, _⟩ => ⟨S15360x15, .bf16⟩
  | .hbm, ⟨4, _⟩ => ⟨S15360x15, .bf16⟩
  | .hbm, ⟨5, _⟩ => ⟨S15360x15x128, .i8⟩
  | .hbm, ⟨6, _⟩ => ⟨S15360x15x12, .i8⟩
  | .hbm, ⟨7, _⟩ => ⟨S15360x15, .bf16⟩
  | .hbm, ⟨8, _⟩ => ⟨S15360x15, .bf16⟩
  | .hbm, ⟨9, _⟩ => ⟨S15x15360x128, .i8⟩
  | .hbm, ⟨10, _⟩ => ⟨S12x15x15360, .i8⟩
  | .hbm, ⟨11, _⟩ => ⟨S15x15360, .bf16⟩
  | .hbm, ⟨12, _⟩ => ⟨S15x15360, .bf16⟩
  | .hbm, ⟨13, _⟩ => ⟨S15x15360x128, .i8⟩
  | .hbm, ⟨14, _⟩ => ⟨S12x15x15360, .i8⟩
  | .hbm, ⟨15, _⟩ => ⟨S15x15360, .bf16⟩
  | .hbm, ⟨16, _⟩ => ⟨S15x15360, .bf16⟩
  | .hbm, ⟨17, _⟩ => ⟨S112x15360, .bf16⟩
  | .local _ .vmem, ⟨0, _⟩ => ⟨S112x3840, .bf16⟩
  | .local _ .vmem, ⟨1, _⟩ => ⟨S15x256x128, .i8⟩
  | .local _ .vmem, ⟨2, _⟩ => ⟨S15x256x128, .i8⟩
  | .local _ .vmem, ⟨3, _⟩ => ⟨S12x15x256, .i8⟩
  | .local _ .vmem, ⟨4, _⟩ => ⟨S12x15x256, .i8⟩
  | .local _ .vmem, ⟨5, _⟩ => ⟨S15x256, .bf16⟩
  | .local _ .vmem, ⟨6, _⟩ => ⟨S15x256, .bf16⟩
  | .local _ .vmem, ⟨7, _⟩ => ⟨S15x256, .bf16⟩
  | .local _ .vmem, ⟨8, _⟩ => ⟨S15x256, .bf16⟩
  | .local _ .vmem, ⟨9, _⟩ => ⟨S15x256x128, .i8⟩
  | .local _ .vmem, ⟨10, _⟩ => ⟨S15x256x128, .i8⟩
  | .local _ .vmem, ⟨11, _⟩ => ⟨S12x15x256, .i8⟩
  | .local _ .vmem, ⟨12, _⟩ => ⟨S12x15x256, .i8⟩
  | .local _ .vmem, ⟨13, _⟩ => ⟨S15x256, .bf16⟩
  | .local _ .vmem, ⟨14, _⟩ => ⟨S15x256, .bf16⟩
  | .local _ .vmem, ⟨15, _⟩ => ⟨S15x256, .bf16⟩
  | .local _ .vmem, ⟨16, _⟩ => ⟨S15x256, .bf16⟩
  | .local _ .vmem, ⟨17, _⟩ => ⟨S112x256, .bf16⟩
  | .local _ .vmem, ⟨18, _⟩ => ⟨S112x256, .bf16⟩
  | .local _ .vmem, ⟨19, _⟩ => ⟨S3840x256, .bf16⟩
  | .local _ .vmem, ⟨20, _⟩ => ⟨S4x15x256, .i32⟩
  | .local _ .vmem, ⟨21, _⟩ => ⟨S4x15x256, .i32⟩
  | _, _ => ⟨S112x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨1, ![60], ![false]⟩

@[reducible] def k0_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v401 : Index := Scalar.indexCast arg14
  let c0_199 : Index := 0#32
  let c0_200 : Index := 0#32
  ![v401.toNat, 0, 0]
def k0_off2 (k0_t1 : Fin k0_t1_loop.trips) : Fin 3 → Nat :=
  let c0_203 : Index := 0#32
  let c0_i32 : BitVec 32 := 0#32
  let c1_i32 : BitVec 32 := 1#32
  let arg14 : BitVec 32 := Scf.iv c0_i32 c1_i32 k0_t1
  let v414 : Index := Scalar.indexCast arg14
  let c0_204 : Index := 0#32
  ![0, v414.toNat, 0]
def k0_off3 (k0_t1 : Fin k0_t1_loop.trips) : Fin 3 → Nat :=
  let c1_205 : Index := 1#32
  let c0_i32 : BitVec 32 := 0#32
  let c1_i32 : BitVec 32 := 1#32
  let arg14 : BitVec 32 := Scf.iv c0_i32 c1_i32 k0_t1
  let v417 : Index := Scalar.indexCast arg14
  let c0_206 : Index := 0#32
  ![1, v417.toNat, 0]
def k0_off4 (k0_t1 : Fin k0_t1_loop.trips) : Fin 3 → Nat :=
  let c2_207 : Index := 2#32
  let c0_i32 : BitVec 32 := 0#32
  let c1_i32 : BitVec 32 := 1#32
  let arg14 : BitVec 32 := Scf.iv c0_i32 c1_i32 k0_t1
  let v420 : Index := Scalar.indexCast arg14
  let c0_208 : Index := 0#32
  ![2, v420.toNat, 0]
def k0_off5 (k0_t1 : Fin k0_t1_loop.trips) : Fin 3 → Nat :=
  let c3_209 : Index := 3#32
  let c0_i32 : BitVec 32 := 0#32
  let c1_i32 : BitVec 32 := 1#32
  let arg14 : BitVec 32 := Scf.iv c0_i32 c1_i32 k0_t1
  let v423 : Index := Scalar.indexCast arg14
  let c0_210 : Index := 0#32
  ![3, v423.toNat, 0]
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v466 : BitVec 32 := Scalar.muli arg14 c256_i32
  let c0_i32_219 : BitVec 32 := 0#32
  let v467 : BitVec 32 := Scalar.addi v466 c0_i32_219
  v467
def k0_off6 (k0_t1 : Fin k0_t1_loop.trips) (c0_i32_219 : BitVec 32) : Fin 2 → Nat :=
  let c0_i32 : BitVec 32 := 0#32
  let c1_i32 : BitVec 32 := 1#32
  let arg14 : BitVec 32 := Scf.iv c0_i32 c1_i32 k0_t1
  let c256_i32 : BitVec 32 := 256#32
  let v466 : BitVec 32 := Scalar.muli arg14 c256_i32
  let v467 : BitVec 32 := Scalar.addi v466 c0_i32_219
  let v468 : BitVec 32 := v467
  let v469 : Index := Scalar.indexCast v468
  let c0_220 : Index := 0#32
  ![v469.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_221 : BitVec 32 := 256#32
  let v473 : BitVec 32 := Scalar.muli arg14 c256_i32_221
  let c64_i32_222 : BitVec 32 := 64#32
  let v474 : BitVec 32 := Scalar.addi v473 c64_i32_222
  v474
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_224 : BitVec 32 := 256#32
  let v480 : BitVec 32 := Scalar.muli arg14 c256_i32_224
  let c128_i32_225 : BitVec 32 := 128#32
  let v481 : BitVec 32 := Scalar.addi v480 c128_i32_225
  v481
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_227 : BitVec 32 := 256#32
  let v487 : BitVec 32 := Scalar.muli arg14 c256_i32_227
  let c192_i32 : BitVec 32 := 192#32
  let v488 : BitVec 32 := Scalar.addi v487 c192_i32
  v488
@[reducible] def k0_t2_loop : Scf.Loop 32 :=
  let c0_i32_182 : BitVec 32 := 0#32
  let c15_i32_183 : BitVec 32 := 15#32
  let v360 : BitVec 32 := Scalar.addi c0_i32_182 c15_i32_183
  let c1_i32_184 : BitVec 32 := 1#32
  ⟨c0_i32_182, v360, c1_i32_184⟩
def k0_off7 (k0_t2 : Fin k0_t2_loop.trips) : Fin 3 → Nat :=
  let c0_i32_182 : BitVec 32 := 0#32
  let c1_i32_184 : BitVec 32 := 1#32
  let arg14 : BitVec 32 := Scf.iv c0_i32_182 c1_i32_184 k0_t2
  let v401 : Index := Scalar.indexCast arg14
  let c0_199 : Index := 0#32
  let c0_200 : Index := 0#32
  ![v401.toNat, 0, 0]
def k0_off8 (k0_t2 : Fin k0_t2_loop.trips) : Fin 3 → Nat :=
  let c0_203 : Index := 0#32
  let c0_i32_182 : BitVec 32 := 0#32
  let c1_i32_184 : BitVec 32 := 1#32
  let arg14 : BitVec 32 := Scf.iv c0_i32_182 c1_i32_184 k0_t2
  let v414 : Index := Scalar.indexCast arg14
  let c0_204 : Index := 0#32
  ![0, v414.toNat, 0]
def k0_off9 (k0_t2 : Fin k0_t2_loop.trips) : Fin 3 → Nat :=
  let c1_205 : Index := 1#32
  let c0_i32_182 : BitVec 32 := 0#32
  let c1_i32_184 : BitVec 32 := 1#32
  let arg14 : BitVec 32 := Scf.iv c0_i32_182 c1_i32_184 k0_t2
  let v417 : Index := Scalar.indexCast arg14
  let c0_206 : Index := 0#32
  ![1, v417.toNat, 0]
def k0_off10 (k0_t2 : Fin k0_t2_loop.trips) : Fin 3 → Nat :=
  let c2_207 : Index := 2#32
  let c0_i32_182 : BitVec 32 := 0#32
  let c1_i32_184 : BitVec 32 := 1#32
  let arg14 : BitVec 32 := Scf.iv c0_i32_182 c1_i32_184 k0_t2
  let v420 : Index := Scalar.indexCast arg14
  let c0_208 : Index := 0#32
  ![2, v420.toNat, 0]
def k0_off11 (k0_t2 : Fin k0_t2_loop.trips) : Fin 3 → Nat :=
  let c3_209 : Index := 3#32
  let c0_i32_182 : BitVec 32 := 0#32
  let c1_i32_184 : BitVec 32 := 1#32
  let arg14 : BitVec 32 := Scf.iv c0_i32_182 c1_i32_184 k0_t2
  let v423 : Index := Scalar.indexCast arg14
  let c0_210 : Index := 0#32
  ![3, v423.toNat, 0]
def k0_mult5 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32 : BitVec 32 := 256#32
  let v466 : BitVec 32 := Scalar.muli arg14 c256_i32
  let c0_i32_219 : BitVec 32 := 0#32
  let v467 : BitVec 32 := Scalar.addi v466 c0_i32_219
  v467
def k0_off12 (k0_t2 : Fin k0_t2_loop.trips) (c0_i32_219 : BitVec 32) : Fin 2 → Nat :=
  let c0_i32_182 : BitVec 32 := 0#32
  let c1_i32_184 : BitVec 32 := 1#32
  let arg14 : BitVec 32 := Scf.iv c0_i32_182 c1_i32_184 k0_t2
  let c256_i32 : BitVec 32 := 256#32
  let v466 : BitVec 32 := Scalar.muli arg14 c256_i32
  let v467 : BitVec 32 := Scalar.addi v466 c0_i32_219
  let v468 : BitVec 32 := v467
  let v469 : Index := Scalar.indexCast v468
  let c0_220 : Index := 0#32
  ![v469.toNat, 0]
def k0_mult6 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32_221 : BitVec 32 := 256#32
  let v473 : BitVec 32 := Scalar.muli arg14 c256_i32_221
  let c64_i32_222 : BitVec 32 := 64#32
  let v474 : BitVec 32 := Scalar.addi v473 c64_i32_222
  v474
def k0_mult7 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32_224 : BitVec 32 := 256#32
  let v480 : BitVec 32 := Scalar.muli arg14 c256_i32_224
  let c128_i32_225 : BitVec 32 := 128#32
  let v481 : BitVec 32 := Scalar.addi v480 c128_i32_225
  v481
def k0_mult8 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32_227 : BitVec 32 := 256#32
  let v487 : BitVec 32 := Scalar.muli arg14 c256_i32_227
  let c192_i32 : BitVec 32 := 192#32
  let v488 : BitVec 32 := Scalar.addi v487 c192_i32
  v488
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S112x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S15x256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x15x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S15x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S15x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S15x256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x15x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S15x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S15x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S112x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GateUpIdeal.lean ====
abbrev S112x3840 : Shape := ⟨2, ![112, 3840]⟩
abbrev S15360x15x128 : Shape := ⟨3, ![15360, 15, 128]⟩
abbrev S15360x15x12 : Shape := ⟨3, ![15360, 15, 12]⟩
abbrev S15360x15 : Shape := ⟨2, ![15360, 15]⟩
abbrev S15x15360x128 : Shape := ⟨3, ![15, 15360, 128]⟩
abbrev S12x15x15360 : Shape := ⟨3, ![12, 15, 15360]⟩
abbrev S15x15360 : Shape := ⟨2, ![15, 15360]⟩
abbrev S112x15360 : Shape := ⟨2, ![112, 15360]⟩
abbrev S15x256x128 : Shape := ⟨3, ![15, 256, 128]⟩
abbrev S12x15x256 : Shape := ⟨3, ![12, 15, 256]⟩
abbrev S15x256 : Shape := ⟨2, ![15, 256]⟩
abbrev S112x256 : Shape := ⟨2, ![112, 256]⟩
abbrev S3840x256 : Shape := ⟨2, ![3840, 256]⟩
abbrev S4x15x256 : Shape := ⟨3, ![4, 15, 256]⟩
abbrev S4x15x2x256 : Shape := ⟨4, ![4, 15, 2, 256]⟩
abbrev S4x15x1x256 : Shape := ⟨4, ![4, 15, 1, 256]⟩
abbrev S1x15x256 : Shape := ⟨3, ![1, 15, 256]⟩
abbrev S1x15x2x256 : Shape := ⟨4, ![1, 15, 2, 256]⟩
abbrev S1x15x1x256 : Shape := ⟨4, ![1, 15, 1, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x1x2x256 : Shape := ⟨4, ![1, 1, 2, 256]⟩
abbrev S1x1x1x256 : Shape := ⟨4, ![1, 1, 1, 256]⟩
abbrev S1x256 : Shape := ⟨2, ![1, 256]⟩
abbrev S64x256 : Shape := ⟨2, ![64, 256]⟩
abbrev S32x256 : Shape := ⟨2, ![32, 256]⟩
abbrev S112x128 : Shape := ⟨2, ![112, 128]⟩
abbrev S112x128x1 : Shape := ⟨3, ![112, 128, 1]⟩

abbrev nBuf : Space → Nat
  | .hbm => 18
  | .vmem => 22
  | .smem => 0
  | _ => 0

abbrev bufTy : (tb : Table) → Fin (tcTables nBuf tb) → BufTy
  | .hbm, ⟨0, _⟩ => ⟨S112x3840, .bf16⟩
  | .hbm, ⟨1, _⟩ => ⟨S15360x15x128, .i8⟩
  | .hbm, ⟨2, _⟩ => ⟨S15360x15x12, .i8⟩
  | .hbm, ⟨3, _⟩ => ⟨S15360x15, .bf16⟩
  | .hbm, ⟨4, _⟩ => ⟨S15360x15, .bf16⟩
  | .hbm, ⟨5, _⟩ => ⟨S15360x15x128, .i8⟩
  | .hbm, ⟨6, _⟩ => ⟨S15360x15x12, .i8⟩
  | .hbm, ⟨7, _⟩ => ⟨S15360x15, .bf16⟩
  | .hbm, ⟨8, _⟩ => ⟨S15360x15, .bf16⟩
  | .hbm, ⟨9, _⟩ => ⟨S15x15360x128, .i8⟩
  | .hbm, ⟨10, _⟩ => ⟨S12x15x15360, .i8⟩
  | .hbm, ⟨11, _⟩ => ⟨S15x15360, .bf16⟩
  | .hbm, ⟨12, _⟩ => ⟨S15x15360, .bf16⟩
  | .hbm, ⟨13, _⟩ => ⟨S15x15360x128, .i8⟩
  | .hbm, ⟨14, _⟩ => ⟨S12x15x15360, .i8⟩
  | .hbm, ⟨15, _⟩ => ⟨S15x15360, .bf16⟩
  | .hbm, ⟨16, _⟩ => ⟨S15x15360, .bf16⟩
  | .hbm, ⟨17, _⟩ => ⟨S112x15360, .bf16⟩
  | .local _ .vmem, ⟨0, _⟩ => ⟨S112x3840, .bf16⟩
  | .local _ .vmem, ⟨1, _⟩ => ⟨S15x256x128, .i8⟩
  | .local _ .vmem, ⟨2, _⟩ => ⟨S15x256x128, .i8⟩
  | .local _ .vmem, ⟨3, _⟩ => ⟨S12x15x256, .i8⟩
  | .local _ .vmem, ⟨4, _⟩ => ⟨S12x15x256, .i8⟩
  | .local _ .vmem, ⟨5, _⟩ => ⟨S15x256, .bf16⟩
  | .local _ .vmem, ⟨6, _⟩ => ⟨S15x256, .bf16⟩
  | .local _ .vmem, ⟨7, _⟩ => ⟨S15x256, .bf16⟩
  | .local _ .vmem, ⟨8, _⟩ => ⟨S15x256, .bf16⟩
  | .local _ .vmem, ⟨9, _⟩ => ⟨S15x256x128, .i8⟩
  | .local _ .vmem, ⟨10, _⟩ => ⟨S15x256x128, .i8⟩
  | .local _ .vmem, ⟨11, _⟩ => ⟨S12x15x256, .i8⟩
  | .local _ .vmem, ⟨12, _⟩ => ⟨S12x15x256, .i8⟩
  | .local _ .vmem, ⟨13, _⟩ => ⟨S15x256, .bf16⟩
  | .local _ .vmem, ⟨14, _⟩ => ⟨S15x256, .bf16⟩
  | .local _ .vmem, ⟨15, _⟩ => ⟨S15x256, .bf16⟩
  | .local _ .vmem, ⟨16, _⟩ => ⟨S15x256, .bf16⟩
  | .local _ .vmem, ⟨17, _⟩ => ⟨S112x256, .bf16⟩
  | .local _ .vmem, ⟨18, _⟩ => ⟨S112x256, .bf16⟩
  | .local _ .vmem, ⟨19, _⟩ => ⟨S3840x256, .bf16⟩
  | .local _ .vmem, ⟨20, _⟩ => ⟨S4x15x2x256, .bf16⟩
  | .local _ .vmem, ⟨21, _⟩ => ⟨S4x15x2x256, .bf16⟩
  | _, _ => ⟨S112x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![60], ![false]⟩

@[reducible] def k0_t1_loop : Scf.Loop 32 :=
  let c0_i32 : BitVec 32 := 0#32
  let c15_i32_80 : BitVec 32 := 15#32
  let v178 : BitVec 32 := Scalar.addi c0_i32 c15_i32_80
  let c1_i32 : BitVec 32 := 1#32
  ⟨c0_i32, v178, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v401 : Index := Scalar.indexCast arg14
  let c0_199 : Index := 0#32
  let c0_200 : Index := 0#32
  ![v401.toNat, 0, 0]
def k0_off2 (k0_t1 : Fin k0_t1_loop.trips) : Fin 4 → Nat :=
  let c0_203 : Index := 0#32
  let c0_i32 : BitVec 32 := 0#32
  let c1_i32 : BitVec 32 := 1#32
  let arg14 : BitVec 32 := Scf.iv c0_i32 c1_i32 k0_t1
  let v414 : Index := Scalar.indexCast arg14
  let c0_204 : Index := 0#32
  ![0, v414.toNat, 0, 0]
def k0_off3 (k0_t1 : Fin k0_t1_loop.trips) : Fin 4 → Nat :=
  let c1_205 : Index := 1#32
  let c0_i32 : BitVec 32 := 0#32
  let c1_i32 : BitVec 32 := 1#32
  let arg14 : BitVec 32 := Scf.iv c0_i32 c1_i32 k0_t1
  let v417 : Index := Scalar.indexCast arg14
  let c0_206 : Index := 0#32
  ![1, v417.toNat, 0, 0]
def k0_off4 (k0_t1 : Fin k0_t1_loop.trips) : Fin 4 → Nat :=
  let c2_207 : Index := 2#32
  let c0_i32 : BitVec 32 := 0#32
  let c1_i32 : BitVec 32 := 1#32
  let arg14 : BitVec 32 := Scf.iv c0_i32 c1_i32 k0_t1
  let v420 : Index := Scalar.indexCast arg14
  let c0_208 : Index := 0#32
  ![2, v420.toNat, 0, 0]
def k0_off5 (k0_t1 : Fin k0_t1_loop.trips) : Fin 4 → Nat :=
  let c3_209 : Index := 3#32
  let c0_i32 : BitVec 32 := 0#32
  let c1_i32 : BitVec 32 := 1#32
  let arg14 : BitVec 32 := Scf.iv c0_i32 c1_i32 k0_t1
  let v423 : Index := Scalar.indexCast arg14
  let c0_210 : Index := 0#32
  ![3, v423.toNat, 0, 0]
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v466 : BitVec 32 := Scalar.muli arg14 c256_i32
  let c0_i32_219 : BitVec 32 := 0#32
  let v467 : BitVec 32 := Scalar.addi v466 c0_i32_219
  v467
def k0_off6 (k0_t1 : Fin k0_t1_loop.trips) (c0_i32_219 : BitVec 32) : Fin 2 → Nat :=
  let c0_i32 : BitVec 32 := 0#32
  let c1_i32 : BitVec 32 := 1#32
  let arg14 : BitVec 32 := Scf.iv c0_i32 c1_i32 k0_t1
  let c256_i32 : BitVec 32 := 256#32
  let v466 : BitVec 32 := Scalar.muli arg14 c256_i32
  let v467 : BitVec 32 := Scalar.addi v466 c0_i32_219
  let v468 : BitVec 32 := v467
  let v469 : Index := Scalar.indexCast v468
  let c0_220 : Index := 0#32
  ![v469.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_221 : BitVec 32 := 256#32
  let v473 : BitVec 32 := Scalar.muli arg14 c256_i32_221
  let c64_i32_222 : BitVec 32 := 64#32
  let v474 : BitVec 32 := Scalar.addi v473 c64_i32_222
  v474
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_224 : BitVec 32 := 256#32
  let v480 : BitVec 32 := Scalar.muli arg14 c256_i32_224
  let c128_i32_225 : BitVec 32 := 128#32
  let v481 : BitVec 32 := Scalar.addi v480 c128_i32_225
  v481
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32_227 : BitVec 32 := 256#32
  let v487 : BitVec 32 := Scalar.muli arg14 c256_i32_227
  let c192_i32 : BitVec 32 := 192#32
  let v488 : BitVec 32 := Scalar.addi v487 c192_i32
  v488
@[reducible] def k0_t2_loop : Scf.Loop 32 :=
  let c0_i32_182 : BitVec 32 := 0#32
  let c15_i32_183 : BitVec 32 := 15#32
  let v360 : BitVec 32 := Scalar.addi c0_i32_182 c15_i32_183
  let c1_i32_184 : BitVec 32 := 1#32
  ⟨c0_i32_182, v360, c1_i32_184⟩
def k0_off7 (k0_t2 : Fin k0_t2_loop.trips) : Fin 3 → Nat :=
  let c0_i32_182 : BitVec 32 := 0#32
  let c1_i32_184 : BitVec 32 := 1#32
  let arg14 : BitVec 32 := Scf.iv c0_i32_182 c1_i32_184 k0_t2
  let v401 : Index := Scalar.indexCast arg14
  let c0_199 : Index := 0#32
  let c0_200 : Index := 0#32
  ![v401.toNat, 0, 0]
def k0_off8 (k0_t2 : Fin k0_t2_loop.trips) : Fin 4 → Nat :=
  let c0_203 : Index := 0#32
  let c0_i32_182 : BitVec 32 := 0#32
  let c1_i32_184 : BitVec 32 := 1#32
  let arg14 : BitVec 32 := Scf.iv c0_i32_182 c1_i32_184 k0_t2
  let v414 : Index := Scalar.indexCast arg14
  let c0_204 : Index := 0#32
  ![0, v414.toNat, 0, 0]
def k0_off9 (k0_t2 : Fin k0_t2_loop.trips) : Fin 4 → Nat :=
  let c1_205 : Index := 1#32
  let c0_i32_182 : BitVec 32 := 0#32
  let c1_i32_184 : BitVec 32 := 1#32
  let arg14 : BitVec 32 := Scf.iv c0_i32_182 c1_i32_184 k0_t2
  let v417 : Index := Scalar.indexCast arg14
  let c0_206 : Index := 0#32
  ![1, v417.toNat, 0, 0]
def k0_off10 (k0_t2 : Fin k0_t2_loop.trips) : Fin 4 → Nat :=
  let c2_207 : Index := 2#32
  let c0_i32_182 : BitVec 32 := 0#32
  let c1_i32_184 : BitVec 32 := 1#32
  let arg14 : BitVec 32 := Scf.iv c0_i32_182 c1_i32_184 k0_t2
  let v420 : Index := Scalar.indexCast arg14
  let c0_208 : Index := 0#32
  ![2, v420.toNat, 0, 0]
def k0_off11 (k0_t2 : Fin k0_t2_loop.trips) : Fin 4 → Nat :=
  let c3_209 : Index := 3#32
  let c0_i32_182 : BitVec 32 := 0#32
  let c1_i32_184 : BitVec 32 := 1#32
  let arg14 : BitVec 32 := Scf.iv c0_i32_182 c1_i32_184 k0_t2
  let v423 : Index := Scalar.indexCast arg14
  let c0_210 : Index := 0#32
  ![3, v423.toNat, 0, 0]
def k0_mult5 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32 : BitVec 32 := 256#32
  let v466 : BitVec 32 := Scalar.muli arg14 c256_i32
  let c0_i32_219 : BitVec 32 := 0#32
  let v467 : BitVec 32 := Scalar.addi v466 c0_i32_219
  v467
def k0_off12 (k0_t2 : Fin k0_t2_loop.trips) (c0_i32_219 : BitVec 32) : Fin 2 → Nat :=
  let c0_i32_182 : BitVec 32 := 0#32
  let c1_i32_184 : BitVec 32 := 1#32
  let arg14 : BitVec 32 := Scf.iv c0_i32_182 c1_i32_184 k0_t2
  let c256_i32 : BitVec 32 := 256#32
  let v466 : BitVec 32 := Scalar.muli arg14 c256_i32
  let v467 : BitVec 32 := Scalar.addi v466 c0_i32_219
  let v468 : BitVec 32 := v467
  let v469 : Index := Scalar.indexCast v468
  let c0_220 : Index := 0#32
  ![v469.toNat, 0]
def k0_mult6 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32_221 : BitVec 32 := 256#32
  let v473 : BitVec 32 := Scalar.muli arg14 c256_i32_221
  let c64_i32_222 : BitVec 32 := 64#32
  let v474 : BitVec 32 := Scalar.addi v473 c64_i32_222
  v474
def k0_mult7 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32_224 : BitVec 32 := 256#32
  let v480 : BitVec 32 := Scalar.muli arg14 c256_i32_224
  let c128_i32_225 : BitVec 32 := 128#32
  let v481 : BitVec 32 := Scalar.addi v480 c128_i32_225
  v481
def k0_mult8 (k0_t2 : Fin k0_t2_loop.trips) : BitVec 32 :=
  let c0_i32_182 : BitVec 32 := 0#32
  let c1_i32_184 : BitVec 32 := 1#32
  let arg14 : BitVec 32 := Scf.iv c0_i32_182 c1_i32_184 k0_t2
  let c256_i32_227 : BitVec 32 := 256#32
  let v487 : BitVec 32 := Scalar.muli arg14 c256_i32_227
  let c192_i32 : BitVec 32 := 192#32
  let v488 : BitVec 32 := Scalar.addi v487 c192_i32
  v488
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S112x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S15x256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x15x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S15x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S15x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S15x256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x15x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S15x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S15x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S112x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GateUpRefIdeal.lean ====
abbrev S112x3840 : Shape := ⟨2, ![112, 3840]⟩
abbrev S15360x15x128 : Shape := ⟨3, ![15360, 15, 128]⟩
abbrev S15360x15x12 : Shape := ⟨3, ![15360, 15, 12]⟩
abbrev S15360x15 : Shape := ⟨2, ![15360, 15]⟩
abbrev S15360x15x4 : Shape := ⟨3, ![15360, 15, 4]⟩
abbrev S_ : Shape := ⟨0, ![]⟩
abbrev S15360x15x8 : Shape := ⟨3, ![15360, 15, 8]⟩
abbrev S15360x15x1 : Shape := ⟨3, ![15360, 15, 1]⟩
abbrev S15360x15x4x2 : Shape := ⟨4, ![15360, 15, 4, 2]⟩
abbrev S15360x15x4x32 : Shape := ⟨4, ![15360, 15, 4, 32]⟩
abbrev S15360x15x4x1 : Shape := ⟨4, ![15360, 15, 4, 1]⟩
abbrev S112x15x4x32x2 : Shape := ⟨5, ![112, 15, 4, 32, 2]⟩
abbrev S112x15x4x32x1 : Shape := ⟨5, ![112, 15, 4, 32, 1]⟩
abbrev S112x15x4x32 : Shape := ⟨4, ![112, 15, 4, 32]⟩
abbrev S112x15360 : Shape := ⟨2, ![112, 15360]⟩
abbrev S112x240x2x32 : Shape := ⟨4, ![112, 240, 2, 32]⟩
abbrev S112x240x32x2 : Shape := ⟨4, ![112, 240, 32, 2]⟩

abbrev nBuf : Space → Nat
  | .hbm => 167
  | .vmem => 0
  | .smem => 0
  | _ => 0

abbrev hbmTy0_0 (i : Nat) : BufTy := match i % 128 with
  | 0 => ⟨S112x3840, .bf16⟩
  | 1 => ⟨S15360x15x128, .i8⟩
  | 2 => ⟨S15360x15x12, .i8⟩
  | 3 => ⟨S15360x15, .bf16⟩
  | 4 => ⟨S15360x15, .bf16⟩
  | 5 => ⟨S15360x15x128, .i8⟩
  | 6 => ⟨S15360x15x12, .i8⟩
  | 7 => ⟨S15360x15, .bf16⟩
  | 8 => ⟨S15360x15, .bf16⟩
  | 9 => ⟨S15360x15x12, .i32⟩
  | 10 => ⟨S15360x15x128, .i32⟩
  | 11 => ⟨S15360x15x4, .i32⟩
  | 12 => ⟨S15360x15x4, .i32⟩
  | 13 => ⟨S15360x15x4, .i32⟩
  | 14 => ⟨S_, .i32⟩
  | 15 => ⟨S15360x15x4, .i32⟩
  | 16 => ⟨S15360x15x4, .i32⟩
  | 17 => ⟨S_, .i32⟩
  | 18 => ⟨S15360x15x4, .i32⟩
  | 19 => ⟨S15360x15x4, .i32⟩
  | 20 => ⟨S_, .i32⟩
  | 21 => ⟨S15360x15x4, .i32⟩
  | 22 => ⟨S15360x15x4, .i32⟩
  | 23 => ⟨S_, .i32⟩
  | 24 => ⟨S15360x15x4, .i32⟩
  | 25 => ⟨S15360x15x4, .i32⟩
  | 26 => ⟨S15360x15x4, .i32⟩
  | 27 => ⟨S15360x15x8, .i32⟩
  | 28 => ⟨S_, .i32⟩
  | 29 => ⟨S15360x15x4, .i32⟩
  | 30 => ⟨S15360x15x4, .i32⟩
  | 31 => ⟨S_, .i32⟩
  | 32 => ⟨S15360x15x4, .i32⟩
  | 33 => ⟨S15360x15x4, .i32⟩
  | 34 => ⟨S_, .i32⟩
  | 35 => ⟨S15360x15x4, .i32⟩
  | 36 => ⟨S15360x15x4, .i32⟩
  | 37 => ⟨S_, .i32⟩
  | 38 => ⟨S15360x15x4, .i32⟩
  | 39 => ⟨S15360x15x4, .i32⟩
  | 40 => ⟨S15360x15x4, .i32⟩
  | 41 => ⟨S15360x15x8, .i32⟩
  | 42 => ⟨S15360x15x1, .bf16⟩
  | 43 => ⟨S15360x15x8, .bf16⟩
  | 44 => ⟨S15360x15x8, .bf16⟩
  | 45 => ⟨S15360x15x8, .bf16⟩
  | 46 => ⟨S15360x15x4x2, .bf16⟩
  | 47 => ⟨S15360x15x1, .bf16⟩
  | 48 => ⟨S15360x15x8, .bf16⟩
  | 49 => ⟨S15360x15x8, .bf16⟩
  | 50 => ⟨S15360x15x8, .bf16⟩
  | 51 => ⟨S15360x15x4x2, .bf16⟩
  | 52 => ⟨S15360x15x4x32, .i32⟩
  | 53 => ⟨S_, .i32⟩
  | 54 => ⟨S15360x15x4x32, .i32⟩
  | 55 => ⟨S15360x15x4x32, .i32⟩
  | 56 => ⟨S15360x15x4x32, .bf16⟩
  | 57 => ⟨S15360x15x4x1, .bf16⟩
  | 58 => ⟨S15360x15x4x32, .bf16⟩
  | 59 => ⟨S15360x15x4x32, .bf16⟩
  | 60 => ⟨S15360x15x4x1, .bf16⟩
  | 61 => ⟨S15360x15x4x32, .bf16⟩
  | 62 => ⟨S15360x15x4x32, .bf16⟩
  | 63 => ⟨S_, .i32⟩
  | 64 => ⟨S15360x15x4x32, .i32⟩
  | 65 => ⟨S15360x15x4x32, .i32⟩
  | 66 => ⟨S15360x15x4x32, .bf16⟩
  | 67 => ⟨S15360x15x4x1, .bf16⟩
  | 68 => ⟨S15360x15x4x32, .bf16⟩
  | 69 => ⟨S15360x15x4x32, .bf16⟩
  | 70 => ⟨S15360x15x4x1, .bf16⟩
  | 71 => ⟨S15360x15x4x32, .bf16⟩
  | 72 => ⟨S15360x15x4x32, .bf16⟩
  | 73 => ⟨S112x15x4x32x2, .bf16⟩
  | 74 => ⟨S112x15x4x32x1, .bf16⟩
  | 75 => ⟨S112x15x4x32, .bf16⟩
  | 76 => ⟨S112x15360, .f32⟩
  | 77 => ⟨S112x15x4x32x1, .bf16⟩
  | 78 => ⟨S112x15x4x32, .bf16⟩
  | 79 => ⟨S112x15360, .f32⟩
  | 80 => ⟨S112x15360, .f32⟩
  | 81 => ⟨S15360x15x12, .i32⟩
  | 82 => ⟨S15360x15x128, .i32⟩
  | 83 => ⟨S15360x15x4, .i32⟩
  | 84 => ⟨S15360x15x4, .i32⟩
  | 85 => ⟨S15360x15x4, .i32⟩
  | 86 => ⟨S_, .i32⟩
  | 87 => ⟨S15360x15x4, .i32⟩
  | 88 => ⟨S15360x15x4, .i32⟩
  | 89 => ⟨S_, .i32⟩
  | 90 => ⟨S15360x15x4, .i32⟩
  | 91 => ⟨S15360x15x4, .i32⟩
  | 92 => ⟨S_, .i32⟩
  | 93 => ⟨S15360x15x4, .i32⟩
  | 94 => ⟨S15360x15x4, .i32⟩
  | 95 => ⟨S_, .i32⟩
  | 96 => ⟨S15360x15x4, .i32⟩
  | 97 => ⟨S15360x15x4, .i32⟩
  | 98 => ⟨S15360x15x4, .i32⟩
  | 99 => ⟨S15360x15x8, .i32⟩
  | 100 => ⟨S_, .i32⟩
  | 101 => ⟨S15360x15x4, .i32⟩
  | 102 => ⟨S15360x15x4, .i32⟩
  | 103 => ⟨S_, .i32⟩
  | 104 => ⟨S15360x15x4, .i32⟩
  | 105 => ⟨S15360x15x4, .i32⟩
  | 106 => ⟨S_, .i32⟩
  | 107 => ⟨S15360x15x4, .i32⟩
  | 108 => ⟨S15360x15x4, .i32⟩
  | 109 => ⟨S_, .i32⟩
  | 110 => ⟨S15360x15x4, .i32⟩
  | 111 => ⟨S15360x15x4, .i32⟩
  | 112 => ⟨S15360x15x4, .i32⟩
  | 113 => ⟨S15360x15x8, .i32⟩
  | 114 => ⟨S15360x15x1, .bf16⟩
  | 115 => ⟨S15360x15x8, .bf16⟩
  | 116 => ⟨S15360x15x8, .bf16⟩
  | 117 => ⟨S15360x15x8, .bf16⟩
  | 118 => ⟨S15360x15x4x2, .bf16⟩
  | 119 => ⟨S15360x15x1, .bf16⟩
  | 120 => ⟨S15360x15x8, .bf16⟩
  | 121 => ⟨S15360x15x8, .bf16⟩
  | 122 => ⟨S15360x15x8, .bf16⟩
  | 123 => ⟨S15360x15x4x2, .bf16⟩
  | 124 => ⟨S15360x15x4x32, .i32⟩
  | 125 => ⟨S_, .i32⟩
  | 126 => ⟨S15360x15x4x32, .i32⟩
  | 127 => ⟨S15360x15x4x32, .i32⟩
  | _ => ⟨S112x3840, .bf16⟩

abbrev hbmTy0_1 (i : Nat) : BufTy := match i % 128 with
  | 0 => ⟨S15360x15x4x32, .bf16⟩
  | 1 => ⟨S15360x15x4x1, .bf16⟩
  | 2 => ⟨S15360x15x4x32, .bf16⟩
  | 3 => ⟨S15360x15x4x32, .bf16⟩
  | 4 => ⟨S15360x15x4x1, .bf16⟩
  | 5 => ⟨S15360x15x4x32, .bf16⟩
  | 6 => ⟨S15360x15x4x32, .bf16⟩
  | 7 => ⟨S_, .i32⟩
  | 8 => ⟨S15360x15x4x32, .i32⟩
  | 9 => ⟨S15360x15x4x32, .i32⟩
  | 10 => ⟨S15360x15x4x32, .bf16⟩
  | 11 => ⟨S15360x15x4x1, .bf16⟩
  | 12 => ⟨S15360x15x4x32, .bf16⟩
  | 13 => ⟨S15360x15x4x32, .bf16⟩
  | 14 => ⟨S15360x15x4x1, .bf16⟩
  | 15 => ⟨S15360x15x4x32, .bf16⟩
  | 16 => ⟨S15360x15x4x32, .bf16⟩
  | 17 => ⟨S112x15x4x32x2, .bf16⟩
  | 18 => ⟨S112x15x4x32x1, .bf16⟩
  | 19 => ⟨S112x15x4x32, .bf16⟩
  | 20 => ⟨S112x15360, .f32⟩
  | 21 => ⟨S112x15x4x32x1, .bf16⟩
  | 22 => ⟨S112x15x4x32, .bf16⟩
  | 23 => ⟨S112x15360, .f32⟩
  | 24 => ⟨S112x15360, .f32⟩
  | 25 => ⟨S112x15360, .f32⟩
  | 26 => ⟨S112x15360, .f32⟩
  | 27 => ⟨S_, .f32⟩
  | 28 => ⟨S112x15360, .f32⟩
  | 29 => ⟨S112x15360, .f32⟩
  | 30 => ⟨S_, .f32⟩
  | 31 => ⟨S112x15360, .f32⟩
  | 32 => ⟨S112x15360, .f32⟩
  | 33 => ⟨S112x15360, .f32⟩
  | 34 => ⟨S112x15360, .f32⟩
  | 35 => ⟨S112x15360, .bf16⟩
  | 36 => ⟨S112x240x2x32, .bf16⟩
  | 37 => ⟨S112x240x32x2, .bf16⟩
  | 38 => ⟨S112x15360, .bf16⟩
  | _ => ⟨S112x3840, .bf16⟩

abbrev hbmTy (i : Nat) : BufTy := match i / 128 with
  | 0 => hbmTy0_0 i
  | 1 => hbmTy0_1 i
  | _ => ⟨S112x3840, .bf16⟩

abbrev bufTy : (tb : Table) → Fin (tcTables nBuf tb) → BufTy
  | .hbm, ⟨i, _⟩ => hbmTy i
  | _, _ => ⟨S112x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_9 : Ref sig .tc := ⟨.hbm, 86, rfl⟩
abbrev main_v67 : Ref sig .tc := ⟨.hbm, 87, rfl⟩
abbrev main_v68 : Ref sig .tc := ⟨.hbm, 88, rfl⟩
abbrev main_c_10 : Ref sig .tc := ⟨.hbm, 89, rfl⟩
abbrev main_v69 : Ref sig .tc := ⟨.hbm, 90, rfl⟩
abbrev main_v70 : Ref sig .tc := ⟨.hbm, 91, rfl⟩
abbrev main_c_11 : Ref sig .tc := ⟨.hbm, 92, rfl⟩
abbrev main_v71 : Ref sig .tc := ⟨.hbm, 93, rfl⟩
abbrev main_v72 : Ref sig .tc := ⟨.hbm, 94, rfl⟩
abbrev main_c_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_13 : Ref sig .tc := ⟨.hbm, 100, rfl⟩
abbrev main_v77 : Ref sig .tc := ⟨.hbm, 101, rfl⟩
abbrev main_v78 : Ref sig .tc := ⟨.hbm, 102, rfl⟩
abbrev main_c_14 : Ref sig .tc := ⟨.hbm, 103, rfl⟩
abbrev main_v79 : Ref sig .tc := ⟨.hbm, 104, rfl⟩
abbrev main_v80 : Ref sig .tc := ⟨.hbm, 105, rfl⟩
abbrev main_c_15 : Ref sig .tc := ⟨.hbm, 106, rfl⟩
abbrev main_v81 : Ref sig .tc := ⟨.hbm, 107, rfl⟩
abbrev main_v82 : Ref sig .tc := ⟨.hbm, 108, rfl⟩
abbrev main_c_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_17 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_18 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_call0_v0 : Ref sig .tc := ⟨.hbm, 153, rfl⟩
abbrev main_call0_v1 : Ref sig .tc := ⟨.hbm, 154, rfl⟩
abbrev main_call0_cst : Ref sig .tc := ⟨.hbm, 155, rfl⟩
abbrev main_call0_v2 : Ref sig .tc := ⟨.hbm, 156, rfl⟩
abbrev main_call0_v3 : Ref sig .tc := ⟨.hbm, 157, rfl⟩
abbrev main_call0_cst_0 : Ref sig .tc := ⟨.hbm, 158, rfl⟩
abbrev main_call0_v4 : Ref sig .tc := ⟨.hbm, 159, rfl⟩
abbrev main_call0_v5 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩

abbrev nD : Nat := 1
abbrev τ : Topo := Topo.v7x

variable {F : FTy → Type} [FloatOps F]
-- ==== Down.lean ====
abbrev S112x15360 : Shape := ⟨2, ![112, 15360]⟩
abbrev S112x3840 : Shape := ⟨2, ![112, 3840]⟩
abbrev S3840x60x128 : Shape := ⟨3, ![3840, 60, 128]⟩
abbrev S3840x60x12 : Shape := ⟨3, ![3840, 60, 12]⟩
abbrev S3840x60 : Shape := ⟨2, ![3840, 60]⟩
abbrev S60x3840x128 : Shape := ⟨3, ![60, 3840, 128]⟩
abbrev S12x60x3840 : Shape := ⟨3, ![12, 60, 3840]⟩
abbrev S60x3840 : Shape := ⟨2, ![60, 3840]⟩
abbrev S60x256x128 : Shape := ⟨3, ![60, 256, 128]⟩
abbrev S12x60x256 : Shape := ⟨3, ![12, 60, 256]⟩
abbrev S60x256 : Shape := ⟨2, ![60, 256]⟩
abbrev S112x256 : Shape := ⟨2, ![112, 256]⟩
abbrev S15360x256 : Shape := ⟨2, ![15360, 256]⟩
abbrev S4x60x256 : Shape := ⟨3, ![4, 60, 256]⟩
abbrev S1x60x256 : Shape := ⟨3, ![1, 60, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S64x256 : Shape := ⟨2, ![64, 256]⟩
abbrev S32x256 : Shape := ⟨2, ![32, 256]⟩

abbrev nBuf : Space → Nat
  | .hbm => 11
  | .vmem => 16
  | .smem => 0
  | _ => 0

abbrev bufTy : (tb : Table) → Fin (tcTables nBuf tb) → BufTy
  | .hbm, ⟨0, _⟩ => ⟨S112x15360, .bf16⟩
  | .hbm, ⟨1, _⟩ => ⟨S112x3840, .f32⟩
  | .hbm, ⟨2, _⟩ => ⟨S3840x60x128, .i8⟩
  | .hbm, ⟨3, _⟩ => ⟨S3840x60x12, .i8⟩
  | .hbm, ⟨4, _⟩ => ⟨S3840x60, .bf16⟩
  | .hbm, ⟨5, _⟩ => ⟨S3840x60, .bf16⟩
  | .hbm, ⟨6, _⟩ => ⟨S60x3840x128, .i8⟩
  | .hbm, ⟨7, _⟩ => ⟨S12x60x3840, .i8⟩
  | .hbm, ⟨8, _⟩ => ⟨S60x3840, .bf16⟩
  | .hbm, ⟨9, _⟩ => ⟨S60x3840, .bf16⟩
  | .hbm, ⟨10, _⟩ => ⟨S112x3840, .bf16⟩
  | .local _ .vmem, ⟨0, _⟩ => ⟨S112x15360, .bf16⟩
  | .local _ .vmem, ⟨1, _⟩ => ⟨S60x256x128, .i8⟩
  | .local _ .vmem, ⟨2, _⟩ => ⟨S60x256x128, .i8⟩
  | .local _ .vmem, ⟨3, _⟩ => ⟨S12x60x256, .i8⟩
  | .local _ .vmem, ⟨4, _⟩ => ⟨S12x60x256, .i8⟩
  | .local _ .vmem, ⟨5, _⟩ => ⟨S60x256, .bf16⟩
  | .local _ .vmem, ⟨6, _⟩ => ⟨S60x256, .bf16⟩
  | .local _ .vmem, ⟨7, _⟩ => ⟨S60x256, .bf16⟩
  | .local _ .vmem, ⟨8, _⟩ => ⟨S60x256, .bf16⟩
  | .local _ .vmem, ⟨9, _⟩ => ⟨S112x256, .f32⟩
  | .local _ .vmem, ⟨10, _⟩ => ⟨S112x256, .f32⟩
  | .local _ .vmem, ⟨11, _⟩ => ⟨S112x256, .bf16⟩
  | .local _ .vmem, ⟨12, _⟩ => ⟨S112x256, .bf16⟩
  | .local _ .vmem, ⟨13, _⟩ => ⟨S15360x256, .bf16⟩
  | .local _ .vmem, ⟨14, _⟩ => ⟨S4x60x256, .i32⟩
  | .local _ .vmem, ⟨15, _⟩ => ⟨S4x60x256, .i32⟩
  | _, _ => ⟨S112x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![15], ![false]⟩

@[reducible] def k0_t1_loop : Scf.Loop 32 :=
  let c0_i32 : BitVec 32 := 0#32
  let c60_i32 : BitVec 32 := 60#32
  let v178 : BitVec 32 := Scalar.addi c0_i32 c60_i32
  let c1_i32 : BitVec 32 := 1#32
  ⟨c0_i32, v178, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v186 : Index := Scalar.indexCast arg11
  let c0_89 : Index := 0#32
  let c0_90 : Index := 0#32
  ![v186.toNat, 0, 0]
def k0_off2 (k0_t1 : Fin k0_t1_loop.trips) : Fin 3 → Nat :=
  let c0_93 : Index := 0#32
  let c0_i32 : BitVec 32 := 0#32
  let c1_i32 : BitVec 32 := 1#32
  let arg11 : BitVec 32 := Scf.iv c0_i32 c1_i32 k0_t1
  let v199 : Index := Scalar.indexCast arg11
  let c0_94 : Index := 0#32
  ![0, v199.toNat, 0]
def k0_off3 (k0_t1 : Fin k0_t1_loop.trips) : Fin 3 → Nat :=
  let c1_95 : Index := 1#32
  let c0_i32 : BitVec 32 := 0#32
  let c1_i32 : BitVec 32 := 1#32
  let arg11 : BitVec 32 := Scf.iv c0_i32 c1_i32 k0_t1
  let v202 : Index := Scalar.indexCast arg11
  let c0_96 : Index := 0#32
  ![1, v202.toNat, 0]
def k0_off4 (k0_t1 : Fin k0_t1_loop.trips) : Fin 3 → Nat :=
  let c2_97 : Index := 2#32
  let c0_i32 : BitVec 32 := 0#32
  let c1_i32 : BitVec 32 := 1#32
  let arg11 : BitVec 32 := Scf.iv c0_i32 c1_i32 k0_t1
  let v205 : Index := Scalar.indexCast arg11
  let c0_98 : Index := 0#32
  ![2, v205.toNat, 0]
def k0_off5 (k0_t1 : Fin k0_t1_loop.trips) : Fin 3 → Nat :=
  let c3_99 : Index := 3#32
  let c0_i32 : BitVec 32 := 0#32
  let c1_i32 : BitVec 32 := 1#32
  let arg11 : BitVec 32 := Scf.iv c0_i32 c1_i32 k0_t1
  let v208 : Index := Scalar.indexCast arg11
  let c0_100 : Index := 0#32
  ![3, v208.toNat, 0]
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v251 : BitVec 32 := Scalar.muli arg11 c256_i32
  let c0_i32_109 : BitVec 32 := 0#32
  let v252 : BitVec 32 := Scalar.addi v251 c0_i32_109
  v252
def k0_off6 (k0_t1 : Fin k0_t1_loop.trips) (c0_i32_109 : BitVec 32) : Fin 2 → Nat :=
  let c0_i32 : BitVec 32 := 0#32
  let c1_i32 : BitVec 32 := 1#32
  let arg11 : BitVec 32 := Scf.iv c0_i32 c1_i32 k0_t1
  let c256_i32 : BitVec 32 := 256#32
  let v251 : BitVec 32 := Scalar.muli arg11 c256_i32
  let v252 : BitVec 32 := Scalar.addi v251 c0_i32_109
  let v253 : BitVec 32 := v252
  let v254 : Index := Scalar.indexCast v253
  let c0_110 : Index := 0#32
  ![v254.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_111 : BitVec 32 := 256#32
  let v258 : BitVec 32 := Scalar.muli arg11 c256_i32_111
  let c64_i32 : BitVec 32 := 64#32
  let v259 : BitVec 32 := Scalar.addi v258 c64_i32
  v259
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_113 : BitVec 32 := 256#32
  let v265 : BitVec 32 := Scalar.muli arg11 c256_i32_113
  let c128_i32 : BitVec 32 := 128#32
  let v266 : BitVec 32 := Scalar.addi v265 c128_i32
  v266
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_115 : BitVec 32 := 256#32
  let v272 : BitVec 32 := Scalar.muli arg11 c256_i32_115
  let c192_i32 : BitVec 32 := 192#32
  let v273 : BitVec 32 := Scalar.addi v272 c192_i32
  v273
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S112x15360 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S60x256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x60x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S60x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S60x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownIdeal.lean ====
abbrev S112x15360 : Shape := ⟨2, ![112, 15360]⟩
abbrev S112x3840 : Shape := ⟨2, ![112, 3840]⟩
abbrev S3840x60x128 : Shape := ⟨3, ![3840, 60, 128]⟩
abbrev S3840x60x12 : Shape := ⟨3, ![3840, 60, 12]⟩
abbrev S3840x60 : Shape := ⟨2, ![3840, 60]⟩
abbrev S60x3840x128 : Shape := ⟨3, ![60, 3840, 128]⟩
abbrev S12x60x3840 : Shape := ⟨3, ![12, 60, 3840]⟩
abbrev S60x3840 : Shape := ⟨2, ![60, 3840]⟩
abbrev S60x256x128 : Shape := ⟨3, ![60, 256, 128]⟩
abbrev S12x60x256 : Shape := ⟨3, ![12, 60, 256]⟩
abbrev S60x256 : Shape := ⟨2, ![60, 256]⟩
abbrev S112x256 : Shape := ⟨2, ![112, 256]⟩
abbrev S15360x256 : Shape := ⟨2, ![15360, 256]⟩
abbrev S4x60x256 : Shape := ⟨3, ![4, 60, 256]⟩
abbrev S4x60x2x256 : Shape := ⟨4, ![4, 60, 2, 256]⟩
abbrev S4x60x1x256 : Shape := ⟨4, ![4, 60, 1, 256]⟩
abbrev S1x60x256 : Shape := ⟨3, ![1, 60, 256]⟩
abbrev S1x60x2x256 : Shape := ⟨4, ![1, 60, 2, 256]⟩
abbrev S1x60x1x256 : Shape := ⟨4, ![1, 60, 1, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x1x256 : Shape := ⟨3, ![1, 1, 256]⟩
abbrev S1x1x2x256 : Shape := ⟨4, ![1, 1, 2, 256]⟩
abbrev S1x1x1x256 : Shape := ⟨4, ![1, 1, 1, 256]⟩
abbrev S1x256 : Shape := ⟨2, ![1, 256]⟩
abbrev S64x256 : Shape := ⟨2, ![64, 256]⟩
abbrev S32x256 : Shape := ⟨2, ![32, 256]⟩

abbrev nBuf : Space → Nat
  | .hbm => 11
  | .vmem => 16
  | .smem => 0
  | _ => 0

abbrev bufTy : (tb : Table) → Fin (tcTables nBuf tb) → BufTy
  | .hbm, ⟨0, _⟩ => ⟨S112x15360, .bf16⟩
  | .hbm, ⟨1, _⟩ => ⟨S112x3840, .f32⟩
  | .hbm, ⟨2, _⟩ => ⟨S3840x60x128, .i8⟩
  | .hbm, ⟨3, _⟩ => ⟨S3840x60x12, .i8⟩
  | .hbm, ⟨4, _⟩ => ⟨S3840x60, .bf16⟩
  | .hbm, ⟨5, _⟩ => ⟨S3840x60, .bf16⟩
  | .hbm, ⟨6, _⟩ => ⟨S60x3840x128, .i8⟩
  | .hbm, ⟨7, _⟩ => ⟨S12x60x3840, .i8⟩
  | .hbm, ⟨8, _⟩ => ⟨S60x3840, .bf16⟩
  | .hbm, ⟨9, _⟩ => ⟨S60x3840, .bf16⟩
  | .hbm, ⟨10, _⟩ => ⟨S112x3840, .bf16⟩
  | .local _ .vmem, ⟨0, _⟩ => ⟨S112x15360, .bf16⟩
  | .local _ .vmem, ⟨1, _⟩ => ⟨S60x256x128, .i8⟩
  | .local _ .vmem, ⟨2, _⟩ => ⟨S60x256x128, .i8⟩
  | .local _ .vmem, ⟨3, _⟩ => ⟨S12x60x256, .i8⟩
  | .local _ .vmem, ⟨4, _⟩ => ⟨S12x60x256, .i8⟩
  | .local _ .vmem, ⟨5, _⟩ => ⟨S60x256, .bf16⟩
  | .local _ .vmem, ⟨6, _⟩ => ⟨S60x256, .bf16⟩
  | .local _ .vmem, ⟨7, _⟩ => ⟨S60x256, .bf16⟩
  | .local _ .vmem, ⟨8, _⟩ => ⟨S60x256, .bf16⟩
  | .local _ .vmem, ⟨9, _⟩ => ⟨S112x256, .f32⟩
  | .local _ .vmem, ⟨10, _⟩ => ⟨S112x256, .f32⟩
  | .local _ .vmem, ⟨11, _⟩ => ⟨S112x256, .bf16⟩
  | .local _ .vmem, ⟨12, _⟩ => ⟨S112x256, .bf16⟩
  | .local _ .vmem, ⟨13, _⟩ => ⟨S15360x256, .bf16⟩
  | .local _ .vmem, ⟨14, _⟩ => ⟨S4x60x2x256, .bf16⟩
  | .local _ .vmem, ⟨15, _⟩ => ⟨S4x60x2x256, .bf16⟩
  | _, _ => ⟨S112x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![15], ![false]⟩

@[reducible] def k0_t1_loop : Scf.Loop 32 :=
  let c0_i32 : BitVec 32 := 0#32
  let c60_i32 : BitVec 32 := 60#32
  let v178 : BitVec 32 := Scalar.addi c0_i32 c60_i32
  let c1_i32 : BitVec 32 := 1#32
  ⟨c0_i32, v178, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v186 : Index := Scalar.indexCast arg11
  let c0_89 : Index := 0#32
  let c0_90 : Index := 0#32
  ![v186.toNat, 0, 0]
def k0_off2 (k0_t1 : Fin k0_t1_loop.trips) : Fin 4 → Nat :=
  let c0_93 : Index := 0#32
  let c0_i32 : BitVec 32 := 0#32
  let c1_i32 : BitVec 32 := 1#32
  let arg11 : BitVec 32 := Scf.iv c0_i32 c1_i32 k0_t1
  let v199 : Index := Scalar.indexCast arg11
  let c0_94 : Index := 0#32
  ![0, v199.toNat, 0, 0]
def k0_off3 (k0_t1 : Fin k0_t1_loop.trips) : Fin 4 → Nat :=
  let c1_95 : Index := 1#32
  let c0_i32 : BitVec 32 := 0#32
  let c1_i32 : BitVec 32 := 1#32
  let arg11 : BitVec 32 := Scf.iv c0_i32 c1_i32 k0_t1
  let v202 : Index := Scalar.indexCast arg11
  let c0_96 : Index := 0#32
  ![1, v202.toNat, 0, 0]
def k0_off4 (k0_t1 : Fin k0_t1_loop.trips) : Fin 4 → Nat :=
  let c2_97 : Index := 2#32
  let c0_i32 : BitVec 32 := 0#32
  let c1_i32 : BitVec 32 := 1#32
  let arg11 : BitVec 32 := Scf.iv c0_i32 c1_i32 k0_t1
  let v205 : Index := Scalar.indexCast arg11
  let c0_98 : Index := 0#32
  ![2, v205.toNat, 0, 0]
def k0_off5 (k0_t1 : Fin k0_t1_loop.trips) : Fin 4 → Nat :=
  let c3_99 : Index := 3#32
  let c0_i32 : BitVec 32 := 0#32
  let c1_i32 : BitVec 32 := 1#32
  let arg11 : BitVec 32 := Scf.iv c0_i32 c1_i32 k0_t1
  let v208 : Index := Scalar.indexCast arg11
  let c0_100 : Index := 0#32
  ![3, v208.toNat, 0, 0]
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v251 : BitVec 32 := Scalar.muli arg11 c256_i32
  let c0_i32_109 : BitVec 32 := 0#32
  let v252 : BitVec 32 := Scalar.addi v251 c0_i32_109
  v252
def k0_off6 (k0_t1 : Fin k0_t1_loop.trips) (c0_i32_109 : BitVec 32) : Fin 2 → Nat :=
  let c0_i32 : BitVec 32 := 0#32
  let c1_i32 : BitVec 32 := 1#32
  let arg11 : BitVec 32 := Scf.iv c0_i32 c1_i32 k0_t1
  let c256_i32 : BitVec 32 := 256#32
  let v251 : BitVec 32 := Scalar.muli arg11 c256_i32
  let v252 : BitVec 32 := Scalar.addi v251 c0_i32_109
  let v253 : BitVec 32 := v252
  let v254 : Index := Scalar.indexCast v253
  let c0_110 : Index := 0#32
  ![v254.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_111 : BitVec 32 := 256#32
  let v258 : BitVec 32 := Scalar.muli arg11 c256_i32_111
  let c64_i32 : BitVec 32 := 64#32
  let v259 : BitVec 32 := Scalar.addi v258 c64_i32
  v259
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_113 : BitVec 32 := 256#32
  let v265 : BitVec 32 := Scalar.muli arg11 c256_i32_113
  let c128_i32 : BitVec 32 := 128#32
  let v266 : BitVec 32 := Scalar.addi v265 c128_i32
  v266
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_115 : BitVec 32 := 256#32
  let v272 : BitVec 32 := Scalar.muli arg11 c256_i32_115
  let c192_i32 : BitVec 32 := 192#32
  let v273 : BitVec 32 := Scalar.addi v272 c192_i32
  v273
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S112x15360 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S60x256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x60x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S60x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S60x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S112x15360 : Shape := ⟨2, ![112, 15360]⟩
abbrev S112x3840 : Shape := ⟨2, ![112, 3840]⟩
abbrev S3840x60x128 : Shape := ⟨3, ![3840, 60, 128]⟩
abbrev S3840x60x12 : Shape := ⟨3, ![3840, 60, 12]⟩
abbrev S3840x60 : Shape := ⟨2, ![3840, 60]⟩
abbrev S3840x60x4 : Shape := ⟨3, ![3840, 60, 4]⟩
abbrev S_ : Shape := ⟨0, ![]⟩
abbrev S3840x60x8 : Shape := ⟨3, ![3840, 60, 8]⟩
abbrev S3840x60x1 : Shape := ⟨3, ![3840, 60, 1]⟩
abbrev S3840x60x4x2 : Shape := ⟨4, ![3840, 60, 4, 2]⟩
abbrev S3840x60x4x32 : Shape := ⟨4, ![3840, 60, 4, 32]⟩
abbrev S3840x60x4x1 : Shape := ⟨4, ![3840, 60, 4, 1]⟩
abbrev S112x60x4x32x2 : Shape := ⟨5, ![112, 60, 4, 32, 2]⟩
abbrev S112x60x4x32x1 : Shape := ⟨5, ![112, 60, 4, 32, 1]⟩
abbrev S112x60x4x32 : Shape := ⟨4, ![112, 60, 4, 32]⟩

abbrev nBuf : Space → Nat
  | .hbm => 80
  | .vmem => 0
  | .smem => 0
  | _ => 0

abbrev bufTy : (tb : Table) → Fin (tcTables nBuf tb) → BufTy
  | .hbm, ⟨0, _⟩ => ⟨S112x15360, .bf16⟩
  | .hbm, ⟨1, _⟩ => ⟨S112x3840, .f32⟩
  | .hbm, ⟨2, _⟩ => ⟨S3840x60x128, .i8⟩
  | .hbm, ⟨3, _⟩ => ⟨S3840x60x12, .i8⟩
  | .hbm, ⟨4, _⟩ => ⟨S3840x60, .bf16⟩
  | .hbm, ⟨5, _⟩ => ⟨S3840x60, .bf16⟩
  | .hbm, ⟨6, _⟩ => ⟨S3840x60x12, .i32⟩
  | .hbm, ⟨7, _⟩ => ⟨S3840x60x128, .i32⟩
  | .hbm, ⟨8, _⟩ => ⟨S3840x60x4, .i32⟩
  | .hbm, ⟨9, _⟩ => ⟨S3840x60x4, .i32⟩
  | .hbm, ⟨10, _⟩ => ⟨S3840x60x4, .i32⟩
  | .hbm, ⟨11, _⟩ => ⟨S_, .i32⟩
  | .hbm, ⟨12, _⟩ => ⟨S3840x60x4, .i32⟩
  | .hbm, ⟨13, _⟩ => ⟨S3840x60x4, .i32⟩
  | .hbm, ⟨14, _⟩ => ⟨S_, .i32⟩
  | .hbm, ⟨15, _⟩ => ⟨S3840x60x4, .i32⟩
  | .hbm, ⟨16, _⟩ => ⟨S3840x60x4, .i32⟩
  | .hbm, ⟨17, _⟩ => ⟨S_, .i32⟩
  | .hbm, ⟨18, _⟩ => ⟨S3840x60x4, .i32⟩
  | .hbm, ⟨19, _⟩ => ⟨S3840x60x4, .i32⟩
  | .hbm, ⟨20, _⟩ => ⟨S_, .i32⟩
  | .hbm, ⟨21, _⟩ => ⟨S3840x60x4, .i32⟩
  | .hbm, ⟨22, _⟩ => ⟨S3840x60x4, .i32⟩
  | .hbm, ⟨23, _⟩ => ⟨S3840x60x4, .i32⟩
  | .hbm, ⟨24, _⟩ => ⟨S3840x60x8, .i32⟩
  | .hbm, ⟨25, _⟩ => ⟨S_, .i32⟩
  | .hbm, ⟨26, _⟩ => ⟨S3840x60x4, .i32⟩
  | .hbm, ⟨27, _⟩ => ⟨S3840x60x4, .i32⟩
  | .hbm, ⟨28, _⟩ => ⟨S_, .i32⟩
  | .hbm, ⟨29, _⟩ => ⟨S3840x60x4, .i32⟩
  | .hbm, ⟨30, _⟩ => ⟨S3840x60x4, .i32⟩
  | .hbm, ⟨31, _⟩ => ⟨S_, .i32⟩
  | .hbm, ⟨32, _⟩ => ⟨S3840x60x4, .i32⟩
  | .hbm, ⟨33, _⟩ => ⟨S3840x60x4, .i32⟩
  | .hbm, ⟨34, _⟩ => ⟨S_, .i32⟩
  | .hbm, ⟨35, _⟩ => ⟨S3840x60x4, .i32⟩
  | .hbm, ⟨36, _⟩ => ⟨S3840x60x4, .i32⟩
  | .hbm, ⟨37, _⟩ => ⟨S3840x60x4, .i32⟩
  | .hbm, ⟨38, _⟩ => ⟨S3840x60x8, .i32⟩
  | .hbm, ⟨39, _⟩ => ⟨S3840x60x1, .bf16⟩
  | .hbm, ⟨40, _⟩ => ⟨S3840x60x8, .bf16⟩
  | .hbm, ⟨41, _⟩ => ⟨S3840x60x8, .bf16⟩
  | .hbm, ⟨42, _⟩ => ⟨S3840x60x8, .bf16⟩
  | .hbm, ⟨43, _⟩ => ⟨S3840x60x4x2, .bf16⟩
  | .hbm, ⟨44, _⟩ => ⟨S3840x60x1, .bf16⟩
  | .hbm, ⟨45, _⟩ => ⟨S3840x60x8, .bf16⟩
  | .hbm, ⟨46, _⟩ => ⟨S3840x60x8, .bf16⟩
  | .hbm, ⟨47, _⟩ => ⟨S3840x60x8, .bf16⟩
  | .hbm, ⟨48, _⟩ => ⟨S3840x60x4x2, .bf16⟩
  | .hbm, ⟨49, _⟩ => ⟨S3840x60x4x32, .i32⟩
  | .hbm, ⟨50, _⟩ => ⟨S_, .i32⟩
  | .hbm, ⟨51, _⟩ => ⟨S3840x60x4x32, .i32⟩
  | .hbm, ⟨52, _⟩ => ⟨S3840x60x4x32, .i32⟩
  | .hbm, ⟨53, _⟩ => ⟨S3840x60x4x32, .bf16⟩
  | .hbm, ⟨54, _⟩ => ⟨S3840x60x4x1, .bf16⟩
  | .hbm, ⟨55, _⟩ => ⟨S3840x60x4x32, .bf16⟩
  | .hbm, ⟨56, _⟩ => ⟨S3840x60x4x32, .bf16⟩
  | .hbm, ⟨57, _⟩ => ⟨S3840x60x4x1, .bf16⟩
  | .hbm, ⟨58, _⟩ => ⟨S3840x60x4x32, .bf16⟩
  | .hbm, ⟨59, _⟩ => ⟨S3840x60x4x32, .bf16⟩
  | .hbm, ⟨60, _⟩ => ⟨S_, .i32⟩
  | .hbm, ⟨61, _⟩ => ⟨S3840x60x4x32, .i32⟩
  | .hbm, ⟨62, _⟩ => ⟨S3840x60x4x32, .i32⟩
  | .hbm, ⟨63, _⟩ => ⟨S3840x60x4x32, .bf16⟩
  | .hbm, ⟨64, _⟩ => ⟨S3840x60x4x1, .bf16⟩
  | .hbm, ⟨65, _⟩ => ⟨S3840x60x4x32, .bf16⟩
  | .hbm, ⟨66, _⟩ => ⟨S3840x60x4x32, .bf16⟩
  | .hbm, ⟨67, _⟩ => ⟨S3840x60x4x1, .bf16⟩
  | .hbm, ⟨68, _⟩ => ⟨S3840x60x4x32, .bf16⟩
  | .hbm, ⟨69, _⟩ => ⟨S3840x60x4x32, .bf16⟩
  | .hbm, ⟨70, _⟩ => ⟨S112x60x4x32x2, .bf16⟩
  | .hbm, ⟨71, _⟩ => ⟨S112x60x4x32x1, .bf16⟩
  | .hbm, ⟨72, _⟩ => ⟨S112x60x4x32, .bf16⟩
  | .hbm, ⟨73, _⟩ => ⟨S112x3840, .f32⟩
  | .hbm, ⟨74, _⟩ => ⟨S112x60x4x32x1, .bf16⟩
  | .hbm, ⟨75, _⟩ => ⟨S112x60x4x32, .bf16⟩
  | .hbm, ⟨76, _⟩ => ⟨S112x3840, .f32⟩
  | .hbm, ⟨77, _⟩ => ⟨S112x3840, .f32⟩
  | .hbm, ⟨78, _⟩ => ⟨S112x3840, .f32⟩
  | .hbm, ⟨79, _⟩ => ⟨S112x3840, .bf16⟩
  | _, _ => ⟨S112x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Proof.Weights.lean ====
module

public import Idealize.ShloMosaic.Lib.Pointwise
public import Idealize.ShloMosaic.Lib.Pipeline.FrameBody
public import Idealize.ShloMosaic.Lib.Pipeline.Value

/-!
The 4-bit weight format, in plain words.  A super-block is 256 weights of one output column: 128 bytes of two
4-bit codes each, 12 bytes packing eight 6-bit scales and eight 6-bit offsets, and two factors.  `weight` is the value
of one weight, at its place in the order the kernel lays the rows out in (row `64 g + 2 i + p` of a super-block holds
nibble `p` of byte `32 g + i`).  `sum_rows` splits a contraction over all the rows into the sum over the low
nibbles and the sum over the high nibbles, which is how the reference writes it.
-/

@[expose] public section

set_option maxRecDepth 16384

noncomputable section

namespace Cert.Weights

open Idealize.ShloMosaic

/-- A byte as a 32-bit word. -/
def byte (b : BitVec 8) : BitVec 32 := BitVec.setWidth 32 b

/-- The low (`p = 0`) or high nibble of a byte. -/
def nib (b : BitVec 8) (p : Nat) : BitVec 32 :=
  if p = 0 then IntOp.andi (byte b) 15#32 else IntOp.shrsi .vector (byte b) 4#32

/-- A word as a number. -/
def num (v : BitVec 32) : EReal := FloatOps.sitofp (F := Ideal) .f32 v

/-- The upper two bits of a byte, as bits 4 and 5 of a 6-bit number. -/
def top (b : BitVec 8) : BitVec 32 := IntOp.shli .vector (IntOp.shrsi .vector (byte b) 6#32) 4#32

/-- The `j`-th 6-bit scale of a super-block's 12 bytes. -/
def scaleOf (b : Fin 12 → BitVec 8) (j : Fin 8) : BitVec 32 :=
  if h : j.val < 4 then IntOp.andi (byte (b ⟨j.val, by omega⟩)) 63#32
  else IntOp.ori (IntOp.andi (byte (b ⟨j.val + 4, by omega⟩)) 15#32) (top (b ⟨j.val - 4, by omega⟩))

/-- The `j`-th 6-bit offset of a super-block's 12 bytes. -/
def offsetOf (b : Fin 12 → BitVec 8) (j : Fin 8) : BitVec 32 :=
  if h : j.val < 4 then IntOp.andi (byte (b ⟨j.val + 4, by omega⟩)) 63#32
  else IntOp.ori (IntOp.shrsi .vector (byte (b ⟨j.val + 4, by omega⟩)) 4#32) (top (b ⟨j.val, by omega⟩))

/-- Which of the eight scales row `ρ` of a super-block takes. -/
def sub (ρ : Fin 256) : Fin 8 := ⟨2 * (ρ.val / 64) + ρ.val % 2, by omega⟩

/-- The weight in row `ρ` of a super-block with code bytes `q`, scale bytes `b` and factors `d`, `dm`. -/
def weight (q : Fin 128 → BitVec 8) (b : Fin 12 → BitVec 8) (d dm : EReal) (ρ : Fin 256) : EReal :=
  num (nib (q ⟨ρ.val / 2, by omega⟩) (ρ.val % 2)) * (d * num (scaleOf b (sub ρ))) - dm * num (offsetOf b (sub ρ))

/-- Row `64 g + 2 i + p` of a super-block. -/
def row (g : Fin 4) (i : Fin 32) (p : Fin 2) : Fin 256 := ⟨64 * g.val + 2 * i.val + p.val, by omega⟩

/-- The product of one row of activations with one column of weights, as the reference writes it: the low nibbles' sum
    and the high nibbles' sum.  `act k g p i` multiplies the weight of nibble `p` of byte `32 g + i` of super-block `k`. -/
def product {s : Nat} (act : Fin s → Fin 4 → Fin 2 → Fin 32 → EReal) (w : Fin s → Fin 256 → EReal) : EReal :=
  (∑ k, ∑ g, ∑ i, act k g 0 i * w k (row g i 0)) + ∑ k, ∑ g, ∑ i, act k g 1 i * w k (row g i 1)

/-- A sum over the 256 rows of a super-block, by group, byte and nibble. -/
theorem sum_block (f : Fin 256 → EReal) : ∑ ρ, f ρ = ∑ g, ∑ i, ∑ p, f (row g i p) := by
  rw [← (finProdFinEquiv (m := 4) (n := 64)).sum_comp, Fintype.sum_prod_type]
  refine Finset.sum_congr rfl fun g _ => ?_
  rw [← (finProdFinEquiv (m := 32) (n := 2)).sum_comp, Fintype.sum_prod_type]
  refine Finset.sum_congr rfl fun i _ => Finset.sum_congr rfl fun p _ => congrArg f (Fin.ext ?_)
  simp only [finProdFinEquiv_apply_val, row]
  omega

/-- A contraction over the `256 s` rows of the dequantised tile is the reference's product. -/
theorem sum_rows {s K : Nat} (hK : K = s * 256) (A : Fin K → EReal) (w : Fin s → Fin 256 → EReal) :
    ∑ κ : Fin K, A κ * w ⟨κ.val / 256, by omega⟩ ⟨κ.val % 256, by omega⟩
      = product (fun k g p i => A ⟨256 * k.val + 64 * g.val + 2 * i.val + p.val, by omega⟩) w := by
  subst hK
  rw [← (finProdFinEquiv (m := s) (n := 256)).sum_comp, Fintype.sum_prod_type]
  unfold product
  rw [← Finset.sum_add_distrib]
  refine Finset.sum_congr rfl fun k _ => ?_
  rw [sum_block, ← Finset.sum_add_distrib]
  refine Finset.sum_congr rfl fun g _ => ?_
  rw [← Finset.sum_add_distrib]
  refine Finset.sum_congr rfl fun i _ => ?_
  have e : ∀ p : Fin 2, A (finProdFinEquiv (k, row g i p)) * w ⟨(finProdFinEquiv (k, row g i p)).val / 256, by omega⟩ ⟨(finProdFinEquiv (k, row g i p)).val % 256, by omega⟩
      = A ⟨256 * k.val + 64 * g.val + 2 * i.val + p.val, by omega⟩ * w k (row g i p) := fun p => by
    have h1 : (finProdFinEquiv (k, row g i p)).val = (row g i p).val + 256 * k.val := finProdFinEquiv_apply_val _
    have hr : (row g i p).val = 64 * g.val + 2 * i.val + p.val := rfl
    congr 1
    · exact congrArg A (Fin.ext (by rw [h1, hr]; show _ = 256 * k.val + 64 * g.val + 2 * i.val + p.val; omega))
    · exact congr (congrArg w (Fin.ext (by show _ / 256 = k.val; rw [h1]; omega))) (Fin.ext (by show _ % 256 = (row g i p).val; rw [h1]; omega))
  rw [Fin.sum_univ_two, e 0, e 1]

/-! ## The tile a kernel dequantises -/

/-- Entry `(κ, l)` of the weight tile: rows in the kernel's order, from the code bytes `Q` (super-block, column, byte),
    the scale bytes `B` (byte, super-block, column) and the factors `D`, `M` (super-block, column). -/
def tileW {s : Nat} (Q : (⟨3, ![s, 256, 128]⟩ : Shape).Idx → BitVec 8) (B : (⟨3, ![12, s, 256]⟩ : Shape).Idx → BitVec 8)
    (D M : (⟨2, ![s, 256]⟩ : Shape).Idx → EReal) (k : Fin s) (ρ l : Fin 256) : EReal :=
  weight (fun j => Q (ix3 k l j)) (fun a => B (ix3 a k l)) (D (ix2 k l)) (M (ix2 k l)) ρ

/-- The scales a kernel stores: group `g`, super-block `k`, nibble `p`, column `l`. -/
def scaleAt {s : Nat} (B : (⟨3, ![12, s, 256]⟩ : Shape).Idx → BitVec 8) (D : (⟨2, ![s, 256]⟩ : Shape).Idx → EReal)
    (y : (⟨4, ![4, s, 2, 256]⟩ : Shape).Idx) : EReal :=
  D (ix2 (y 1) (y 3)) * num (scaleOf (fun a => B (ix3 a (y 1) (y 3))) ⟨2 * (y 0).val + (y 2).val, by have := (y 0).isLt; have := (y 2).isLt; simp_all; omega⟩)

/-- The offsets a kernel stores: group `g`, super-block `k`, nibble `p`, column `l`. -/
def offsetAt {s : Nat} (B : (⟨3, ![12, s, 256]⟩ : Shape).Idx → BitVec 8) (M : (⟨2, ![s, 256]⟩ : Shape).Idx → EReal)
    (y : (⟨4, ![4, s, 2, 256]⟩ : Shape).Idx) : EReal :=
  M (ix2 (y 1) (y 3)) * num (offsetOf (fun a => B (ix3 a (y 1) (y 3))) ⟨2 * (y 0).val + (y 2).val, by have := (y 0).isLt; have := (y 2).isLt; simp_all; omega⟩)

/-- What the loop leaves in row `κ` of the weight tile, from the code bytes and the stored scales and offsets. -/
def rowFrom {s K : Nat} (hK : K = s * 256) (Q : (⟨3, ![s, 256, 128]⟩ : Shape).Idx → BitVec 8) (S O : (⟨4, ![4, s, 2, 256]⟩ : Shape).Idx → EReal)
    (y : (⟨2, ![K, 256]⟩ : Shape).Idx) : EReal :=
  have h : (y 0).val < s * 256 := hK ▸ (y 0).isLt
  num (nib (Q (ix3 ⟨(y 0).val / 256, by omega⟩ (y 1) ⟨(y 0).val % 256 / 2, by omega⟩)) ((y 0).val % 2))
      * S (ix4 ⟨(y 0).val % 256 / 64, by omega⟩ ⟨(y 0).val / 256, by omega⟩ ⟨(y 0).val % 2, by omega⟩ (y 1))
    - O (ix4 ⟨(y 0).val % 256 / 64, by omega⟩ ⟨(y 0).val / 256, by omega⟩ ⟨(y 0).val % 2, by omega⟩ (y 1))

/-- With the stored scales and offsets the kernel computes, the rows are the weights. -/
theorem rowFrom_scales {s K : Nat} (hK : K = s * 256) (Q : (⟨3, ![s, 256, 128]⟩ : Shape).Idx → BitVec 8) (B : (⟨3, ![12, s, 256]⟩ : Shape).Idx → BitVec 8)
    (D M : (⟨2, ![s, 256]⟩ : Shape).Idx → EReal) (κ : Fin K) (l : Fin 256) :
    rowFrom hK Q (scaleAt B D) (offsetAt B M) (ix2 κ l)
      = tileW Q B D M ⟨κ.val / 256, by omega⟩ ⟨κ.val % 256, by omega⟩ l := by
  have e : κ.val % 256 % 2 = κ.val % 2 := by omega
  simp only [rowFrom, tileW, weight, scaleAt, offsetAt, sub, e]
  rfl

/-! ## One part of 64 rows -/

abbrev S1x256 : Shape := ⟨2, ![1, 256]⟩
abbrev S32x256 : Shape := ⟨2, ![32, 256]⟩
abbrev S64x256 : Shape := ⟨2, ![64, 256]⟩
abbrev S256x256 : Shape := ⟨2, ![256, 256]⟩
abbrev S128x256 : Shape := ⟨2, ![128, 256]⟩
abbrev S256x128 : Shape := ⟨2, ![256, 128]⟩
abbrev S1x256x128 : Shape := ⟨3, ![1, 256, 128]⟩
abbrev S1x1x2x256 : Shape := ⟨4, ![1, 1, 2, 256]⟩
abbrev S1x1x1x256 : Shape := ⟨4, ![1, 1, 1, 256]⟩
abbrev S1x1x256 : Shape := ⟨3, ![1, 1, 256]⟩

/-- The codes of one super-block as numbers, in the kernel's row order. -/
def codes (q : S1x256x128.Idx → BitVec 8) : FVec Ideal S256x256 .bf16 :=
  have b : IVec S128x256 32 := extui 32 (transpose S128x256 [1, 0] (shapeCast S256x128 q))
  interleaveRows S256x256 (truncf .bf16 (sitofp (F := Ideal) .f32 (andi b (broadcast S128x256 15#32))))
    (truncf .bf16 (sitofp (F := Ideal) .f32 (shrsi b (broadcast S128x256 4#32)))) (t := S128x256) (by decide)

/-- One row of stored scales or offsets, nibble `p`. -/
def half (p : Fin 2) (a : FVec Ideal S1x1x2x256 .bf16) : FVec Ideal S1x256 .bf16 :=
  shapeCast S1x256 (shapeCast S1x1x256 (rowsOfParity p S1x1x1x256 a (by decide)))

/-- A row of words, copied to 32 rows. -/
def copies (v : FVec Ideal S1x256 .bf16) : FVec Ideal S32x256 .bf16 :=
  concatenate S32x256 0 [⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩] (by show Shape.Concatenates (List.replicate 32 S1x256) S32x256 0; decide)

/-- The copied row, read at an index. -/
theorem copies_apply (v : FVec Ideal S1x256 .bf16) (r : Fin 32) (l : Fin 256) : copies v (ix2 r l) = v (ix2 0 l) :=
  concatenate_ofFn_apply (t := S32x256) (s₁ := S1x256) 0 (N := 32) (fun _ => v) (by show Shape.Concatenates (List.replicate 32 S1x256) S32x256 0; decide)
    rfl 1 rfl (ix2 r l) r (Nat.div_one _) (ix2 0 l) (Nat.mod_one _).symm (fun b hb => by
      match b with
      | 0 => exact absurd rfl hb
      | 1 => rfl)

/-- The 64 rows a trip stores at row `off` of a super-block. -/
def part (off : Nat) (hoff : S256x256.Slices ![off, 0] S64x256) (q : S1x256x128.Idx → BitVec 8) (a b : FVec Ideal S1x1x2x256 .bf16) :
    FVec Ideal S64x256 .bf16 :=
  shapeCast S64x256 (subf (mulf (extractStridedSlice S64x256 ![off, 0] (codes q) hoff)
      (interleaveRows S64x256 (copies (half 0 a)) (copies (half 1 a)) (by decide)))
    (interleaveRows S64x256 (copies (half 0 b)) (copies (half 1 b)) (by decide)))

/-- A part read at an index. -/
theorem part_apply (g : Fin 4) (hoff) (q : S1x256x128.Idx → BitVec 8) (a b : FVec Ideal S1x1x2x256 .bf16) (x : Fin 64) (l : Fin 256) :
    part (64 * g.val) hoff q a b (ix2 x l)
      = num (nib (q (ix3 0 l ⟨(64 * g.val + x.val) / 2, by omega⟩)) (x.val % 2)) * a (ix4 0 0 ⟨x.val % 2, by omega⟩ l)
        - b (ix4 0 0 ⟨x.val % 2, by omega⟩ l) := by
  have e : (64 * g.val + x.val) % 2 = x.val % 2 := by omega
  unfold part codes half
  pointwise
  rcases Nat.mod_two_eq_zero_or_one x.val with h | h
  · simp only [e, h, ↓reduceIte, copies_apply]
    pointwise
    rfl
  · simp only [e, h, ↓reduceIte, copies_apply, one_ne_zero]
    pointwise
    rfl

end Cert.Weights
end
-- ==== Proof.Tiles.lean ====
module

public import Idealize.ShloMosaic.Lib.Pipeline.ReadBack
public import Idealize.ShloMosaic.Lib.Pipeline.ValueKit.Acc
public import Idealize.ShloMosaic.Lib.Pipeline.ValueKit.Tiles
public import proofs.«01_k».proof.Proof.Weights

/-!
What a counted loop over the super-blocks leaves in the weight tile.  `Tiles.Trip` says that one trip's stored
pieces are the 256 rows of its super-block; `Tiles.loop` adds the trips up; `Tiles.scales` is the same for the four
stores that fill the array of scales (or of offsets).
-/

@[expose] public section

set_option maxRecDepth 16384

noncomputable section

namespace Cert.Tiles

open Idealize.ShloMosaic Cert.Weights

/-- The stored pieces `L` agree with the contents `G` and cover every index of which `P` holds. -/
def Fills {S : Shape} {e : EltTy} (G : S.Idx → Elt Ideal e) (P : S.Idx → Prop) (L : List (View.Piece (Elt Ideal) S e)) : Prop :=
  (∀ p ∈ L, ∀ x : p.1.shape.Idx, p.2 x = G (p.1.emb x)) ∧ ∀ y, P y → ∃ p ∈ L, y ∈ p.1.set

/-- Pieces that fill the whole array, read back over anything. -/
theorem Fills.readCov {sig : RefSig} {κ : Kind} {sp : Space} {S : Shape} {e : EltTy} {G : S.Idx → Elt Ideal e} {L : List (View.Piece (Elt Ideal) S e)}
    (h : Fills G (fun _ => True) L) (v : View sig κ sp S e) (r : Rect S) : v.readCov L r = View.ld G r := by
  rw [View.readCov_eq_canon_ld v L r fun y => h.2 y trivial]
  exact congrArg (View.ld · r) (funext fun y => View.canon_apply_of_pieces G L h.1 y (h.2 y trivial))

/-- Pieces that fill the whole array, read through their view. -/
theorem Fills.read {sig : RefSig} {κ : Kind} {sp : Space} {S : Shape} {e : EltTy} {G : S.Idx → Elt Ideal e} {L : List (View.Piece (Elt Ideal) S e)}
    (h : Fills G (fun _ => True) L) (v : View sig κ sp S e) (f : v.ty.Contents (Elt Ideal)) : v.read (Elt Ideal) (v.writes (Elt Ideal) f L) = G :=
  funext fun y => View.read_writes_apply_of_pieces v f G L h.1 y (h.2 y trivial)

theorem rect_emb_val {S : Shape} (off size : Fin S.rank → Nat) (inb) (j : (Rect.unit off size inb).shape.Idx) (a : Fin S.rank) :
    ((Rect.unit off size inb).emb j a : Nat) = off a + j a := by
  rw [Rect.emb_apply]; show off a + 1 * (j a : Nat) = _; omega

/-- One store of the whole array. -/
theorem whole {S : Shape} {e : EltTy} (G : S.Idx → Elt Ideal e) (off : Fin S.rank → Nat) (h : ∀ a, off a = 0) (inb) :
    Fills G (fun _ => True) [⟨Rect.unit off S.size inb, G⟩] := by
  have he : ∀ x : S.Idx, (Rect.unit off S.size inb).emb x = x := fun x => funext fun a => Fin.ext (by
    refine (rect_emb_val (S := S) off S.size inb x a).trans ?_
    rw [h a, Nat.zero_add])
  refine ⟨fun p hp x => ?_, fun y _ => ⟨_, .head _, ?_⟩⟩
  · obtain rfl := List.mem_singleton.1 hp
    exact congrArg G (he x).symm
  · rw [Rect.mem_set_unit]
    exact fun a => ⟨by rw [h a]; exact Nat.zero_le _, by rw [h a, Nat.zero_add]; exact (y a).isLt⟩

/-- The pieces of the trips before `n`, last first, fill the first `256 n` rows. -/
theorem loop {K : Nat} (G : (⟨2, ![K, 256]⟩ : Shape).Idx → EReal) (T : Nat → List (View.Piece (Elt Ideal) ⟨2, ![K, 256]⟩ .bf16))
    (pb : Nat → List (View.Piece (Elt Ideal) ⟨2, ![K, 256]⟩ .bf16)) (s : Nat) (h0 : pb 0 = []) (hs : ∀ k < s, pb (k + 1) = T k ++ pb k)
    (hT : ∀ k < s, Fills (e := .bf16) G (fun y => (y 0).val / 256 = k) (T k)) :
    ∀ n ≤ s, Fills (e := .bf16) G (fun y => (y 0).val / 256 < n) (pb n)
  | 0, _ => ⟨by simp [h0], fun _ h => absurd h (Nat.not_lt_zero _)⟩
  | n + 1, hn => by
    have ih := loop G T pb s h0 hs hT n (by omega)
    have ht := hT n (by omega)
    rw [hs n (by omega)]
    refine ⟨fun p hp x => ?_, fun y hy => ?_⟩
    · rcases List.mem_append.1 hp with h | h
      · exact ht.1 p h x
      · exact ih.1 p h x
    · rcases Nat.lt_succ_iff_lt_or_eq.1 hy with h | h
      · obtain ⟨p, hp, hm⟩ := ih.2 y h
        exact ⟨p, List.mem_append_right _ hp, hm⟩
      · obtain ⟨p, hp, hm⟩ := ht.2 y h
        exact ⟨p, List.mem_append_left _ hp, hm⟩

/-- Four parts of 64 rows, stored at rows `256 k + 64 g`, fill the rows of super-block `k`. -/
theorem trip {K : Nat} (G : (⟨2, ![K, 256]⟩ : Shape).Idx → EReal) (k : Nat) (hk : 256 * k + 256 ≤ K) (o : Fin 4 → Fin 2 → Nat)
    (ho : ∀ g, o g = ![256 * k + 64 * g.val, 0]) (inb : ∀ g a, o g a + S64x256.size a ≤ (⟨2, ![K, 256]⟩ : Shape).size a)
    (w : Fin 4 → S64x256.Idx → EReal)
    (hw : ∀ (g : Fin 4) (x : Fin 64) (l : Fin 256), w g (ix2 x l) = G (ix2 ⟨256 * k + 64 * g.val + x.val, by omega⟩ l)) :
    Fills (e := .bf16) G (fun y => (y 0).val / 256 = k)
      [⟨Rect.unit (o 3) S64x256.size (inb 3), w 3⟩, ⟨Rect.unit (o 2) S64x256.size (inb 2), w 2⟩,
       ⟨Rect.unit (o 1) S64x256.size (inb 1), w 1⟩, ⟨Rect.unit (o 0) S64x256.size (inb 0), w 0⟩] := by
  have piece : ∀ (g : Fin 4) (x : S64x256.Idx), w g x = G ((Rect.unit (s := ⟨2, ![K, 256]⟩) (o g) S64x256.size (inb g)).emb x) := fun g x => by
    idx_vars x
    rw [hw]
    refine congrArg G (funext fun a => Fin.ext ?_)
    rw [rect_emb_val]
    refine Eq.trans ?_ (congrArg (· + _) (congrFun (ho g) a).symm)
    match a with
    | 0 => rfl
    | 1 => exact (Nat.zero_add _).symm
  refine ⟨fun p hp => ?_, fun y hy => ?_⟩
  · simp only [List.mem_cons, List.not_mem_nil, or_false] at hp
    rcases hp with rfl | rfl | rfl | rfl
    · exact piece 3
    · exact piece 2
    · exact piece 1
    · exact piece 0
  · have h0 : (y 0).val < K := (y 0).isLt
    have h1 : (y 1).val < 256 := (y 1).isLt
    have cov : ∀ g : Fin 4, (y 0).val % 256 / 64 = g.val → y ∈ (Rect.unit (s := ⟨2, ![K, 256]⟩) (o g) S64x256.size (inb g)).set := fun g hg => by
      rw [Rect.mem_set_unit]
      intro a
      rw [ho]
      match a with
      | 0 => exact ⟨by show 256 * k + 64 * g.val ≤ _; omega, by show _ < 256 * k + 64 * g.val + 64; omega⟩
      | 1 => exact ⟨Nat.zero_le _, by show _ < 0 + 256; omega⟩
    have hg : (y 0).val % 256 / 64 < 4 := by omega
    rcases (by omega : (y 0).val % 256 / 64 = 3 ∨ (y 0).val % 256 / 64 = 2 ∨ (y 0).val % 256 / 64 = 1 ∨ (y 0).val % 256 / 64 = 0) with h | h | h | h
    · exact ⟨_, .head _, cov 3 h⟩
    · exact ⟨_, .tail _ (.head _), cov 2 h⟩
    · exact ⟨_, .tail _ (.tail _ (.head _)), cov 1 h⟩
    · exact ⟨_, .tail _ (.tail _ (.tail _ (.head _))), cov 0 h⟩

/-- Four stores, one per group, fill the array of scales (or offsets). -/
theorem scales {s : Nat} (G : (⟨4, ![4, s, 2, 256]⟩ : Shape).Idx → EReal)
    (inb : ∀ (g : Fin 4) a, (![g.val, 0, 0, 0] : Fin 4 → Nat) a + (⟨4, ![1, s, 2, 256]⟩ : Shape).size a ≤ (⟨4, ![4, s, 2, 256]⟩ : Shape).size a)
    (w : Fin 4 → (⟨4, ![1, s, 2, 256]⟩ : Shape).Idx → EReal)
    (hw : ∀ (g : Fin 4) (k : Fin s) (p : Fin 2) (l : Fin 256), w g (ix4 0 k p l) = G (ix4 g k p l)) :
    Fills (e := .bf16) G (fun _ => True)
      [⟨Rect.unit ![3, 0, 0, 0] (⟨4, ![1, s, 2, 256]⟩ : Shape).size (inb 3), w 3⟩, ⟨Rect.unit ![2, 0, 0, 0] (⟨4, ![1, s, 2, 256]⟩ : Shape).size (inb 2), w 2⟩,
       ⟨Rect.unit ![1, 0, 0, 0] (⟨4, ![1, s, 2, 256]⟩ : Shape).size (inb 1), w 1⟩, ⟨Rect.unit ![0, 0, 0, 0] (⟨4, ![1, s, 2, 256]⟩ : Shape).size (inb 0), w 0⟩] := by
  have piece : ∀ (g : Fin 4) (x : (⟨4, ![1, s, 2, 256]⟩ : Shape).Idx),
      w g x = G ((Rect.unit (s := ⟨4, ![4, s, 2, 256]⟩) ![g.val, 0, 0, 0] (⟨4, ![1, s, 2, 256]⟩ : Shape).size (inb g)).emb x) := fun g x => by
    obtain ⟨k, p, l, rfl⟩ : ∃ (k : Fin s) (p : Fin 2) (l : Fin 256), x = ix4 0 k p l := ⟨x 1, x 2, x 3, by
      funext a
      match a with
      | 0 => exact Subsingleton.elim (α := Fin 1) _ _
      | 1 => rfl
      | 2 => rfl
      | 3 => rfl⟩
    refine (hw g k p l).trans ?_
    refine congrArg G (funext fun a => Fin.ext ?_)
    rw [rect_emb_val]
    match a with
    | 0 => rfl
    | 1 => exact (Nat.zero_add _).symm
    | 2 => exact (Nat.zero_add _).symm
    | 3 => exact (Nat.zero_add _).symm
  refine ⟨fun p hp => ?_, fun y _ => ?_⟩
  · simp only [List.mem_cons, List.not_mem_nil, or_false] at hp
    rcases hp with rfl | rfl | rfl | rfl
    · exact piece 3
    · exact piece 2
    · exact piece 1
    · exact piece 0
  · have h0 : (y 0).val < 4 := (y 0).isLt
    have cov : ∀ g : Fin 4, (y 0).val = g.val → y ∈ (Rect.unit (s := ⟨4, ![4, s, 2, 256]⟩) ![g.val, 0, 0, 0] (⟨4, ![1, s, 2, 256]⟩ : Shape).size (inb g)).set := fun g hg => by
      rw [Rect.mem_set_unit]
      intro a
      match a with
      | 0 => exact ⟨hg.ge, by show _ < g.val + 1; omega⟩
      | 1 => exact ⟨Nat.zero_le _, by show _ < 0 + s; have : (y 1).val < s := (y 1).isLt; omega⟩
      | 2 => exact ⟨Nat.zero_le _, by show _ < 0 + 2; have : (y 2).val < 2 := (y 2).isLt; omega⟩
      | 3 => exact ⟨Nat.zero_le _, by show _ < 0 + 256; have : (y 3).val < 256 := (y 3).isLt; omega⟩
    rcases (by omega : (y 0).val = 3 ∨ (y 0).val = 2 ∨ (y 0).val = 1 ∨ (y 0).val = 0) with h | h | h | h
    · exact ⟨_, .head _, cov 3 h⟩
    · exact ⟨_, .tail _ (.head _), cov 2 h⟩
    · exact ⟨_, .tail _ (.tail _ (.head _)), cov 1 h⟩
    · exact ⟨_, .tail _ (.tail _ (.tail _ (.head _))), cov 0 h⟩

/-- A row of the tile by its super-block, part and place in the part. -/
theorem rowFrom_at {s K : Nat} (hK : K = s * 256) (Q : (⟨3, ![s, 256, 128]⟩ : Shape).Idx → BitVec 8) (S O : (⟨4, ![4, s, 2, 256]⟩ : Shape).Idx → EReal)
    (k : Nat) (hk : k < s) (g : Fin 4) (x : Fin 64) (l : Fin 256) :
    rowFrom hK Q S O (ix2 ⟨256 * k + 64 * g.val + x.val, by omega⟩ l)
      = num (nib (Q (ix3 ⟨k, hk⟩ l ⟨(64 * g.val + x.val) / 2, by omega⟩)) (x.val % 2)) * S (ix4 g ⟨k, hk⟩ ⟨x.val % 2, by omega⟩ l)
        - O (ix4 g ⟨k, hk⟩ ⟨x.val % 2, by omega⟩ l) := by
  have e1 : (⟨(256 * k + 64 * g.val + x.val) / 256, by omega⟩ : Fin s) = ⟨k, hk⟩ := Fin.ext (by show (256 * k + 64 * g.val + x.val) / 256 = k; omega)
  have e2 : (⟨(256 * k + 64 * g.val + x.val) % 256 / 64, by omega⟩ : Fin 4) = g := Fin.ext (by show (256 * k + 64 * g.val + x.val) % 256 / 64 = g.val; omega)
  have e3 : (⟨(256 * k + 64 * g.val + x.val) % 256 / 2, by omega⟩ : Fin 128) = ⟨(64 * g.val + x.val) / 2, by omega⟩ :=
    Fin.ext (by show (256 * k + 64 * g.val + x.val) % 256 / 2 = (64 * g.val + x.val) / 2; omega)
  have e4 : (256 * k + 64 * g.val + x.val) % 2 = x.val % 2 := by omega
  have e5 : (⟨(256 * k + 64 * g.val + x.val) % 2, by omega⟩ : Fin 2) = ⟨x.val % 2, by omega⟩ := Fin.ext e4
  show num (nib (Q (ix3 ⟨(256 * k + 64 * g.val + x.val) / 256, _⟩ l ⟨(256 * k + 64 * g.val + x.val) % 256 / 2, _⟩)) ((256 * k + 64 * g.val + x.val) % 2))
      * S (ix4 ⟨(256 * k + 64 * g.val + x.val) % 256 / 64, _⟩ ⟨(256 * k + 64 * g.val + x.val) / 256, _⟩ ⟨(256 * k + 64 * g.val + x.val) % 2, _⟩ l)
      - O (ix4 ⟨(256 * k + 64 * g.val + x.val) % 256 / 64, _⟩ ⟨(256 * k + 64 * g.val + x.val) / 256, _⟩ ⟨(256 * k + 64 * g.val + x.val) % 2, _⟩ l) = _
  rw [e1, e2, e3, e5, e4]

/-- One part of 64 rows, from the loads of the packed codes, the scales and the offsets. -/
theorem part_rows {s K : Nat} (hK : K = s * 256) (Q : (⟨3, ![s, 256, 128]⟩ : Shape).Idx → BitVec 8) (S O : (⟨4, ![4, s, 2, 256]⟩ : Shape).Idx → EReal)
    (k : Nat) (hk : k < s) (g : Fin 4) (hoff) (o1 : Fin 3 → Nat) (ho1 : o1 = ![k, 0, 0]) (o2 : Fin 4 → Nat) (ho2 : o2 = ![g.val, k, 0, 0])
    (inb1) (inb9) (x : Fin 64) (l : Fin 256) :
    part (64 * g.val) hoff (View.ld (Val := Elt Ideal) (e' := .i8) Q (Rect.unit (s := ⟨3, ![s, 256, 128]⟩) o1 S1x256x128.size inb1))
        (View.ld (Val := Elt Ideal) (e' := .bf16) S (Rect.unit (s := ⟨4, ![4, s, 2, 256]⟩) o2 S1x1x2x256.size inb9))
        (View.ld (Val := Elt Ideal) (e' := .bf16) O (Rect.unit (s := ⟨4, ![4, s, 2, 256]⟩) o2 S1x1x2x256.size inb9)) (ix2 x l)
      = rowFrom hK Q S O (ix2 ⟨256 * k + 64 * g.val + x.val, by omega⟩ l) := by
  subst ho1 ho2
  rw [part_apply, rowFrom_at hK Q S O k hk g x l]
  have h4 : ∀ (X : (⟨4, ![4, s, 2, 256]⟩ : Shape).Idx → EReal), View.ld (Val := Elt Ideal) (e' := .bf16) X (Rect.unit (s := ⟨4, ![4, s, 2, 256]⟩) ![g.val, k, 0, 0] S1x1x2x256.size inb9) (ix4 0 0 ⟨x.val % 2, by omega⟩ l)
      = X (ix4 g ⟨k, hk⟩ ⟨x.val % 2, by omega⟩ l) := fun X => View.ld_unit_apply_of _ _ _ _ _ _ fun a => by
    match a with
    | 0 => rfl
    | 1 => rfl
    | 2 => exact (Nat.zero_add _).symm
    | 3 => exact (Nat.zero_add _).symm
  have h3 : View.ld (Val := Elt Ideal) (e' := .i8) Q (Rect.unit (s := ⟨3, ![s, 256, 128]⟩) ![k, 0, 0] S1x256x128.size inb1) (ix3 0 l ⟨(64 * g.val + x.val) / 2, by omega⟩)
      = Q (ix3 ⟨k, hk⟩ l ⟨(64 * g.val + x.val) / 2, by omega⟩) := View.ld_unit_apply_of _ _ _ _ _ _ fun a => by
    match a with
    | 0 => rfl
    | 1 => exact (Nat.zero_add _).symm
    | 2 => exact (Nat.zero_add _).symm
  rw [h4, h4, h3]

end Cert.Tiles
end
-- ==== Proof.Scales.lean ====
module

public import Idealize.ShloMosaic.Lib.Pointwise
public import proofs.«01_k».proof.Proof.Tiles

/-!
The scales and offsets a kernel unpacks from the 12 scale bytes of each super-block, as the vector operations compute
them: `lowPay` for groups 0 and 1, `highScale`, `highOffset` for groups 2 and 3.
-/

@[expose] public section

set_option maxRecDepth 16384

noncomputable section

namespace Cert.Scales

open Idealize.ShloMosaic Cert.Weights

/-- One value per super-block and column. -/
abbrev R2 (s : Nat) : Shape := ⟨2, ![s, 256]⟩
/-- One byte per super-block and column, as loaded. -/
abbrev R3 (s : Nat) : Shape := ⟨3, ![1, s, 256]⟩
abbrev R4 (s : Nat) : Shape := ⟨4, ![1, s, 1, 256]⟩
/-- Two values per super-block and column, as stored. -/
abbrev R5 (s : Nat) : Shape := ⟨4, ![1, s, 2, 256]⟩

variable {s : Nat}

/-- A byte of every super-block and column as words. -/
def wide (h : (R3 s).ShapeCasts (R2 s)) (b : (R3 s).Idx → BitVec 8) : IVec (R2 s) 32 := extui 32 (shapeCast (R2 s) b h) (by decide)

/-- The stored pair: the factor times the even and the odd integer. -/
def pairs (h1 : (R2 s).ShapeCasts (R3 s)) (h2 : (R3 s).ShapeCasts (R4 s)) (h3 : (R5 s).Bitcasts 16 (R4 s) 32)
    (d : FVec Ideal (R2 s) .f32) (u v : IVec (R2 s) 32) : FVec Ideal (R5 s) .bf16 :=
  interleaveRows (R5 s)
    (shapeCast (R4 s) (shapeCast (R3 s) (truncf .bf16 (mulf d (sitofp .f32 u)) (by decide)) h1) h2)
    (shapeCast (R4 s) (shapeCast (R3 s) (truncf .bf16 (mulf d (sitofp .f32 v)) (by decide)) h1) h2) h3

theorem cast_pair (h : (R4 s).numel = (R2 s).numel) (k : Fin s) (l : Fin 256) :
    Shape.reshapeEquiv (s := R2 s) (s' := R4 s) h (ix4 0 k 0 l) = ix2 k l :=
  Shape.reshapeEquiv_eq_of_vals h _ _ _ _ (rowMajor_val2 _ 256 rfl) (rowMajor_val4 _ (s * 256) 256 256 (by simp) (by simp) rfl)
    (by show k.val * 256 + l.val = 0 * (s * 256) + k.val * 256 + 0 * 256 + l.val; omega)

theorem cast_byte (h : (R2 s).numel = (R3 s).numel) (k : Fin s) (l : Fin 256) :
    Shape.reshapeEquiv (s := R3 s) (s' := R2 s) h (ix2 k l) = ix3 0 k l :=
  Shape.reshapeEquiv_eq_of_vals h _ _ _ _ (rowMajor_val3 _ (s * 256) 256 (by simp) rfl) (rowMajor_val2 _ 256 rfl)
    (by show 0 * (s * 256) + k.val * 256 + l.val = k.val * 256 + l.val; omega)

theorem wide_apply (h) (b : (R3 s).Idx → BitVec 8) (k : Fin s) (l : Fin 256) : wide h b (ix2 k l) = byte (b (ix3 0 k l)) := by
  show BitVec.setWidth 32 (b (Shape.reshapeEquiv h (ix2 k l))) = _
  rw [cast_byte]; rfl

theorem pairs_apply (h1 h2 h3) (d : FVec Ideal (R2 s) .f32) (u v : IVec (R2 s) 32) (k : Fin s) (p : Fin 2) (l : Fin 256) :
    pairs h1 h2 h3 d u v (ix4 0 k p l) = d (ix2 k l) * num (if p.val = 0 then u (ix2 k l) else v (ix2 k l)) := by
  have key : ∀ (w : IVec (R2 s) 32) (J : (R4 s).Idx), J = ix4 0 k 0 l →
      shapeCast (R4 s) (shapeCast (R3 s) (truncf (F := Ideal) .bf16 (mulf d (sitofp .f32 w)) (by decide)) h1) h2 J
        = d (ix2 k l) * num (w (ix2 k l)) := fun w J hJ => by
    rw [hJ, shapeCast_comp]
    show d (Shape.reshapeEquiv _ (ix4 0 k 0 l)) * num (w (Shape.reshapeEquiv _ (ix4 0 k 0 l))) = _
    rw [cast_pair]
  have hr : (R5 s).row (ix4 0 k p l) = p.val := rfl
  unfold pairs
  rw [interleaveRows_apply, hr]
  have hp := p.isLt
  by_cases hp : p.val = 0
  · rw [if_pos (by omega), if_pos hp]
    refine key u _ (funext fun b => ?_)
    match b with
    | 0 => exact Subsingleton.elim (α := Fin 1) _ _
    | 1 => rfl
    | 2 => exact Subsingleton.elim (α := Fin 1) _ _
    | 3 => rfl
  · rw [if_neg (by omega), if_neg hp]
    refine key v _ (funext fun b => ?_)
    match b with
    | 0 => exact Subsingleton.elim (α := Fin 1) _ _
    | 1 => rfl
    | 2 => exact Subsingleton.elim (α := Fin 1) _ _
    | 3 => rfl

/-- The low six bits of a byte. -/
def low (h : (R3 s).ShapeCasts (R2 s)) (b : (R3 s).Idx → BitVec 8) : IVec (R2 s) 32 := andi (wide h b) (broadcast (R2 s) 63#32)
/-- A scale of groups 2 and 3: four bits of one byte and the top two of another. -/
def highScale (h : (R3 s).ShapeCasts (R2 s)) (b c : (R3 s).Idx → BitVec 8) : IVec (R2 s) 32 :=
  ori (andi (wide h b) (broadcast (R2 s) 15#32)) (shli (shrsi (wide h c) (broadcast (R2 s) 6#32)) (broadcast (R2 s) 4#32))
/-- An offset of groups 2 and 3. -/
def highOffset (h : (R3 s).ShapeCasts (R2 s)) (b c : (R3 s).Idx → BitVec 8) : IVec (R2 s) 32 :=
  ori (shrsi (wide h b) (broadcast (R2 s) 4#32)) (shli (shrsi (wide h c) (broadcast (R2 s) 6#32)) (broadcast (R2 s) 4#32))

/-- Every byte's row lies in the scale bytes. -/
abbrev InB (s : Nat) : Prop := ∀ (a : Fin 12) c, (![a.val, 0, 0] : Fin 3 → Nat) c + (R3 s).size c ≤ (⟨3, ![12, s, 256]⟩ : Shape).size c
/-- Every group lies in the stored scales. -/
abbrev In4 (s : Nat) : Prop := ∀ (g : Fin 4) c, (![g.val, 0, 0, 0] : Fin 4 → Nat) c + (R5 s).size c ≤ (⟨4, ![4, s, 2, 256]⟩ : Shape).size c

/-- Byte `a` of the scale bytes, loaded. -/
abbrev loadByte (B : (⟨3, ![12, s, 256]⟩ : Shape).Idx → BitVec 8) (a : Fin 12) (inb : ∀ c, (![a.val, 0, 0] : Fin 3 → Nat) c + (R3 s).size c ≤ (⟨3, ![12, s, 256]⟩ : Shape).size c) : (R3 s).Idx → BitVec 8 :=
  View.ld (Val := Elt Ideal) (e' := .i8) B (Rect.unit (s := ⟨3, ![12, s, 256]⟩) ![a.val, 0, 0] (R3 s).size inb)

theorem loadByte_apply (B : (⟨3, ![12, s, 256]⟩ : Shape).Idx → BitVec 8) (a : Fin 12) (inb) (k : Fin s) (l : Fin 256) :
    loadByte B a inb (ix3 0 k l) = B (ix3 a k l) :=
  View.ld_unit_apply_of _ _ _ _ _ _ fun c => by
    match c with
    | 0 => rfl
    | 1 => exact (Nat.zero_add _).symm
    | 2 => exact (Nat.zero_add _).symm

/-- The words of group `g` and nibble `p` for the scales. -/
def scaleWord (h : (R3 s).ShapeCasts (R2 s)) (B : (⟨3, ![12, s, 256]⟩ : Shape).Idx → BitVec 8) (inb : InB s) (j : Fin 8) : IVec (R2 s) 32 :=
  if hj : j.val < 4 then low h (loadByte B ⟨j.val, by omega⟩ (inb _))
  else highScale h (loadByte B ⟨j.val + 4, by omega⟩ (inb _)) (loadByte B ⟨j.val - 4, by omega⟩ (inb _))

/-- The words of group `g` and nibble `p` for the offsets. -/
def offsetWord (h : (R3 s).ShapeCasts (R2 s)) (B : (⟨3, ![12, s, 256]⟩ : Shape).Idx → BitVec 8) (inb : InB s) (j : Fin 8) : IVec (R2 s) 32 :=
  if hj : j.val < 4 then low h (loadByte B ⟨j.val + 4, by omega⟩ (inb _))
  else highOffset h (loadByte B ⟨j.val + 4, by omega⟩ (inb _)) (loadByte B ⟨j.val, by omega⟩ (inb _))

theorem scaleWord_apply (h : (R3 s).ShapeCasts (R2 s)) (B : (⟨3, ![12, s, 256]⟩ : Shape).Idx → BitVec 8) (inb : InB s) (j : Fin 8) (k : Fin s) (l : Fin 256) :
    scaleWord h B inb j (ix2 k l) = scaleOf (fun a => B (ix3 a k l)) j := by
  unfold scaleWord scaleOf
  split
  · show IntOp.andi (wide h _ (ix2 k l)) 63#32 = _
    rw [wide_apply, loadByte_apply]
  · show IntOp.ori (IntOp.andi (wide h _ (ix2 k l)) 15#32) (IntOp.shli _ (IntOp.shrsi _ (wide h _ (ix2 k l)) 6#32) 4#32) = _
    rw [wide_apply, wide_apply, loadByte_apply, loadByte_apply]; rfl

theorem offsetWord_apply (h : (R3 s).ShapeCasts (R2 s)) (B : (⟨3, ![12, s, 256]⟩ : Shape).Idx → BitVec 8) (inb : InB s) (j : Fin 8) (k : Fin s) (l : Fin 256) :
    offsetWord h B inb j (ix2 k l) = offsetOf (fun a => B (ix3 a k l)) j := by
  unfold offsetWord offsetOf
  split
  · show IntOp.andi (wide h _ (ix2 k l)) 63#32 = _
    rw [wide_apply, loadByte_apply]
  · show IntOp.ori (IntOp.shrsi _ (wide h _ (ix2 k l)) 4#32) (IntOp.shli _ (IntOp.shrsi _ (wide h _ (ix2 k l)) 6#32) 4#32) = _
    rw [wide_apply, wide_apply, loadByte_apply, loadByte_apply]; rfl

/-- The four stores of the scales: group `g` holds scales `2g` and `2g + 1`. -/
theorem fill_scales (h : (R3 s).ShapeCasts (R2 s)) (h1 h2 h3) (B : (⟨3, ![12, s, 256]⟩ : Shape).Idx → BitVec 8) (inb : InB s) (D : (R2 s).Idx → EReal) (i4 : In4 s) :
    Tiles.Fills (e := .bf16) (scaleAt B D) (fun _ => True)
      [⟨Rect.unit ![3, 0, 0, 0] (R5 s).size (i4 3), pairs h1 h2 h3 D (scaleWord h B inb 6) (scaleWord h B inb 7)⟩,
       ⟨Rect.unit ![2, 0, 0, 0] (R5 s).size (i4 2), pairs h1 h2 h3 D (scaleWord h B inb 4) (scaleWord h B inb 5)⟩,
       ⟨Rect.unit ![1, 0, 0, 0] (R5 s).size (i4 1), pairs h1 h2 h3 D (scaleWord h B inb 2) (scaleWord h B inb 3)⟩,
       ⟨Rect.unit ![0, 0, 0, 0] (R5 s).size (i4 0), pairs h1 h2 h3 D (scaleWord h B inb 0) (scaleWord h B inb 1)⟩] :=
  Tiles.scales (scaleAt B D) i4 (fun g => pairs h1 h2 h3 D (scaleWord h B inb ⟨2 * g.val, by omega⟩) (scaleWord h B inb ⟨2 * g.val + 1, by omega⟩))
    fun g k p l => by
      rw [pairs_apply, scaleWord_apply, scaleWord_apply]
      refine congrArg (fun w => D (ix2 k l) * num w) ?_
      match p with
      | 0 => rfl
      | 1 => rfl

/-- The four stores of the offsets. -/
theorem fill_offsets (h : (R3 s).ShapeCasts (R2 s)) (h1 h2 h3) (B : (⟨3, ![12, s, 256]⟩ : Shape).Idx → BitVec 8) (inb : InB s) (D : (R2 s).Idx → EReal) (i4 : In4 s) :
    Tiles.Fills (e := .bf16) (offsetAt B D) (fun _ => True)
      [⟨Rect.unit ![3, 0, 0, 0] (R5 s).size (i4 3), pairs h1 h2 h3 D (offsetWord h B inb 6) (offsetWord h B inb 7)⟩,
       ⟨Rect.unit ![2, 0, 0, 0] (R5 s).size (i4 2), pairs h1 h2 h3 D (offsetWord h B inb 4) (offsetWord h B inb 5)⟩,
       ⟨Rect.unit ![1, 0, 0, 0] (R5 s).size (i4 1), pairs h1 h2 h3 D (offsetWord h B inb 2) (offsetWord h B inb 3)⟩,
       ⟨Rect.unit ![0, 0, 0, 0] (R5 s).size (i4 0), pairs h1 h2 h3 D (offsetWord h B inb 0) (offsetWord h B inb 1)⟩] :=
  Tiles.scales (offsetAt B D) i4 (fun g => pairs h1 h2 h3 D (offsetWord h B inb ⟨2 * g.val, by omega⟩) (offsetWord h B inb ⟨2 * g.val + 1, by omega⟩))
    fun g k p l => by
      rw [pairs_apply, offsetWord_apply, offsetWord_apply]
      refine congrArg (fun w => D (ix2 k l) * num w) ?_
      match p with
      | 0 => rfl
      | 1 => rfl

end Cert.Scales
end
-- ==== Proof.BeforeBody1.lean ====
module

public import proofs.«01_k».proof.Proof.Gen.BeforeIdeal.Frame
public import proofs.«01_k».proof.Proof.Scales

/-!
What the body of the query projection leaves in its weight tile for one block of 256 columns, and its product.
-/

@[expose] public section

set_option maxRecDepth 16384

noncomputable section

namespace Cert.BeforeIdeal.Body1

open Cert.BeforeIdeal Cert.BeforeIdeal.Gen Idealize.ShloMosaic Idealize.ShloMosaic.TcCoe Idealize.SL.Sem Cert.Weights Cert.Tiles

section
variable (𝒱 : Variants) (c : Dev nD) (bd : Option 𝒱.V) (i : grid1.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S112x128 .f32) (harg6 : arg6.IsWhole) (arg7 : Memref sig .tc .vmem S112x128 .f32) (harg7 : arg7.IsWhole) (arg8 : Memref sig .tc .vmem S112x256 .bf16) (harg8 : arg8.IsWhole) (arg9 : Memref sig .tc .vmem S3840x256 .bf16) (harg9 : arg9.IsWhole) (arg10 : Memref sig .tc .vmem S4x15x2x256 .bf16) (harg10 : arg10.IsWhole) (arg11 : Memref sig .tc .vmem S4x15x2x256 .bf16) (harg11 : arg11.IsWhole)

section
variable (v5 : FVec Ideal S15x256 .f32) (v86 : IVec S15x256 32) (v113 : IVec S15x256 32) (v165 : FVec Ideal S15x256 .f32) (v166_lo : FVec Ideal S15x256 .bf16)
  (X2 : BufTy.Contents (Elt Ideal) arg2.view.ty) (X9 : BufTy.Contents (Elt Ideal) arg10.view.ty) (X10 : BufTy.Contents (Elt Ideal) arg11.view.ty)

/-- One trip stores the rows of its super-block. -/
theorem trip_fills (k : Fin k1_t1_loop.trips) (hk : k.val < 15) :
    Fills (e := .bf16) (rowFrom (s := 15) (K := 3840) rfl (arg2.view.read (Elt Ideal) X2) (arg10.view.read (Elt Ideal) X9) (arg11.view.read (Elt Ideal) X10))
      (fun y => (y 0).val / 256 = k.val)
      (tripL_k1_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10 k) := by
  unfold tripL_k1_t1 trip_k1_t1
  refine Tiles.trip _ k.val (by omega) (fun g => k1_off6 k (BitVec.ofNat 32 (64 * g.val))) (fun g => k1_off6_eq k g) (fun g => k1_off6_inb k g)
    ![_, _, _, _] fun g x l => ?_
  fin_cases g
  · exact part_rows rfl _ _ _ k.val hk 0 _ _ (k1_off1_eq k) _ (k1_off2_eq k) _ _ x l
  · exact part_rows rfl _ _ _ k.val hk 1 _ _ (k1_off1_eq k) _ (k1_off3_eq k) _ _ x l
  · exact part_rows rfl _ _ _ k.val hk 2 _ _ (k1_off1_eq k) _ (k1_off4_eq k) _ _ x l
  · exact part_rows rfl _ _ _ k.val hk 3 _ _ (k1_off1_eq k) _ (k1_off5_eq k) _ _ x l

/-- What the loop leaves in the whole tile. -/
theorem tile_fills :
    Fills (e := .bf16) (rowFrom (s := 15) (K := 3840) rfl (arg2.view.read (Elt Ideal) X2) (arg10.view.read (Elt Ideal) X9) (arg11.view.read (Elt Ideal) X10))
      (fun _ => True)
      (pb_k1_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10 15) := by
  have hN : k1_t1_loop.trips = 15 := by decide
  have h := Tiles.loop (K := 3840) (rowFrom (s := 15) (K := 3840) rfl (arg2.view.read (Elt Ideal) X2) (arg10.view.read (Elt Ideal) X9) (arg11.view.read (Elt Ideal) X10))
    (fun k => if hk : k < k1_t1_loop.trips then tripL_k1_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10 ⟨k, hk⟩ else [])
    (pb_k1_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10)
    15 rfl (fun k hk => by
      have hk' : k < k1_t1_loop.trips := hN ▸ hk
      rw [dif_pos hk']
      exact pb_k1_t1_succ 𝒱 c bd i arg1 harg1 arg2 harg2 arg3 harg3 arg4 harg4 arg5 harg5 arg6 harg6 arg7 harg7 arg8 harg8 arg9 harg9 arg10 harg10 arg11 harg11 v5 v86 v113 v165 v166_lo X2 X9 X10 ⟨k, hk'⟩)
    (fun k hk => by
      have hk' : k < k1_t1_loop.trips := hN ▸ hk
      rw [dif_pos hk']
      exact trip_fills 𝒱 c bd i arg1 harg1 arg2 harg2 arg3 harg3 arg4 harg4 arg5 harg5 arg6 harg6 arg7 harg7 arg8 harg8 arg9 harg9 arg10 harg10 arg11 harg11 v5 v86 v113 v165 v166_lo X2 X9 X10 ⟨k, hk'⟩ hk)
    15 le_rfl
  exact ⟨h.1, fun y _ => h.2 y (by have : (y 0).val < 3840 := (y 0).isLt; omega)⟩

end
/-- The scales the body stores. -/
theorem scale_fills (x2 : Vec Ideal S12x15x256 .i8) (x3 : Vec Ideal S15x256 .bf16) :
    Fills (e := .bf16) (scaleAt (s := 15) x2 x3) (fun _ => True) (kernelRun1_A.sl.HS1_4 c arg3 harg3 arg4 harg4 x2 x3) := by
  have hB : arg3.view.read (Elt Ideal) (harg3.unread x2) = x2 := harg3.read_unread _
  have hD : shapeCast S15x256 (arg4.view.readAt (Elt Ideal) (Rect.unit (s := S15x256) ![0, 0] S15x256.size inb_S15x256_S15x256_0_0).toLoadRect (harg4.unread x3)) shapeCasts_S15x256_S15x256 = x3 := by
    rw [View.readAt_eq_ld]; rw [View.ld_unit_lit (S := S15x256) _ _ (by decide)]; exact (shapeCast_id (s := S15x256) _ _).trans (harg4.read_unread _)
  have h := Scales.fill_scales (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg4.view.readAt (Elt Ideal) (Rect.unit (s := S15x256) ![0, 0] S15x256.size inb_S15x256_S15x256_0_0).toLoadRect (harg4.unread x3)) shapeCasts_S15x256_S15x256) (by decide)
  have hG : scaleAt (s := 15) x2 x3 = scaleAt (s := 15) (arg3.view.read (Elt Ideal) (harg3.unread x2)) (shapeCast S15x256 (arg4.view.readAt (Elt Ideal) (Rect.unit (s := S15x256) ![0, 0] S15x256.size inb_S15x256_S15x256_0_0).toLoadRect (harg4.unread x3)) shapeCasts_S15x256_S15x256) := by rw [hB, hD]
  rw [hG]
  exact h

/-- The offsets the body stores. -/
theorem offset_fills (x2 : Vec Ideal S12x15x256 .i8) (x4 : Vec Ideal S15x256 .bf16) :
    Fills (e := .bf16) (offsetAt (s := 15) x2 x4) (fun _ => True) (kernelRun1_A.sl.HS2_4 c arg3 harg3 arg5 harg5 x2 x4) := by
  have hB : arg3.view.read (Elt Ideal) (harg3.unread x2) = x2 := harg3.read_unread _
  have hD : shapeCast S15x256 (arg5.view.readAt (Elt Ideal) (Rect.unit (s := S15x256) ![0, 0] S15x256.size inb_S15x256_S15x256_0_0).toLoadRect (harg5.unread x4)) shapeCasts_S15x256_S15x256 = x4 := by
    rw [View.readAt_eq_ld]; rw [View.ld_unit_lit (S := S15x256) _ _ (by decide)]; exact (shapeCast_id (s := S15x256) _ _).trans (harg5.read_unread _)
  have h := Scales.fill_offsets (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg5.view.readAt (Elt Ideal) (Rect.unit (s := S15x256) ![0, 0] S15x256.size inb_S15x256_S15x256_0_0).toLoadRect (harg5.unread x4)) shapeCasts_S15x256_S15x256) (by decide)
  have hG : offsetAt (s := 15) x2 x4 = offsetAt (s := 15) (arg3.view.read (Elt Ideal) (harg3.unread x2)) (shapeCast S15x256 (arg5.view.readAt (Elt Ideal) (Rect.unit (s := S15x256) ![0, 0] S15x256.size inb_S15x256_S15x256_0_0).toLoadRect (harg5.unread x4)) shapeCasts_S15x256_S15x256) := by rw [hB, hD]
  rw [hG]
  exact h

/-- The product as the body holds it. -/
theorem product_apply (x0 : Vec Ideal S112x3840 .bf16) (x1 : Vec Ideal S15x256x128 .i8) (x2 : Vec Ideal S12x15x256 .i8) (x3 x4 : Vec Ideal S15x256 .bf16) (b : Fin 112) (l : Fin 256) :
    kernelRun1_A.sl.r_11 (F := Ideal) c i arg1 harg1 arg2 harg2 arg3 harg3 arg4 harg4 arg5 harg5 arg6 harg6 arg7 harg7 arg8 harg8 arg9 harg9 arg10 harg10 arg11 harg11 x0 x1 x2 x3 x4 (ix2 b l)
      = ∑ κ : Fin 3840, x0 (ix2 b κ) * tileW (s := 15) x1 x2 x3 x4 ⟨κ.val / 256, by omega⟩ ⟨κ.val % 256, by omega⟩ l := by
  unfold kernelRun1_A.sl.r_11
  rw [show Scf.trips k1_t1_loop.lb k1_t1_loop.ub k1_t1_loop.st = 15 from by decide,
    (tile_fills Variants.none c none i arg1 harg1 arg2 harg2 arg3 harg3 arg4 harg4 arg5 harg5 arg6 harg6 arg7 harg7 arg8 harg8 arg9 harg9 arg10 harg10 arg11 harg11 _ _ _ _ _ _ _ _).readCov,
    (scale_fills c arg3 harg3 arg4 harg4 x2 x3).read, (offset_fills c arg3 harg3 arg5 harg5 x2 x4).read, harg2.read_unread]
  simp only [View.readAt_eq_ld]
  rw [View.ld_unit_lit (S := S112x3840) _ _ (by decide), View.ld_unit_lit (S := S3840x256) _ _ (by decide), harg1.read_unread]
  pointwise [k1_pay62]
  exact Finset.sum_congr rfl fun κ _ => congrArg (x0 (ix2 b κ) * ·) (rowFrom_scales (s := 15) rfl x1 x2 x3 x4 κ l)

end

end Cert.BeforeIdeal.Body1
end
-- ==== Proof.BeforeBody2.lean ====
module

public import proofs.«01_k».proof.Proof.Gen.BeforeIdeal.Frame
public import proofs.«01_k».proof.Proof.Scales

/-!
What the body of the key projection leaves in its weight tile for one block of 256 columns, and its product.
-/

@[expose] public section

set_option maxRecDepth 16384

noncomputable section

namespace Cert.BeforeIdeal.Body2

open Cert.BeforeIdeal Cert.BeforeIdeal.Gen Idealize.ShloMosaic Idealize.ShloMosaic.TcCoe Idealize.SL.Sem Cert.Weights Cert.Tiles

section
variable (𝒱 : Variants) (c : Dev nD) (bd : Option 𝒱.V) (i : grid2.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S112x128 .f32) (harg6 : arg6.IsWhole) (arg7 : Memref sig .tc .vmem S112x128 .f32) (harg7 : arg7.IsWhole) (arg8 : Memref sig .tc .vmem S112x256 .bf16) (harg8 : arg8.IsWhole) (arg9 : Memref sig .tc .vmem S3840x256 .bf16) (harg9 : arg9.IsWhole) (arg10 : Memref sig .tc .vmem S4x15x2x256 .bf16) (harg10 : arg10.IsWhole) (arg11 : Memref sig .tc .vmem S4x15x2x256 .bf16) (harg11 : arg11.IsWhole)

section
variable (v5 : FVec Ideal S15x256 .f32) (v86 : IVec S15x256 32) (v113 : IVec S15x256 32) (v165 : FVec Ideal S15x256 .f32) (v166_lo : FVec Ideal S15x256 .bf16)
  (X2 : BufTy.Contents (Elt Ideal) arg2.view.ty) (X9 : BufTy.Contents (Elt Ideal) arg10.view.ty) (X10 : BufTy.Contents (Elt Ideal) arg11.view.ty)

/-- One trip stores the rows of its super-block. -/
theorem trip_fills (k : Fin k2_t1_loop.trips) (hk : k.val < 15) :
    Fills (e := .bf16) (rowFrom (s := 15) (K := 3840) rfl (arg2.view.read (Elt Ideal) X2) (arg10.view.read (Elt Ideal) X9) (arg11.view.read (Elt Ideal) X10))
      (fun y => (y 0).val / 256 = k.val)
      (tripL_k2_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10 k) := by
  unfold tripL_k2_t1 trip_k2_t1
  refine Tiles.trip _ k.val (by omega) (fun g => k2_off6 k (BitVec.ofNat 32 (64 * g.val))) (fun g => k2_off6_eq k g) (fun g => k2_off6_inb k g)
    ![_, _, _, _] fun g x l => ?_
  fin_cases g
  · exact part_rows rfl _ _ _ k.val hk 0 _ _ (k2_off1_eq k) _ (k2_off2_eq k) _ _ x l
  · exact part_rows rfl _ _ _ k.val hk 1 _ _ (k2_off1_eq k) _ (k2_off3_eq k) _ _ x l
  · exact part_rows rfl _ _ _ k.val hk 2 _ _ (k2_off1_eq k) _ (k2_off4_eq k) _ _ x l
  · exact part_rows rfl _ _ _ k.val hk 3 _ _ (k2_off1_eq k) _ (k2_off5_eq k) _ _ x l

/-- What the loop leaves in the whole tile. -/
theorem tile_fills :
    Fills (e := .bf16) (rowFrom (s := 15) (K := 3840) rfl (arg2.view.read (Elt Ideal) X2) (arg10.view.read (Elt Ideal) X9) (arg11.view.read (Elt Ideal) X10))
      (fun _ => True)
      (pb_k2_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10 15) := by
  have hN : k2_t1_loop.trips = 15 := by decide
  have h := Tiles.loop (K := 3840) (rowFrom (s := 15) (K := 3840) rfl (arg2.view.read (Elt Ideal) X2) (arg10.view.read (Elt Ideal) X9) (arg11.view.read (Elt Ideal) X10))
    (fun k => if hk : k < k2_t1_loop.trips then tripL_k2_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10 ⟨k, hk⟩ else [])
    (pb_k2_t1 (F := Ideal) 𝒱 c bd i arg1 harg1 arg2 harg2 arg3 harg3 arg4 harg4 arg5 harg5 arg6 harg6 arg7 harg7 arg8 harg8 arg9 harg9 arg10 harg10 arg11 harg11 v5 v86 v113 v165 v166_lo X2 X9 X10)
    15 rfl (fun k hk => by
      have hk' : k < k2_t1_loop.trips := hN ▸ hk
      rw [dif_pos hk']
      exact pb_k2_t1_succ 𝒱 c bd i arg1 harg1 arg2 harg2 arg3 harg3 arg4 harg4 arg5 harg5 arg6 harg6 arg7 harg7 arg8 harg8 arg9 harg9 arg10 harg10 arg11 harg11 v5 v86 v113 v165 v166_lo X2 X9 X10 ⟨k, hk'⟩)
    (fun k hk => by
      have hk' : k < k2_t1_loop.trips := hN ▸ hk
      rw [dif_pos hk']
      exact trip_fills 𝒱 c bd i arg1 harg1 arg2 harg2 arg3 harg3 arg4 harg4 arg5 harg5 arg6 harg6 arg7 harg7 arg8 harg8 arg9 harg9 arg10 harg10 arg11 harg11 v5 v86 v113 v165 v166_lo X2 X9 X10 ⟨k, hk'⟩ hk)
    15 le_rfl
  exact ⟨h.1, fun y _ => h.2 y (by have : (y 0).val < 3840 := (y 0).isLt; omega)⟩

end
/-- The scales the body stores. -/
theorem scale_fills (x2 : Vec Ideal S12x15x256 .i8) (x3 : Vec Ideal S15x256 .bf16) :
    Fills (e := .bf16) (scaleAt (s := 15) x2 x3) (fun _ => True) (kernelRun2_A.sl.HS1_4 c arg3 harg3 arg4 harg4 x2 x3) := by
  have hB : arg3.view.read (Elt Ideal) (harg3.unread x2) = x2 := harg3.read_unread _
  have hD : shapeCast S15x256 (arg4.view.readAt (Elt Ideal) (Rect.unit (s := S15x256) ![0, 0] S15x256.size inb_S15x256_S15x256_0_0).toLoadRect (harg4.unread x3)) shapeCasts_S15x256_S15x256 = x3 := by
    rw [View.readAt_eq_ld]; rw [View.ld_unit_lit (S := S15x256) _ _ (by decide)]; exact (shapeCast_id (s := S15x256) _ _).trans (harg4.read_unread _)
  have h := Scales.fill_scales (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg4.view.readAt (Elt Ideal) (Rect.unit (s := S15x256) ![0, 0] S15x256.size inb_S15x256_S15x256_0_0).toLoadRect (harg4.unread x3)) shapeCasts_S15x256_S15x256) (by decide)
  have hG : scaleAt (s := 15) x2 x3 = scaleAt (s := 15) (arg3.view.read (Elt Ideal) (harg3.unread x2)) (shapeCast S15x256 (arg4.view.readAt (Elt Ideal) (Rect.unit (s := S15x256) ![0, 0] S15x256.size inb_S15x256_S15x256_0_0).toLoadRect (harg4.unread x3)) shapeCasts_S15x256_S15x256) := by rw [hB, hD]
  rw [hG]
  exact h

/-- The offsets the body stores. -/
theorem offset_fills (x2 : Vec Ideal S12x15x256 .i8) (x4 : Vec Ideal S15x256 .bf16) :
    Fills (e := .bf16) (offsetAt (s := 15) x2 x4) (fun _ => True) (kernelRun2_A.sl.HS2_4 c arg3 harg3 arg5 harg5 x2 x4) := by
  have hB : arg3.view.read (Elt Ideal) (harg3.unread x2) = x2 := harg3.read_unread _
  have hD : shapeCast S15x256 (arg5.view.readAt (Elt Ideal) (Rect.unit (s := S15x256) ![0, 0] S15x256.size inb_S15x256_S15x256_0_0).toLoadRect (harg5.unread x4)) shapeCasts_S15x256_S15x256 = x4 := by
    rw [View.readAt_eq_ld]; rw [View.ld_unit_lit (S := S15x256) _ _ (by decide)]; exact (shapeCast_id (s := S15x256) _ _).trans (harg5.read_unread _)
  have h := Scales.fill_offsets (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg5.view.readAt (Elt Ideal) (Rect.unit (s := S15x256) ![0, 0] S15x256.size inb_S15x256_S15x256_0_0).toLoadRect (harg5.unread x4)) shapeCasts_S15x256_S15x256) (by decide)
  have hG : offsetAt (s := 15) x2 x4 = offsetAt (s := 15) (arg3.view.read (Elt Ideal) (harg3.unread x2)) (shapeCast S15x256 (arg5.view.readAt (Elt Ideal) (Rect.unit (s := S15x256) ![0, 0] S15x256.size inb_S15x256_S15x256_0_0).toLoadRect (harg5.unread x4)) shapeCasts_S15x256_S15x256) := by rw [hB, hD]
  rw [hG]
  exact h

/-- The product as the body holds it. -/
theorem product_apply (x0 : Vec Ideal S112x3840 .bf16) (x1 : Vec Ideal S15x256x128 .i8) (x2 : Vec Ideal S12x15x256 .i8) (x3 x4 : Vec Ideal S15x256 .bf16) (b : Fin 112) (l : Fin 256) :
    kernelRun2_A.sl.r_11 (F := Ideal) c i arg1 harg1 arg2 harg2 arg3 harg3 arg4 harg4 arg5 harg5 arg6 harg6 arg7 harg7 arg8 harg8 arg9 harg9 arg10 harg10 arg11 harg11 x0 x1 x2 x3 x4 (ix2 b l)
      = ∑ κ : Fin 3840, x0 (ix2 b κ) * tileW (s := 15) x1 x2 x3 x4 ⟨κ.val / 256, by omega⟩ ⟨κ.val % 256, by omega⟩ l := by
  unfold kernelRun2_A.sl.r_11
  rw [show Scf.trips k2_t1_loop.lb k2_t1_loop.ub k2_t1_loop.st = 15 from by decide,
    (tile_fills Variants.none c none i arg1 harg1 arg2 harg2 arg3 harg3 arg4 harg4 arg5 harg5 arg6 harg6 arg7 harg7 arg8 harg8 arg9 harg9 arg10 harg10 arg11 harg11 _ _ _ _ _ _ _ _).readCov,
    (scale_fills c arg3 harg3 arg4 harg4 x2 x3).read, (offset_fills c arg3 harg3 arg5 harg5 x2 x4).read, harg2.read_unread]
  simp only [View.readAt_eq_ld]
  rw [View.ld_unit_lit (S := S112x3840) _ _ (by decide), View.ld_unit_lit (S := S3840x256) _ _ (by decide), harg1.read_unread]
  pointwise [k2_pay62]
  exact Finset.sum_congr rfl fun κ _ => congrArg (x0 (ix2 b κ) * ·) (rowFrom_scales (s := 15) rfl x1 x2 x3 x4 κ l)

end

end Cert.BeforeIdeal.Body2
end
-- ==== Proof.BeforeRope.lean ====
module

public import proofs.«01_k».proof.Proof.BeforeBody1
public import proofs.«01_k».proof.Proof.BeforeBody2

/-!
The rotation the query and key projections end with: the block each stores, read at an index.
-/

@[expose] public section

set_option maxRecDepth 16384

noncomputable section

namespace Cert.BeforeIdeal.Rope

open Cert.BeforeIdeal Cert.BeforeIdeal.Gen Idealize.ShloMosaic Idealize.ShloMosaic.TcCoe Idealize.SL.Sem Cert.Weights Cert.Tiles

/-- Column `l` of a head after the rotation: columns `2 j` and `2 j + 1` are turned by angle `j`. -/
def rotated (y : Fin 256 → EReal) (cs sn : Fin 128 → EReal) (l : Fin 256) : EReal :=
  if l.val % 2 = 0 then y l * cs ⟨l.val / 2, by omega⟩ - y ⟨(l.val + 1) % 256, by omega⟩ * sn ⟨l.val / 2, by omega⟩
  else y ⟨l.val - 1, by omega⟩ * sn ⟨l.val / 2, by omega⟩ + y l * cs ⟨l.val / 2, by omega⟩

/-- Lane indices as the body makes them ready for a gather. -/
def wrap (w : IVec S112x128 32) : IVec S112x128 32 :=
  shapeCast S112x128 (shapeCast S112x128x1 (select (cmpi CmpIPredicate.slt w (broadcast S112x128 0#32)) (addi w (broadcast S112x128 128#32)) w)
    shapeCasts_S112x128_S112x128x1) shapeCasts_S112x128x1_S112x128

/-- The lane numbers. -/
def lane : IVec S112x128 32 := iota Kind.tc S112x128 32 [1] iota_S112x128_d1_w32

/-- Half the lane number, in the lower and in the upper half of the head. -/
def low : IVec S112x128 32 := addi (shrsi lane (broadcast S112x128 1#32)) (broadcast S112x128 0#32)
def high : IVec S112x128 32 := addi (shrsi lane (broadcast S112x128 1#32)) (broadcast S112x128 64#32)

/-- The other lane of the pair. -/
def other : IVec S112x128 32 := xori lane (broadcast S112x128 1#32)

theorem wrap_eq (w : IVec S112x128 32) : wrap w = select (cmpi CmpIPredicate.slt w (broadcast S112x128 0#32)) (addi w (broadcast S112x128 128#32)) w := by
  unfold wrap
  rw [shapeCast_comp]
  exact shapeCast_id (s := S112x128) _ _

theorem low_apply (b : Fin 112) (j : Fin 128) : (wrap low (ix2 b j)).toNat % 128 = j.val / 2 := by
  rw [wrap_eq]
  have h : ∀ j : Fin 128, (select (cmpi CmpIPredicate.slt low (broadcast S112x128 0#32)) (addi low (broadcast S112x128 128#32)) low (ix2 (0 : Fin 112) j)).toNat % 128 = j.val / 2 := by
    decide +kernel
  exact h j

theorem high_apply (b : Fin 112) (j : Fin 128) : (wrap high (ix2 b j)).toNat % 128 = 64 + j.val / 2 := by
  rw [wrap_eq]
  have h : ∀ j : Fin 128, (select (cmpi CmpIPredicate.slt high (broadcast S112x128 0#32)) (addi high (broadcast S112x128 128#32)) high (ix2 (0 : Fin 112) j)).toNat % 128 = 64 + j.val / 2 := by
    decide +kernel
  exact h j

theorem other_apply (b : Fin 112) (j : Fin 128) : (wrap other (ix2 b j)).toNat % 128 = if j.val % 2 = 0 then j.val + 1 else j.val - 1 := by
  rw [wrap_eq]
  have h : ∀ j : Fin 128, (select (cmpi CmpIPredicate.slt other (broadcast S112x128 0#32)) (addi other (broadcast S112x128 128#32)) other (ix2 (0 : Fin 112) j)).toNat % 128
      = if j.val % 2 = 0 then j.val + 1 else j.val - 1 := by
    decide +kernel
  exact h j

theorem even_apply (b : Fin 112) (j : Fin 128) : cmpi CmpIPredicate.eq (andi lane (broadcast S112x128 1#32)) (broadcast S112x128 0#32) (ix2 b j) = if j.val % 2 = 0 then 1#1 else 0#1 := by
  have h : ∀ j : Fin 128, cmpi CmpIPredicate.eq (andi lane (broadcast S112x128 1#32)) (broadcast S112x128 0#32) (ix2 (0 : Fin 112) j) = if j.val % 2 = 0 then 1#1 else 0#1 := by
    decide +kernel
  exact h j

theorem gather_apply (x : FVec Ideal S112x128 .f32) (w : IVec S112x128 32) (b : Fin 112) (j k : Fin 128) (h : (w (ix2 b j)).toNat % 128 = k.val) :
    dynamicGather 1 x w (ix2 b j) = x (ix2 b k) := by
  rw [dynamicGather_apply]
  refine congrArg x (funext fun a => ?_)
  match a with
  | 0 => rfl
  | 1 => exact Fin.ext h

/-- One half of the rotated head, as the body writes it. -/
def turned (v cs sn : FVec Ideal S112x128 .f32) (w : IVec S112x128 32) : FVec Ideal S112x128 .f32 :=
  addf (mulf v (dynamicGather 1 cs (wrap w)))
    (select (cmpi CmpIPredicate.eq (andi lane (broadcast S112x128 1#32)) (broadcast S112x128 0#32))
      (subf (broadcast S112x128 (FloatOps.ofBits (F := Ideal) FTy.f32 0#32)) (mulf (dynamicGather 1 v (wrap other)) (dynamicGather 1 sn (wrap w))))
      (mulf (dynamicGather 1 v (wrap other)) (dynamicGather 1 sn (wrap w))))

theorem turned_apply (v cs sn : FVec Ideal S112x128 .f32) (w : IVec S112x128 32) (b : Fin 112) (j k o : Fin 128)
    (hw : (wrap w (ix2 b j)).toNat % 128 = k.val) (ho : (if j.val % 2 = 0 then j.val + 1 else j.val - 1) = o.val) :
    turned v cs sn w (ix2 b j) = if j.val % 2 = 0 then v (ix2 b j) * cs (ix2 b k) - v (ix2 b o) * sn (ix2 b k)
      else v (ix2 b o) * sn (ix2 b k) + v (ix2 b j) * cs (ix2 b k) := by
  have hc := gather_apply cs (wrap w) b j k hw
  have hs := gather_apply sn (wrap w) b j k hw
  have hv := gather_apply v (wrap other) b j o ((other_apply b j).trans ho)
  have he := even_apply b j
  unfold turned
  generalize dynamicGather 1 cs (wrap w) = C at hc ⊢
  generalize dynamicGather 1 sn (wrap w) = S at hs ⊢
  generalize dynamicGather 1 v (wrap other) = V at hv ⊢
  generalize cmpi CmpIPredicate.eq (andi lane (broadcast S112x128 1#32)) (broadcast S112x128 0#32) = E at he ⊢
  refine (show _ = (v (ix2 b j) * C (ix2 b j) + if E (ix2 b j) = 1#1 then FloatOps.ofBits (F := Ideal) FTy.f32 0#32 - V (ix2 b j) * S (ix2 b j) else V (ix2 b j) * S (ix2 b j) : EReal) from rfl).trans ?_
  rw [hc, hs, hv, he]
  by_cases h : j.val % 2 = 0
  · rw [if_pos h, if_pos h, if_pos rfl]
    have z : FloatOps.ofBits (F := Ideal) FTy.f32 0#32 = (0 : EReal) := by pointwise
    rw [z, zero_sub, ← sub_eq_add_neg]
  · rw [if_neg h, if_neg h, if_neg (by decide)]
    exact add_comm _ _

/-- The whole rotated head, its two halves side by side. -/
theorem halves_apply (y : FVec Ideal S112x256 .f32) (cs sn : FVec Ideal S112x128 .f32) (b : Fin 112) (l : Fin 256) :
    concatenate S112x256 1 [⟨S112x128, turned (extractStridedSlice S112x128 ![0, 0] y slices_S112x256_o0_0_S112x128) cs sn low⟩,
        ⟨S112x128, turned (extractStridedSlice S112x128 ![0, 128] y slices_S112x256_o0_128_S112x128) cs sn high⟩]
        concatenates_S112x128_S112x128_S112x256_d1 (ix2 b l)
      = rotated (fun k => y (ix2 b k)) (fun k => cs (ix2 b k)) (fun k => sn (ix2 b k)) l := by
  by_cases hl : l.val < 128
  · have g := turned_apply (extractStridedSlice S112x128 ![0, 0] y slices_S112x256_o0_0_S112x128) cs sn low b ⟨l.val, hl⟩ ⟨l.val / 2, by omega⟩
      ⟨if l.val % 2 = 0 then l.val + 1 else l.val - 1, by split <;> omega⟩ (low_apply b _) rfl
    generalize turned (extractStridedSlice S112x128 ![0, 0] y slices_S112x256_o0_0_S112x128) cs sn low = T at g ⊢
    pointwise
    rw [dif_pos hl]
    refine g.trans ?_
    unfold rotated
    by_cases he : l.val % 2 = 0
    · simp only [if_pos he]
      pointwise
      have e : (⟨l.val + 1, by omega⟩ : Fin 256) = ⟨(l.val + 1) % 256, by omega⟩ := Fin.ext (by simp only []; omega)
      rw [← e]
    · simp only [if_neg he]
      pointwise
  · have g := turned_apply (extractStridedSlice S112x128 ![0, 128] y slices_S112x256_o0_128_S112x128) cs sn high b ⟨l.val - 128, by omega⟩ ⟨64 + (l.val - 128) / 2, by omega⟩
      ⟨if (l.val - 128) % 2 = 0 then l.val - 128 + 1 else l.val - 128 - 1, by split <;> omega⟩ (high_apply b _) rfl
    generalize turned (extractStridedSlice S112x128 ![0, 128] y slices_S112x256_o0_128_S112x128) cs sn high = T at g ⊢
    pointwise
    rw [dif_neg hl]
    refine g.trans ?_
    unfold rotated
    have eh : (⟨64 + (l.val - 128) / 2, by omega⟩ : Fin 128) = ⟨l.val / 2, by omega⟩ := Fin.ext (by simp only []; omega)
    rw [eh]
    by_cases he : l.val % 2 = 0
    · have he' : (l.val - 128) % 2 = 0 := by omega
      simp only [if_pos he, if_pos he']
      pointwise
      have e : (⟨128 + (l.val - 128 + 1), by omega⟩ : Fin 256) = ⟨(l.val + 1) % 256, by omega⟩ := Fin.ext (by simp only []; omega)
      have e' : (⟨128 + (l.val - 128), by omega⟩ : Fin 256) = l := Fin.ext (by simp only []; omega)
      rw [e, e']
    · have he' : ¬ (l.val - 128) % 2 = 0 := by omega
      simp only [if_neg he, if_neg he']
      pointwise
      have e : (⟨128 + (l.val - 128 - 1), by omega⟩ : Fin 256) = ⟨l.val - 1, by omega⟩ := Fin.ext (by simp only []; omega)
      have e' : (⟨128 + (l.val - 128), by omega⟩ : Fin 256) = l := Fin.ext (by simp only []; omega)
      rw [e, e']

section
variable (c : Dev nD) (i : grid1.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S112x128 .f32) (harg6 : arg6.IsWhole) (arg7 : Memref sig .tc .vmem S112x128 .f32) (harg7 : arg7.IsWhole) (arg8 : Memref sig .tc .vmem S112x256 .bf16) (harg8 : arg8.IsWhole) (arg9 : Memref sig .tc .vmem S3840x256 .bf16) (harg9 : arg9.IsWhole) (arg10 : Memref sig .tc .vmem S4x15x2x256 .bf16) (harg10 : arg10.IsWhole) (arg11 : Memref sig .tc .vmem S4x15x2x256 .bf16) (harg11 : arg11.IsWhole)

/-- The block the query projection's body stores, read at an index. -/
theorem out1_apply (x0 : Vec Ideal S112x3840 .bf16) (x1 : Vec Ideal S15x256x128 .i8) (x2 : Vec Ideal S12x15x256 .i8) (x3 x4 : Vec Ideal S15x256 .bf16) (x5 x6 : Vec Ideal S112x128 .f32) (b : Fin 112) (l : Fin 256) :
    out1_A_7 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 b l)
      = rotated (fun l => ∑ κ : Fin 3840, x0 (ix2 b κ) * tileW (s := 15) x1 x2 x3 x4 ⟨κ.val / 256, by omega⟩ ⟨κ.val % 256, by omega⟩ l)
          (fun j => x5 (ix2 b j)) (fun j => x6 (ix2 b j)) l := by
  have h5 : arg6.view.readAt (Elt Ideal) (Rect.unit (s := S112x128) ![0, 0] S112x128.size inb_S112x128_S112x128_0_0).toLoadRect (harg6.unread x5) = x5 := by
    rw [View.readAt_eq_ld, View.ld_unit_lit (S := S112x128) _ _ (by decide), harg6.read_unread]
  have h6 : arg7.view.readAt (Elt Ideal) (Rect.unit (s := S112x128) ![0, 0] S112x128.size inb_S112x128_S112x128_0_0).toLoadRect (harg7.unread x6) = x6 := by
    rw [View.readAt_eq_ld, View.ld_unit_lit (S := S112x128) _ _ (by decide), harg7.read_unread]
  unfold out1_A_7 kernelRun1_A
  dsimp only
  refine (congrFun ((Tiles.whole (S := S112x256) (e := .bf16) _ ![0, 0] (by decide) _).read VO1_7 _) (ix2 b l)).trans ?_
  have e := halves_apply (kernelRun1_A.sl.r_11 (F := Ideal) c i arg1 harg1 arg2 harg2 arg3 harg3 arg4 harg4 arg5 harg5 arg6 harg6 arg7 harg7 arg8 harg8 arg9 harg9 arg10 harg10 arg11 harg11 x0 x1 x2 x3 x4)
    (arg6.view.readAt (Elt Ideal) (Rect.unit (s := S112x128) ![0, 0] S112x128.size inb_S112x128_S112x128_0_0).toLoadRect (harg6.unread x5))
    (arg7.view.readAt (Elt Ideal) (Rect.unit (s := S112x128) ![0, 0] S112x128.size inb_S112x128_S112x128_0_0).toLoadRect (harg7.unread x6)) b l
  refine Eq.trans ?_ (e.trans ?_)
  · rfl
  · rw [h5, h6]
    exact congrArg (fun y : Fin 256 → EReal => rotated y (fun j => x5 (ix2 b j)) (fun j => x6 (ix2 b j)) l)
      (funext fun l => Body1.product_apply c i arg1 harg1 arg2 harg2 arg3 harg3 arg4 harg4 arg5 harg5 arg6 harg6 arg7 harg7 arg8 harg8 arg9 harg9 arg10 harg10 arg11 harg11 x0 x1 x2 x3 x4 b l)

end

section
variable (c : Dev nD) (i : grid2.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S112x128 .f32) (harg6 : arg6.IsWhole) (arg7 : Memref sig .tc .vmem S112x128 .f32) (harg7 : arg7.IsWhole) (arg8 : Memref sig .tc .vmem S112x256 .bf16) (harg8 : arg8.IsWhole) (arg9 : Memref sig .tc .vmem S3840x256 .bf16) (harg9 : arg9.IsWhole) (arg10 : Memref sig .tc .vmem S4x15x2x256 .bf16) (harg10 : arg10.IsWhole) (arg11 : Memref sig .tc .vmem S4x15x2x256 .bf16) (harg11 : arg11.IsWhole)

/-- The block the key projection's body stores, read at an index. -/
theorem out2_apply (x0 : Vec Ideal S112x3840 .bf16) (x1 : Vec Ideal S15x256x128 .i8) (x2 : Vec Ideal S12x15x256 .i8) (x3 x4 : Vec Ideal S15x256 .bf16) (x5 x6 : Vec Ideal S112x128 .f32) (b : Fin 112) (l : Fin 256) :
    out2_A_7 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 b l)
      = rotated (fun l => ∑ κ : Fin 3840, x0 (ix2 b κ) * tileW (s := 15) x1 x2 x3 x4 ⟨κ.val / 256, by omega⟩ ⟨κ.val % 256, by omega⟩ l)
          (fun j => x5 (ix2 b j)) (fun j => x6 (ix2 b j)) l := by
  have h5 : arg6.view.readAt (Elt Ideal) (Rect.unit (s := S112x128) ![0, 0] S112x128.size inb_S112x128_S112x128_0_0).toLoadRect (harg6.unread x5) = x5 := by
    rw [View.readAt_eq_ld, View.ld_unit_lit (S := S112x128) _ _ (by decide), harg6.read_unread]
  have h6 : arg7.view.readAt (Elt Ideal) (Rect.unit (s := S112x128) ![0, 0] S112x128.size inb_S112x128_S112x128_0_0).toLoadRect (harg7.unread x6) = x6 := by
    rw [View.readAt_eq_ld, View.ld_unit_lit (S := S112x128) _ _ (by decide), harg7.read_unread]
  unfold out2_A_7 kernelRun2_A
  dsimp only
  refine (congrFun ((Tiles.whole (S := S112x256) (e := .bf16) _ ![0, 0] (by decide) _).read VO2_7 _) (ix2 b l)).trans ?_
  have e := halves_apply (kernelRun2_A.sl.r_11 (F := Ideal) c i arg1 harg1 arg2 harg2 arg3 harg3 arg4 harg4 arg5 harg5 arg6 harg6 arg7 harg7 arg8 harg8 arg9 harg9 arg10 harg10 arg11 harg11 x0 x1 x2 x3 x4)
    (arg6.view.readAt (Elt Ideal) (Rect.unit (s := S112x128) ![0, 0] S112x128.size inb_S112x128_S112x128_0_0).toLoadRect (harg6.unread x5))
    (arg7.view.readAt (Elt Ideal) (Rect.unit (s := S112x128) ![0, 0] S112x128.size inb_S112x128_S112x128_0_0).toLoadRect (harg7.unread x6)) b l
  refine Eq.trans ?_ (e.trans ?_)
  · rfl
  · rw [h5, h6]
    exact congrArg (fun y : Fin 256 → EReal => rotated y (fun j => x5 (ix2 b j)) (fun j => x6 (ix2 b j)) l)
      (funext fun l => Body2.product_apply c i arg1 harg1 arg2 harg2 arg3 harg3 arg4 harg4 arg5 harg5 arg6 harg6 arg7 harg7 arg8 harg8 arg9 harg9 arg10 harg10 arg11 harg11 x0 x1 x2 x3 x4 b l)

end

end Cert.BeforeIdeal.Rope
end
-- ==== Proof.BeforeBody3.lean ====
module

public import proofs.«01_k».proof.Proof.Gen.BeforeIdeal.Frame
public import proofs.«01_k».proof.Proof.Scales

/-!
What the body of the value projection leaves in its weight tile for one block of 256 columns, and its product.
-/

@[expose] public section

set_option maxRecDepth 16384

noncomputable section

namespace Cert.BeforeIdeal.Body3

open Cert.BeforeIdeal Cert.BeforeIdeal.Gen Idealize.ShloMosaic Idealize.ShloMosaic.TcCoe Idealize.SL.Sem Cert.Weights Cert.Tiles

section
variable (𝒱 : Variants) (c : Dev nD) (bd : Option 𝒱.V) (i : grid3.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S112x256 .bf16) (harg6 : arg6.IsWhole) (arg7 : Memref sig .tc .vmem S3840x256 .bf16) (harg7 : arg7.IsWhole) (arg8 : Memref sig .tc .vmem S4x15x2x256 .bf16) (harg8 : arg8.IsWhole) (arg9 : Memref sig .tc .vmem S4x15x2x256 .bf16) (harg9 : arg9.IsWhole)

section
variable
  (X2 : BufTy.Contents (Elt Ideal) arg2.view.ty) (X9 : BufTy.Contents (Elt Ideal) arg8.view.ty) (X10 : BufTy.Contents (Elt Ideal) arg9.view.ty)

/-- One trip stores the rows of its super-block. -/
theorem trip_fills (k : Fin k3_t1_loop.trips) (hk : k.val < 15) :
    Fills (e := .bf16) (rowFrom (s := 15) (K := 3840) rfl (arg2.view.read (Elt Ideal) X2) (arg8.view.read (Elt Ideal) X9) (arg9.view.read (Elt Ideal) X10))
      (fun y => (y 0).val / 256 = k.val)
      (tripL_k3_t1 (F := Ideal) 𝒱 c bd i arg1 harg1 arg2 harg2 arg3 harg3 arg4 harg4 arg5 harg5 arg6 harg6 arg7 harg7 arg8 harg8 arg9 harg9 X2 X9 X10 k) := by
  unfold tripL_k3_t1 trip_k3_t1
  refine Tiles.trip _ k.val (by omega) (fun g => k3_off6 k (BitVec.ofNat 32 (64 * g.val))) (fun g => k3_off6_eq k g) (fun g => k3_off6_inb k g)
    ![_, _, _, _] fun g x l => ?_
  fin_cases g
  · exact part_rows rfl _ _ _ k.val hk 0 _ _ (k3_off1_eq k) _ (k3_off2_eq k) _ _ x l
  · exact part_rows rfl _ _ _ k.val hk 1 _ _ (k3_off1_eq k) _ (k3_off3_eq k) _ _ x l
  · exact part_rows rfl _ _ _ k.val hk 2 _ _ (k3_off1_eq k) _ (k3_off4_eq k) _ _ x l
  · exact part_rows rfl _ _ _ k.val hk 3 _ _ (k3_off1_eq k) _ (k3_off5_eq k) _ _ x l

/-- What the loop leaves in the whole tile. -/
theorem tile_fills :
    Fills (e := .bf16) (rowFrom (s := 15) (K := 3840) rfl (arg2.view.read (Elt Ideal) X2) (arg8.view.read (Elt Ideal) X9) (arg9.view.read (Elt Ideal) X10))
      (fun _ => True)
      (pb_k3_t1 (F := Ideal) 𝒱 c bd i arg1 harg1 arg2 harg2 arg3 harg3 arg4 harg4 arg5 harg5 arg6 harg6 arg7 harg7 arg8 harg8 arg9 harg9 X2 X9 X10 15) := by
  have hN : k3_t1_loop.trips = 15 := by decide
  have h := Tiles.loop (K := 3840) (rowFrom (s := 15) (K := 3840) rfl (arg2.view.read (Elt Ideal) X2) (arg8.view.read (Elt Ideal) X9) (arg9.view.read (Elt Ideal) X10))
    (fun k => if hk : k < k3_t1_loop.trips then tripL_k3_t1 (F := Ideal) 𝒱 c bd i arg1 harg1 arg2 harg2 arg3 harg3 arg4 harg4 arg5 harg5 arg6 harg6 arg7 harg7 arg8 harg8 arg9 harg9 X2 X9 X10 ⟨k, hk⟩ else [])
    (pb_k3_t1 (F := Ideal) 𝒱 c bd i arg1 harg1 arg2 harg2 arg3 harg3 arg4 harg4 arg5 harg5 arg6 harg6 arg7 harg7 arg8 harg8 arg9 harg9 X2 X9 X10)
    15 rfl (fun k hk => by
      have hk' : k < k3_t1_loop.trips := hN ▸ hk
      rw [dif_pos hk']
      exact pb_k3_t1_succ 𝒱 c bd i arg1 harg1 arg2 harg2 arg3 harg3 arg4 harg4 arg5 harg5 arg6 harg6 arg7 harg7 arg8 harg8 arg9 harg9 X2 X9 X10 ⟨k, hk'⟩)
    (fun k hk => by
      have hk' : k < k3_t1_loop.trips := hN ▸ hk
      rw [dif_pos hk']
      exact trip_fills 𝒱 c bd i arg1 harg1 arg2 harg2 arg3 harg3 arg4 harg4 arg5 harg5 arg6 harg6 arg7 harg7 arg8 harg8 arg9 harg9 X2 X9 X10 ⟨k, hk'⟩ hk)
    15 le_rfl
  exact ⟨h.1, fun y _ => h.2 y (by have : (y 0).val < 3840 := (y 0).isLt; omega)⟩

end
/-- The scales the body stores. -/
theorem scale_fills (x2 : Vec Ideal S12x15x256 .i8) (x3 : Vec Ideal S15x256 .bf16) :
    Fills (e := .bf16) (scaleAt (s := 15) x2 x3) (fun _ => True) (kernelRun3_A.sl.HS1_4 c arg3 harg3 arg4 harg4 x2 x3) := by
  have hB : arg3.view.read (Elt Ideal) (harg3.unread x2) = x2 := harg3.read_unread _
  have hD : shapeCast S15x256 (arg4.view.readAt (Elt Ideal) (Rect.unit (s := S15x256) ![0, 0] S15x256.size inb_S15x256_S15x256_0_0).toLoadRect (harg4.unread x3)) shapeCasts_S15x256_S15x256 = x3 := by
    rw [View.readAt_eq_ld]; rw [View.ld_unit_lit (S := S15x256) _ _ (by decide)]; exact (shapeCast_id (s := S15x256) _ _).trans (harg4.read_unread _)
  have h := Scales.fill_scales (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg4.view.readAt (Elt Ideal) (Rect.unit (s := S15x256) ![0, 0] S15x256.size inb_S15x256_S15x256_0_0).toLoadRect (harg4.unread x3)) shapeCasts_S15x256_S15x256) (by decide)
  have hG : scaleAt (s := 15) x2 x3 = scaleAt (s := 15) (arg3.view.read (Elt Ideal) (harg3.unread x2)) (shapeCast S15x256 (arg4.view.readAt (Elt Ideal) (Rect.unit (s := S15x256) ![0, 0] S15x256.size inb_S15x256_S15x256_0_0).toLoadRect (harg4.unread x3)) shapeCasts_S15x256_S15x256) := by rw [hB, hD]
  rw [hG]
  exact h

/-- The offsets the body stores. -/
theorem offset_fills (x2 : Vec Ideal S12x15x256 .i8) (x4 : Vec Ideal S15x256 .bf16) :
    Fills (e := .bf16) (offsetAt (s := 15) x2 x4) (fun _ => True) (kernelRun3_A.sl.HS2_4 c arg3 harg3 arg5 harg5 x2 x4) := by
  have hB : arg3.view.read (Elt Ideal) (harg3.unread x2) = x2 := harg3.read_unread _
  have hD : shapeCast S15x256 (arg5.view.readAt (Elt Ideal) (Rect.unit (s := S15x256) ![0, 0] S15x256.size inb_S15x256_S15x256_0_0).toLoadRect (harg5.unread x4)) shapeCasts_S15x256_S15x256 = x4 := by
    rw [View.readAt_eq_ld]; rw [View.ld_unit_lit (S := S15x256) _ _ (by decide)]; exact (shapeCast_id (s := S15x256) _ _).trans (harg5.read_unread _)
  have h := Scales.fill_offsets (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg5.view.readAt (Elt Ideal) (Rect.unit (s := S15x256) ![0, 0] S15x256.size inb_S15x256_S15x256_0_0).toLoadRect (harg5.unread x4)) shapeCasts_S15x256_S15x256) (by decide)
  have hG : offsetAt (s := 15) x2 x4 = offsetAt (s := 15) (arg3.view.read (Elt Ideal) (harg3.unread x2)) (shapeCast S15x256 (arg5.view.readAt (Elt Ideal) (Rect.unit (s := S15x256) ![0, 0] S15x256.size inb_S15x256_S15x256_0_0).toLoadRect (harg5.unread x4)) shapeCasts_S15x256_S15x256) := by rw [hB, hD]
  rw [hG]
  exact h

/-- The block the body stores, read at an index. -/
theorem out_apply (x0 : Vec Ideal S112x3840 .bf16) (x1 : Vec Ideal S15x256x128 .i8) (x2 : Vec Ideal S12x15x256 .i8) (x3 x4 : Vec Ideal S15x256 .bf16) (b : Fin 112) (l : Fin 256) :
    out3_A_5 (F := Ideal) c i arg1 harg1 arg2 harg2 arg3 harg3 arg4 harg4 arg5 harg5 arg6 harg6 arg7 harg7 arg8 harg8 arg9 harg9 x0 x1 x2 x3 x4 (ix2 b l)
      = ∑ κ : Fin 3840, x0 (ix2 b κ) * tileW (s := 15) x1 x2 x3 x4 ⟨κ.val / 256, by omega⟩ ⟨κ.val % 256, by omega⟩ l := by
  unfold out3_A_5 kernelRun3_A
  dsimp only
  rw [show Scf.trips (0#32) (Scalar.addi 0#32 15#32) 1#32 = 15 from by decide,
    (tile_fills Variants.none c none i arg1 harg1 arg2 harg2 arg3 harg3 arg4 harg4 arg5 harg5 arg6 harg6 arg7 harg7 arg8 harg8 arg9 harg9 _ _ _).readCov,
    (scale_fills c arg3 harg3 arg4 harg4 x2 x3).read, (offset_fills c arg3 harg3 arg5 harg5 x2 x4).read, harg2.read_unread]
  refine (congrFun ((Tiles.whole (S := S112x256) (e := .bf16) _ ![0, 0] (by decide) _).read VO3_5 _) (ix2 b l)).trans ?_
  simp only [View.readAt_eq_ld]
  rw [View.ld_unit_lit (S := S112x3840) _ _ (by decide), View.ld_unit_lit (S := S3840x256) _ _ (by decide), harg1.read_unread]
  pointwise [k3_pay7]
  exact Finset.sum_congr rfl fun κ _ => congrArg (x0 (ix2 b κ) * ·) (rowFrom_scales (s := 15) rfl x1 x2 x3 x4 κ l)

end

end Cert.BeforeIdeal.Body3
end
-- ==== Proof.BeforeNorm.lean ====
module

public import proofs.«01_k».proof.Proof.Gen.BeforeIdeal.Frame
public import proofs.«01_k».proof.Proof.Scales

/-!
What the normalisation's body stores: the normalised row, its columns permuted into the nibbles' order within each tile
of 128.
-/

@[expose] public section

set_option maxRecDepth 16384

noncomputable section

namespace Cert.BeforeIdeal.Norm

open Cert.BeforeIdeal Cert.BeforeIdeal.Gen Idealize.ShloMosaic Idealize.ShloMosaic.TcCoe Idealize.SL.Sem Cert.Weights Cert.Tiles

/-- The row of activations normalised and scaled by the gain. -/
def normal (x g : Fin 3840 → EReal) (k : Fin 3840) : EReal :=
  x k * Ideal.rsqrt (Ideal.div (∑ j, x j * x j) (Ideal.ofBits .f32 0x45700000#32) + Ideal.ofBits .f32 0x358637BD#32) * g k

/-- The column of a tile of 128 whose value the permutation brings to column `j`. -/
def perm (j : Fin 128) : Fin 128 := ⟨64 * (j.val / 64) + 32 * (j.val % 2) + j.val % 64 / 2, by omega⟩

/-- The column of a row whose value the permutation brings to column `κ`. -/
def column (κ : Fin 3840) : Fin 3840 := ⟨64 * (κ.val / 64) + 32 * (κ.val % 2) + κ.val % 64 / 2, by omega⟩

/-- The lane index each element is gathered from, before its two casts. -/
def lanes : IVec S112x128 32 :=
  select (cmpi CmpIPredicate.slt k0_pay4 (broadcast S112x128 0#32)) (addi k0_pay4 (broadcast S112x128 128#32)) k0_pay4

theorem lanes_apply (b : Fin 112) (j : Fin 128) : (lanes (ix2 b j)).toNat % 128 = (perm j).val := by
  have h : ∀ j : Fin 128, (lanes (ix2 (0 : Fin 112) j)).toNat % 128 = (perm j).val := by decide +kernel
  exact h j

/-- One tile of the permuted row. -/
def tile (v : FVec Ideal S112x3840 .f32) (o : Nat) (h : S112x3840.Slices ![0, o] S112x128) : FVec Ideal S112x128 .f32 :=
  dynamicGather 1 (extractStridedSlice S112x128 ![0, o] v h) (shapeCast S112x128 (shapeCast S112x128x1 lanes shapeCasts_S112x128_S112x128x1) shapeCasts_S112x128x1_S112x128)

theorem tile_apply (v : FVec Ideal S112x3840 .f32) (o : Nat) (h) (b : Fin 112) (j : Fin 128) (k : Fin 3840) (hk : o + (perm j).val = k.val) :
    tile v o h (ix2 b j) = v (ix2 b k) := by
  have e : shapeCast S112x128 (shapeCast S112x128x1 lanes shapeCasts_S112x128_S112x128x1) shapeCasts_S112x128x1_S112x128 = lanes := by
    rw [shapeCast_comp]
    exact shapeCast_id (s := S112x128) _ _
  unfold tile
  rw [e, dynamicGather_apply]
  refine congrArg v (funext fun a => Fin.ext ?_)
  match a with
  | 0 => exact Nat.zero_add _
  | 1 => exact (congrArg (o + ·) (lanes_apply b j)).trans hk

theorem pay3_apply (x : Vec Ideal S112x3840 .bf16) (g : Vec Ideal S1x3840 .f32) (b : Fin 112) (k : Fin 3840) :
    k0_pay3 (F := Ideal) x g (ix2 b k) = normal (fun k => x (ix2 b k)) (fun k => g (ix2 0 k)) k := by
  pointwise [k0_pay3]
  rfl

/-- Entry `n` of row `b`, permuted; nothing past the row. -/
def entry (v : FVec Ideal S112x3840 .f32) (b : Fin 112) (n : Nat) : EReal :=
  if h : n < 3840 then v (ix2 b (column ⟨n, h⟩)) else 0

theorem tile_entry (v : FVec Ideal S112x3840 .f32) (o : Nat) (h) (b : Fin 112) (hm : o % 128 = 0) (ho : o + 128 ≤ 3840) (j : Fin 128) :
    tile v o h (ix2 b j) = entry v b (o + j.val) := by
  refine (tile_apply v o h b j (column ⟨o + j.val, by omega⟩) ?_).trans (by rw [entry, dif_pos (show o + j.val < 3840 by omega)])
  show o + (64 * (j.val / 64) + 32 * (j.val % 2) + j.val % 64 / 2) = 64 * ((o + j.val) / 64) + 32 * ((o + j.val) % 2) + (o + j.val) % 64 / 2
  omega

/-- The pieces, from offset `o` on, hold a row's entries. -/
def Holds (b : Fin 112) (G : Nat → EReal) : Nat → List (FVec Ideal S112x128 .f32) → Prop
  | _, [] => True
  | o, p :: ps => (∀ j : Fin 128, p (ix2 b j) = G (o + j.val)) ∧ Holds b G (o + 128) ps

/-- Pieces side by side, read at a column. -/
theorem joined (b : Fin 112) (k : Fin 3840) (G : Nat → EReal) : ∀ (ps : List (FVec Ideal S112x128 .f32)) (o : Nat) (_ : Holds b G o ps) (hs) (n : Nat) (hn),
    concatenateAt S112x3840 1 (ix2 b k) (ps.map fun p => (⟨S112x128, p⟩ : (s : Shape) × (s.Idx → EReal))) hs n hn = G (o + n)
  | [], _, _, _, _, hn => absurd hn (Nat.not_lt_zero _)
  | [p], o, hp, hs, n, hn => by
    have hn' : n < 128 := hn
    refine (concatenateAt.eq_2 _ _ _ _ _ hs hn).trans (Eq.trans (congrArg p (funext fun a => ?_)) (hp.1 ⟨n, hn'⟩))
    match a with
    | 0 => rfl
    | 1 => rfl
  | p :: q :: ps, o, hp, hs, n, hn => by
    refine (concatenateAt.eq_3 _ _ _ _ _ _ _ hs hn).trans ?_
    by_cases hn' : n < 128
    · refine (dif_pos hn').trans (Eq.trans (congrArg p (funext fun a => ?_)) (hp.1 ⟨n, hn'⟩))
      match a with
      | 0 => rfl
      | 1 => rfl
    · refine (dif_neg hn').trans ((joined b k G (q :: ps) (o + 128) hp.2 _ (n - 128) _).trans (congrArg G (by omega)))

theorem joined_row (b : Fin 112) (k : Fin 3840) (G : Nat → EReal) (ps : List (FVec Ideal S112x128 .f32)) (hp : Holds b G 0 ps) (hc) :
    concatenate S112x3840 1 (ps.map fun p => (⟨S112x128, p⟩ : (s : Shape) × (s.Idx → EReal))) hc (ix2 b k) = G k.val :=
  (concatenate_apply _ _ _ hc _).trans ((joined b k G ps 0 hp _ k.val _).trans (congrArg G (Nat.zero_add _)))

/-- The thirty permuted tiles of a row. -/
def tiles (v : FVec Ideal S112x3840 .f32) : List (FVec Ideal S112x128 .f32) :=
  [tile v 0 slices_S112x3840_o0_0_S112x128,
    tile v 128 slices_S112x3840_o0_128_S112x128,
    tile v 256 slices_S112x3840_o0_256_S112x128,
    tile v 384 slices_S112x3840_o0_384_S112x128,
    tile v 512 slices_S112x3840_o0_512_S112x128,
    tile v 640 slices_S112x3840_o0_640_S112x128,
    tile v 768 slices_S112x3840_o0_768_S112x128,
    tile v 896 slices_S112x3840_o0_896_S112x128,
    tile v 1024 slices_S112x3840_o0_1024_S112x128,
    tile v 1152 slices_S112x3840_o0_1152_S112x128,
    tile v 1280 slices_S112x3840_o0_1280_S112x128,
    tile v 1408 slices_S112x3840_o0_1408_S112x128,
    tile v 1536 slices_S112x3840_o0_1536_S112x128,
    tile v 1664 slices_S112x3840_o0_1664_S112x128,
    tile v 1792 slices_S112x3840_o0_1792_S112x128,
    tile v 1920 slices_S112x3840_o0_1920_S112x128,
    tile v 2048 slices_S112x3840_o0_2048_S112x128,
    tile v 2176 slices_S112x3840_o0_2176_S112x128,
    tile v 2304 slices_S112x3840_o0_2304_S112x128,
    tile v 2432 slices_S112x3840_o0_2432_S112x128,
    tile v 2560 slices_S112x3840_o0_2560_S112x128,
    tile v 2688 slices_S112x3840_o0_2688_S112x128,
    tile v 2816 slices_S112x3840_o0_2816_S112x128,
    tile v 2944 slices_S112x3840_o0_2944_S112x128,
    tile v 3072 slices_S112x3840_o0_3072_S112x128,
    tile v 3200 slices_S112x3840_o0_3200_S112x128,
    tile v 3328 slices_S112x3840_o0_3328_S112x128,
    tile v 3456 slices_S112x3840_o0_3456_S112x128,
    tile v 3584 slices_S112x3840_o0_3584_S112x128,
    tile v 3712 slices_S112x3840_o0_3712_S112x128]

theorem tiles_hold (v : FVec Ideal S112x3840 .f32) (b : Fin 112) : Holds b (entry v b) 0 (tiles v) :=
  ⟨tile_entry v 0 _ b (by decide) (by decide),
    tile_entry v 128 _ b (by decide) (by decide),
    tile_entry v 256 _ b (by decide) (by decide),
    tile_entry v 384 _ b (by decide) (by decide),
    tile_entry v 512 _ b (by decide) (by decide),
    tile_entry v 640 _ b (by decide) (by decide),
    tile_entry v 768 _ b (by decide) (by decide),
    tile_entry v 896 _ b (by decide) (by decide),
    tile_entry v 1024 _ b (by decide) (by decide),
    tile_entry v 1152 _ b (by decide) (by decide),
    tile_entry v 1280 _ b (by decide) (by decide),
    tile_entry v 1408 _ b (by decide) (by decide),
    tile_entry v 1536 _ b (by decide) (by decide),
    tile_entry v 1664 _ b (by decide) (by decide),
    tile_entry v 1792 _ b (by decide) (by decide),
    tile_entry v 1920 _ b (by decide) (by decide),
    tile_entry v 2048 _ b (by decide) (by decide),
    tile_entry v 2176 _ b (by decide) (by decide),
    tile_entry v 2304 _ b (by decide) (by decide),
    tile_entry v 2432 _ b (by decide) (by decide),
    tile_entry v 2560 _ b (by decide) (by decide),
    tile_entry v 2688 _ b (by decide) (by decide),
    tile_entry v 2816 _ b (by decide) (by decide),
    tile_entry v 2944 _ b (by decide) (by decide),
    tile_entry v 3072 _ b (by decide) (by decide),
    tile_entry v 3200 _ b (by decide) (by decide),
    tile_entry v 3328 _ b (by decide) (by decide),
    tile_entry v 3456 _ b (by decide) (by decide),
    tile_entry v 3584 _ b (by decide) (by decide),
    tile_entry v 3712 _ b (by decide) (by decide), trivial⟩

/-- The block the normalisation's body stores, read at an index. -/
theorem out_apply (x : Vec Ideal S112x3840 .bf16) (g : Vec Ideal S1x3840 .f32) (b : Fin 112) (k : Fin 3840) :
    out0_2 (F := Ideal) x g (ix2 b k) = normal (fun k => x (ix2 b k)) (fun k => g (ix2 0 k)) (column k) := by
  unfold_out out0_2
  have he : r0_0.emb (ix2 b k) = ix2 b k := by
    funext a
    match a with
    | 0 => exact Fin.ext ((rect_emb_val (S := S112x3840) _ _ _ _ _).trans (Nat.zero_add _))
    | 1 => exact Fin.ext ((rect_emb_val (S := S112x3840) _ _ _ _ _).trans (Nat.zero_add _))
  refine (congrArg _ he.symm).trans ((View.canon_cons_emb r0_0 _ [] (ix2 b k)).trans ?_)
  have hx : View.ld x r0_0 = x := View.ld_unit_lit (S := S112x3840) _ _ (by decide)
  have hg : View.ld g r0_1 = g := View.ld_unit_lit (S := S1x3840) _ _ (by decide)
  rw [hx, hg]
  refine Eq.trans ?_ (pay3_apply x g b (column k))
  exact (joined_row b k (entry (k0_pay3 (F := Ideal) x g) b) (tiles (k0_pay3 (F := Ideal) x g)) (tiles_hold _ b)
    concatenates_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x3840_d1).trans (dif_pos k.isLt)

end Cert.BeforeIdeal.Norm
end
-- ==== Proof.BeforeArray.lean ====
module

public import proofs.«01_k».proof.Proof.BeforeRope
public import proofs.«01_k».proof.Proof.BeforeBody3
public import proofs.«01_k».proof.Proof.BeforeNorm
public import Idealize.ShloMosaic.Lib.Claim
public import Idealize.ShloMosaic.Lib.Pipeline.ValueKit

/-!
The array each of the four calls before the attention leaves, from what its windows hold when it starts:
`final0` (the normalisation), `final1`, `final2` (the rotated projections) and `final3` (the plain projection).
-/

@[expose] public section

set_option maxRecDepth 16384

noncomputable section

namespace Cert.BeforeIdeal.Array

open Cert.BeforeIdeal Cert.BeforeIdeal.Gen Idealize.ShloMosaic Idealize.ShloMosaic.TcCoe Idealize.SL.Sem Cert.Weights Cert.Tiles
open Idealize.ShloMosaic.Pipeline (Dat)
open Cert.BeforeIdeal.Rope (rotated)
open Cert.BeforeIdeal.Norm (normal column)

/-- The activations `h` times a quantised weight stored with its rows last, at row `b` of the activations and row `n` of
    the weight. -/
def rowSum {N : Nat} (h : S112x3840.Idx → EReal) (Q : (⟨3, ![15, N, 128]⟩ : Shape).Idx → BitVec 8) (B : (⟨3, ![12, 15, N]⟩ : Shape).Idx → BitVec 8)
    (D M : (⟨2, ![15, N]⟩ : Shape).Idx → EReal) (b : Fin 112) (n : Fin N) : EReal :=
  ∑ κ : Fin 3840, h (ix2 b κ)
    * weight (fun j => Q (ix3 ⟨κ.val / 256, by omega⟩ n j)) (fun j => B (ix3 j ⟨κ.val / 256, by omega⟩ n))
        (D (ix2 ⟨κ.val / 256, by omega⟩ n)) (M (ix2 ⟨κ.val / 256, by omega⟩ n)) ⟨κ.val % 256, by omega⟩

/-- The activations times one tile of 256 weight columns. -/
def tileSum (x0 : Vec Ideal S112x3840 .bf16) (x1 : Vec Ideal S15x256x128 .i8) (x2 : Vec Ideal S12x15x256 .i8) (x3 x4 : Vec Ideal S15x256 .bf16) (b : Fin 112) (l : Fin 256) : EReal :=
  ∑ κ : Fin 3840, x0 (ix2 b κ) * tileW (s := 15) x1 x2 x3 x4 ⟨κ.val / 256, by omega⟩ ⟨κ.val % 256, by omega⟩ l

/-- A row of heads of 256 columns, each head rotated. -/
def heads {N : Nat} (hN : N % 256 = 0) (f : Fin N → EReal) (cs sn : Fin 128 → EReal) (n : Fin N) : EReal :=
  rotated (fun l => f ⟨256 * (n.val / 256) + l.val, by have := n.isLt; have := l.isLt; omega⟩) cs sn ⟨n.val % 256, by omega⟩

theorem heads_block {N : Nat} (hN : N % 256 = 0) (f : Fin N → EReal) (cs sn : Fin 128 → EReal) (t : Nat) (l : Fin 256) (h : 256 * t + l.val < N) :
    heads hN f cs sn ⟨256 * t + l.val, h⟩ = rotated (fun l => f ⟨256 * t + l.val, by have := l.isLt; omega⟩) cs sn l := by
  have e1 : (256 * t + l.val) / 256 = t := by omega
  have e2 : (256 * t + l.val) % 256 = l.val := by omega
  unfold heads
  simp only [e1, e2]

theorem rotated_congr {y y' : Fin 256 → EReal} {cs cs' sn sn' : Fin 128 → EReal} (h1 : ∀ l, y l = y' l) (h2 : ∀ j, cs j = cs' j)
    (h3 : ∀ j, sn j = sn' j) (l : Fin 256) : rotated y cs sn l = rotated y' cs' sn' l := by
  rw [funext h1, funext h2, funext h3]

variable (V : (c : Dev nD) → (b : Ref sig .tc) → Buf (Elt Ideal) ((c : Thread nD τ).loc b))

/-- The normalised, scaled and permuted activations. -/
def permuted (x : S112x3840.Idx → EReal) (g : S1x3840.Idx → EReal) (y : S112x3840.Idx) : EReal :=
  normal (fun k => x (ix2 (y 0) k)) (fun k => g (ix2 0 k)) (column (y 1))

theorem final0 (c : Dev nD) : (dat0 V c).arrAt 2 cfg0.N = permuted (V c main_v0) (V c main_v1) := by
  have idx : ∀ t : Fin cfg0.N, win0_0.index t = ![0, 0] ∧ win0_1.index t = ![0, 0] ∧ win0_2.index t = ![0, 0] :=
    (by decide +kernel : ∀ t : Fin grid0.N, _)
  refine (dat0 V c).arrAt_eq_of_covers 2 _ (by decide +kernel) fun t hf y => ?_
  obtain ⟨b, k, rfl⟩ : ∃ (b : Fin 112) (k : Fin 3840), y = ix2 b k := ⟨y 0, y 1, by funext a; match a with | 0 => rfl | 1 => rfl⟩
  blk_simp
  rw [after0_2]
  refine (Norm.out_apply _ _ b k).trans ?_
  obtain ⟨e0, e1, e2⟩ := idx t
  have hy : (win0_2.blk t).view.emb (ix2 b k) = ix2 b k := by blk_ext [e2]
  rw [hy]
  have h0 : ∀ k : Fin 3840, iblk0 V c 0 t (ix2 b k) = V c main_v0 (ix2 b k) := fun k => by blk_ext [iblk0, e0]
  have h1 : ∀ k : Fin 3840, iblk0 V c 1 t (ix2 0 k) = V c main_v1 (ix2 0 k) := fun k => by blk_ext [iblk0, e1]
  exact congrArg₂ (fun u v => normal u v (column k)) (funext h0) (funext h1)

/-! ### Call 1 -/

theorem idx1 : ∀ t : Fin cfg1.N, win1_0.index t = ![0, 0] ∧ win1_1.index t = ![0, t.val, 0] ∧ win1_2.index t = ![0, 0, t.val] ∧ win1_3.index t = ![0, t.val] ∧ win1_4.index t = ![0, t.val] ∧ win1_5.index t = ![0, 0] ∧ win1_6.index t = ![0, 0] ∧ win1_7.index t = ![0, t.val] :=
  (by decide +kernel : ∀ t : Fin grid1.N, _)

theorem blk1_1 (c : Dev nD) (t : Fin cfg1.N) (k : Fin 15) (l : Fin 256) (j : Fin 128) (h : 256 * t.val + l.val < 4096) :
    iblk1 V c 1 t (ix3 k l j) = V c main_v3 (ix3 k ⟨256 * t.val + l.val, h⟩ j) := by
  have e1 := (idx1 t).2.1
  have e : (win1_1.blk t).view.emb (ix3 k l j) = ix3 k ⟨256 * t.val + l.val, h⟩ j := by blk_ext [e1]
  exact congrArg (V c main_v3) e

theorem blk1_2 (c : Dev nD) (t : Fin cfg1.N) (k : Fin 15) (l : Fin 256) (j : Fin 12) (h : 256 * t.val + l.val < 4096) :
    iblk1 V c 2 t (ix3 j k l) = V c main_v4 (ix3 j k ⟨256 * t.val + l.val, h⟩) := by
  have e1 := (idx1 t).2.2.1
  have e : (win1_2.blk t).view.emb (ix3 j k l) = ix3 j k ⟨256 * t.val + l.val, h⟩ := by blk_ext [e1]
  exact congrArg (V c main_v4) e

theorem blk1_3 (c : Dev nD) (t : Fin cfg1.N) (k : Fin 15) (l : Fin 256) (h : 256 * t.val + l.val < 4096) :
    iblk1 V c 3 t (ix2 k l) = V c main_v5 (ix2 k ⟨256 * t.val + l.val, h⟩) := by
  have e1 := (idx1 t).2.2.2.1
  have e : (win1_3.blk t).view.emb (ix2 k l) = ix2 k ⟨256 * t.val + l.val, h⟩ := by blk_ext [e1]
  exact congrArg (V c main_v5) e

theorem blk1_4 (c : Dev nD) (t : Fin cfg1.N) (k : Fin 15) (l : Fin 256) (h : 256 * t.val + l.val < 4096) :
    iblk1 V c 4 t (ix2 k l) = V c main_v6 (ix2 k ⟨256 * t.val + l.val, h⟩) := by
  have e1 := (idx1 t).2.2.2.2.1
  have e : (win1_4.blk t).view.emb (ix2 k l) = ix2 k ⟨256 * t.val + l.val, h⟩ := by blk_ext [e1]
  exact congrArg (V c main_v6) e

theorem sum1 (c : Dev nD) (t : Fin cfg1.N) (b : Fin 112) (l : Fin 256) (h : 256 * t.val + l.val < 4096) :
    tileSum (iblk1 V c 0 t) (iblk1 V c 1 t) (iblk1 V c 2 t) (iblk1 V c 3 t) (iblk1 V c 4 t) b l
      = rowSum (N := 4096) (V c main_v2) (V c main_v3) (V c main_v4) (V c main_v5) (V c main_v6) b ⟨256 * t.val + l.val, h⟩ := by
  have e0 := (idx1 t).1
  have h0 : ∀ κ : Fin 3840, iblk1 V c 0 t (ix2 b κ) = V c main_v2 (ix2 b κ) := fun κ => by blk_ext [iblk1, e0]
  refine Finset.sum_congr rfl fun κ _ => ?_
  rw [h0 κ]
  unfold tileW
  simp only [blk1_1 V c t _ l _ h, blk1_2 V c t _ l _ h, blk1_3 V c t _ l h, blk1_4 V c t _ l h]

theorem final1 (c : Dev nD) : (dat1 V c).arrAt 7 cfg1.N = fun y : S112x4096.Idx =>
    heads (N := 4096) rfl (fun n => rowSum (N := 4096) (V c main_v2) (V c main_v3) (V c main_v4) (V c main_v5) (V c main_v6) (y 0) n)
      (fun j => (V c main_arg14 : S112x128.Idx → EReal) (ix2 (y 0) j)) (fun j => (V c main_arg15 : S112x128.Idx → EReal) (ix2 (y 0) j)) (y 1) := by
  refine (dat1 V c).arrAt_eq_of_covers 7 _ (by decide +kernel) fun t hf y => ?_
  obtain ⟨b, l, rfl⟩ : ∃ (b : Fin 112) (l : Fin 256), y = ix2 b l := ⟨y 0, y 1, by funext a; match a with | 0 => rfl | 1 => rfl⟩
  blk_simp
  rw [after1_7, outsAt1]
  refine (Rope.out1_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 _ scM1_1 _ scM1_2 _ _ _ _ _ _ _ _ b l).trans ?_
  have ht : t.val < 16 := t.isLt
  obtain ⟨e0, e1, e2, e3, e4, e5, e6, e7⟩ := idx1 t
  have hl : 256 * t.val + l.val < 4096 := by omega
  have hy : (win1_7.blk t).view.emb (ix2 b l) = ix2 b ⟨256 * t.val + l.val, by omega⟩ := by blk_ext [e7]
  rw [hy]
  have h5 : ∀ j : Fin 128, iblk1 V c 5 t (ix2 b j) = V c main_arg14 (ix2 b j) := fun j => by blk_ext [iblk1, e5]
  have h6 : ∀ j : Fin 128, iblk1 V c 6 t (ix2 b j) = V c main_arg15 (ix2 b j) := fun j => by blk_ext [iblk1, e6]
  refine Eq.trans (b := rotated (fun l => rowSum (N := 4096) (V c main_v2) (V c main_v3) (V c main_v4) (V c main_v5) (V c main_v6) b ⟨256 * t.val + l.val, by omega⟩) (fun j => (V c main_arg14 : S112x128.Idx → EReal) (ix2 b j)) (fun j => (V c main_arg15 : S112x128.Idx → EReal) (ix2 b j)) l) ?_ ?_
  · exact rotated_congr (fun l => sum1 V c t b l (by omega)) h5 h6 l
  · exact (heads_block (N := 4096) rfl (fun n => rowSum (N := 4096) (V c main_v2) (V c main_v3) (V c main_v4) (V c main_v5) (V c main_v6) b n) (fun j => (V c main_arg14 : S112x128.Idx → EReal) (ix2 b j)) (fun j => (V c main_arg15 : S112x128.Idx → EReal) (ix2 b j)) t.val l hl).symm

/-! ### Call 2 -/

theorem idx2 : ∀ t : Fin cfg2.N, win2_0.index t = ![0, 0] ∧ win2_1.index t = ![0, t.val, 0] ∧ win2_2.index t = ![0, 0, t.val] ∧ win2_3.index t = ![0, t.val] ∧ win2_4.index t = ![0, t.val] ∧ win2_5.index t = ![0, 0] ∧ win2_6.index t = ![0, 0] ∧ win2_7.index t = ![0, t.val] :=
  (by decide +kernel : ∀ t : Fin grid2.N, _)

theorem blk2_1 (c : Dev nD) (t : Fin cfg2.N) (k : Fin 15) (l : Fin 256) (j : Fin 128) (h : 256 * t.val + l.val < 1024) :
    iblk2 V c 1 t (ix3 k l j) = V c main_v8 (ix3 k ⟨256 * t.val + l.val, h⟩ j) := by
  have e1 := (idx2 t).2.1
  have e : (win2_1.blk t).view.emb (ix3 k l j) = ix3 k ⟨256 * t.val + l.val, h⟩ j := by blk_ext [e1]
  exact congrArg (V c main_v8) e

theorem blk2_2 (c : Dev nD) (t : Fin cfg2.N) (k : Fin 15) (l : Fin 256) (j : Fin 12) (h : 256 * t.val + l.val < 1024) :
    iblk2 V c 2 t (ix3 j k l) = V c main_v9 (ix3 j k ⟨256 * t.val + l.val, h⟩) := by
  have e1 := (idx2 t).2.2.1
  have e : (win2_2.blk t).view.emb (ix3 j k l) = ix3 j k ⟨256 * t.val + l.val, h⟩ := by blk_ext [e1]
  exact congrArg (V c main_v9) e

theorem blk2_3 (c : Dev nD) (t : Fin cfg2.N) (k : Fin 15) (l : Fin 256) (h : 256 * t.val + l.val < 1024) :
    iblk2 V c 3 t (ix2 k l) = V c main_v10 (ix2 k ⟨256 * t.val + l.val, h⟩) := by
  have e1 := (idx2 t).2.2.2.1
  have e : (win2_3.blk t).view.emb (ix2 k l) = ix2 k ⟨256 * t.val + l.val, h⟩ := by blk_ext [e1]
  exact congrArg (V c main_v10) e

theorem blk2_4 (c : Dev nD) (t : Fin cfg2.N) (k : Fin 15) (l : Fin 256) (h : 256 * t.val + l.val < 1024) :
    iblk2 V c 4 t (ix2 k l) = V c main_v11 (ix2 k ⟨256 * t.val + l.val, h⟩) := by
  have e1 := (idx2 t).2.2.2.2.1
  have e : (win2_4.blk t).view.emb (ix2 k l) = ix2 k ⟨256 * t.val + l.val, h⟩ := by blk_ext [e1]
  exact congrArg (V c main_v11) e

theorem sum2 (c : Dev nD) (t : Fin cfg2.N) (b : Fin 112) (l : Fin 256) (h : 256 * t.val + l.val < 1024) :
    tileSum (iblk2 V c 0 t) (iblk2 V c 1 t) (iblk2 V c 2 t) (iblk2 V c 3 t) (iblk2 V c 4 t) b l
      = rowSum (N := 1024) (V c main_v2) (V c main_v8) (V c main_v9) (V c main_v10) (V c main_v11) b ⟨256 * t.val + l.val, h⟩ := by
  have e0 := (idx2 t).1
  have h0 : ∀ κ : Fin 3840, iblk2 V c 0 t (ix2 b κ) = V c main_v2 (ix2 b κ) := fun κ => by blk_ext [iblk2, e0]
  refine Finset.sum_congr rfl fun κ _ => ?_
  rw [h0 κ]
  unfold tileW
  simp only [blk2_1 V c t _ l _ h, blk2_2 V c t _ l _ h, blk2_3 V c t _ l h, blk2_4 V c t _ l h]

theorem final2 (c : Dev nD) : (dat2 V c).arrAt 7 cfg2.N = fun y : S112x1024.Idx =>
    heads (N := 1024) rfl (fun n => rowSum (N := 1024) (V c main_v2) (V c main_v8) (V c main_v9) (V c main_v10) (V c main_v11) (y 0) n)
      (fun j => (V c main_arg14 : S112x128.Idx → EReal) (ix2 (y 0) j)) (fun j => (V c main_arg15 : S112x128.Idx → EReal) (ix2 (y 0) j)) (y 1) := by
  refine (dat2 V c).arrAt_eq_of_covers 7 _ (by decide +kernel) fun t hf y => ?_
  obtain ⟨b, l, rfl⟩ : ∃ (b : Fin 112) (l : Fin 256), y = ix2 b l := ⟨y 0, y 1, by funext a; match a with | 0 => rfl | 1 => rfl⟩
  blk_simp
  rw [after2_7, outsAt2]
  refine (Rope.out2_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 _ scM2_1 _ scM2_2 _ _ _ _ _ _ _ _ b l).trans ?_
  have ht : t.val < 4 := t.isLt
  obtain ⟨e0, e1, e2, e3, e4, e5, e6, e7⟩ := idx2 t
  have hl : 256 * t.val + l.val < 1024 := by omega
  have hy : (win2_7.blk t).view.emb (ix2 b l) = ix2 b ⟨256 * t.val + l.val, by omega⟩ := by blk_ext [e7]
  rw [hy]
  have h5 : ∀ j : Fin 128, iblk2 V c 5 t (ix2 b j) = V c main_arg14 (ix2 b j) := fun j => by blk_ext [iblk2, e5]
  have h6 : ∀ j : Fin 128, iblk2 V c 6 t (ix2 b j) = V c main_arg15 (ix2 b j) := fun j => by blk_ext [iblk2, e6]
  refine Eq.trans (b := rotated (fun l => rowSum (N := 1024) (V c main_v2) (V c main_v8) (V c main_v9) (V c main_v10) (V c main_v11) b ⟨256 * t.val + l.val, by omega⟩) (fun j => (V c main_arg14 : S112x128.Idx → EReal) (ix2 b j)) (fun j => (V c main_arg15 : S112x128.Idx → EReal) (ix2 b j)) l) ?_ ?_
  · exact rotated_congr (fun l => sum2 V c t b l (by omega)) h5 h6 l
  · exact (heads_block (N := 1024) rfl (fun n => rowSum (N := 1024) (V c main_v2) (V c main_v8) (V c main_v9) (V c main_v10) (V c main_v11) b n) (fun j => (V c main_arg14 : S112x128.Idx → EReal) (ix2 b j)) (fun j => (V c main_arg15 : S112x128.Idx → EReal) (ix2 b j)) t.val l hl).symm

/-! ### Call 3 -/

theorem idx3 : ∀ t : Fin cfg3.N, win3_0.index t = ![0, 0] ∧ win3_1.index t = ![0, t.val, 0] ∧ win3_2.index t = ![0, 0, t.val] ∧ win3_3.index t = ![0, t.val] ∧ win3_4.index t = ![0, t.val] ∧ win3_5.index t = ![0, t.val] :=
  (by decide +kernel : ∀ t : Fin grid3.N, _)

theorem blk3_1 (c : Dev nD) (t : Fin cfg3.N) (k : Fin 15) (l : Fin 256) (j : Fin 128) (h : 256 * t.val + l.val < 1024) :
    iblk3 V c 1 t (ix3 k l j) = V c main_v13 (ix3 k ⟨256 * t.val + l.val, h⟩ j) := by
  have e1 := (idx3 t).2.1
  have e : (win3_1.blk t).view.emb (ix3 k l j) = ix3 k ⟨256 * t.val + l.val, h⟩ j := by blk_ext [e1]
  exact congrArg (V c main_v13) e

theorem blk3_2 (c : Dev nD) (t : Fin cfg3.N) (k : Fin 15) (l : Fin 256) (j : Fin 12) (h : 256 * t.val + l.val < 1024) :
    iblk3 V c 2 t (ix3 j k l) = V c main_v14 (ix3 j k ⟨256 * t.val + l.val, h⟩) := by
  have e1 := (idx3 t).2.2.1
  have e : (win3_2.blk t).view.emb (ix3 j k l) = ix3 j k ⟨256 * t.val + l.val, h⟩ := by blk_ext [e1]
  exact congrArg (V c main_v14) e

theorem blk3_3 (c : Dev nD) (t : Fin cfg3.N) (k : Fin 15) (l : Fin 256) (h : 256 * t.val + l.val < 1024) :
    iblk3 V c 3 t (ix2 k l) = V c main_v15 (ix2 k ⟨256 * t.val + l.val, h⟩) := by
  have e1 := (idx3 t).2.2.2.1
  have e : (win3_3.blk t).view.emb (ix2 k l) = ix2 k ⟨256 * t.val + l.val, h⟩ := by blk_ext [e1]
  exact congrArg (V c main_v15) e

theorem blk3_4 (c : Dev nD) (t : Fin cfg3.N) (k : Fin 15) (l : Fin 256) (h : 256 * t.val + l.val < 1024) :
    iblk3 V c 4 t (ix2 k l) = V c main_v16 (ix2 k ⟨256 * t.val + l.val, h⟩) := by
  have e1 := (idx3 t).2.2.2.2.1
  have e : (win3_4.blk t).view.emb (ix2 k l) = ix2 k ⟨256 * t.val + l.val, h⟩ := by blk_ext [e1]
  exact congrArg (V c main_v16) e

theorem sum3 (c : Dev nD) (t : Fin cfg3.N) (b : Fin 112) (l : Fin 256) (h : 256 * t.val + l.val < 1024) :
    tileSum (iblk3 V c 0 t) (iblk3 V c 1 t) (iblk3 V c 2 t) (iblk3 V c 3 t) (iblk3 V c 4 t) b l
      = rowSum (N := 1024) (V c main_v2) (V c main_v13) (V c main_v14) (V c main_v15) (V c main_v16) b ⟨256 * t.val + l.val, h⟩ := by
  have e0 := (idx3 t).1
  have h0 : ∀ κ : Fin 3840, iblk3 V c 0 t (ix2 b κ) = V c main_v2 (ix2 b κ) := fun κ => by blk_ext [iblk3, e0]
  refine Finset.sum_congr rfl fun κ _ => ?_
  rw [h0 κ]
  unfold tileW
  simp only [blk3_1 V c t _ l _ h, blk3_2 V c t _ l _ h, blk3_3 V c t _ l h, blk3_4 V c t _ l h]

theorem final3 (c : Dev nD) : (dat3 V c).arrAt 5 cfg3.N = fun y : S112x1024.Idx => rowSum (N := 1024) (V c main_v2) (V c main_v13) (V c main_v14) (V c main_v15) (V c main_v16) (y 0) (y 1) := by
  refine (dat3 V c).arrAt_eq_of_covers 5 _ (by decide +kernel) fun t hf y => ?_
  obtain ⟨b, l, rfl⟩ : ∃ (b : Fin 112) (l : Fin 256), y = ix2 b l := ⟨y 0, y 1, by funext a; match a with | 0 => rfl | 1 => rfl⟩
  blk_simp
  rw [after3_5, outsAt3]
  refine (Body3.out_apply c (grid3.coords t) (ms3_0 t) (hs3_0 t) (ms3_1 t) (hs3_1 t) (ms3_2 t) (hs3_2 t) (ms3_3 t) (hs3_3 t) (ms3_4 t) (hs3_4 t) (ms3_5 t) (hs3_5 t) scM3_0 _ scM3_1 _ scM3_2 _ _ _ _ _ _ b l).trans ?_
  have ht : t.val < 4 := t.isLt
  obtain ⟨e0, e1, e2, e3, e4, e5⟩ := idx3 t
  have hy : (win3_5.blk t).view.emb (ix2 b l) = ix2 b ⟨256 * t.val + l.val, by omega⟩ := by blk_ext [e5]
  rw [hy]
  exact sum3 V c t b l (by omega)

end Cert.BeforeIdeal.Array
end
-- ==== Proof.BeforeRun.lean ====
module

public import proofs.«01_k».proof.Proof.Gen.BeforeIdeal.Frame

/-!
The run of the four calls before the attention, with what each result array holds at the end: `run`.
-/

@[expose] public section

set_option maxRecDepth 16384

noncomputable section

namespace Cert.BeforeIdeal.Run

open Cert.BeforeIdeal Cert.BeforeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing faulting, with the three result arrays at the last boundary's contents, the arguments as
    launched and every semaphore at zero. -/
theorem run : θ_run defs (onTc (τ := τ) (main (F := F))) ⟨m, fun _ => 0, ρ⟩ (fun r => (∀ c : Dev nD,
      r.2.mem ((c.tc : Thread nD τ).loc main_v18) = W9 m ρ c (Proc.devRef .tc main_v18)
      ∧ r.2.mem ((c.tc : Thread nD τ).loc main_v19) = W9 m ρ c (Proc.devRef .tc main_v19)
      ∧ r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v18 (by decide)), h c _ (mem_uc main_v19 (by decide)), h c _ (mem_uc main_v20 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩), funext fun g => hz g (.inr (no_unscoped g.2))⟩)

end Cert.BeforeIdeal.Run
end
-- ==== Proof.BeforeResult.lean ====
module

public import proofs.«01_k».proof.Proof.BeforeArray
public import proofs.«01_k».proof.Proof.BeforeRun

/-!
The three results of the calls before the attention, from the arguments: `query_result`, `key_result`, `value_result`.
-/

@[expose] public section

set_option maxRecDepth 16384

noncomputable section

namespace Cert.BeforeIdeal.Result

open Cert.BeforeIdeal Cert.BeforeIdeal.Gen Idealize.ShloMosaic Idealize.ShloMosaic.TcCoe Idealize.SL.Sem Cert.Weights Cert.Tiles
open Cert.BeforeIdeal.Rope (rotated)
open Cert.BeforeIdeal.Norm (normal column)
open Cert.BeforeIdeal.Array

/-- The normalised activations times a quantised weight, at row `b` of the activations and row `n` of the weight; the
    weight's rows and the activations both in the nibbles' order. -/
def projection {N : Nat} (x : S112x1x3840.Idx → EReal) (g : S3840.Idx → EReal) (q : (⟨3, ![N, 15, 128]⟩ : Shape).Idx → BitVec 8)
    (s : (⟨3, ![N, 15, 12]⟩ : Shape).Idx → BitVec 8) (d dm : (⟨2, ![N, 15]⟩ : Shape).Idx → EReal) (b : Fin 112) (n : Fin N) : EReal :=
  ∑ κ : Fin 3840, normal (fun k => x (ix3 b 0 k)) (fun k => g (ix1 k)) (column κ)
    * weight (fun j => q (ix3 n ⟨κ.val / 256, by omega⟩ j)) (fun j => s (ix3 n ⟨κ.val / 256, by omega⟩ j))
        (d (ix2 n ⟨κ.val / 256, by omega⟩)) (dm (ix2 n ⟨κ.val / 256, by omega⟩)) ⟨κ.val % 256, by omega⟩

variable (m : (ℓ : Loc nD τ sig) → Buf (Elt Ideal) ℓ) (ρ : Dev nD → PrngReg)

/-! ### What each call finds -/

theorem entry_x (c : Dev nD) : V1 m ρ c main_v0 = shapeCast S112x3840 (m ((c : Thread nD τ).loc main_arg0)) shapeCasts_S112x1x3840_S112x3840 := by
  unfold_abbrev_sides
  after_results
  rfl
theorem entry_gain (c : Dev nD) : V1 m ρ c main_v1 = shapeCast S1x3840 (m ((c : Thread nD τ).loc main_arg1)) shapeCasts_S3840_S1x3840 := by
  unfold_abbrev_sides
  after_results
  rfl

theorem cast_x (x : S112x1x3840.Idx → EReal) (b : Fin 112) (k : Fin 3840) : shapeCast S112x3840 x shapeCasts_S112x1x3840_S112x3840 (ix2 b k) = x (ix3 b 0 k) := by pointwise
theorem cast_gain (g : S3840.Idx → EReal) (k : Fin 3840) : shapeCast S1x3840 g shapeCasts_S3840_S1x3840 (ix2 0 k) = g (ix1 k) := by pointwise

/-- The activations the projections share. -/
def shared (c : Dev nD) : S112x3840.Idx → EReal := permuted (V1 m ρ c main_v0) (V1 m ρ c main_v1)

theorem shared_apply (c : Dev nD) (b : Fin 112) (κ : Fin 3840) : shared m ρ c (ix2 b κ)
    = normal (fun k => m ((c : Thread nD τ).loc main_arg0) (ix3 b 0 k)) (fun k => m ((c : Thread nD τ).loc main_arg1) (ix1 k)) (column κ) := by
  unfold shared permuted
  refine congrArg₂ (fun u v => normal u v (column κ)) (funext fun k => ?_) (funext fun k => ?_)
  · exact (congrFun (entry_x m ρ c) (ix2 b k)).trans (cast_x _ b k)
  · exact (congrFun (entry_gain m ρ c) (ix2 0 k)).trans (cast_gain _ k)

theorem at2 (c : Dev nD) : W2 m ρ c (Proc.devRef .tc main_v2) = shared m ρ c := (W2_arr m ρ c 2).trans (final0 (V1 m ρ) c)
theorem at3 (c : Dev nD) : W3 m ρ c (Proc.devRef .tc main_v2) = shared m ρ c := (W3_of m ρ c main_v2 (by decide)).trans (at2 m ρ c)
theorem at5 (c : Dev nD) : W5 m ρ c (Proc.devRef .tc main_v2) = shared m ρ c :=
  (W5_of m ρ c main_v2 (by decide)).trans ((W4_of m ρ c main_v2 (by decide +kernel)).trans (at3 m ρ c))
theorem at7 (c : Dev nD) : W7 m ρ c (Proc.devRef .tc main_v2) = shared m ρ c :=
  (W7_of m ρ c main_v2 (by decide)).trans ((W6_of m ρ c main_v2 (by decide +kernel)).trans (at5 m ρ c))

theorem entry1_0 (c : Dev nD) : V3 m ρ c main_v3 = transpose S15x4096x128 [1, 0, 2] (m ((c : Thread nD τ).loc main_arg2)) transposes_S4096x15x128_S15x4096x128_1_0_2 := by
  have h : V3 m ρ c main_v3 = transpose S15x4096x128 [1, 0, 2] (W2 m ρ c (Proc.devRef .tc main_arg2)) transposes_S4096x15x128_S15x4096x128_1_0_2 := by
    unfold_abbrev_sides
    after_results
  exact h.trans (congrArg (transpose S15x4096x128 [1, 0, 2] · transposes_S4096x15x128_S15x4096x128_1_0_2) (W2_args m ρ c main_arg2 (by decide)))
theorem entry1_1 (c : Dev nD) : V3 m ρ c main_v4 = transpose S12x15x4096 [2, 1, 0] (m ((c : Thread nD τ).loc main_arg3)) transposes_S4096x15x12_S12x15x4096_2_1_0 := by
  have h : V3 m ρ c main_v4 = transpose S12x15x4096 [2, 1, 0] (W2 m ρ c (Proc.devRef .tc main_arg3)) transposes_S4096x15x12_S12x15x4096_2_1_0 := by
    unfold_abbrev_sides
    after_results
  exact h.trans (congrArg (transpose S12x15x4096 [2, 1, 0] · transposes_S4096x15x12_S12x15x4096_2_1_0) (W2_args m ρ c main_arg3 (by decide)))
theorem entry1_2 (c : Dev nD) : V3 m ρ c main_v5 = transpose S15x4096 [1, 0] (m ((c : Thread nD τ).loc main_arg4)) transposes_S4096x15_S15x4096_1_0 := by
  have h : V3 m ρ c main_v5 = transpose S15x4096 [1, 0] (W2 m ρ c (Proc.devRef .tc main_arg4)) transposes_S4096x15_S15x4096_1_0 := by
    unfold_abbrev_sides
    after_results
  exact h.trans (congrArg (transpose S15x4096 [1, 0] · transposes_S4096x15_S15x4096_1_0) (W2_args m ρ c main_arg4 (by decide)))
theorem entry1_3 (c : Dev nD) : V3 m ρ c main_v6 = transpose S15x4096 [1, 0] (m ((c : Thread nD τ).loc main_arg5)) transposes_S4096x15_S15x4096_1_0 := by
  have h : V3 m ρ c main_v6 = transpose S15x4096 [1, 0] (W2 m ρ c (Proc.devRef .tc main_arg5)) transposes_S4096x15_S15x4096_1_0 := by
    unfold_abbrev_sides
    after_results
  exact h.trans (congrArg (transpose S15x4096 [1, 0] · transposes_S4096x15_S15x4096_1_0) (W2_args m ρ c main_arg5 (by decide)))

theorem sums1 (c : Dev nD) (b : Fin 112) (n : Fin 4096) :
    rowSum (N := 4096) (V3 m ρ c main_v2) (V3 m ρ c main_v3) (V3 m ρ c main_v4) (V3 m ρ c main_v5) (V3 m ρ c main_v6) b n
      = projection (N := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b n := by
  rw [entry1_0, entry1_1, entry1_2, entry1_3]
  refine Finset.sum_congr rfl fun κ _ => ?_
  refine congrArg₂ (fun u v : EReal => u * v) ((congrFun (at3 m ρ c) (ix2 b κ)).trans (shared_apply m ρ c b κ)) ?_
  pointwise

theorem entry2_0 (c : Dev nD) : V5 m ρ c main_v8 = transpose S15x1024x128 [1, 0, 2] (m ((c : Thread nD τ).loc main_arg6)) transposes_S1024x15x128_S15x1024x128_1_0_2 := by
  have h : V5 m ρ c main_v8 = transpose S15x1024x128 [1, 0, 2] (W4 m ρ c (Proc.devRef .tc main_arg6)) transposes_S1024x15x128_S15x1024x128_1_0_2 := by
    unfold_abbrev_sides
    after_results
  exact h.trans (congrArg (transpose S15x1024x128 [1, 0, 2] · transposes_S1024x15x128_S15x1024x128_1_0_2) (W4_args m ρ c main_arg6 (by decide)))
theorem entry2_1 (c : Dev nD) : V5 m ρ c main_v9 = transpose S12x15x1024 [2, 1, 0] (m ((c : Thread nD τ).loc main_arg7)) transposes_S1024x15x12_S12x15x1024_2_1_0 := by
  have h : V5 m ρ c main_v9 = transpose S12x15x1024 [2, 1, 0] (W4 m ρ c (Proc.devRef .tc main_arg7)) transposes_S1024x15x12_S12x15x1024_2_1_0 := by
    unfold_abbrev_sides
    after_results
  exact h.trans (congrArg (transpose S12x15x1024 [2, 1, 0] · transposes_S1024x15x12_S12x15x1024_2_1_0) (W4_args m ρ c main_arg7 (by decide)))
theorem entry2_2 (c : Dev nD) : V5 m ρ c main_v10 = transpose S15x1024 [1, 0] (m ((c : Thread nD τ).loc main_arg8)) transposes_S1024x15_S15x1024_1_0 := by
  have h : V5 m ρ c main_v10 = transpose S15x1024 [1, 0] (W4 m ρ c (Proc.devRef .tc main_arg8)) transposes_S1024x15_S15x1024_1_0 := by
    unfold_abbrev_sides
    after_results
  exact h.trans (congrArg (transpose S15x1024 [1, 0] · transposes_S1024x15_S15x1024_1_0) (W4_args m ρ c main_arg8 (by decide)))
theorem entry2_3 (c : Dev nD) : V5 m ρ c main_v11 = transpose S15x1024 [1, 0] (m ((c : Thread nD τ).loc main_arg9)) transposes_S1024x15_S15x1024_1_0 := by
  have h : V5 m ρ c main_v11 = transpose S15x1024 [1, 0] (W4 m ρ c (Proc.devRef .tc main_arg9)) transposes_S1024x15_S15x1024_1_0 := by
    unfold_abbrev_sides
    after_results
  exact h.trans (congrArg (transpose S15x1024 [1, 0] · transposes_S1024x15_S15x1024_1_0) (W4_args m ρ c main_arg9 (by decide)))

theorem sums2 (c : Dev nD) (b : Fin 112) (n : Fin 1024) :
    rowSum (N := 1024) (V5 m ρ c main_v2) (V5 m ρ c main_v8) (V5 m ρ c main_v9) (V5 m ρ c main_v10) (V5 m ρ c main_v11) b n
      = projection (N := 1024) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) b n := by
  rw [entry2_0, entry2_1, entry2_2, entry2_3]
  refine Finset.sum_congr rfl fun κ _ => ?_
  refine congrArg₂ (fun u v : EReal => u * v) ((congrFun (at5 m ρ c) (ix2 b κ)).trans (shared_apply m ρ c b κ)) ?_
  pointwise

theorem entry3_0 (c : Dev nD) : V7 m ρ c main_v13 = transpose S15x1024x128 [1, 0, 2] (m ((c : Thread nD τ).loc main_arg10)) transposes_S1024x15x128_S15x1024x128_1_0_2 := by
  have h : V7 m ρ c main_v13 = transpose S15x1024x128 [1, 0, 2] (W6 m ρ c (Proc.devRef .tc main_arg10)) transposes_S1024x15x128_S15x1024x128_1_0_2 := by
    unfold_abbrev_sides
    after_results
  exact h.trans (congrArg (transpose S15x1024x128 [1, 0, 2] · transposes_S1024x15x128_S15x1024x128_1_0_2) (W6_args m ρ c main_arg10 (by decide)))
theorem entry3_1 (c : Dev nD) : V7 m ρ c main_v14 = transpose S12x15x1024 [2, 1, 0] (m ((c : Thread nD τ).loc main_arg11)) transposes_S1024x15x12_S12x15x1024_2_1_0 := by
  have h : V7 m ρ c main_v14 = transpose S12x15x1024 [2, 1, 0] (W6 m ρ c (Proc.devRef .tc main_arg11)) transposes_S1024x15x12_S12x15x1024_2_1_0 := by
    unfold_abbrev_sides
    after_results
  exact h.trans (congrArg (transpose S12x15x1024 [2, 1, 0] · transposes_S1024x15x12_S12x15x1024_2_1_0) (W6_args m ρ c main_arg11 (by decide)))
theorem entry3_2 (c : Dev nD) : V7 m ρ c main_v15 = transpose S15x1024 [1, 0] (m ((c : Thread nD τ).loc main_arg12)) transposes_S1024x15_S15x1024_1_0 := by
  have h : V7 m ρ c main_v15 = transpose S15x1024 [1, 0] (W6 m ρ c (Proc.devRef .tc main_arg12)) transposes_S1024x15_S15x1024_1_0 := by
    unfold_abbrev_sides
    after_results
  exact h.trans (congrArg (transpose S15x1024 [1, 0] · transposes_S1024x15_S15x1024_1_0) (W6_args m ρ c main_arg12 (by decide)))
theorem entry3_3 (c : Dev nD) : V7 m ρ c main_v16 = transpose S15x1024 [1, 0] (m ((c : Thread nD τ).loc main_arg13)) transposes_S1024x15_S15x1024_1_0 := by
  have h : V7 m ρ c main_v16 = transpose S15x1024 [1, 0] (W6 m ρ c (Proc.devRef .tc main_arg13)) transposes_S1024x15_S15x1024_1_0 := by
    unfold_abbrev_sides
    after_results
  exact h.trans (congrArg (transpose S15x1024 [1, 0] · transposes_S1024x15_S15x1024_1_0) (W6_args m ρ c main_arg13 (by decide)))

theorem sums3 (c : Dev nD) (b : Fin 112) (n : Fin 1024) :
    rowSum (N := 1024) (V7 m ρ c main_v2) (V7 m ρ c main_v13) (V7 m ρ c main_v14) (V7 m ρ c main_v15) (V7 m ρ c main_v16) b n
      = projection (N := 1024) (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)) b n := by
  rw [entry3_0, entry3_1, entry3_2, entry3_3]
  refine Finset.sum_congr rfl fun κ _ => ?_
  refine congrArg₂ (fun u v : EReal => u * v) ((congrFun (at7 m ρ c) (ix2 b κ)).trans (shared_apply m ρ c b κ)) ?_
  pointwise

theorem head_bound {N h : Nat} (l : Fin 256) (hN : 256 * (h + 1) ≤ N) : 256 * h + l.val < N := by have := l.isLt; omega

/-! ### The result arrays -/

theorem query_array (c : Dev nD) (b : Fin 112) (n : Fin 4096) : (W8 m ρ c (Proc.devRef .tc main_v7) : S112x4096.Idx → EReal) (ix2 b n)
    = heads (N := 4096) rfl (projection (N := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b) (fun j => (m ((c : Thread nD τ).loc main_arg14) : S112x128.Idx → EReal) (ix2 b j)) (fun j => (m ((c : Thread nD τ).loc main_arg15) : S112x128.Idx → EReal) (ix2 b j)) n := by
  have e : W8 m ρ c (Proc.devRef .tc main_v7) = (dat1 (V3 m ρ) c).arrAt 7 cfg1.N :=
    (W8_of m ρ c main_v7 (by decide +kernel)).trans ((W7_of m ρ c main_v7 (by decide)).trans ((W6_of m ρ c main_v7 (by decide +kernel)).trans
      ((W5_of m ρ c main_v7 (by decide)).trans (W4_arr m ρ c 7))))
  refine (congrFun (e.trans (final1 (V3 m ρ) c)) (ix2 b n)).trans ?_
  have h14 : V3 m ρ c main_arg14 = m ((c : Thread nD τ).loc main_arg14) := W3_args m ρ c main_arg14 (by decide)
  have h15 : V3 m ρ c main_arg15 = m ((c : Thread nD τ).loc main_arg15) := W3_args m ρ c main_arg15 (by decide)
  exact rotated_congr (fun l => sums1 m ρ c b _) (fun j => congrFun h14 (ix2 b j)) (fun j => congrFun h15 (ix2 b j)) _

theorem key_array (c : Dev nD) (b : Fin 112) (n : Fin 1024) : (W8 m ρ c (Proc.devRef .tc main_v12) : S112x1024.Idx → EReal) (ix2 b n)
    = heads (N := 1024) rfl (projection (N := 1024) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) b) (fun j => (m ((c : Thread nD τ).loc main_arg14) : S112x128.Idx → EReal) (ix2 b j)) (fun j => (m ((c : Thread nD τ).loc main_arg15) : S112x128.Idx → EReal) (ix2 b j)) n := by
  have e : W8 m ρ c (Proc.devRef .tc main_v12) = (dat2 (V5 m ρ) c).arrAt 7 cfg2.N :=
    (W8_of m ρ c main_v12 (by decide +kernel)).trans ((W7_of m ρ c main_v12 (by decide)).trans (W6_arr m ρ c 7))
  refine (congrFun (e.trans (final2 (V5 m ρ) c)) (ix2 b n)).trans ?_
  have h14 : V5 m ρ c main_arg14 = m ((c : Thread nD τ).loc main_arg14) := W5_args m ρ c main_arg14 (by decide)
  have h15 : V5 m ρ c main_arg15 = m ((c : Thread nD τ).loc main_arg15) := W5_args m ρ c main_arg15 (by decide)
  exact rotated_congr (fun l => sums2 m ρ c b _) (fun j => congrFun h14 (ix2 b j)) (fun j => congrFun h15 (ix2 b j)) _

theorem value_array (c : Dev nD) (b : Fin 112) (n : Fin 1024) : (W8 m ρ c (Proc.devRef .tc main_v17) : S112x1024.Idx → EReal) (ix2 b n)
    = projection (N := 1024) (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)) b n :=
  (congrFun ((W8_arr m ρ c 5).trans (final3 (V7 m ρ) c)) (ix2 b n)).trans (sums3 m ρ c b n)

/-- The rotated heads of one projection. -/
def rotatedHead {N : Nat} (p : Fin 112 → Fin N → EReal) (cs sn : S112x128.Idx → EReal) (b : Fin 112) (h : Nat) (hN : 256 * (h + 1) ≤ N) (d : Fin 256) : EReal :=
  rotated (fun l => p b ⟨256 * h + l.val, head_bound l hN⟩) (fun j => cs (ix2 b j)) (fun j => sn (ix2 b j)) d

theorem query_result (c : Dev nD) (b : Fin 112) (h : Fin 16) (d : Fin 256) : (W9 m ρ c (Proc.devRef .tc main_v18) : S112x16x256.Idx → EReal) (ix3 b h d)
    = rotatedHead (projection (N := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg14)) (m ((c : Thread nD τ).loc main_arg15)) b h.val (by omega) d := by
  have e : W9 m ρ c (Proc.devRef .tc main_v18) = shapeCast S112x16x256 (W8 m ρ c (Proc.devRef .tc main_v7)) shapeCasts_S112x4096_S112x16x256 := by
    unfold_abbrev_sides
    after_results
    rfl
  refine (congrFun e (ix3 b h d)).trans ?_
  have i : Shape.reshapeEquiv shapeCasts_S112x4096_S112x16x256 (ix3 b h d) = ix2 b (⟨256 * h.val + d.val, by omega⟩ : Fin 4096) := by
    refine Shape.reshapeEquiv_eq_of_vals _ _ _ _ _ (rowMajor_val2 _ _ rfl) (rowMajor_val3 _ _ _ rfl rfl) ?_
    show b.val * 4096 + (256 * h.val + d.val) = b.val * (16 * 256) + h.val * 256 + d.val
    ring
  exact (congrArg (W8 m ρ c (Proc.devRef .tc main_v7) : S112x4096.Idx → EReal) i).trans ((query_array m ρ c b _).trans
    (heads_block (N := 4096) rfl (projection (N := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b) (fun j => (m ((c : Thread nD τ).loc main_arg14) : S112x128.Idx → EReal) (ix2 b j)) (fun j => (m ((c : Thread nD τ).loc main_arg15) : S112x128.Idx → EReal) (ix2 b j)) h.val d (by omega)))

theorem key_result (c : Dev nD) (b : Fin 112) (h : Fin 4) (d : Fin 256) : (W9 m ρ c (Proc.devRef .tc main_v19) : S112x1x4x256.Idx → EReal) (ix4 b 0 h d)
    = rotatedHead (projection (N := 1024) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))) (m ((c : Thread nD τ).loc main_arg14)) (m ((c : Thread nD τ).loc main_arg15)) b h.val (by omega) d := by
  have e : W9 m ρ c (Proc.devRef .tc main_v19) = shapeCast S112x1x4x256 (W8 m ρ c (Proc.devRef .tc main_v12)) shapeCasts_S112x1024_S112x1x4x256 := by
    unfold_abbrev_sides
    after_results
    rfl
  refine (congrFun e (ix4 b 0 h d)).trans ?_
  have i : Shape.reshapeEquiv shapeCasts_S112x1024_S112x1x4x256 (ix4 b 0 h d) = ix2 b (⟨256 * h.val + d.val, by omega⟩ : Fin 1024) := by
    refine Shape.reshapeEquiv_eq_of_vals _ _ _ _ _ (rowMajor_val2 _ _ rfl) (rowMajor_val4 _ _ _ _ rfl rfl rfl) ?_
    show b.val * 1024 + (256 * h.val + d.val) = b.val * (1 * (4 * 256)) + 0 * (4 * 256) + h.val * 256 + d.val
    ring
  exact (congrArg (W8 m ρ c (Proc.devRef .tc main_v12) : S112x1024.Idx → EReal) i).trans ((key_array m ρ c b _).trans
    (heads_block (N := 1024) rfl (projection (N := 1024) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) b) (fun j => (m ((c : Thread nD τ).loc main_arg14) : S112x128.Idx → EReal) (ix2 b j)) (fun j => (m ((c : Thread nD τ).loc main_arg15) : S112x128.Idx → EReal) (ix2 b j)) h.val d (by omega)))

theorem value_result (c : Dev nD) (b : Fin 112) (h : Fin 4) (d : Fin 256) : (W9 m ρ c (Proc.devRef .tc main_v20) : S112x1x4x256.Idx → EReal) (ix4 b 0 h d)
    = projection (N := 1024) (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)) b ⟨256 * h.val + d.val, by omega⟩ := by
  have e : W9 m ρ c (Proc.devRef .tc main_v20) = shapeCast S112x1x4x256 (W8 m ρ c (Proc.devRef .tc main_v17)) shapeCasts_S112x1024_S112x1x4x256 := by
    unfold_abbrev_sides
    after_results
    rfl
  refine (congrFun e (ix4 b 0 h d)).trans ?_
  have i : Shape.reshapeEquiv shapeCasts_S112x1024_S112x1x4x256 (ix4 b 0 h d) = ix2 b (⟨256 * h.val + d.val, by omega⟩ : Fin 1024) := by
    refine Shape.reshapeEquiv_eq_of_vals _ _ _ _ _ (rowMajor_val2 _ _ rfl) (rowMajor_val4 _ _ _ _ rfl rfl rfl) ?_
    show b.val * 1024 + (256 * h.val + d.val) = b.val * (1 * (4 * 256)) + 0 * (4 * 256) + h.val * 256 + d.val
    ring
  exact (congrArg (W8 m ρ c (Proc.devRef .tc main_v17) : S112x1024.Idx → EReal) i).trans (value_array m ρ c b _)

end Cert.BeforeIdeal.Result
end
-- ==== Proof.RefMath.lean ====
module

public import Idealize.ShloMosaic.Lib.Pointwise
public import Idealize.ShloMosaic.Lib.Pointwise.IndexVar
public import proofs.«01_k».proof.Proof.Weights

/-!
What the reference's quantised product computes: `dequant_apply` (the two halves of the dequantised weights) and
`matmul_apply` (the product with the activations).
-/

@[expose] public section

set_option maxRecDepth 16384

noncomputable section

namespace Idealize.ShloMosaic.DotDims

/-! ### Three contracting axes -/

variable {sl sr so : Shape} (d : DotDims sl sr so)

theorem rank_contr₃ {a b e : Fin sl.rank} (hc : d.lhsContracting = [a, b, e]) : d.contr.rank = 3 := by
  rw [d.rank_contr, hc]; rfl

theorem size_contr₃ {a b e : Fin sl.rank} (hc : d.lhsContracting = [a, b, e]) {K₁ K₂ K₃ : Nat} (hK₁ : sl.size a = K₁) (hK₂ : sl.size b = K₂)
    (hK₃ : sl.size e = K₃) (p : Fin d.contr.rank) : (if p.val = 0 then K₁ else if p.val = 1 then K₂ else K₃) = d.contr.size p := by
  subst hK₁ hK₂ hK₃
  have : ∀ (l : List (Fin sl.rank)) (_ : l = [a, b, e]) (p : Fin (l.map sl.size).length),
      (if p.val = 0 then sl.size a else if p.val = 1 then sl.size b else sl.size e) = (l.map sl.size)[p] := by
    rintro _ rfl ⟨p, hp⟩
    have : p = 0 ∨ p = 1 ∨ p = 2 := by simp at hp; omega
    rcases this with rfl | rfl | rfl <;> rfl
  exact this _ hc p

/-- The contraction index of a three-axis contraction, from its coordinates. -/
def contrIdx₃ {a b e : Fin sl.rank} (hc : d.lhsContracting = [a, b, e]) {K₁ K₂ K₃ : Nat} (hK₁ : sl.size a = K₁) (hK₂ : sl.size b = K₂)
    (hK₃ : sl.size e = K₃) (k₁ : Fin K₁) (k₂ : Fin K₂) (k₃ : Fin K₃) : d.contr.Idx :=
  fun p => if h : p.val = 0 then k₁.cast (by rw [← d.size_contr₃ hc hK₁ hK₂ hK₃ p, if_pos h])
    else if h' : p.val = 1 then k₂.cast (by rw [← d.size_contr₃ hc hK₁ hK₂ hK₃ p, if_neg h, if_pos h'])
    else k₃.cast (by rw [← d.size_contr₃ hc hK₁ hK₂ hK₃ p, if_neg h, if_neg h'])

/-- Three-axis contraction indices are the triples of coordinates on those axes. -/
def contrEquiv₃ {a b e : Fin sl.rank} (hc : d.lhsContracting = [a, b, e]) {K₁ K₂ K₃ : Nat} (hK₁ : sl.size a = K₁) (hK₂ : sl.size b = K₂)
    (hK₃ : sl.size e = K₃) : Fin K₁ × Fin K₂ × Fin K₃ ≃ d.contr.Idx where
  toFun k := d.contrIdx₃ hc hK₁ hK₂ hK₃ k.1 k.2.1 k.2.2
  invFun kk :=
    ((kk ⟨0, by rw [d.rank_contr₃ hc]; omega⟩).cast (d.size_contr₃ hc hK₁ hK₂ hK₃ _).symm,
     (kk ⟨1, by rw [d.rank_contr₃ hc]; omega⟩).cast (d.size_contr₃ hc hK₁ hK₂ hK₃ _).symm,
     (kk ⟨2, by rw [d.rank_contr₃ hc]; omega⟩).cast (d.size_contr₃ hc hK₁ hK₂ hK₃ _).symm)
  left_inv _ := rfl
  right_inv kk := by
    funext p
    have : p = ⟨0, by rw [d.rank_contr₃ hc]; omega⟩ ∨ p = ⟨1, by rw [d.rank_contr₃ hc]; omega⟩ ∨ p = ⟨2, by rw [d.rank_contr₃ hc]; omega⟩ := by
      have := d.rank_contr₃ hc
      rcases p with ⟨p, hp⟩
      simp only [Fin.mk.injEq]; omega
    rcases this with rfl | rfl | rfl <;> rfl

/-- A sum over a three-axis contraction's indices is the triple sum over the axes' coordinates. -/
theorem sum_contr₃ {M : Type*} [AddCommMonoid M] {a b e : Fin sl.rank} (hc : d.lhsContracting = [a, b, e]) {K₁ K₂ K₃ : Nat}
    (hK₁ : sl.size a = K₁) (hK₂ : sl.size b = K₂) (hK₃ : sl.size e = K₃) (f : d.contr.Idx → M) :
    ∑ kk : d.contr.Idx, f kk = ∑ k₁ : Fin K₁, ∑ k₂ : Fin K₂, ∑ k₃ : Fin K₃, f (d.contrIdx₃ hc hK₁ hK₂ hK₃ k₁ k₂ k₃) := by
  rw [← Fintype.sum_equiv (d.contrEquiv₃ hc hK₁ hK₂ hK₃) (fun k => f (d.contrIdx₃ hc hK₁ hK₂ hK₃ k.1 k.2.1 k.2.2)) f fun _ => rfl]
  simp only [Fintype.sum_prod_type]

end Idealize.ShloMosaic.DotDims

namespace Cert.RefMath

open Idealize.ShloMosaic Cert.Weights

abbrev T0 : Shape := ⟨0, ![]⟩
variable {b n s : Nat}

/-- The two bytes-to-words shifts are in range, so the host's and the kernel's agree. -/
theorem shrsi_host (w : BitVec 32) (k : Nat) (hk : k < 32) : IntOp.shrsi .host w (BitVec.ofNat 32 k) = IntOp.shrsi .vector w (BitVec.ofNat 32 k) := by
  have : (BitVec.ofNat 32 k).toNat < 32 := by rw [BitVec.toNat_ofNat]; omega
  unfold IntOp.shrsi
  rw [if_pos this, if_pos this]
theorem shli_host (w : BitVec 32) (k : Nat) (hk : k < 32) : IntOp.shli .host w (BitVec.ofNat 32 k) = IntOp.shli .vector w (BitVec.ofNat 32 k) := by
  have : (BitVec.ofNat 32 k).toNat < 32 := by rw [BitVec.toNat_ofNat]; omega
  unfold IntOp.shli
  rw [if_pos this, if_pos this]

theorem pick {n : Nat} (k : Fin n) : (if _ : n = 1 then (⟨0, by omega⟩ : Fin n) else k) = k := by
  split
  · refine Fin.ext ?_
    simp only
    omega
  · rfl

theorem pick₂ {n : Nat} (k : Fin n) : (if _ : n = 1 then (⟨0, by omega⟩ : Fin n) else if _ : n = 1 then (⟨0, by omega⟩ : Fin n) else k) = k := by
  split
  · refine Fin.ext ?_
    simp only
    omega
  · rfl

/-- What the shapes of one quantised product have to satisfy. -/
structure Fits (n s : Nat) : Prop where
  s0 : (⟨3, ![n, s, 12]⟩ : Shape).Slices ![0, 0, 0] ⟨3, ![n, s, 4]⟩
  s4 : (⟨3, ![n, s, 12]⟩ : Shape).Slices ![0, 0, 4] ⟨3, ![n, s, 4]⟩
  s8 : (⟨3, ![n, s, 12]⟩ : Shape).Slices ![0, 0, 8] ⟨3, ![n, s, 4]⟩
  bc : T0.BroadcastsInDim ⟨3, ![n, s, 4]⟩ (![] : Fin 0 → Fin 3)
  cat : Shape.Concatenates [(⟨3, ![n, s, 4]⟩ : Shape), ⟨3, ![n, s, 4]⟩] ⟨3, ![n, s, 8]⟩ 2
  d1 : (⟨2, ![n, s]⟩ : Shape).BroadcastsInDim ⟨3, ![n, s, 1]⟩ (![0, 1] : Fin 2 → Fin 3)
  d8 : (⟨3, ![n, s, 1]⟩ : Shape).BroadcastsInDim ⟨3, ![n, s, 8]⟩ (![0, 1, 2] : Fin 3 → Fin 3)
  c8 : (⟨3, ![n, s, 8]⟩ : Shape).ShapeCasts ⟨4, ![n, s, 4, 2]⟩
  cq : (⟨3, ![n, s, 128]⟩ : Shape).ShapeCasts ⟨4, ![n, s, 4, 32]⟩
  bq : T0.BroadcastsInDim ⟨4, ![n, s, 4, 32]⟩ (![] : Fin 0 → Fin 4)
  p0 : (⟨4, ![n, s, 4, 2]⟩ : Shape).Slices ![0, 0, 0, 0] ⟨4, ![n, s, 4, 1]⟩
  p1 : (⟨4, ![n, s, 4, 2]⟩ : Shape).Slices ![0, 0, 0, 1] ⟨4, ![n, s, 4, 1]⟩
  b1 : (⟨4, ![n, s, 4, 1]⟩ : Shape).BroadcastsInDim ⟨4, ![n, s, 4, 32]⟩ (![0, 1, 2, 3] : Fin 4 → Fin 4)

variable (h : Fits n s)

/-- Four of the twelve scale bytes, as words. -/
def four (o : Nat) (ho : (⟨3, ![n, s, 12]⟩ : Shape).Slices ![0, 0, o] ⟨3, ![n, s, 4]⟩) (B : (⟨3, ![n, s, 12]⟩ : Shape).Idx → BitVec 8) :
    IVec (⟨3, ![n, s, 4]⟩ : Shape) 32 := extractStridedSlice (⟨3, ![n, s, 4]⟩ : Shape) ![0, 0, o] (extui 32 B (by decide)) ho

def num4 (w : BitVec 32) : IVec (⟨3, ![n, s, 4]⟩ : Shape) 32 := broadcastInDim (⟨3, ![n, s, 4]⟩ : Shape) ![] h.bc (constantI T0 32 w)

/-- The eight scales of every super-block. -/
def scales8 (B : (⟨3, ![n, s, 12]⟩ : Shape).Idx → BitVec 8) : IVec (⟨3, ![n, s, 8]⟩ : Shape) 32 :=
  concatenate (⟨3, ![n, s, 8]⟩ : Shape) 2 [⟨(⟨3, ![n, s, 4]⟩ : Shape), andi (four 0 h.s0 B) (num4 h 63#32)⟩,
    ⟨(⟨3, ![n, s, 4]⟩ : Shape), ori (andi (four 8 h.s8 B) (num4 h 15#32)) (Host.shli (Host.shrsi (four 0 h.s0 B) (num4 h 6#32)) (num4 h 4#32))⟩] h.cat

/-- The eight offsets of every super-block. -/
def offsets8 (B : (⟨3, ![n, s, 12]⟩ : Shape).Idx → BitVec 8) : IVec (⟨3, ![n, s, 8]⟩ : Shape) 32 :=
  concatenate (⟨3, ![n, s, 8]⟩ : Shape) 2 [⟨(⟨3, ![n, s, 4]⟩ : Shape), andi (four 4 h.s4 B) (num4 h 63#32)⟩,
    ⟨(⟨3, ![n, s, 4]⟩ : Shape), ori (Host.shrsi (four 8 h.s8 B) (num4 h 4#32)) (Host.shli (Host.shrsi (four 4 h.s4 B) (num4 h 6#32)) (num4 h 4#32))⟩] h.cat

theorem four_apply (o : Nat) (ho) (hb : o + 4 ≤ 12) (B : (⟨3, ![n, s, 12]⟩ : Shape).Idx → BitVec 8) (k : Fin n) (t : Fin s) (j : Fin 4) :
    four o ho B (ix3 k t j) = byte (B (ix3 k t ⟨o + j.val, by omega⟩)) := by
  refine congrArg (fun i => byte (B i)) ?_
  funext a
  apply Fin.ext
  fin_cases a
  · exact Nat.zero_add k.val
  · exact Nat.zero_add t.val
  · rfl

theorem shift_top (v : BitVec 8) : IntOp.shli .host (IntOp.shrsi .host (byte v) 6#32) 4#32 = top v := by
  rw [shrsi_host _ 6 (by omega), shli_host _ 4 (by omega)]
  rfl

theorem cat_apply (x y : IVec (⟨3, ![n, s, 4]⟩ : Shape) 32) (k : Fin n) (t : Fin s) (j : Fin 8) :
    concatenate (⟨3, ![n, s, 8]⟩ : Shape) 2 [⟨(⟨3, ![n, s, 4]⟩ : Shape), x⟩, ⟨(⟨3, ![n, s, 4]⟩ : Shape), y⟩] h.cat (ix3 k t j)
      = if hj : j.val < 4 then x (ix3 k t ⟨j.val, hj⟩) else y (ix3 k t ⟨j.val - 4, by omega⟩) := by
  pointwise

theorem scales8_apply (B : (⟨3, ![n, s, 12]⟩ : Shape).Idx → BitVec 8) (k : Fin n) (t : Fin s) (j : Fin 8) :
    scales8 h B (ix3 k t j) = scaleOf (fun a => B (ix3 k t a)) j := by
  unfold scales8 scaleOf
  rw [cat_apply]
  swap
  · exact h
  split
  · refine (congrArg (IntOp.andi · 63#32) (four_apply 0 _ (by omega) B k t _)).trans ?_
    simp only [Nat.zero_add]
  · show IntOp.ori (IntOp.andi (four 8 _ B _) 15#32) (IntOp.shli .host (IntOp.shrsi .host (four 0 _ B _) 6#32) 4#32) = _
    rw [four_apply 8 _ (by omega), four_apply 0 _ (by omega), shift_top]
    refine congrArg₂ (fun a c => IntOp.ori (IntOp.andi (byte (B (ix3 k t a))) 15#32) (top (B (ix3 k t c)))) ?_ ?_ <;> refine Fin.ext ?_ <;> simp only <;> omega

theorem offsets8_apply (B : (⟨3, ![n, s, 12]⟩ : Shape).Idx → BitVec 8) (k : Fin n) (t : Fin s) (j : Fin 8) :
    offsets8 h B (ix3 k t j) = offsetOf (fun a => B (ix3 k t a)) j := by
  unfold offsets8 offsetOf
  rw [cat_apply]
  swap
  · exact h
  split
  · refine (congrArg (IntOp.andi · 63#32) (four_apply 4 _ (by omega) B k t _)).trans ?_
    refine congrArg (fun a => IntOp.andi (byte (B (ix3 k t a))) 63#32) ?_
    exact Fin.ext (Nat.add_comm _ _)
  · show IntOp.ori (IntOp.shrsi .host (four 8 _ B _) 4#32) (IntOp.shli .host (IntOp.shrsi .host (four 4 _ B _) 6#32) 4#32) = _
    rw [four_apply 8 _ (by omega), four_apply 4 _ (by omega), shift_top, shrsi_host _ 4 (by omega)]
    refine congrArg₂ (fun a c => IntOp.ori (IntOp.shrsi .vector (byte (B (ix3 k t a))) 4#32) (top (B (ix3 k t c)))) ?_ ?_ <;> refine Fin.ext ?_ <;> simp only <;> omega

/-- The sub-block factors: the factor times each of the eight. -/
def factors (w : IVec (⟨3, ![n, s, 8]⟩ : Shape) 32) (d : (⟨2, ![n, s]⟩ : Shape).Idx → EReal) : (⟨4, ![n, s, 4, 2]⟩ : Shape).Idx → EReal :=
  shapeCast (⟨4, ![n, s, 4, 2]⟩ : Shape) (mulf (F := Ideal) (φ := .bf16) (broadcastInDim (⟨3, ![n, s, 8]⟩ : Shape) ![0, 1, 2] h.d8 (broadcastInDim (⟨3, ![n, s, 1]⟩ : Shape) ![0, 1] h.d1 d))
    (sitofp .bf16 w)) h.c8

theorem factors_apply (w : IVec (⟨3, ![n, s, 8]⟩ : Shape) 32) (d : (⟨2, ![n, s]⟩ : Shape).Idx → EReal) (k : Fin n) (t : Fin s) (g : Fin 4) (p : Fin 2) :
    factors h w d (ix4 k t g p) = d (ix2 k t) * num (w (ix3 k t ⟨2 * g.val + p.val, by omega⟩)) := by
  have e : Shape.reshapeEquiv h.c8 (ix4 k t g p) = ix3 k t ⟨2 * g.val + p.val, by omega⟩ := by
    refine Shape.reshapeEquiv_eq_of_vals _ _ _ _ _ (rowMajor_val3 _ _ _ rfl rfl) (rowMajor_val4 _ _ _ _ rfl rfl rfl) ?_
    show k.val * (s * 8) + t.val * 8 + (2 * g.val + p.val) = k.val * (s * (4 * 2)) + t.val * (4 * 2) + g.val * 2 + p.val
    ring
  unfold factors
  pointwise
  rw [e]
  pointwise
  exact congrArg₂ (fun u v => d (ix2 u v) * num _) (pick₂ k) (pick₂ t)

/-- The dequantised weights of nibble `p`. -/
def half (p : Fin 2) (hp : (⟨4, ![n, s, 4, 2]⟩ : Shape).Slices ![0, 0, 0, p.val] ⟨4, ![n, s, 4, 1]⟩)
    (words : IVec (⟨4, ![n, s, 4, 32]⟩ : Shape) 32) (B : (⟨3, ![n, s, 12]⟩ : Shape).Idx → BitVec 8) (d dm : (⟨2, ![n, s]⟩ : Shape).Idx → EReal) :
    (⟨4, ![n, s, 4, 32]⟩ : Shape).Idx → EReal :=
  subf (F := Ideal) (φ := .bf16)
    (mulf (F := Ideal) (φ := .bf16) (sitofp .bf16 words)
      (broadcastInDim (⟨4, ![n, s, 4, 32]⟩ : Shape) ![0, 1, 2, 3] h.b1 (extractStridedSlice (⟨4, ![n, s, 4, 1]⟩ : Shape) ![0, 0, 0, p.val] (factors h (scales8 h B) d) hp)))
    (broadcastInDim (⟨4, ![n, s, 4, 32]⟩ : Shape) ![0, 1, 2, 3] h.b1 (extractStridedSlice (⟨4, ![n, s, 4, 1]⟩ : Shape) ![0, 0, 0, p.val] (factors h (offsets8 h B) dm) hp))

/-- The code bytes as words, by group and byte. -/
def words (q : (⟨3, ![n, s, 128]⟩ : Shape).Idx → BitVec 8) : IVec (⟨4, ![n, s, 4, 32]⟩ : Shape) 32 :=
  shapeCast (⟨4, ![n, s, 4, 32]⟩ : Shape) (extui 32 q (by decide)) h.cq

def lowHalf (q : (⟨3, ![n, s, 128]⟩ : Shape).Idx → BitVec 8) (B : (⟨3, ![n, s, 12]⟩ : Shape).Idx → BitVec 8) (d dm : (⟨2, ![n, s]⟩ : Shape).Idx → EReal) :=
  half h 0 h.p0 (andi (words h q) (broadcastInDim (⟨4, ![n, s, 4, 32]⟩ : Shape) ![] h.bq (constantI T0 32 15#32))) B d dm

def highHalf (q : (⟨3, ![n, s, 128]⟩ : Shape).Idx → BitVec 8) (B : (⟨3, ![n, s, 12]⟩ : Shape).Idx → BitVec 8) (d dm : (⟨2, ![n, s]⟩ : Shape).Idx → EReal) :=
  half h 1 h.p1 (Host.shrsi (words h q) (broadcastInDim (⟨4, ![n, s, 4, 32]⟩ : Shape) ![] h.bq (constantI T0 32 4#32))) B d dm

theorem words_apply (q : (⟨3, ![n, s, 128]⟩ : Shape).Idx → BitVec 8) (k : Fin n) (t : Fin s) (g : Fin 4) (i : Fin 32) :
    words h q (ix4 k t g i) = byte (q (ix3 k t ⟨32 * g.val + i.val, by omega⟩)) := by
  have e : Shape.reshapeEquiv h.cq (ix4 k t g i) = ix3 k t ⟨32 * g.val + i.val, by omega⟩ := by
    refine Shape.reshapeEquiv_eq_of_vals _ _ _ _ _ (rowMajor_val3 _ _ _ rfl rfl) (rowMajor_val4 _ _ _ _ rfl rfl rfl) ?_
    show k.val * (s * 128) + t.val * 128 + (32 * g.val + i.val) = k.val * (s * (4 * 32)) + t.val * (4 * 32) + g.val * 32 + i.val
    ring
  exact congrArg (fun i => byte (q i)) e

theorem half_apply (p : Fin 2) (hp) (w : IVec (⟨4, ![n, s, 4, 32]⟩ : Shape) 32) (B : (⟨3, ![n, s, 12]⟩ : Shape).Idx → BitVec 8)
    (d dm : (⟨2, ![n, s]⟩ : Shape).Idx → EReal) (k : Fin n) (t : Fin s) (g : Fin 4) (i : Fin 32) :
    half h p hp w B d dm (ix4 k t g i) = num (w (ix4 k t g i)) * (d (ix2 k t) * num (scaleOf (fun a => B (ix3 k t a)) (sub (row g i p))))
      - dm (ix2 k t) * num (offsetOf (fun a => B (ix3 k t a)) (sub (row g i p))) := by
  have e : (⟨2 * g.val + p.val, by omega⟩ : Fin 8) = sub (row g i p) := by
    refine Fin.ext ?_
    simp only [sub, row]
    omega
  rw [← scales8_apply h, ← offsets8_apply h, ← e, ← factors_apply h, ← factors_apply h]
  unfold half
  pointwise
  exact congrArg₂ (fun u v => num (w (ix4 k t g i)) * factors h (scales8 h B) d (ix4 u v g p) - factors h (offsets8 h B) dm (ix4 u v g p)) (pick k) (pick t)

theorem lowHalf_apply (q : (⟨3, ![n, s, 128]⟩ : Shape).Idx → BitVec 8) (B : (⟨3, ![n, s, 12]⟩ : Shape).Idx → BitVec 8)
    (d dm : (⟨2, ![n, s]⟩ : Shape).Idx → EReal) (k : Fin n) (t : Fin s) (g : Fin 4) (i : Fin 32) :
    lowHalf h q B d dm (ix4 k t g i) = weight (fun j => q (ix3 k t j)) (fun a => B (ix3 k t a)) (d (ix2 k t)) (dm (ix2 k t)) (row g i 0) := by
  unfold lowHalf weight
  rw [half_apply]
  refine congrArg (fun v => num v * _ - _) ?_
  refine (congrArg (IntOp.andi · 15#32) (words_apply h q k t g i)).trans ?_
  have e : (row g i 0).val / 2 = 32 * g.val + i.val := by simp only [row]; omega
  have e' : (row g i 0).val % 2 = 0 := by simp only [row]; omega
  simp only [e, e', nib, if_true]

theorem highHalf_apply (q : (⟨3, ![n, s, 128]⟩ : Shape).Idx → BitVec 8) (B : (⟨3, ![n, s, 12]⟩ : Shape).Idx → BitVec 8)
    (d dm : (⟨2, ![n, s]⟩ : Shape).Idx → EReal) (k : Fin n) (t : Fin s) (g : Fin 4) (i : Fin 32) :
    highHalf h q B d dm (ix4 k t g i) = weight (fun j => q (ix3 k t j)) (fun a => B (ix3 k t a)) (d (ix2 k t)) (dm (ix2 k t)) (row g i 1) := by
  unfold highHalf weight
  rw [half_apply]
  refine congrArg (fun v => num v * _ - _) ?_
  refine (congrArg (IntOp.shrsi .host · 4#32) (words_apply h q k t g i)).trans ?_
  have e : (row g i 1).val / 2 = 32 * g.val + i.val := by simp only [row]; omega
  have e' : (row g i 1).val % 2 = 1 := by simp only [row]; omega
  rw [shrsi_host _ 4 (by omega)]
  simp only [e, e', nib, if_neg one_ne_zero]

/-- The product's contraction: over group, byte and super-block. -/
abbrev Contracts (b n s : Nat) : Prop := ∃ d : DotDims ⟨4, ![b, s, 4, 32]⟩ ⟨4, ![n, s, 4, 32]⟩ ⟨2, ![b, n]⟩,
  d.lhsContracting = [2, 3, 1] ∧ d.rhsContracting = [2, 3, 1] ∧ d.lhsNonContracting = [0] ∧ d.rhsNonContracting = [0] ∧ d.lhsBatch = [] ∧ d.rhsBatch = []

theorem dot_apply (d : DotDims ⟨4, ![b, s, 4, 32]⟩ ⟨4, ![n, s, 4, 32]⟩ ⟨2, ![b, n]⟩) (h1 : d.lhsContracting = [2, 3, 1])
    (h2 : d.rhsContracting = [2, 3, 1]) (h3 : d.lhsNonContracting = [0]) (h4 : d.rhsNonContracting = [0]) (h5 : d.lhsBatch = []) (h6 : d.rhsBatch = [])
    (l : (⟨4, ![b, s, 4, 32]⟩ : Shape).Idx → EReal) (r : (⟨4, ![n, s, 4, 32]⟩ : Shape).Idx → EReal) (x : Fin b) (y : Fin n) :
    Host.dotGeneral (F := Ideal) (φ₁ := .bf16) (φ₂ := .bf16) d none l r (ix2 x y) = ∑ k, ∑ g, ∑ i, l (ix4 x k g i) * r (ix4 y k g i) := by
  rcases d with ⟨_, _, _, _, _, _, wf⟩
  subst h1 h2 h3 h4 h5 h6
  refine (congrFun (Ideal.dotGeneral_def _ none _ l r) _).trans ?_
  refine (congrArg (0 + ·) (DotDims.sum_contr₃ _ rfl (K₁ := 4) (K₂ := 32) (K₃ := s) rfl rfl rfl _)).trans ?_
  rw [zero_add]
  refine (Finset.sum_congr rfl fun g _ => Finset.sum_comm).trans (Finset.sum_comm.trans ?_)
  refine Finset.sum_congr rfl fun k _ => Finset.sum_congr rfl fun g _ => Finset.sum_congr rfl fun i _ => ?_
  refine congrArg₂ (fun u v => l u * r v) ?_ ?_ <;> funext a <;> fin_cases a <;> rfl

/-- The quantised product: the low nibbles' contraction plus the high nibbles'. -/
theorem matmul_apply (d : DotDims ⟨4, ![b, s, 4, 32]⟩ ⟨4, ![n, s, 4, 32]⟩ ⟨2, ![b, n]⟩) (h1 : d.lhsContracting = [2, 3, 1])
    (h2 : d.rhsContracting = [2, 3, 1]) (h3 : d.lhsNonContracting = [0]) (h4 : d.rhsNonContracting = [0]) (h5 : d.lhsBatch = []) (h6 : d.rhsBatch = [])
    (lo hi : (⟨4, ![b, s, 4, 32]⟩ : Shape).Idx → EReal) (q : (⟨3, ![n, s, 128]⟩ : Shape).Idx → BitVec 8)
    (B : (⟨3, ![n, s, 12]⟩ : Shape).Idx → BitVec 8) (D M : (⟨2, ![n, s]⟩ : Shape).Idx → EReal) (A : Fin s → Fin 4 → Fin 2 → Fin 32 → EReal) (x : Fin b) (y : Fin n)
    (hlo : ∀ k g i, lo (ix4 x k g i) = A k g 0 i) (hhi : ∀ k g i, hi (ix4 x k g i) = A k g 1 i) :
    addf (F := Ideal) (φ := .f32) (Host.dotGeneral (F := Ideal) (φ₁ := .bf16) (φ₂ := .bf16) d none lo (lowHalf h q B D M))
        (Host.dotGeneral (F := Ideal) (φ₁ := .bf16) (φ₂ := .bf16) d none hi (highHalf h q B D M)) (ix2 x y)
      = product A (fun k ρ => weight (fun j => q (ix3 y k j)) (fun a => B (ix3 y k a)) (D (ix2 y k)) (M (ix2 y k)) ρ) := by
  refine (congrArg₂ (fun u v : EReal => u + v) (dot_apply d h1 h2 h3 h4 h5 h6 _ _ x y) (dot_apply d h1 h2 h3 h4 h5 h6 _ _ x y)).trans ?_
  unfold product
  simp only [hlo, hhi, lowHalf_apply, highHalf_apply]

/-! ### The two halves of the activations -/

/-- Nibble `p`'s activations, out of a row in the nibbles' order. -/
theorem act_apply {K : Nat} (hK : K = s * 256) (p : Fin 2) (h1 : (⟨2, ![b, K]⟩ : Shape).ShapeCasts ⟨5, ![b, s, 4, 32, 2]⟩)
    (h2 : (⟨5, ![b, s, 4, 32, 2]⟩ : Shape).Slices ![0, 0, 0, 0, p.val] ⟨5, ![b, s, 4, 32, 1]⟩)
    (h3 : (⟨5, ![b, s, 4, 32, 1]⟩ : Shape).ShapeCasts ⟨4, ![b, s, 4, 32]⟩) (a : (⟨2, ![b, K]⟩ : Shape).Idx → EReal)
    (x : Fin b) (k : Fin s) (g : Fin 4) (i : Fin 32) :
    shapeCast (⟨4, ![b, s, 4, 32]⟩ : Shape) (extractStridedSlice (⟨5, ![b, s, 4, 32, 1]⟩ : Shape) ![0, 0, 0, 0, p.val]
      (shapeCast (⟨5, ![b, s, 4, 32, 2]⟩ : Shape) a h1) h2) h3 (ix4 x k g i)
      = a (ix2 x ⟨256 * k.val + 64 * g.val + 2 * i.val + p.val, by omega⟩) := by
  have e3 : Shape.reshapeEquiv h3 (ix4 x k g i) = ix5 x k g i (0 : Fin 1) := by
    refine Shape.reshapeEquiv_eq_of_vals _ _ _ _ _ (rowMajor_val5 _ _ _ _ _ rfl rfl rfl rfl) (rowMajor_val4 _ _ _ _ rfl rfl rfl) ?_
    show x.val * (s * (4 * (32 * 1))) + k.val * (4 * (32 * 1)) + g.val * (32 * 1) + i.val * 1 + 0 = x.val * (s * (4 * 32)) + k.val * (4 * 32) + g.val * 32 + i.val
    ring
  have e1 : Shape.reshapeEquiv h1 (ix5 x k g i p) = ix2 x ⟨256 * k.val + 64 * g.val + 2 * i.val + p.val, by omega⟩ := by
    refine Shape.reshapeEquiv_eq_of_vals _ _ _ _ _ (rowMajor_val2 _ _ rfl) (rowMajor_val5 _ _ _ _ _ rfl rfl rfl rfl) ?_
    show x.val * K + (256 * k.val + 64 * g.val + 2 * i.val + p.val) = x.val * (s * (4 * (32 * 2))) + k.val * (4 * (32 * 2)) + g.val * (32 * 2) + i.val * 2 + p.val
    subst hK
    ring
  pointwise
  rw [e3]
  pointwise
  rw [e1]

/-- The quantised product of activations in the nibbles' order, as one sum over the rows. -/
theorem permuted_product {K : Nat} (hK : K = s * 256) (d : DotDims ⟨4, ![b, s, 4, 32]⟩ ⟨4, ![n, s, 4, 32]⟩ ⟨2, ![b, n]⟩) (h1 : d.lhsContracting = [2, 3, 1])
    (h2 : d.rhsContracting = [2, 3, 1]) (h3 : d.lhsNonContracting = [0]) (h4 : d.rhsNonContracting = [0]) (h5 : d.lhsBatch = []) (h6 : d.rhsBatch = [])
    (c1 : (⟨2, ![b, K]⟩ : Shape).ShapeCasts ⟨5, ![b, s, 4, 32, 2]⟩)
    (s0 : (⟨5, ![b, s, 4, 32, 2]⟩ : Shape).Slices ![0, 0, 0, 0, 0] ⟨5, ![b, s, 4, 32, 1]⟩)
    (s1 : (⟨5, ![b, s, 4, 32, 2]⟩ : Shape).Slices ![0, 0, 0, 0, 1] ⟨5, ![b, s, 4, 32, 1]⟩)
    (c3 : (⟨5, ![b, s, 4, 32, 1]⟩ : Shape).ShapeCasts ⟨4, ![b, s, 4, 32]⟩) (a : (⟨2, ![b, K]⟩ : Shape).Idx → EReal)
    (q : (⟨3, ![n, s, 128]⟩ : Shape).Idx → BitVec 8) (B : (⟨3, ![n, s, 12]⟩ : Shape).Idx → BitVec 8) (D M : (⟨2, ![n, s]⟩ : Shape).Idx → EReal)
    (x : Fin b) (y : Fin n) :
    addf (F := Ideal) (φ := .f32)
        (Host.dotGeneral (F := Ideal) (φ₁ := .bf16) (φ₂ := .bf16) d none (shapeCast (⟨4, ![b, s, 4, 32]⟩ : Shape)
          (extractStridedSlice (⟨5, ![b, s, 4, 32, 1]⟩ : Shape) ![0, 0, 0, 0, 0] (shapeCast (⟨5, ![b, s, 4, 32, 2]⟩ : Shape) a c1) s0) c3) (lowHalf h q B D M))
        (Host.dotGeneral (F := Ideal) (φ₁ := .bf16) (φ₂ := .bf16) d none (shapeCast (⟨4, ![b, s, 4, 32]⟩ : Shape)
          (extractStridedSlice (⟨5, ![b, s, 4, 32, 1]⟩ : Shape) ![0, 0, 0, 0, 1] (shapeCast (⟨5, ![b, s, 4, 32, 2]⟩ : Shape) a c1) s1) c3) (highHalf h q B D M)) (ix2 x y)
      = ∑ κ : Fin K, a (ix2 x κ) * weight (fun j => q (ix3 y ⟨κ.val / 256, by omega⟩ j)) (fun j => B (ix3 y ⟨κ.val / 256, by omega⟩ j))
          (D (ix2 y ⟨κ.val / 256, by omega⟩)) (M (ix2 y ⟨κ.val / 256, by omega⟩)) ⟨κ.val % 256, by omega⟩ := by
  refine Eq.trans ?_ (sum_rows hK (fun κ => a (ix2 x κ)) (fun k ρ => weight (fun j => q (ix3 y k j)) (fun j => B (ix3 y k j)) (D (ix2 y k)) (M (ix2 y k)) ρ)).symm
  exact matmul_apply h d h1 h2 h3 h4 h5 h6 _ _ q B D M (fun k g p i => a (ix2 x ⟨256 * k.val + 64 * g.val + 2 * i.val + p.val, by omega⟩)) x y
    (fun k g i => act_apply hK 0 c1 s0 c3 a x k g i) (fun k g i => act_apply hK 1 c1 s1 c3 a x k g i)

end Cert.RefMath
end
-- ==== Proof.BeforeRef.lean ====
module

public import proofs.«01_k».proof.Proof.RefMath
public import proofs.«01_k».proof.Proof.BeforeResult
public import proofs.«01_k».proof.Proof.Gen.BeforeRefIdeal.Run

/-!
What the reference of the calls before the attention computes: `query`, `key` and `value`, read at an index.
-/

@[expose] public section

set_option maxRecDepth 16384

noncomputable section

namespace Cert.RefMath

open Idealize.ShloMosaic Cert.Weights

variable {b n s : Nat} (h : Fits n s)

/-- Nibble `p`'s activations, out of a row in the weights' own order. -/
theorem plain_act_apply {K : Nat} (hK : K = s * 256) (p : Fin 2) (h1 : (⟨2, ![b, K]⟩ : Shape).ShapeCasts ⟨5, ![b, s, 4, 2, 32]⟩)
    (h2 : (⟨5, ![b, s, 4, 2, 32]⟩ : Shape).Slices ![0, 0, 0, p.val, 0] ⟨5, ![b, s, 4, 1, 32]⟩)
    (h3 : (⟨5, ![b, s, 4, 1, 32]⟩ : Shape).ShapeCasts ⟨4, ![b, s, 4, 32]⟩) (a : (⟨2, ![b, K]⟩ : Shape).Idx → EReal)
    (x : Fin b) (k : Fin s) (g : Fin 4) (i : Fin 32) :
    shapeCast (⟨4, ![b, s, 4, 32]⟩ : Shape) (extractStridedSlice (⟨5, ![b, s, 4, 1, 32]⟩ : Shape) ![0, 0, 0, p.val, 0]
      (shapeCast (⟨5, ![b, s, 4, 2, 32]⟩ : Shape) a h1) h2) h3 (ix4 x k g i)
      = a (ix2 x ⟨256 * k.val + 64 * g.val + 32 * p.val + i.val, by omega⟩) := by
  have e3 : Shape.reshapeEquiv h3 (ix4 x k g i) = ix5 x k g (0 : Fin 1) i := by
    refine Shape.reshapeEquiv_eq_of_vals _ _ _ _ _ (rowMajor_val5 _ _ _ _ _ rfl rfl rfl rfl) (rowMajor_val4 _ _ _ _ rfl rfl rfl) ?_
    show x.val * (s * (4 * (1 * 32))) + k.val * (4 * (1 * 32)) + g.val * (1 * 32) + 0 * 32 + i.val = x.val * (s * (4 * 32)) + k.val * (4 * 32) + g.val * 32 + i.val
    ring
  have e1 : Shape.reshapeEquiv h1 (ix5 x k g p i) = ix2 x ⟨256 * k.val + 64 * g.val + 32 * p.val + i.val, by omega⟩ := by
    refine Shape.reshapeEquiv_eq_of_vals _ _ _ _ _ (rowMajor_val2 _ _ rfl) (rowMajor_val5 _ _ _ _ _ rfl rfl rfl rfl) ?_
    show x.val * K + (256 * k.val + 64 * g.val + 32 * p.val + i.val) = x.val * (s * (4 * (2 * 32))) + k.val * (4 * (2 * 32)) + g.val * (2 * 32) + p.val * 32 + i.val
    subst hK
    ring
  pointwise
  rw [e3]
  pointwise
  rw [e1]

/-- The quantised product of activations in the weights' own order, as one sum over the rows in the nibbles' order. -/
theorem plain_product {K : Nat} (hK : K = s * 256) (d : DotDims ⟨4, ![b, s, 4, 32]⟩ ⟨4, ![n, s, 4, 32]⟩ ⟨2, ![b, n]⟩) (h1 : d.lhsContracting = [2, 3, 1])
    (h2 : d.rhsContracting = [2, 3, 1]) (h3 : d.lhsNonContracting = [0]) (h4 : d.rhsNonContracting = [0]) (h5 : d.lhsBatch = []) (h6 : d.rhsBatch = [])
    (c1 : (⟨2, ![b, K]⟩ : Shape).ShapeCasts ⟨5, ![b, s, 4, 2, 32]⟩)
    (s0 : (⟨5, ![b, s, 4, 2, 32]⟩ : Shape).Slices ![0, 0, 0, 0, 0] ⟨5, ![b, s, 4, 1, 32]⟩)
    (s1 : (⟨5, ![b, s, 4, 2, 32]⟩ : Shape).Slices ![0, 0, 0, 1, 0] ⟨5, ![b, s, 4, 1, 32]⟩)
    (c3 : (⟨5, ![b, s, 4, 1, 32]⟩ : Shape).ShapeCasts ⟨4, ![b, s, 4, 32]⟩) (a : (⟨2, ![b, K]⟩ : Shape).Idx → EReal)
    (q : (⟨3, ![n, s, 128]⟩ : Shape).Idx → BitVec 8) (B : (⟨3, ![n, s, 12]⟩ : Shape).Idx → BitVec 8) (D M : (⟨2, ![n, s]⟩ : Shape).Idx → EReal)
    (x : Fin b) (y : Fin n) :
    addf (F := Ideal) (φ := .f32)
        (Host.dotGeneral (F := Ideal) (φ₁ := .bf16) (φ₂ := .bf16) d none (shapeCast (⟨4, ![b, s, 4, 32]⟩ : Shape)
          (extractStridedSlice (⟨5, ![b, s, 4, 1, 32]⟩ : Shape) ![0, 0, 0, 0, 0] (shapeCast (⟨5, ![b, s, 4, 2, 32]⟩ : Shape) a c1) s0) c3) (lowHalf h q B D M))
        (Host.dotGeneral (F := Ideal) (φ₁ := .bf16) (φ₂ := .bf16) d none (shapeCast (⟨4, ![b, s, 4, 32]⟩ : Shape)
          (extractStridedSlice (⟨5, ![b, s, 4, 1, 32]⟩ : Shape) ![0, 0, 0, 1, 0] (shapeCast (⟨5, ![b, s, 4, 2, 32]⟩ : Shape) a c1) s1) c3) (highHalf h q B D M)) (ix2 x y)
      = ∑ κ : Fin K, a (ix2 x ⟨64 * (κ.val / 64) + 32 * (κ.val % 2) + κ.val % 64 / 2, by have := κ.isLt; omega⟩)
          * weight (fun j => q (ix3 y ⟨κ.val / 256, by omega⟩ j)) (fun j => B (ix3 y ⟨κ.val / 256, by omega⟩ j))
          (D (ix2 y ⟨κ.val / 256, by omega⟩)) (M (ix2 y ⟨κ.val / 256, by omega⟩)) ⟨κ.val % 256, by omega⟩ := by
  refine Eq.trans ?_ (sum_rows hK (fun κ => a (ix2 x ⟨64 * (κ.val / 64) + 32 * (κ.val % 2) + κ.val % 64 / 2, by have := κ.isLt; omega⟩))
    (fun k ρ => weight (fun j => q (ix3 y k j)) (fun j => B (ix3 y k j)) (D (ix2 y k)) (M (ix2 y k)) ρ)).symm
  refine (matmul_apply h d h1 h2 h3 h4 h5 h6 _ _ q B D M (fun k g p i => a (ix2 x ⟨256 * k.val + 64 * g.val + 32 * p.val + i.val, by omega⟩)) x y
    (fun k g i => plain_act_apply hK 0 c1 s0 c3 a x k g i) (fun k g i => plain_act_apply hK 1 c1 s1 c3 a x k g i)).trans ?_
  refine congrArg (fun A => product A _) ?_
  funext k g p i
  refine congrArg (fun j => a (ix2 x j)) (Fin.ext ?_)
  show 256 * k.val + 64 * g.val + 32 * p.val + i.val = 64 * ((256 * k.val + 64 * g.val + 2 * i.val + p.val) / 64)
    + 32 * ((256 * k.val + 64 * g.val + 2 * i.val + p.val) % 2) + (256 * k.val + 64 * g.val + 2 * i.val + p.val) % 64 / 2
  omega

end Cert.RefMath

namespace Cert.BeforeRef

open Idealize.ShloMosaic Idealize.ShloMosaic.StableHlo Cert.Weights Cert.RefMath Cert.BeforeRefIdeal Cert.BeforeRefIdeal.Gen Cert.BeforeRefIdeal.Value
open Cert.BeforeIdeal.Rope (rotated)
open Cert.BeforeIdeal.Norm (normal column)
open Cert.BeforeIdeal.Result (projection rotatedHead)

theorem fits4096 : Fits 4096 15 :=
  ⟨by decide, by decide, by decide, by decide, by decide, by decide, by decide, by decide, by decide, by decide, by decide, by decide, by decide⟩
theorem fits1024 : Fits 1024 15 :=
  ⟨by decide, by decide, by decide, by decide, by decide, by decide, by decide, by decide, by decide, by decide, by decide, by decide, by decide⟩

variable (V0 : Valuation τ sig (Elt Ideal))

/-- The normalised activations. -/
theorem shared_apply (b : Fin 112) (k : Fin 3840) : res_main_v15 (F := Ideal) V0 (ix2 b k)
    = normal (fun k => (V0 (Proc.devRef .tc main_arg0) : S112x1x3840.Idx → EReal) (ix3 b 0 k)) (fun k => (V0 (Proc.devRef .tc main_arg1) : S3840.Idx → EReal) (ix1 k)) k := by
  unfold res_main_v15 res_main_v1
  generalize (V0 (Proc.devRef .tc main_arg0) : S112x1x3840.Idx → EReal) = x
  generalize (V0 (Proc.devRef .tc main_arg1) : S3840.Idx → EReal) = g
  pointwise
  unfold normal
  rfl

/-- The product before its heads are split, at row `b` of the activations and row `n` of the weight. -/
theorem product4096 (q : S4096x15x128.Idx → BitVec 8) (B : S4096x15x12.Idx → BitVec 8) (D M : S4096x15.Idx → EReal) (b : Fin 112) (n : Fin 4096) :
    addf (F := Ideal) (φ := .f32)
        (Host.dotGeneral (F := Ideal) (φ₁ := .bf16) (φ₂ := .bf16) dot_S112x15x4x32_S4096x15x4x32_S112x4096_231_231_0_0_n_n none (shapeCast S112x15x4x32
          (extractStridedSlice S112x15x4x1x32 ![0, 0, 0, 0, 0] (shapeCast S112x15x4x2x32 (res_main_v15 (F := Ideal) V0) shapeCasts_S112x3840_S112x15x4x2x32) slices_S112x15x4x2x32_S112x15x4x1x32_0_0_0_0_0)
          shapeCasts_S112x15x4x1x32_S112x15x4x32) (lowHalf fits4096 q B D M))
        (Host.dotGeneral (F := Ideal) (φ₁ := .bf16) (φ₂ := .bf16) dot_S112x15x4x32_S4096x15x4x32_S112x4096_231_231_0_0_n_n none (shapeCast S112x15x4x32
          (extractStridedSlice S112x15x4x1x32 ![0, 0, 0, 1, 0] (shapeCast S112x15x4x2x32 (res_main_v15 (F := Ideal) V0) shapeCasts_S112x3840_S112x15x4x2x32) slices_S112x15x4x2x32_S112x15x4x1x32_0_0_0_1_0)
          shapeCasts_S112x15x4x1x32_S112x15x4x32) (highHalf fits4096 q B D M)) (ix2 b n)
      = projection (N := 4096) (V0 (Proc.devRef .tc main_arg0)) (V0 (Proc.devRef .tc main_arg1)) q B D M b n := by
  refine (plain_product fits4096 (K := 3840) rfl dot_S112x15x4x32_S4096x15x4x32_S112x4096_231_231_0_0_n_n rfl rfl rfl rfl rfl rfl
    shapeCasts_S112x3840_S112x15x4x2x32 slices_S112x15x4x2x32_S112x15x4x1x32_0_0_0_0_0 slices_S112x15x4x2x32_S112x15x4x1x32_0_0_0_1_0
    shapeCasts_S112x15x4x1x32_S112x15x4x32 (res_main_v15 (F := Ideal) V0) q B D M b n).trans ?_
  exact Finset.sum_congr rfl fun κ _ => congrArg (fun u : EReal => u * _) (shared_apply V0 b (column κ))

/-- The rotation of 16 heads of 256 columns, read at an index. -/
theorem turn16 (Y : S112x16x128x2.Idx → EReal) (cs sn : S112x128.Idx → EReal) (b : Fin 112) (h : Fin 16) (d : Fin 256) :
    shapeCast S112x16x256 (concatenate S112x16x128x2 3 [
      ⟨S112x16x128x1, broadcastInDim S112x16x128x1 ![0, 1, 2] bcast_S112x16x128_S112x16x128x1_0_1_2 (subf (F := Ideal) (φ := .f32)
        (mulf (F := Ideal) (φ := .f32) (shapeCast S112x16x128 (extractStridedSlice S112x16x128x1 ![0, 0, 0, 0] Y slices_S112x16x128x2_S112x16x128x1_0_0_0_0) shapeCasts_S112x16x128x1_S112x16x128)
          (broadcastInDim S112x16x128 ![0, 1, 2] bcast_S112x1x128_S112x16x128_0_1_2 (broadcastInDim S112x1x128 ![0, 2] bcast_S112x128_S112x1x128_0_2 cs)))
        (mulf (F := Ideal) (φ := .f32) (shapeCast S112x16x128 (extractStridedSlice S112x16x128x1 ![0, 0, 0, 1] Y slices_S112x16x128x2_S112x16x128x1_0_0_0_1) shapeCasts_S112x16x128x1_S112x16x128)
          (broadcastInDim S112x16x128 ![0, 1, 2] bcast_S112x1x128_S112x16x128_0_1_2 (broadcastInDim S112x1x128 ![0, 2] bcast_S112x128_S112x1x128_0_2 sn))))⟩,
      ⟨S112x16x128x1, broadcastInDim S112x16x128x1 ![0, 1, 2] bcast_S112x16x128_S112x16x128x1_0_1_2 (addf (F := Ideal) (φ := .f32)
        (mulf (F := Ideal) (φ := .f32) (shapeCast S112x16x128 (extractStridedSlice S112x16x128x1 ![0, 0, 0, 0] Y slices_S112x16x128x2_S112x16x128x1_0_0_0_0) shapeCasts_S112x16x128x1_S112x16x128)
          (broadcastInDim S112x16x128 ![0, 1, 2] bcast_S112x1x128_S112x16x128_0_1_2 (broadcastInDim S112x1x128 ![0, 2] bcast_S112x128_S112x1x128_0_2 sn)))
        (mulf (F := Ideal) (φ := .f32) (shapeCast S112x16x128 (extractStridedSlice S112x16x128x1 ![0, 0, 0, 1] Y slices_S112x16x128x2_S112x16x128x1_0_0_0_1) shapeCasts_S112x16x128x1_S112x16x128)
          (broadcastInDim S112x16x128 ![0, 1, 2] bcast_S112x1x128_S112x16x128_0_1_2 (broadcastInDim S112x1x128 ![0, 2] bcast_S112x128_S112x1x128_0_2 cs))))⟩]
      concatenates_S112x16x128x1_S112x16x128x1_S112x16x128x2_d3) shapeCasts_S112x16x128x2_S112x16x256 (ix3 b h d)
      = rotated (fun l => Y (ix4 b h ⟨l.val / 2, by omega⟩ ⟨l.val % 2, by omega⟩)) (fun j => cs (ix2 b j)) (fun j => sn (ix2 b j)) d := by
  pointwise
  unfold rotated
  by_cases hd : d.val % 2 = 0
  · have e1 : (d.val + 1) % 256 / 2 = d.val / 2 := by omega
    have e2 : (d.val + 1) % 256 % 2 = 1 := by omega
    simp [hd, e1, e2]
  · have e1 : (d.val - 1) / 2 = d.val / 2 := by omega
    have e2 : (d.val - 1) % 2 = 0 := by omega
    have e3 : d.val % 2 = 1 := by omega
    simp [e1, e2, e3]

/-- The heads of a row, split into pairs of columns. -/
theorem pairs16 (P : S112x4096.Idx → EReal) (b : Fin 112) (h : Fin 16) (l : Fin 256) :
    shapeCast S112x16x128x2 (shapeCast S112x16x256 P shapeCasts_S112x4096_S112x16x256) shapeCasts_S112x16x256_S112x16x128x2
      (ix4 b h ⟨l.val / 2, by omega⟩ ⟨l.val % 2, by omega⟩) = P (ix2 b ⟨256 * h.val + l.val, by omega⟩) := by
  have e1 : Shape.reshapeEquiv shapeCasts_S112x16x256_S112x16x128x2 (ix4 b h (⟨l.val / 2, by omega⟩ : Fin 128) (⟨l.val % 2, by omega⟩ : Fin 2)) = ix3 b h l := by
    refine Shape.reshapeEquiv_eq_of_vals _ _ _ _ _ (rowMajor_val3 _ _ _ rfl rfl) (rowMajor_val4 _ _ _ _ rfl rfl rfl) ?_
    show b.val * (16 * 256) + h.val * 256 + l.val = b.val * (16 * (128 * 2)) + h.val * (128 * 2) + l.val / 2 * 2 + l.val % 2
    omega
  have e2 : Shape.reshapeEquiv shapeCasts_S112x4096_S112x16x256 (ix3 b h l) = ix2 b (⟨256 * h.val + l.val, by omega⟩ : Fin 4096) := by
    refine Shape.reshapeEquiv_eq_of_vals _ _ _ _ _ (rowMajor_val2 _ _ rfl) (rowMajor_val3 _ _ _ rfl rfl) ?_
    show b.val * 4096 + (256 * h.val + l.val) = b.val * (16 * 256) + h.val * 256 + l.val
    omega
  exact congrArg P ((congrArg (Shape.reshapeEquiv shapeCasts_S112x4096_S112x16x256) e1).trans e2)

/-- The product before its heads are split, at row `b` of the activations and row `n` of the weight. -/
theorem product1024 (q : S1024x15x128.Idx → BitVec 8) (B : S1024x15x12.Idx → BitVec 8) (D M : S1024x15.Idx → EReal) (b : Fin 112) (n : Fin 1024) :
    addf (F := Ideal) (φ := .f32)
        (Host.dotGeneral (F := Ideal) (φ₁ := .bf16) (φ₂ := .bf16) dot_S112x15x4x32_S1024x15x4x32_S112x1024_231_231_0_0_n_n none (shapeCast S112x15x4x32
          (extractStridedSlice S112x15x4x1x32 ![0, 0, 0, 0, 0] (shapeCast S112x15x4x2x32 (res_main_v15 (F := Ideal) V0) shapeCasts_S112x3840_S112x15x4x2x32) slices_S112x15x4x2x32_S112x15x4x1x32_0_0_0_0_0)
          shapeCasts_S112x15x4x1x32_S112x15x4x32) (lowHalf fits1024 q B D M))
        (Host.dotGeneral (F := Ideal) (φ₁ := .bf16) (φ₂ := .bf16) dot_S112x15x4x32_S1024x15x4x32_S112x1024_231_231_0_0_n_n none (shapeCast S112x15x4x32
          (extractStridedSlice S112x15x4x1x32 ![0, 0, 0, 1, 0] (shapeCast S112x15x4x2x32 (res_main_v15 (F := Ideal) V0) shapeCasts_S112x3840_S112x15x4x2x32) slices_S112x15x4x2x32_S112x15x4x1x32_0_0_0_1_0)
          shapeCasts_S112x15x4x1x32_S112x15x4x32) (highHalf fits1024 q B D M)) (ix2 b n)
      = projection (N := 1024) (V0 (Proc.devRef .tc main_arg0)) (V0 (Proc.devRef .tc main_arg1)) q B D M b n := by
  refine (plain_product fits1024 (K := 3840) rfl dot_S112x15x4x32_S1024x15x4x32_S112x1024_231_231_0_0_n_n rfl rfl rfl rfl rfl rfl
    shapeCasts_S112x3840_S112x15x4x2x32 slices_S112x15x4x2x32_S112x15x4x1x32_0_0_0_0_0 slices_S112x15x4x2x32_S112x15x4x1x32_0_0_0_1_0
    shapeCasts_S112x15x4x1x32_S112x15x4x32 (res_main_v15 (F := Ideal) V0) q B D M b n).trans ?_
  exact Finset.sum_congr rfl fun κ _ => congrArg (fun u : EReal => u * _) (shared_apply V0 b (column κ))

/-- The rotation of 4 heads of 256 columns, read at an index. -/
theorem turn4 (Y : S112x4x128x2.Idx → EReal) (cs sn : S112x128.Idx → EReal) (b : Fin 112) (h : Fin 4) (d : Fin 256) :
    shapeCast S112x4x256 (concatenate S112x4x128x2 3 [
      ⟨S112x4x128x1, broadcastInDim S112x4x128x1 ![0, 1, 2] bcast_S112x4x128_S112x4x128x1_0_1_2 (subf (F := Ideal) (φ := .f32)
        (mulf (F := Ideal) (φ := .f32) (shapeCast S112x4x128 (extractStridedSlice S112x4x128x1 ![0, 0, 0, 0] Y slices_S112x4x128x2_S112x4x128x1_0_0_0_0) shapeCasts_S112x4x128x1_S112x4x128)
          (broadcastInDim S112x4x128 ![0, 1, 2] bcast_S112x1x128_S112x4x128_0_1_2 (broadcastInDim S112x1x128 ![0, 2] bcast_S112x128_S112x1x128_0_2 cs)))
        (mulf (F := Ideal) (φ := .f32) (shapeCast S112x4x128 (extractStridedSlice S112x4x128x1 ![0, 0, 0, 1] Y slices_S112x4x128x2_S112x4x128x1_0_0_0_1) shapeCasts_S112x4x128x1_S112x4x128)
          (broadcastInDim S112x4x128 ![0, 1, 2] bcast_S112x1x128_S112x4x128_0_1_2 (broadcastInDim S112x1x128 ![0, 2] bcast_S112x128_S112x1x128_0_2 sn))))⟩,
      ⟨S112x4x128x1, broadcastInDim S112x4x128x1 ![0, 1, 2] bcast_S112x4x128_S112x4x128x1_0_1_2 (addf (F := Ideal) (φ := .f32)
        (mulf (F := Ideal) (φ := .f32) (shapeCast S112x4x128 (extractStridedSlice S112x4x128x1 ![0, 0, 0, 0] Y slices_S112x4x128x2_S112x4x128x1_0_0_0_0) shapeCasts_S112x4x128x1_S112x4x128)
          (broadcastInDim S112x4x128 ![0, 1, 2] bcast_S112x1x128_S112x4x128_0_1_2 (broadcastInDim S112x1x128 ![0, 2] bcast_S112x128_S112x1x128_0_2 sn)))
        (mulf (F := Ideal) (φ := .f32) (shapeCast S112x4x128 (extractStridedSlice S112x4x128x1 ![0, 0, 0, 1] Y slices_S112x4x128x2_S112x4x128x1_0_0_0_1) shapeCasts_S112x4x128x1_S112x4x128)
          (broadcastInDim S112x4x128 ![0, 1, 2] bcast_S112x1x128_S112x4x128_0_1_2 (broadcastInDim S112x1x128 ![0, 2] bcast_S112x128_S112x1x128_0_2 cs))))⟩]
      concatenates_S112x4x128x1_S112x4x128x1_S112x4x128x2_d3) shapeCasts_S112x4x128x2_S112x4x256 (ix3 b h d)
      = rotated (fun l => Y (ix4 b h ⟨l.val / 2, by omega⟩ ⟨l.val % 2, by omega⟩)) (fun j => cs (ix2 b j)) (fun j => sn (ix2 b j)) d := by
  pointwise
  unfold rotated
  by_cases hd : d.val % 2 = 0
  · have e1 : (d.val + 1) % 256 / 2 = d.val / 2 := by omega
    have e2 : (d.val + 1) % 256 % 2 = 1 := by omega
    simp [hd, e1, e2]
  · have e1 : (d.val - 1) / 2 = d.val / 2 := by omega
    have e2 : (d.val - 1) % 2 = 0 := by omega
    have e3 : d.val % 2 = 1 := by omega
    simp [e1, e2, e3]

/-- The heads of a row, split into pairs of columns. -/
theorem pairs4 (P : S112x1024.Idx → EReal) (b : Fin 112) (h : Fin 4) (l : Fin 256) :
    shapeCast S112x4x128x2 (shapeCast S112x4x256 P shapeCasts_S112x1024_S112x4x256) shapeCasts_S112x4x256_S112x4x128x2
      (ix4 b h ⟨l.val / 2, by omega⟩ ⟨l.val % 2, by omega⟩) = P (ix2 b ⟨256 * h.val + l.val, by omega⟩) := by
  have e1 : Shape.reshapeEquiv shapeCasts_S112x4x256_S112x4x128x2 (ix4 b h (⟨l.val / 2, by omega⟩ : Fin 128) (⟨l.val % 2, by omega⟩ : Fin 2)) = ix3 b h l := by
    refine Shape.reshapeEquiv_eq_of_vals _ _ _ _ _ (rowMajor_val3 _ _ _ rfl rfl) (rowMajor_val4 _ _ _ _ rfl rfl rfl) ?_
    show b.val * (4 * 256) + h.val * 256 + l.val = b.val * (4 * (128 * 2)) + h.val * (128 * 2) + l.val / 2 * 2 + l.val % 2
    omega
  have e2 : Shape.reshapeEquiv shapeCasts_S112x1024_S112x4x256 (ix3 b h l) = ix2 b (⟨256 * h.val + l.val, by omega⟩ : Fin 1024) := by
    refine Shape.reshapeEquiv_eq_of_vals _ _ _ _ _ (rowMajor_val2 _ _ rfl) (rowMajor_val3 _ _ _ rfl rfl) ?_
    show b.val * 1024 + (256 * h.val + l.val) = b.val * (4 * 256) + h.val * 256 + l.val
    omega
  exact congrArg P ((congrArg (Shape.reshapeEquiv shapeCasts_S112x1024_S112x4x256) e1).trans e2)

/-- Queries, before their rotation. -/
theorem query_pairs (b : Fin 112) (h : Fin 16) (l : Fin 256) :
    (res_main_v203 (F := Ideal) V0 : S112x16x128x2.Idx → EReal) (ix4 b h ⟨l.val / 2, by omega⟩ ⟨l.val % 2, by omega⟩)
      = projection (N := 4096) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) b ⟨256 * h.val + l.val, by omega⟩ :=
  Eq.trans (pairs16 _ b h l) (product4096 V0 (V0 (Proc.devRef .tc main_arg2)) (V0 (Proc.devRef .tc main_arg3)) (V0 (Proc.devRef .tc main_arg4)) (V0 (Proc.devRef .tc main_arg5)) b ⟨256 * h.val + l.val, by omega⟩)

/-- Queries, as the reference computes them. -/
theorem query_apply (b : Fin 112) (h : Fin 16) (d : Fin 256) : (val5 (F := Ideal) V0 (Proc.devRef .tc main_v224)) (ix3 b h d)
    = rotatedHead (projection (N := 4096) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg14)) (V0 (Proc.devRef .tc main_arg15)) b h.val (by omega) d := by
  refine (congrFun (val5_main_v224 V0) (ix3 b h d)).trans ?_
  refine Eq.trans (turn16 (res_main_v203 (F := Ideal) V0) (V0 (Proc.devRef .tc main_arg14)) (V0 (Proc.devRef .tc main_arg15)) b h d) ?_
  exact congrArg (fun y => rotated y _ _ d) (funext fun l => query_pairs V0 b h l)

/-- A row's heads in the layout of the results. -/
theorem cast4 (P : S112x4x256.Idx → EReal) (b : Fin 112) (h : Fin 4) (d : Fin 256) :
    shapeCast S112x1x4x256 P shapeCasts_S112x4x256_S112x1x4x256 (ix4 b 0 h d) = P (ix3 b h d) := by pointwise

/-- Keys, before their rotation. -/
theorem key_pairs (b : Fin 112) (h : Fin 4) (l : Fin 256) :
    (res_main_v226 (F := Ideal) V0 : S112x4x128x2.Idx → EReal) (ix4 b h ⟨l.val / 2, by omega⟩ ⟨l.val % 2, by omega⟩)
      = projection (N := 1024) (V0 (Proc.devRef .tc main_arg0)) (V0 (Proc.devRef .tc main_arg1)) (V0 (Proc.devRef .tc main_arg6)) (V0 (Proc.devRef .tc main_arg7)) (V0 (Proc.devRef .tc main_arg8)) (V0 (Proc.devRef .tc main_arg9)) b ⟨256 * h.val + l.val, by omega⟩ :=
  Eq.trans (pairs4 _ b h l) (product1024 V0 (V0 (Proc.devRef .tc main_arg6)) (V0 (Proc.devRef .tc main_arg7)) (V0 (Proc.devRef .tc main_arg8)) (V0 (Proc.devRef .tc main_arg9)) b ⟨256 * h.val + l.val, by omega⟩)

/-- Keys, as the reference computes them. -/
theorem key_apply (b : Fin 112) (h : Fin 4) (d : Fin 256) : (val5 (F := Ideal) V0 (Proc.devRef .tc main_v250)) (ix4 b 0 h d)
    = rotatedHead (projection (N := 1024) (V0 (Proc.devRef .tc main_arg0)) (V0 (Proc.devRef .tc main_arg1)) (V0 (Proc.devRef .tc main_arg6)) (V0 (Proc.devRef .tc main_arg7)) (V0 (Proc.devRef .tc main_arg8)) (V0 (Proc.devRef .tc main_arg9))) (V0 (Proc.devRef .tc main_arg14)) (V0 (Proc.devRef .tc main_arg15)) b h.val (by omega) d := by
  refine (congrFun (val5_main_v250 V0) (ix4 b 0 h d)).trans ?_
  refine (cast4 _ b h d).trans ?_
  refine Eq.trans (turn4 (res_main_v226 (F := Ideal) V0) (V0 (Proc.devRef .tc main_arg14)) (V0 (Proc.devRef .tc main_arg15)) b h d) ?_
  exact congrArg (fun y => rotated y _ _ d) (funext fun l => key_pairs V0 b h l)

/-- A row, split into its four heads. -/
theorem head4 (P : S112x1024.Idx → EReal) (b : Fin 112) (h : Fin 4) (d : Fin 256) :
    (truncf (F := Ideal) (φ := .f32) .bf16 (shapeCast S112x4x256 P shapeCasts_S112x1024_S112x4x256) bitsLt_bf16_f32) (ix3 b h d) = P (ix2 b ⟨256 * h.val + d.val, by omega⟩) := by
  have e2 : Shape.reshapeEquiv shapeCasts_S112x1024_S112x4x256 (ix3 b h d) = ix2 b (⟨256 * h.val + d.val, by omega⟩ : Fin 1024) := by
    refine Shape.reshapeEquiv_eq_of_vals _ _ _ _ _ (rowMajor_val2 _ _ rfl) (rowMajor_val3 _ _ _ rfl rfl) ?_
    show b.val * 1024 + (256 * h.val + d.val) = b.val * (4 * 256) + h.val * 256 + d.val
    omega
  exact congrArg P e2

/-- Values, as the reference computes them. -/
theorem value_apply (b : Fin 112) (h : Fin 4) (d : Fin 256) : (val5 (F := Ideal) V0 (Proc.devRef .tc main_v251)) (ix4 b 0 h d)
    = projection (N := 1024) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) b ⟨256 * h.val + d.val, by omega⟩ := by
  refine (congrFun (val5_main_v251 V0) (ix4 b 0 h d)).trans ?_
  refine (cast4 _ b h d).trans ?_
  refine Eq.trans (head4 _ b h d) ?_
  exact (product1024 V0 (V0 (Proc.devRef .tc main_arg10)) (V0 (Proc.devRef .tc main_arg11)) (V0 (Proc.devRef .tc main_arg12)) (V0 (Proc.devRef .tc main_arg13)) b ⟨256 * h.val + d.val, by omega⟩)

end Cert.BeforeRef
end
-- ==== Proof.BeforeClaim.lean ====
module

public import proofs.«01_k».proof.Defs
public import proofs.«01_k».proof.Proof.Gen.Before.Frame
public import proofs.«01_k».proof.Proof.BeforeResult
public import proofs.«01_k».proof.Proof.BeforeRef
public import Idealize.ShloMosaic.Lib.Bf16PairInverse

/-!
The claims of the calls before the attention: their frames, the rewrites they were idealized by, and that they compute the reference.
-/

@[expose] public section

set_option maxRecDepth 16384

noncomputable section

namespace Cert.BeforeProof

open Idealize.ShloMosaic Idealize.ShloMosaic.StableHlo Idealize.SL.Sem

theorem frame_p : Cert.quiescent_Before := fun m ρ _ => Cert.Before.Gen.frame m ρ
theorem frame_pi : Cert.quiescent_BeforeIdeal := fun m ρ _ => Cert.BeforeIdeal.Gen.frame m ρ
theorem frame_ri : Cert.quiescent_BeforeRefIdeal := fun m ρ _ =>
  (θ_run Cert.BeforeRefIdeal.defs _ _).mono (fun r h => ⟨fun c => (h c).2.2.2, sem_eq_zero_of_no_sems (by decide) r.2⟩)
    (Cert.BeforeRefIdeal.Value.run (F := Ideal) m ρ)

theorem preserves : Cert.preserves_Before_BeforeIdeal :=
  open Cert.BeforeIdeal IdealRules.bf16_pair in
  ⟨bufferStatement S4x15x2x256 S4x15x1x256, packStatement S15x256, statement S1x15x2x256 S1x15x1x256, packStatement S128x256,
    statement S256x256 S128x256, statement S1x1x2x256 S1x1x1x256, statement S64x256 S32x256⟩

/-- The two memories agree on the arguments. -/
def Agree (m : (ℓ : Loc Cert.BeforeIdeal.nD Cert.BeforeIdeal.τ Cert.BeforeIdeal.sig) → Buf (Elt Ideal) ℓ)
    (m' : (ℓ : Loc Cert.BeforeRefIdeal.nD Cert.BeforeRefIdeal.τ Cert.BeforeRefIdeal.sig) → Buf (Elt Ideal) ℓ) (c : Dev Cert.BeforeIdeal.nD) : Prop :=
  m' ((c.tc : Thread Cert.BeforeRefIdeal.nD Cert.BeforeRefIdeal.τ).loc Cert.BeforeRefIdeal.main_arg0) = m ((c.tc : Thread Cert.BeforeIdeal.nD Cert.BeforeIdeal.τ).loc Cert.BeforeIdeal.main_arg0)
      ∧ m' ((c.tc : Thread Cert.BeforeRefIdeal.nD Cert.BeforeRefIdeal.τ).loc Cert.BeforeRefIdeal.main_arg1) = m ((c.tc : Thread Cert.BeforeIdeal.nD Cert.BeforeIdeal.τ).loc Cert.BeforeIdeal.main_arg1)
      ∧ m' ((c.tc : Thread Cert.BeforeRefIdeal.nD Cert.BeforeRefIdeal.τ).loc Cert.BeforeRefIdeal.main_arg2) = m ((c.tc : Thread Cert.BeforeIdeal.nD Cert.BeforeIdeal.τ).loc Cert.BeforeIdeal.main_arg2)
      ∧ m' ((c.tc : Thread Cert.BeforeRefIdeal.nD Cert.BeforeRefIdeal.τ).loc Cert.BeforeRefIdeal.main_arg3) = m ((c.tc : Thread Cert.BeforeIdeal.nD Cert.BeforeIdeal.τ).loc Cert.BeforeIdeal.main_arg3)
      ∧ m' ((c.tc : Thread Cert.BeforeRefIdeal.nD Cert.BeforeRefIdeal.τ).loc Cert.BeforeRefIdeal.main_arg4) = m ((c.tc : Thread Cert.BeforeIdeal.nD Cert.BeforeIdeal.τ).loc Cert.BeforeIdeal.main_arg4)
      ∧ m' ((c.tc : Thread Cert.BeforeRefIdeal.nD Cert.BeforeRefIdeal.τ).loc Cert.BeforeRefIdeal.main_arg5) = m ((c.tc : Thread Cert.BeforeIdeal.nD Cert.BeforeIdeal.τ).loc Cert.BeforeIdeal.main_arg5)
      ∧ m' ((c.tc : Thread Cert.BeforeRefIdeal.nD Cert.BeforeRefIdeal.τ).loc Cert.BeforeRefIdeal.main_arg6) = m ((c.tc : Thread Cert.BeforeIdeal.nD Cert.BeforeIdeal.τ).loc Cert.BeforeIdeal.main_arg6)
      ∧ m' ((c.tc : Thread Cert.BeforeRefIdeal.nD Cert.BeforeRefIdeal.τ).loc Cert.BeforeRefIdeal.main_arg7) = m ((c.tc : Thread Cert.BeforeIdeal.nD Cert.BeforeIdeal.τ).loc Cert.BeforeIdeal.main_arg7)
      ∧ m' ((c.tc : Thread Cert.BeforeRefIdeal.nD Cert.BeforeRefIdeal.τ).loc Cert.BeforeRefIdeal.main_arg8) = m ((c.tc : Thread Cert.BeforeIdeal.nD Cert.BeforeIdeal.τ).loc Cert.BeforeIdeal.main_arg8)
      ∧ m' ((c.tc : Thread Cert.BeforeRefIdeal.nD Cert.BeforeRefIdeal.τ).loc Cert.BeforeRefIdeal.main_arg9) = m ((c.tc : Thread Cert.BeforeIdeal.nD Cert.BeforeIdeal.τ).loc Cert.BeforeIdeal.main_arg9)
      ∧ m' ((c.tc : Thread Cert.BeforeRefIdeal.nD Cert.BeforeRefIdeal.τ).loc Cert.BeforeRefIdeal.main_arg10) = m ((c.tc : Thread Cert.BeforeIdeal.nD Cert.BeforeIdeal.τ).loc Cert.BeforeIdeal.main_arg10)
      ∧ m' ((c.tc : Thread Cert.BeforeRefIdeal.nD Cert.BeforeRefIdeal.τ).loc Cert.BeforeRefIdeal.main_arg11) = m ((c.tc : Thread Cert.BeforeIdeal.nD Cert.BeforeIdeal.τ).loc Cert.BeforeIdeal.main_arg11)
      ∧ m' ((c.tc : Thread Cert.BeforeRefIdeal.nD Cert.BeforeRefIdeal.τ).loc Cert.BeforeRefIdeal.main_arg12) = m ((c.tc : Thread Cert.BeforeIdeal.nD Cert.BeforeIdeal.τ).loc Cert.BeforeIdeal.main_arg12)
      ∧ m' ((c.tc : Thread Cert.BeforeRefIdeal.nD Cert.BeforeRefIdeal.τ).loc Cert.BeforeRefIdeal.main_arg13) = m ((c.tc : Thread Cert.BeforeIdeal.nD Cert.BeforeIdeal.τ).loc Cert.BeforeIdeal.main_arg13)
      ∧ m' ((c.tc : Thread Cert.BeforeRefIdeal.nD Cert.BeforeRefIdeal.τ).loc Cert.BeforeRefIdeal.main_arg14) = m ((c.tc : Thread Cert.BeforeIdeal.nD Cert.BeforeIdeal.τ).loc Cert.BeforeIdeal.main_arg14)
      ∧ m' ((c.tc : Thread Cert.BeforeRefIdeal.nD Cert.BeforeRefIdeal.τ).loc Cert.BeforeRefIdeal.main_arg15) = m ((c.tc : Thread Cert.BeforeIdeal.nD Cert.BeforeIdeal.τ).loc Cert.BeforeIdeal.main_arg15)

/-- The reference's queries are the kernel's, of equal arguments. -/
theorem queries (m : (ℓ : Loc Cert.BeforeIdeal.nD Cert.BeforeIdeal.τ Cert.BeforeIdeal.sig) → Buf (Elt Ideal) ℓ) (ρ : Dev Cert.BeforeIdeal.nD → PrngReg)
    (m' : (ℓ : Loc Cert.BeforeRefIdeal.nD Cert.BeforeRefIdeal.τ Cert.BeforeRefIdeal.sig) → Buf (Elt Ideal) ℓ) (c : Dev Cert.BeforeIdeal.nD) (hag : Agree m m' c) :
    (Cert.BeforeRefIdeal.Value.val5 (F := Ideal) (launchContents m' c) (Proc.devRef .tc Cert.BeforeRefIdeal.main_v224) : Cert.BeforeIdeal.S112x16x256.Idx → EReal)
      = Cert.BeforeIdeal.Gen.W9 m ρ c (Proc.devRef .tc Cert.BeforeIdeal.main_v18) := by
  obtain ⟨h0, h1, h2, h3, h4, h5, h6, h7, h8, h9, h10, h11, h12, h13, h14, h15⟩ := hag
  funext y
  obtain ⟨b, h, d, rfl⟩ : ∃ (b : Fin 112) (h : Fin 16) (d : Fin 256), y = ix3 b h d := ⟨y 0, y 1, y 2, by funext a; fin_cases a <;> rfl⟩
  refine Eq.trans (Cert.BeforeRef.query_apply (launchContents m' c) b h d) (Eq.trans ?_ (Cert.BeforeIdeal.Result.query_result m ρ c b h d).symm)
  simp only [launchContents, h0, h1, h2, h3, h4, h5, h6, h7, h8, h9, h10, h11, h12, h13, h14, h15]

/-- The reference's keys are the kernel's, of equal arguments. -/
theorem keys (m : (ℓ : Loc Cert.BeforeIdeal.nD Cert.BeforeIdeal.τ Cert.BeforeIdeal.sig) → Buf (Elt Ideal) ℓ) (ρ : Dev Cert.BeforeIdeal.nD → PrngReg)
    (m' : (ℓ : Loc Cert.BeforeRefIdeal.nD Cert.BeforeRefIdeal.τ Cert.BeforeRefIdeal.sig) → Buf (Elt Ideal) ℓ) (c : Dev Cert.BeforeIdeal.nD) (hag : Agree m m' c) :
    (Cert.BeforeRefIdeal.Value.val5 (F := Ideal) (launchContents m' c) (Proc.devRef .tc Cert.BeforeRefIdeal.main_v250) : Cert.BeforeIdeal.S112x1x4x256.Idx → EReal)
      = Cert.BeforeIdeal.Gen.W9 m ρ c (Proc.devRef .tc Cert.BeforeIdeal.main_v19) := by
  obtain ⟨h0, h1, h2, h3, h4, h5, h6, h7, h8, h9, h10, h11, h12, h13, h14, h15⟩ := hag
  funext y
  obtain ⟨b, h, d, rfl⟩ : ∃ (b : Fin 112) (h : Fin 4) (d : Fin 256), y = ix4 b 0 h d := ⟨y 0, y 2, y 3, by funext a; fin_cases a <;> first | rfl | exact Fin.ext (by have := (y 1).isLt; change (y 1).val < 1 at this; show (y 1).val = 0; omega)⟩
  refine Eq.trans (Cert.BeforeRef.key_apply (launchContents m' c) b h d) (Eq.trans ?_ (Cert.BeforeIdeal.Result.key_result m ρ c b h d).symm)
  simp only [launchContents, h0, h1, h2, h3, h4, h5, h6, h7, h8, h9, h10, h11, h12, h13, h14, h15]

/-- The reference's values are the kernel's, of equal arguments. -/
theorem values (m : (ℓ : Loc Cert.BeforeIdeal.nD Cert.BeforeIdeal.τ Cert.BeforeIdeal.sig) → Buf (Elt Ideal) ℓ) (ρ : Dev Cert.BeforeIdeal.nD → PrngReg)
    (m' : (ℓ : Loc Cert.BeforeRefIdeal.nD Cert.BeforeRefIdeal.τ Cert.BeforeRefIdeal.sig) → Buf (Elt Ideal) ℓ) (c : Dev Cert.BeforeIdeal.nD) (hag : Agree m m' c) :
    (Cert.BeforeRefIdeal.Value.val5 (F := Ideal) (launchContents m' c) (Proc.devRef .tc Cert.BeforeRefIdeal.main_v251) : Cert.BeforeIdeal.S112x1x4x256.Idx → EReal)
      = Cert.BeforeIdeal.Gen.W9 m ρ c (Proc.devRef .tc Cert.BeforeIdeal.main_v20) := by
  obtain ⟨h0, h1, h2, h3, h4, h5, h6, h7, h8, h9, h10, h11, h12, h13, h14, h15⟩ := hag
  funext y
  obtain ⟨b, h, d, rfl⟩ : ∃ (b : Fin 112) (h : Fin 4) (d : Fin 256), y = ix4 b 0 h d := ⟨y 0, y 2, y 3, by funext a; fin_cases a <;> first | rfl | exact Fin.ext (by have := (y 1).isLt; change (y 1).val < 1 at this; show (y 1).val = 0; omega)⟩
  refine Eq.trans (Cert.BeforeRef.value_apply (launchContents m' c) b h d) (Eq.trans ?_ (Cert.BeforeIdeal.Result.value_result m ρ c b h d).symm)
  simp only [launchContents, h0, h1, h2, h3, h4, h5, h6, h7, h8, h9, h10, h11, h12, h13, h14, h15]

theorem algebraic : Cert.algebraic_BeforeIdeal_BeforeRefIdeal := by
  intro m ρ m' ρ' _ hag
  refine ⟨fun c => Cert.BeforeIdeal.Gen.W9 m ρ c (Proc.devRef .tc Cert.BeforeIdeal.main_v18), fun c => Cert.BeforeIdeal.Gen.W9 m ρ c (Proc.devRef .tc Cert.BeforeIdeal.main_v19),
    fun c => Cert.BeforeIdeal.Gen.W9 m ρ c (Proc.devRef .tc Cert.BeforeIdeal.main_v20), ?_, ?_⟩
  · exact (θ_run Cert.BeforeIdeal.defs _ _).mono (fun r h c => h.1 c) (Cert.BeforeIdeal.Run.run m ρ)
  · refine (θ_run Cert.BeforeRefIdeal.defs _ _).mono (fun r h c => ⟨(h c).1.trans ?_, (h c).2.1.trans ?_, (h c).2.2.1.trans ?_, (h c).2.2.2⟩)
      (Cert.BeforeRefIdeal.Value.run (F := Ideal) m' ρ')
    · exact (Cert.BeforeRefIdeal.Value.val5_main_v224 (launchContents m' c)).symm.trans (queries m ρ m' c (hag c))
    · exact (Cert.BeforeRefIdeal.Value.val5_main_v250 (launchContents m' c)).symm.trans (keys m ρ m' c (hag c))
    · exact (Cert.BeforeRefIdeal.Value.val5_main_v251 (launchContents m' c)).symm.trans (values m ρ m' c (hag c))

end Cert.BeforeProof
end
-- ==== Proof.AttentionSide.lean ====
module

public import proofs.«01_k».proof.Defs
public import proofs.«01_k».proof.Proof.Gen.Attention.Frame
public import proofs.«01_k».proof.Proof.Gen.AttentionIdeal.Frame

/-!
The attention's loops over the chunks of a row's length: a length that the cache holds keeps every read of them inside its arrays (`side`,
`side_ideal`).
-/

@[expose] public section

set_option maxRecDepth 16384

noncomputable section

namespace Cert.AttentionProof

open Idealize.ShloMosaic Idealize.ShloMosaic.StableHlo Idealize.SL.Sem

/-- The number of chunks of a length: what the kernel computes of it, rounding up. -/
def stop (v : BitVec 32) : BitVec 32 :=
  let n := Scalar.subi (Scalar.addi v 128#32) 1#32
  Scalar.select
    (Scalar.andi
      (Scalar.cmpi .ne (Scalar.subi (Scalar.extui (Scalar.cmpi .sgt n 0#32)) (Scalar.extui (Scalar.cmpi .slt n 0#32)) : BitVec 32)
        (Scalar.subi (Scalar.extui (Scalar.cmpi .sgt (128#32 : BitVec 32) 0#32)) (Scalar.extui (Scalar.cmpi .slt (128#32 : BitVec 32) 0#32))))
      (Scalar.cmpi .ne (Scalar.remsi n 128#32) 0#32))
    (Scalar.subi (Scalar.divsi n 128#32) 1#32) (Scalar.divsi n 128#32)

/-- A length that the cache holds has eight chunks at most. -/
theorem stop_le (v : BitVec 32) (h : v.toInt ≤ 1024) : (stop v).toInt ≤ 8 := by
  have lo := BitVec.le_toInt v
  have hn : (Scalar.subi (Scalar.addi v 128#32) 1#32).toInt = v.toInt + 127 := by
    show (v + 128#32 - 1#32).toInt = _
    have e : v + 128#32 - 1#32 = v + 127#32 := by
      rw [BitVec.sub_eq_add_neg, BitVec.add_assoc]; rfl
    rw [e, BitVec.toInt_add]
    have e2 : (127#32 : BitVec 32).toInt = 127 := by decide
    rw [e2]
    simp only [Int.bmod_def]
    omega
  generalize hg : Scalar.subi (Scalar.addi v 128#32) 1#32 = n at hn
  have hd : (Scalar.divsi n 128#32).toInt = n.toInt.tdiv 128 := by
    have e : Scalar.divsi n 128#32 = n.sdiv 128#32 := by
      show IntOp.divsi .scalar n 128#32 = _
      unfold IntOp.divsi
      rw [if_neg]
      rintro (h | h)
      · exact absurd h (by decide)
      · exact absurd h.2 (by decide)
    rw [e, BitVec.toInt_sdiv_of_ne_or_ne]
    · rfl
    · exact Or.inr (by decide)
  have hb : -16777216 ≤ n.toInt.tdiv 128 ∧ n.toInt.tdiv 128 ≤ 8 := by
    rcases le_or_gt 0 n.toInt with hp | hp
    · rw [Int.tdiv_eq_ediv_of_nonneg hp]; omega
    · obtain ⟨k, hk⟩ : ∃ k : ℤ, n.toInt = -k := ⟨-n.toInt, by omega⟩
      rw [hk, Int.neg_tdiv, Int.tdiv_eq_ediv_of_nonneg (by omega)]; omega
  have hs : (Scalar.subi (Scalar.divsi n 128#32) 1#32).toInt = n.toInt.tdiv 128 - 1 := by
    show (Scalar.divsi n 128#32 - 1#32).toInt = _
    rw [BitVec.toInt_sub, hd]
    have e2 : (1#32 : BitVec 32).toInt = 1 := by decide
    rw [e2]
    simp only [Int.bmod_def]
    omega
  unfold stop
  rw [hg]
  dsimp only
  unfold Scalar.select
  split
  · rw [hs]; omega
  · rw [hd]; omega

/-- Dividing by one and multiplying by it changes nothing, nor do adding and taking zero. -/
theorem plain (q : BitVec 32) : Scalar.addi 0#32 (Scalar.muli (Scalar.divsi (Scalar.subi q 0#32) 1#32) 1#32) = q
    ∧ Scalar.addi 0#32 (Scalar.subi q 0#32) = q := by
  have e0 : Scalar.subi q 0#32 = q := BitVec.sub_zero q
  have e : Scalar.divsi q 1#32 = q := by
    show IntOp.divsi .scalar q 1#32 = _
    unfold IntOp.divsi
    rw [if_neg, BitVec.sdiv_one]
    rintro (h | h)
    · exact absurd h (by decide)
    · exact absurd h.2 (by decide)
  rw [e0, e]
  exact ⟨(BitVec.zero_add _).trans (BitVec.mul_one q), BitVec.zero_add q⟩

/-- The first loop over the chunks of a length makes no more trips than the cache has chunks, and has a meaning. -/
theorem first (v : BitVec 32) (h : v.toInt ≤ 1024) : Scf.trips 0#32 (stop v) 1#32 ≤ 8 ∧ Scf.OK 0#32 (stop v) 1#32 := by
  have hs := stop_le v h
  have e0 : (0#32 : BitVec 32).toInt = 0 := by decide
  have e1 : (1#32 : BitVec 32).toInt = 1 := by decide
  unfold Scf.OK Scf.trips
  rw [e0, e1]
  omega

/-- The second makes none: it starts where it ends. -/
theorem second (v : BitVec 32) (h : v.toInt ≤ 1024) : Scf.trips (stop v) (stop v) 1#32 = 0 ∧ Scf.OK (stop v) (stop v) 1#32 := by
  have hs := stop_le v h
  have e1 : (1#32 : BitVec 32).toInt = 1 := by decide
  unfold Scf.OK Scf.trips
  rw [e1]
  omega

/-- The chunk a trip of the first loop is at, in rows. -/
def row (k : ℕ) : ℕ := (Scalar.indexCast (Scalar.muli (Scf.iv 0#32 1#32 k) 128#32)).toNat

theorem row_dvd : ∀ k : Fin 8, 128 ∣ (Scalar.muli (Scf.iv 0#32 1#32 k.val) 128#32).toNat := by decide +kernel

theorem row_le : ∀ k : Fin 8, row k.val + 128 ≤ 1024 := by decide +kernel

/-- A chunk's scales lie in the row's. -/
theorem scale (j : ℕ) (hj : j + 1 ≤ 4) (r : ℕ) (hr : r + 128 ≤ 1024) : ∀ a : Fin 4,
    (![0, j, 0, r] : Fin 4 → ℕ) a + (![1, 1, 8, 128] : Fin 4 → ℕ) a ≤ (![1, 4, 8, 1024] : Fin 4 → ℕ) a := by
  intro a
  fin_cases a
  exacts [le_refl 1, hj, le_refl 8, hr]

/-- Half of a chunk's codes lie in the row's. -/
theorem codes (j : ℕ) (hj : j + 128 ≤ 256) (r : ℕ) (hr : r + 128 ≤ 1024) : ∀ a : Fin 4,
    (![0, r, 0, j] : Fin 4 → ℕ) a + (![1, 128, 4, 128] : Fin 4 → ℕ) a ≤ (![1, 1024, 4, 256] : Fin 4 → ℕ) a := by
  intro a
  fin_cases a
  exacts [le_refl 1, hr, le_refl 4, hj]

/-- A chunk's scores lie in the row's. -/
theorem scores (r : ℕ) (hr : r + 128 ≤ 1024) : ∀ a : Fin 2,
    (![0, r] : Fin 2 → ℕ) a + (![16, 128] : Fin 2 → ℕ) a ≤ (![16, 1024] : Fin 2 → ℕ) a := by
  intro a
  fin_cases a
  exacts [le_refl 16, hr]

section

open Cert.Attention

/-- The kernel's side condition of a length. -/
theorem side (v : BitVec 32) (h : v.toInt ≤ 1024) : k0_chk1 v := by
  have a1 : k0_t1_loop v = ⟨0#32, stop v, 1#32⟩ := congrArg (fun q => (⟨0#32, q, 1#32⟩ : Scf.Loop 32)) (plain (stop v)).1
  have a3 : k0_t3_loop v = ⟨0#32, stop v, 1#32⟩ := congrArg (fun q => (⟨0#32, q, 1#32⟩ : Scf.Loop 32)) (plain (stop v)).1
  have a2 : k0_t2_loop v = ⟨stop v, stop v, 1#32⟩ :=
    congrArg₂ (fun p q => (⟨p, q, 1#32⟩ : Scf.Loop 32)) (plain (stop v)).1 (plain (stop v)).2
  have a4 : k0_t4_loop v = ⟨stop v, stop v, 1#32⟩ :=
    congrArg₂ (fun p q => (⟨p, q, 1#32⟩ : Scf.Loop 32)) (plain (stop v)).1 (plain (stop v)).2
  have t1 : (k0_t1_loop v).trips ≤ 8 := by rw [a1]; exact (first v h).1
  have t3 : (k0_t3_loop v).trips ≤ 8 := by rw [a3]; exact (first v h).1
  have t2 : (k0_t2_loop v).trips = 0 := by rw [a2]; exact (second v h).1
  have t4 : (k0_t4_loop v).trips = 0 := by rw [a4]; exact (second v h).1
  have o1 : (k0_t1_loop v).OK := by rw [a1]; exact (first v h).2
  have o3 : (k0_t3_loop v).OK := by rw [a3]; exact (first v h).2
  have o2 : (k0_t2_loop v).OK := by rw [a2]; exact (second v h).2
  have o4 : (k0_t4_loop v).OK := by rw [a4]; exact (second v h).2
  have d1 (k : Fin (k0_t1_loop v).trips) : 128 ∣ (Scalar.muli (Scf.iv 0#32 1#32 k.val) 128#32).toNat := row_dvd ⟨k.val, lt_of_lt_of_le k.isLt t1⟩
  have d3 (k : Fin (k0_t3_loop v).trips) : 128 ∣ (Scalar.muli (Scf.iv 0#32 1#32 k.val) 128#32).toNat := row_dvd ⟨k.val, lt_of_lt_of_le k.isLt t3⟩
  have r1 (k : Fin (k0_t1_loop v).trips) : row k.val + 128 ≤ 1024 := row_le ⟨k.val, lt_of_lt_of_le k.isLt t1⟩
  have r3 (k : Fin (k0_t3_loop v).trips) : row k.val + 128 ≤ 1024 := row_le ⟨k.val, lt_of_lt_of_le k.isLt t3⟩
  have n2 (k : Fin (k0_t2_loop v).trips) : False := Nat.not_lt_zero _ (lt_of_lt_of_eq k.isLt t2)
  have n4 (k : Fin (k0_t4_loop v).trips) : False := Nat.not_lt_zero _ (lt_of_lt_of_eq k.isLt t4)
  clear a1 a2 a3 a4
  exact ⟨⟨o1, d1, fun k => scale 0 (by decide) _ (r1 k), fun k => scale 1 (by decide) _ (r1 k), fun k => scale 2 (by decide) _ (r1 k),
      fun k => scale 3 (by decide) _ (r1 k), fun k => codes 0 (by decide) _ (r1 k), fun k => codes 128 (by decide) _ (r1 k), d1,
      fun k => scores _ (r1 k),
      o2, fun k => (n2 k).elim, fun k => (n2 k).elim, fun k => (n2 k).elim, fun k => (n2 k).elim, fun k => (n2 k).elim,
      fun k => (n2 k).elim, fun k => (n2 k).elim, fun k => (n2 k).elim, fun k => (n2 k).elim,
      o3, d3, fun k => scale 0 (by decide) _ (r3 k), fun k => scale 1 (by decide) _ (r3 k), fun k => scale 2 (by decide) _ (r3 k),
      fun k => scale 3 (by decide) _ (r3 k), fun k => codes 0 (by decide) _ (r3 k), fun k => codes 128 (by decide) _ (r3 k), d3,
      fun k => scores _ (r3 k),
      o4, fun k => (n4 k).elim⟩,
    fun k => (n4 k).elim, fun k => (n4 k).elim, fun k => (n4 k).elim, fun k => (n4 k).elim, fun k => (n4 k).elim,
    fun k => (n4 k).elim, fun k => (n4 k).elim, fun k => (n4 k).elim⟩

end

section

open Cert.AttentionIdeal

/-- The idealized kernel's side condition of a length. -/
theorem side_ideal (v : BitVec 32) (h : v.toInt ≤ 1024) : k0_chk1 v := by
  have a1 : k0_t1_loop v = ⟨0#32, stop v, 1#32⟩ := congrArg (fun q => (⟨0#32, q, 1#32⟩ : Scf.Loop 32)) (plain (stop v)).1
  have a3 : k0_t3_loop v = ⟨0#32, stop v, 1#32⟩ := congrArg (fun q => (⟨0#32, q, 1#32⟩ : Scf.Loop 32)) (plain (stop v)).1
  have a2 : k0_t2_loop v = ⟨stop v, stop v, 1#32⟩ :=
    congrArg₂ (fun p q => (⟨p, q, 1#32⟩ : Scf.Loop 32)) (plain (stop v)).1 (plain (stop v)).2
  have a4 : k0_t4_loop v = ⟨stop v, stop v, 1#32⟩ :=
    congrArg₂ (fun p q => (⟨p, q, 1#32⟩ : Scf.Loop 32)) (plain (stop v)).1 (plain (stop v)).2
  have t1 : (k0_t1_loop v).trips ≤ 8 := by rw [a1]; exact (first v h).1
  have t3 : (k0_t3_loop v).trips ≤ 8 := by rw [a3]; exact (first v h).1
  have t2 : (k0_t2_loop v).trips = 0 := by rw [a2]; exact (second v h).1
  have t4 : (k0_t4_loop v).trips = 0 := by rw [a4]; exact (second v h).1
  have o1 : (k0_t1_loop v).OK := by rw [a1]; exact (first v h).2
  have o3 : (k0_t3_loop v).OK := by rw [a3]; exact (first v h).2
  have o2 : (k0_t2_loop v).OK := by rw [a2]; exact (second v h).2
  have o4 : (k0_t4_loop v).OK := by rw [a4]; exact (second v h).2
  have d1 (k : Fin (k0_t1_loop v).trips) : 128 ∣ (Scalar.muli (Scf.iv 0#32 1#32 k.val) 128#32).toNat := row_dvd ⟨k.val, lt_of_lt_of_le k.isLt t1⟩
  have d3 (k : Fin (k0_t3_loop v).trips) : 128 ∣ (Scalar.muli (Scf.iv 0#32 1#32 k.val) 128#32).toNat := row_dvd ⟨k.val, lt_of_lt_of_le k.isLt t3⟩
  have r1 (k : Fin (k0_t1_loop v).trips) : row k.val + 128 ≤ 1024 := row_le ⟨k.val, lt_of_lt_of_le k.isLt t1⟩
  have r3 (k : Fin (k0_t3_loop v).trips) : row k.val + 128 ≤ 1024 := row_le ⟨k.val, lt_of_lt_of_le k.isLt t3⟩
  have n2 (k : Fin (k0_t2_loop v).trips) : False := Nat.not_lt_zero _ (lt_of_lt_of_eq k.isLt t2)
  have n4 (k : Fin (k0_t4_loop v).trips) : False := Nat.not_lt_zero _ (lt_of_lt_of_eq k.isLt t4)
  clear a1 a2 a3 a4
  exact ⟨⟨o1, d1, fun k => scale 0 (by decide) _ (r1 k), fun k => scale 1 (by decide) _ (r1 k), fun k => scale 2 (by decide) _ (r1 k),
      fun k => scale 3 (by decide) _ (r1 k), fun k => codes 0 (by decide) _ (r1 k), fun k => codes 128 (by decide) _ (r1 k), d1,
      fun k => scores _ (r1 k),
      o2, fun k => (n2 k).elim, fun k => (n2 k).elim, fun k => (n2 k).elim, fun k => (n2 k).elim, fun k => (n2 k).elim,
      fun k => (n2 k).elim, fun k => (n2 k).elim, fun k => (n2 k).elim, fun k => (n2 k).elim,
      o3, d3, fun k => scale 0 (by decide) _ (r3 k), fun k => scale 1 (by decide) _ (r3 k), fun k => scale 2 (by decide) _ (r3 k),
      fun k => scale 3 (by decide) _ (r3 k), fun k => codes 0 (by decide) _ (r3 k), fun k => codes 128 (by decide) _ (r3 k), d3,
      fun k => scores _ (r3 k),
      o4, fun k => (n4 k).elim⟩,
    fun k => (n4 k).elim, fun k => (n4 k).elim, fun k => (n4 k).elim, fun k => (n4 k).elim, fun k => (n4 k).elim,
    fun k => (n4 k).elim, fun k => (n4 k).elim, fun k => (n4 k).elim⟩

end

end Cert.AttentionProof
end
-- ==== Proof.AttentionClaim.lean ====
module

public import proofs.«01_k».proof.Defs
public import proofs.«01_k».proof.Proof.Gen.Attention.Frame
public import proofs.«01_k».proof.Proof.Gen.AttentionIdeal.Frame
public import proofs.«01_k».proof.Proof.Gen.AttentionRefIdeal.Run
public import proofs.«01_k».proof.Proof.Gen.Pre_lengths_in_cache
public import proofs.«01_k».proof.Proof.AttentionSide
public import Idealize.ShloMosaic.Lib.Bf16PairInverse

/-!
The attention's frames, of lengths that the cache holds, and the rewrites it was idealized by.
-/

@[expose] public section

set_option maxRecDepth 16384

noncomputable section

namespace Cert.AttentionProof

open Idealize.ShloMosaic Idealize.ShloMosaic.StableHlo Idealize.ShloMosaic.TcCoe Idealize.SL.Sem

section

open Cert.Attention Cert.Attention.Gen

attribute [local irreducible] Cert.Attention.k0_chk1

/-- The kernel's side conditions, of lengths that the cache holds. -/
theorem hyps (m : (ℓ : Loc nD τ sig) → Buf (Elt Bits) ℓ) (h : Cert.Pre_Attention m) (hO : Ok m) : Hyps m hO := by
  have ofBool_eq_one (p : Bool) : (BitVec.ofBool p = 1#1) ↔ p = true := by cases p <;> decide
  have hw (w : Cert.Pre_lengths_in_cache.S112.Idx) : (m (((0 : Dev nD).tc : Thread nD τ).loc main_arg7) w : BitVec 32).toInt ≤ 1024 := by
    have e : BitVec.ofBool (BitVec.sle (m (((0 : Dev nD).tc : Thread nD τ).loc main_arg7) w) 1024#32) = 1#1 := congrFun (h 0) w
    exact of_decide_eq_true ((ofBool_eq_one _).1 e)
  refine Hyps.of fun c t => ?_
  unfold Hyps.p0
  show k0_chk1 (m (((0 : Dev nD).tc : Thread nD τ).loc main_arg7) ?w0)
  exact side _ (hw _)

end

section

open Cert.AttentionIdeal Cert.AttentionIdeal.Gen

attribute [local irreducible] Cert.AttentionIdeal.k0_chk1

/-- The idealized kernel's side conditions, of lengths that the cache holds. -/
theorem hyps_ideal (m : (ℓ : Loc nD τ sig) → Buf (Elt Ideal) ℓ) (h : Cert.Pre_AttentionIdeal m) (hO : Ok m) : Hyps m hO := by
  have ofBool_eq_one (p : Bool) : (BitVec.ofBool p = 1#1) ↔ p = true := by cases p <;> decide
  have hw (w : Cert.Pre_lengths_in_cache.S112.Idx) : (m (((0 : Dev nD).tc : Thread nD τ).loc main_arg7) w : BitVec 32).toInt ≤ 1024 := by
    have e : BitVec.ofBool (BitVec.sle (m (((0 : Dev nD).tc : Thread nD τ).loc main_arg7) w) 1024#32) = 1#1 := congrFun (h 0) w
    exact of_decide_eq_true ((ofBool_eq_one _).1 e)
  refine Hyps.of fun c t => ?_
  unfold Hyps.p0
  show k0_chk1 (m (((0 : Dev nD).tc : Thread nD τ).loc main_arg7) ?w0)
  exact side_ideal _ (hw _)

end

theorem frame_p : Cert.quiescent_Attention := fun m ρ h => Cert.Attention.Gen.frame m ρ trivial (hyps m h trivial)
theorem frame_pi : Cert.quiescent_AttentionIdeal := fun m ρ h => Cert.AttentionIdeal.Gen.frame m ρ trivial (hyps_ideal m h trivial)
theorem frame_ri : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)

theorem preserves : Cert.preserves_Attention_AttentionIdeal :=
  open Cert.AttentionIdeal IdealRules.bf16_pair in ⟨packStatement S8x128, statement S128x128 S64x128⟩

end Cert.AttentionProof
end
-- ==== Proof.OutputBody.lean ====
module

public import proofs.«01_k».proof.Proof.Gen.OutputIdeal.Frame
public import proofs.«01_k».proof.Proof.Scales

/-!
What the kernel's body computes for one block of 256 output columns: `tile_fills` (the loop leaves the
dequantised weights in the tile) and `block_eq` (the block the body stores).
-/

@[expose] public section

set_option maxRecDepth 16384

noncomputable section

namespace Cert.OutputIdeal.Body

open Cert.OutputIdeal Cert.OutputIdeal.Gen Idealize.ShloMosaic Idealize.ShloMosaic.TcCoe Idealize.SL.Sem Cert.Weights Cert.Tiles

section
variable (𝒱 : Variants) (c : Dev nD) (bd : Option 𝒱.V) (i : grid1.Coords) (arg1 : Memref sig .tc .vmem S112x4096 .bf16) (harg1 : arg1.IsWhole) (arg2 : Memref sig .tc .vmem S16x256x128 .i8) (harg2 : arg2.IsWhole) (arg3 : Memref sig .tc .vmem S12x16x256 .i8) (harg3 : arg3.IsWhole) (arg4 : Memref sig .tc .vmem S16x256 .bf16) (harg4 : arg4.IsWhole) (arg5 : Memref sig .tc .vmem S16x256 .bf16) (harg5 : arg5.IsWhole) (arg6 : Memref sig .tc .vmem S112x256 .bf16) (harg6 : arg6.IsWhole) (arg7 : Memref sig .tc .vmem S112x256 .f32) (harg7 : arg7.IsWhole) (arg8 : Memref sig .tc .vmem S4096x256 .bf16) (harg8 : arg8.IsWhole) (arg9 : Memref sig .tc .vmem S4x16x2x256 .bf16) (harg9 : arg9.IsWhole) (arg10 : Memref sig .tc .vmem S4x16x2x256 .bf16) (harg10 : arg10.IsWhole)
  (X2 : BufTy.Contents (Elt Ideal) arg2.view.ty) (X9 : BufTy.Contents (Elt Ideal) arg9.view.ty) (X10 : BufTy.Contents (Elt Ideal) arg10.view.ty)

/-- One trip stores the rows of its super-block. -/
theorem trip_fills (k : Fin k1_t1_loop.trips) (hk : k.val < 16) :
    Fills (e := .bf16) (rowFrom (s := 16) (K := 4096) rfl (arg2.view.read (Elt Ideal) X2) (arg9.view.read (Elt Ideal) X9) (arg10.view.read (Elt Ideal) X10))
      (fun y => (y 0).val / 256 = k.val)
      (tripL_k1_t1 (F := Ideal) 𝒱 c bd i arg1 harg1 arg2 harg2 arg3 harg3 arg4 harg4 arg5 harg5 arg6 harg6 arg7 harg7 arg8 harg8 arg9 harg9 arg10 harg10 X2 X9 X10 k) := by
  unfold tripL_k1_t1 trip_k1_t1
  refine Tiles.trip _ k.val (by omega) (fun g => k1_off6 k (BitVec.ofNat 32 (64 * g.val))) (fun g => k1_off6_eq k g) (fun g => k1_off6_inb k g)
    ![_, _, _, _] fun g x l => ?_
  fin_cases g
  · exact part_rows rfl _ _ _ k.val hk 0 _ _ (k1_off1_eq k) _ (k1_off2_eq k) _ _ x l
  · exact part_rows rfl _ _ _ k.val hk 1 _ _ (k1_off1_eq k) _ (k1_off3_eq k) _ _ x l
  · exact part_rows rfl _ _ _ k.val hk 2 _ _ (k1_off1_eq k) _ (k1_off4_eq k) _ _ x l
  · exact part_rows rfl _ _ _ k.val hk 3 _ _ (k1_off1_eq k) _ (k1_off5_eq k) _ _ x l

/-- What the loop leaves in the whole tile. -/
theorem tile_fills :
    Fills (e := .bf16) (rowFrom (s := 16) (K := 4096) rfl (arg2.view.read (Elt Ideal) X2) (arg9.view.read (Elt Ideal) X9) (arg10.view.read (Elt Ideal) X10))
      (fun _ => True)
      (pb_k1_t1 (F := Ideal) 𝒱 c bd i arg1 harg1 arg2 harg2 arg3 harg3 arg4 harg4 arg5 harg5 arg6 harg6 arg7 harg7 arg8 harg8 arg9 harg9 arg10 harg10 X2 X9 X10 16) := by
  have hN : k1_t1_loop.trips = 16 := by decide
  have h := Tiles.loop (K := 4096) (rowFrom (s := 16) (K := 4096) rfl (arg2.view.read (Elt Ideal) X2) (arg9.view.read (Elt Ideal) X9) (arg10.view.read (Elt Ideal) X10))
    (fun k => if hk : k < k1_t1_loop.trips then tripL_k1_t1 (F := Ideal) 𝒱 c bd i arg1 harg1 arg2 harg2 arg3 harg3 arg4 harg4 arg5 harg5 arg6 harg6 arg7 harg7 arg8 harg8 arg9 harg9 arg10 harg10 X2 X9 X10 ⟨k, hk⟩ else [])
    (pb_k1_t1 (F := Ideal) 𝒱 c bd i arg1 harg1 arg2 harg2 arg3 harg3 arg4 harg4 arg5 harg5 arg6 harg6 arg7 harg7 arg8 harg8 arg9 harg9 arg10 harg10 X2 X9 X10)
    16 rfl (fun k hk => by
      have hk' : k < k1_t1_loop.trips := hN ▸ hk
      rw [dif_pos hk']
      exact pb_k1_t1_succ 𝒱 c bd i arg1 harg1 arg2 harg2 arg3 harg3 arg4 harg4 arg5 harg5 arg6 harg6 arg7 harg7 arg8 harg8 arg9 harg9 arg10 harg10 X2 X9 X10 ⟨k, hk'⟩)
    (fun k hk => by
      have hk' : k < k1_t1_loop.trips := hN ▸ hk
      rw [dif_pos hk']
      exact trip_fills 𝒱 c bd i arg1 harg1 arg2 harg2 arg3 harg3 arg4 harg4 arg5 harg5 arg6 harg6 arg7 harg7 arg8 harg8 arg9 harg9 arg10 harg10 X2 X9 X10 ⟨k, hk'⟩ hk)
    16 le_rfl
  exact ⟨h.1, fun y _ => h.2 y (by have : (y 0).val < 4096 := (y 0).isLt; omega)⟩

/-- The scales the body stores. -/
theorem scale_fills (x2 : Vec Ideal S12x16x256 .i8) (x3 : Vec Ideal S16x256 .bf16) :
    Fills (e := .bf16) (scaleAt (s := 16) x2 x3) (fun _ => True) (kernelRun1_A.sl.HS1_4 c arg3 harg3 arg4 harg4 x2 x3) := by
  have hB : arg3.view.read (Elt Ideal) (harg3.unread x2) = x2 := harg3.read_unread _
  have hD : shapeCast S16x256 (arg4.view.readAt (Elt Ideal) (Rect.unit (s := S16x256) ![0, 0] S16x256.size inb_S16x256_S16x256_0_0).toLoadRect (harg4.unread x3)) shapeCasts_S16x256_S16x256 = x3 := by
    rw [View.readAt_eq_ld]; rw [View.ld_unit_lit (S := S16x256) _ _ (by decide)]; exact (shapeCast_id (s := S16x256) _ _).trans (harg4.read_unread _)
  have h := Scales.fill_scales (s := 16) shapeCasts_S1x16x256_S16x256 shapeCasts_S16x256_S1x16x256 shapeCasts_S1x16x256_S1x16x1x256 bitcasts_S1x16x2x256_w16_S1x16x1x256_w32
    (arg3.view.read (Elt Ideal) (harg3.unread x2)) (by decide) (shapeCast S16x256 (arg4.view.readAt (Elt Ideal) (Rect.unit (s := S16x256) ![0, 0] S16x256.size inb_S16x256_S16x256_0_0).toLoadRect (harg4.unread x3)) shapeCasts_S16x256_S16x256) (by decide)
  have hG : scaleAt (s := 16) x2 x3 = scaleAt (s := 16) (arg3.view.read (Elt Ideal) (harg3.unread x2)) (shapeCast S16x256 (arg4.view.readAt (Elt Ideal) (Rect.unit (s := S16x256) ![0, 0] S16x256.size inb_S16x256_S16x256_0_0).toLoadRect (harg4.unread x3)) shapeCasts_S16x256_S16x256) := by rw [hB, hD]
  rw [hG]
  exact h

/-- The offsets the body stores. -/
theorem offset_fills (x2 : Vec Ideal S12x16x256 .i8) (x4 : Vec Ideal S16x256 .bf16) :
    Fills (e := .bf16) (offsetAt (s := 16) x2 x4) (fun _ => True) (kernelRun1_A.sl.HS2_4 c arg3 harg3 arg5 harg5 x2 x4) := by
  have hB : arg3.view.read (Elt Ideal) (harg3.unread x2) = x2 := harg3.read_unread _
  have hD : shapeCast S16x256 (arg5.view.readAt (Elt Ideal) (Rect.unit (s := S16x256) ![0, 0] S16x256.size inb_S16x256_S16x256_0_0).toLoadRect (harg5.unread x4)) shapeCasts_S16x256_S16x256 = x4 := by
    rw [View.readAt_eq_ld]; rw [View.ld_unit_lit (S := S16x256) _ _ (by decide)]; exact (shapeCast_id (s := S16x256) _ _).trans (harg5.read_unread _)
  have h := Scales.fill_offsets (s := 16) shapeCasts_S1x16x256_S16x256 shapeCasts_S16x256_S1x16x256 shapeCasts_S1x16x256_S1x16x1x256 bitcasts_S1x16x2x256_w16_S1x16x1x256_w32
    (arg3.view.read (Elt Ideal) (harg3.unread x2)) (by decide) (shapeCast S16x256 (arg5.view.readAt (Elt Ideal) (Rect.unit (s := S16x256) ![0, 0] S16x256.size inb_S16x256_S16x256_0_0).toLoadRect (harg5.unread x4)) shapeCasts_S16x256_S16x256) (by decide)
  have hG : offsetAt (s := 16) x2 x4 = offsetAt (s := 16) (arg3.view.read (Elt Ideal) (harg3.unread x2)) (shapeCast S16x256 (arg5.view.readAt (Elt Ideal) (Rect.unit (s := S16x256) ![0, 0] S16x256.size inb_S16x256_S16x256_0_0).toLoadRect (harg5.unread x4)) shapeCasts_S16x256_S16x256) := by rw [hB, hD]
  rw [hG]
  exact h

/-- The block the body stores, read at an index. -/
theorem out_apply (x0 : Vec Ideal S112x4096 .bf16) (x1 : Vec Ideal S16x256x128 .i8) (x2 : Vec Ideal S12x16x256 .i8) (x3 : Vec Ideal S16x256 .bf16) (x4 : Vec Ideal S16x256 .bf16) (x5 : Vec Ideal S112x256 .bf16) (b : Fin 112) (l : Fin 256) :
    out1_A_6 (F := Ideal) c i arg1 harg1 arg2 harg2 arg3 harg3 arg4 harg4 arg5 harg5 arg6 harg6 arg7 harg7 arg8 harg8 arg9 harg9 arg10 harg10 x0 x1 x2 x3 x4 x5 (ix2 b l)
      = x5 (ix2 b l) + ∑ κ : Fin 4096, x0 (ix2 b κ) * tileW (s := 16) x1 x2 x3 x4 ⟨κ.val / 256, by omega⟩ ⟨κ.val % 256, by omega⟩ l := by
  unfold out1_A_6 kernelRun1_A kernelRun1_A.sl.r_11
  dsimp only
  rw [show Scf.trips (0#32) (Scalar.addi 0#32 16#32) 1#32 = 16 from by decide,
    (tile_fills Variants.none c none i arg1 harg1 arg2 harg2 arg3 harg3 arg4 harg4 arg5 harg5 arg6 harg6 arg7 harg7 arg8 harg8 arg9 harg9 arg10 harg10 _ _ _).readCov,
    (scale_fills c arg3 harg3 arg4 harg4 x2 x3).read, (offset_fills c arg3 harg3 arg5 harg5 x2 x4).read, harg2.read_unread]
  refine (congrFun ((Tiles.whole (S := S112x256) (e := .f32) _ ![0, 0] (by decide) _).read VO1_6 _) (ix2 b l)).trans ?_
  simp only [View.readAt_eq_ld]
  rw [View.ld_unit_lit (S := S112x4096) _ _ (by decide), View.ld_unit_lit (S := S4096x256) _ _ (by decide), View.ld_unit_lit (S := S112x256) _ _ (by decide), harg1.read_unread, harg6.read_unread]
  pointwise [k1_pay62]
  exact congrArg (x5 (ix2 b l) + ·) (Finset.sum_congr rfl fun κ _ => congrArg (x0 (ix2 b κ) * ·) (rowFrom_scales (s := 16) rfl x1 x2 x3 x4 κ l))

end

end Cert.OutputIdeal.Body
end
-- ==== Proof.OutputNorm.lean ====
module

public import proofs.«01_k».proof.Proof.Gen.OutputIdeal.Frame
public import proofs.«01_k».proof.Proof.Scales

/-!
What the normalisation's body stores: the normalised row, its columns permuted into the nibbles' order within each tile
of 128.
-/

@[expose] public section

set_option maxRecDepth 16384

noncomputable section

namespace Cert.OutputIdeal.Norm

open Cert.OutputIdeal Cert.OutputIdeal.Gen Idealize.ShloMosaic Idealize.ShloMosaic.TcCoe Idealize.SL.Sem Cert.Weights Cert.Tiles

/-- The row of activations normalised and scaled by the gain. -/
def normal (x g : Fin 3840 → EReal) (k : Fin 3840) : EReal :=
  x k * Ideal.rsqrt (Ideal.div (∑ j, x j * x j) (Ideal.ofBits .f32 0x45700000#32) + Ideal.ofBits .f32 0x358637BD#32) * g k

/-- The column of a tile of 128 whose value the permutation brings to column `j`. -/
def perm (j : Fin 128) : Fin 128 := ⟨64 * (j.val / 64) + 32 * (j.val % 2) + j.val % 64 / 2, by omega⟩

/-- The column of a row whose value the permutation brings to column `κ`. -/
def column (κ : Fin 3840) : Fin 3840 := ⟨64 * (κ.val / 64) + 32 * (κ.val % 2) + κ.val % 64 / 2, by omega⟩

/-- The lane index each element is gathered from, before its two casts. -/
def lanes : IVec S112x128 32 :=
  select (cmpi CmpIPredicate.slt k2_pay4 (broadcast S112x128 0#32)) (addi k2_pay4 (broadcast S112x128 128#32)) k2_pay4

theorem lanes_apply (b : Fin 112) (j : Fin 128) : (lanes (ix2 b j)).toNat % 128 = (perm j).val := by
  have h : ∀ j : Fin 128, (lanes (ix2 (0 : Fin 112) j)).toNat % 128 = (perm j).val := by decide +kernel
  exact h j

/-- One tile of the permuted row. -/
def tile (v : FVec Ideal S112x3840 .f32) (o : Nat) (h : S112x3840.Slices ![0, o] S112x128) : FVec Ideal S112x128 .f32 :=
  dynamicGather 1 (extractStridedSlice S112x128 ![0, o] v h) (shapeCast S112x128 (shapeCast S112x128x1 lanes shapeCasts_S112x128_S112x128x1) shapeCasts_S112x128x1_S112x128)

theorem tile_apply (v : FVec Ideal S112x3840 .f32) (o : Nat) (h) (b : Fin 112) (j : Fin 128) (k : Fin 3840) (hk : o + (perm j).val = k.val) :
    tile v o h (ix2 b j) = v (ix2 b k) := by
  have e : shapeCast S112x128 (shapeCast S112x128x1 lanes shapeCasts_S112x128_S112x128x1) shapeCasts_S112x128x1_S112x128 = lanes := by
    rw [shapeCast_comp]
    exact shapeCast_id (s := S112x128) _ _
  unfold tile
  rw [e, dynamicGather_apply]
  refine congrArg v (funext fun a => Fin.ext ?_)
  match a with
  | 0 => exact Nat.zero_add _
  | 1 => exact (congrArg (o + ·) (lanes_apply b j)).trans hk

theorem pay3_apply (x : Vec Ideal S112x3840 .f32) (g : Vec Ideal S1x3840 .f32) (b : Fin 112) (k : Fin 3840) :
    k2_pay3 (F := Ideal) x g (ix2 b k) = normal (fun k => x (ix2 b k)) (fun k => g (ix2 0 k)) k := by
  pointwise [k2_pay3]
  rfl

/-- Entry `n` of row `b`, permuted; nothing past the row. -/
def entry (v : FVec Ideal S112x3840 .f32) (b : Fin 112) (n : Nat) : EReal :=
  if h : n < 3840 then v (ix2 b (column ⟨n, h⟩)) else 0

theorem tile_entry (v : FVec Ideal S112x3840 .f32) (o : Nat) (h) (b : Fin 112) (hm : o % 128 = 0) (ho : o + 128 ≤ 3840) (j : Fin 128) :
    tile v o h (ix2 b j) = entry v b (o + j.val) := by
  refine (tile_apply v o h b j (column ⟨o + j.val, by omega⟩) ?_).trans (by rw [entry, dif_pos (show o + j.val < 3840 by omega)])
  show o + (64 * (j.val / 64) + 32 * (j.val % 2) + j.val % 64 / 2) = 64 * ((o + j.val) / 64) + 32 * ((o + j.val) % 2) + (o + j.val) % 64 / 2
  omega

/-- The pieces, from offset `o` on, hold a row's entries. -/
def Holds (b : Fin 112) (G : Nat → EReal) : Nat → List (FVec Ideal S112x128 .f32) → Prop
  | _, [] => True
  | o, p :: ps => (∀ j : Fin 128, p (ix2 b j) = G (o + j.val)) ∧ Holds b G (o + 128) ps

/-- Pieces side by side, read at a column. -/
theorem joined (b : Fin 112) (k : Fin 3840) (G : Nat → EReal) : ∀ (ps : List (FVec Ideal S112x128 .f32)) (o : Nat) (_ : Holds b G o ps) (hs) (n : Nat) (hn),
    concatenateAt S112x3840 1 (ix2 b k) (ps.map fun p => (⟨S112x128, p⟩ : (s : Shape) × (s.Idx → EReal))) hs n hn = G (o + n)
  | [], _, _, _, _, hn => absurd hn (Nat.not_lt_zero _)
  | [p], o, hp, hs, n, hn => by
    have hn' : n < 128 := hn
    refine (concatenateAt.eq_2 _ _ _ _ _ hs hn).trans (Eq.trans (congrArg p (funext fun a => ?_)) (hp.1 ⟨n, hn'⟩))
    match a with
    | 0 => rfl
    | 1 => rfl
  | p :: q :: ps, o, hp, hs, n, hn => by
    refine (concatenateAt.eq_3 _ _ _ _ _ _ _ hs hn).trans ?_
    by_cases hn' : n < 128
    · refine (dif_pos hn').trans (Eq.trans (congrArg p (funext fun a => ?_)) (hp.1 ⟨n, hn'⟩))
      match a with
      | 0 => rfl
      | 1 => rfl
    · refine (dif_neg hn').trans ((joined b k G (q :: ps) (o + 128) hp.2 _ (n - 128) _).trans (congrArg G (by omega)))

theorem joined_row (b : Fin 112) (k : Fin 3840) (G : Nat → EReal) (ps : List (FVec Ideal S112x128 .f32)) (hp : Holds b G 0 ps) (hc) :
    concatenate S112x3840 1 (ps.map fun p => (⟨S112x128, p⟩ : (s : Shape) × (s.Idx → EReal))) hc (ix2 b k) = G k.val :=
  (concatenate_apply _ _ _ hc _).trans ((joined b k G ps 0 hp _ k.val _).trans (congrArg G (Nat.zero_add _)))

/-- The thirty permuted tiles of a row. -/
def tiles (v : FVec Ideal S112x3840 .f32) : List (FVec Ideal S112x128 .f32) :=
  [tile v 0 slices_S112x3840_o0_0_S112x128,
    tile v 128 slices_S112x3840_o0_128_S112x128,
    tile v 256 slices_S112x3840_o0_256_S112x128,
    tile v 384 slices_S112x3840_o0_384_S112x128,
    tile v 512 slices_S112x3840_o0_512_S112x128,
    tile v 640 slices_S112x3840_o0_640_S112x128,
    tile v 768 slices_S112x3840_o0_768_S112x128,
    tile v 896 slices_S112x3840_o0_896_S112x128,
    tile v 1024 slices_S112x3840_o0_1024_S112x128,
    tile v 1152 slices_S112x3840_o0_1152_S112x128,
    tile v 1280 slices_S112x3840_o0_1280_S112x128,
    tile v 1408 slices_S112x3840_o0_1408_S112x128,
    tile v 1536 slices_S112x3840_o0_1536_S112x128,
    tile v 1664 slices_S112x3840_o0_1664_S112x128,
    tile v 1792 slices_S112x3840_o0_1792_S112x128,
    tile v 1920 slices_S112x3840_o0_1920_S112x128,
    tile v 2048 slices_S112x3840_o0_2048_S112x128,
    tile v 2176 slices_S112x3840_o0_2176_S112x128,
    tile v 2304 slices_S112x3840_o0_2304_S112x128,
    tile v 2432 slices_S112x3840_o0_2432_S112x128,
    tile v 2560 slices_S112x3840_o0_2560_S112x128,
    tile v 2688 slices_S112x3840_o0_2688_S112x128,
    tile v 2816 slices_S112x3840_o0_2816_S112x128,
    tile v 2944 slices_S112x3840_o0_2944_S112x128,
    tile v 3072 slices_S112x3840_o0_3072_S112x128,
    tile v 3200 slices_S112x3840_o0_3200_S112x128,
    tile v 3328 slices_S112x3840_o0_3328_S112x128,
    tile v 3456 slices_S112x3840_o0_3456_S112x128,
    tile v 3584 slices_S112x3840_o0_3584_S112x128,
    tile v 3712 slices_S112x3840_o0_3712_S112x128]

theorem tiles_hold (v : FVec Ideal S112x3840 .f32) (b : Fin 112) : Holds b (entry v b) 0 (tiles v) :=
  ⟨tile_entry v 0 _ b (by decide) (by decide),
    tile_entry v 128 _ b (by decide) (by decide),
    tile_entry v 256 _ b (by decide) (by decide),
    tile_entry v 384 _ b (by decide) (by decide),
    tile_entry v 512 _ b (by decide) (by decide),
    tile_entry v 640 _ b (by decide) (by decide),
    tile_entry v 768 _ b (by decide) (by decide),
    tile_entry v 896 _ b (by decide) (by decide),
    tile_entry v 1024 _ b (by decide) (by decide),
    tile_entry v 1152 _ b (by decide) (by decide),
    tile_entry v 1280 _ b (by decide) (by decide),
    tile_entry v 1408 _ b (by decide) (by decide),
    tile_entry v 1536 _ b (by decide) (by decide),
    tile_entry v 1664 _ b (by decide) (by decide),
    tile_entry v 1792 _ b (by decide) (by decide),
    tile_entry v 1920 _ b (by decide) (by decide),
    tile_entry v 2048 _ b (by decide) (by decide),
    tile_entry v 2176 _ b (by decide) (by decide),
    tile_entry v 2304 _ b (by decide) (by decide),
    tile_entry v 2432 _ b (by decide) (by decide),
    tile_entry v 2560 _ b (by decide) (by decide),
    tile_entry v 2688 _ b (by decide) (by decide),
    tile_entry v 2816 _ b (by decide) (by decide),
    tile_entry v 2944 _ b (by decide) (by decide),
    tile_entry v 3072 _ b (by decide) (by decide),
    tile_entry v 3200 _ b (by decide) (by decide),
    tile_entry v 3328 _ b (by decide) (by decide),
    tile_entry v 3456 _ b (by decide) (by decide),
    tile_entry v 3584 _ b (by decide) (by decide),
    tile_entry v 3712 _ b (by decide) (by decide), trivial⟩

/-- The block the normalisation's body stores, read at an index. -/
theorem out_apply (x : Vec Ideal S112x3840 .f32) (g : Vec Ideal S1x3840 .f32) (b : Fin 112) (k : Fin 3840) :
    out2_2 (F := Ideal) x g (ix2 b k) = normal (fun k => x (ix2 b k)) (fun k => g (ix2 0 k)) (column k) := by
  unfold_out out2_2
  have he : r2_0.emb (ix2 b k) = ix2 b k := by
    funext a
    match a with
    | 0 => exact Fin.ext ((rect_emb_val (S := S112x3840) _ _ _ _ _).trans (Nat.zero_add _))
    | 1 => exact Fin.ext ((rect_emb_val (S := S112x3840) _ _ _ _ _).trans (Nat.zero_add _))
  refine (congrArg _ he.symm).trans ((View.canon_cons_emb r2_0 _ [] (ix2 b k)).trans ?_)
  have hx : View.ld x r2_0 = x := View.ld_unit_lit (S := S112x3840) _ _ (by decide)
  have hg : View.ld g r2_1 = g := View.ld_unit_lit (S := S1x3840) _ _ (by decide)
  rw [hx, hg]
  refine Eq.trans ?_ (pay3_apply x g b (column k))
  exact (joined_row b k (entry (k2_pay3 (F := Ideal) x g) b) (tiles (k2_pay3 (F := Ideal) x g)) (tiles_hold _ b)
    concatenates_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x3840_d1).trans (dif_pos k.isLt)

end Cert.OutputIdeal.Norm
end
-- ==== Proof.OutputPermute.lean ====
module

public import proofs.«01_k».proof.Proof.Gen.OutputIdeal.Frame
public import proofs.«01_k».proof.Proof.Scales

/-!
What the permutation's body stores: each row of the attention's output, its columns permuted into the nibbles' order
within each tile of 128.
-/

@[expose] public section

set_option maxRecDepth 16384

noncomputable section

namespace Cert.OutputIdeal.Permute

open Cert.OutputIdeal Cert.OutputIdeal.Gen Idealize.ShloMosaic Idealize.ShloMosaic.TcCoe Idealize.SL.Sem Cert.Weights Cert.Tiles

/-- The column of a tile of 128 whose value the permutation brings to column `j`. -/
def perm (j : Fin 128) : Fin 128 := ⟨64 * (j.val / 64) + 32 * (j.val % 2) + j.val % 64 / 2, by omega⟩

/-- The column of a row whose value the permutation brings to column `κ`. -/
def column (κ : Fin 4096) : Fin 4096 := ⟨64 * (κ.val / 64) + 32 * (κ.val % 2) + κ.val % 64 / 2, by omega⟩

/-- The lane index each element is gathered from, before its two casts. -/
def lanes : IVec S112x128 32 :=
  select (cmpi CmpIPredicate.slt k0_pay5 (broadcast S112x128 0#32)) (addi k0_pay5 (broadcast S112x128 128#32)) k0_pay5

theorem lanes_apply (b : Fin 112) (j : Fin 128) : (lanes (ix2 b j)).toNat % 128 = (perm j).val := by
  have h : ∀ j : Fin 128, (lanes (ix2 (0 : Fin 112) j)).toNat % 128 = (perm j).val := by decide +kernel
  exact h j

/-- One tile of the permuted row. -/
def tile (v : FVec Ideal S112x4096 .f32) (o : Nat) (h : S112x4096.Slices ![0, o] S112x128) : FVec Ideal S112x128 .f32 :=
  dynamicGather 1 (extractStridedSlice S112x128 ![0, o] v h) (shapeCast S112x128 (shapeCast S112x128x1 lanes shapeCasts_S112x128_S112x128x1) shapeCasts_S112x128x1_S112x128)

theorem tile_apply (v : FVec Ideal S112x4096 .f32) (o : Nat) (h) (b : Fin 112) (j : Fin 128) (k : Fin 4096) (hk : o + (perm j).val = k.val) :
    tile v o h (ix2 b j) = v (ix2 b k) := by
  have e : shapeCast S112x128 (shapeCast S112x128x1 lanes shapeCasts_S112x128_S112x128x1) shapeCasts_S112x128x1_S112x128 = lanes := by
    rw [shapeCast_comp]
    exact shapeCast_id (s := S112x128) _ _
  unfold tile
  rw [e, dynamicGather_apply]
  refine congrArg v (funext fun a => Fin.ext ?_)
  match a with
  | 0 => exact Nat.zero_add _
  | 1 => exact (congrArg (o + ·) (lanes_apply b j)).trans hk

/-- Entry `n` of row `b`, permuted; nothing past the row. -/
def entry (v : FVec Ideal S112x4096 .f32) (b : Fin 112) (n : Nat) : EReal :=
  if h : n < 4096 then v (ix2 b (column ⟨n, h⟩)) else 0

theorem tile_entry (v : FVec Ideal S112x4096 .f32) (o : Nat) (h) (b : Fin 112) (hm : o % 128 = 0) (ho : o + 128 ≤ 4096) (j : Fin 128) :
    tile v o h (ix2 b j) = entry v b (o + j.val) := by
  refine (tile_apply v o h b j (column ⟨o + j.val, by omega⟩) ?_).trans (by rw [entry, dif_pos (show o + j.val < 4096 by omega)])
  show o + (64 * (j.val / 64) + 32 * (j.val % 2) + j.val % 64 / 2) = 64 * ((o + j.val) / 64) + 32 * ((o + j.val) % 2) + (o + j.val) % 64 / 2
  omega

/-- The pieces, from offset `o` on, hold a row's entries. -/
def Holds (b : Fin 112) (G : Nat → EReal) : Nat → List (FVec Ideal S112x128 .f32) → Prop
  | _, [] => True
  | o, p :: ps => (∀ j : Fin 128, p (ix2 b j) = G (o + j.val)) ∧ Holds b G (o + 128) ps

/-- Pieces side by side, read at a column. -/
theorem joined (b : Fin 112) (k : Fin 4096) (G : Nat → EReal) : ∀ (ps : List (FVec Ideal S112x128 .f32)) (o : Nat) (_ : Holds b G o ps) (hs) (n : Nat) (hn),
    concatenateAt S112x4096 1 (ix2 b k) (ps.map fun p => (⟨S112x128, p⟩ : (s : Shape) × (s.Idx → EReal))) hs n hn = G (o + n)
  | [], _, _, _, _, hn => absurd hn (Nat.not_lt_zero _)
  | [p], o, hp, hs, n, hn => by
    have hn' : n < 128 := hn
    refine (concatenateAt.eq_2 _ _ _ _ _ hs hn).trans (Eq.trans (congrArg p (funext fun a => ?_)) (hp.1 ⟨n, hn'⟩))
    match a with
    | 0 => rfl
    | 1 => rfl
  | p :: q :: ps, o, hp, hs, n, hn => by
    refine (concatenateAt.eq_3 _ _ _ _ _ _ _ hs hn).trans ?_
    by_cases hn' : n < 128
    · refine (dif_pos hn').trans (Eq.trans (congrArg p (funext fun a => ?_)) (hp.1 ⟨n, hn'⟩))
      match a with
      | 0 => rfl
      | 1 => rfl
    · refine (dif_neg hn').trans ((joined b k G (q :: ps) (o + 128) hp.2 _ (n - 128) _).trans (congrArg G (by omega)))

theorem joined_row (b : Fin 112) (k : Fin 4096) (G : Nat → EReal) (ps : List (FVec Ideal S112x128 .f32)) (hp : Holds b G 0 ps) (hc) :
    concatenate S112x4096 1 (ps.map fun p => (⟨S112x128, p⟩ : (s : Shape) × (s.Idx → EReal))) hc (ix2 b k) = G k.val :=
  (concatenate_apply _ _ _ hc _).trans ((joined b k G ps 0 hp _ k.val _).trans (congrArg G (Nat.zero_add _)))

/-- The thirty-two permuted tiles of a row. -/
def tiles (v : FVec Ideal S112x4096 .f32) : List (FVec Ideal S112x128 .f32) :=
  [tile v 0 slices_S112x4096_o0_0_S112x128,
    tile v 128 slices_S112x4096_o0_128_S112x128,
    tile v 256 slices_S112x4096_o0_256_S112x128,
    tile v 384 slices_S112x4096_o0_384_S112x128,
    tile v 512 slices_S112x4096_o0_512_S112x128,
    tile v 640 slices_S112x4096_o0_640_S112x128,
    tile v 768 slices_S112x4096_o0_768_S112x128,
    tile v 896 slices_S112x4096_o0_896_S112x128,
    tile v 1024 slices_S112x4096_o0_1024_S112x128,
    tile v 1152 slices_S112x4096_o0_1152_S112x128,
    tile v 1280 slices_S112x4096_o0_1280_S112x128,
    tile v 1408 slices_S112x4096_o0_1408_S112x128,
    tile v 1536 slices_S112x4096_o0_1536_S112x128,
    tile v 1664 slices_S112x4096_o0_1664_S112x128,
    tile v 1792 slices_S112x4096_o0_1792_S112x128,
    tile v 1920 slices_S112x4096_o0_1920_S112x128,
    tile v 2048 slices_S112x4096_o0_2048_S112x128,
    tile v 2176 slices_S112x4096_o0_2176_S112x128,
    tile v 2304 slices_S112x4096_o0_2304_S112x128,
    tile v 2432 slices_S112x4096_o0_2432_S112x128,
    tile v 2560 slices_S112x4096_o0_2560_S112x128,
    tile v 2688 slices_S112x4096_o0_2688_S112x128,
    tile v 2816 slices_S112x4096_o0_2816_S112x128,
    tile v 2944 slices_S112x4096_o0_2944_S112x128,
    tile v 3072 slices_S112x4096_o0_3072_S112x128,
    tile v 3200 slices_S112x4096_o0_3200_S112x128,
    tile v 3328 slices_S112x4096_o0_3328_S112x128,
    tile v 3456 slices_S112x4096_o0_3456_S112x128,
    tile v 3584 slices_S112x4096_o0_3584_S112x128,
    tile v 3712 slices_S112x4096_o0_3712_S112x128,
    tile v 3840 slices_S112x4096_o0_3840_S112x128,
    tile v 3968 slices_S112x4096_o0_3968_S112x128]

theorem tiles_hold (v : FVec Ideal S112x4096 .f32) (b : Fin 112) : Holds b (entry v b) 0 (tiles v) :=
  ⟨tile_entry v 0 _ b (by decide) (by decide),
    tile_entry v 128 _ b (by decide) (by decide),
    tile_entry v 256 _ b (by decide) (by decide),
    tile_entry v 384 _ b (by decide) (by decide),
    tile_entry v 512 _ b (by decide) (by decide),
    tile_entry v 640 _ b (by decide) (by decide),
    tile_entry v 768 _ b (by decide) (by decide),
    tile_entry v 896 _ b (by decide) (by decide),
    tile_entry v 1024 _ b (by decide) (by decide),
    tile_entry v 1152 _ b (by decide) (by decide),
    tile_entry v 1280 _ b (by decide) (by decide),
    tile_entry v 1408 _ b (by decide) (by decide),
    tile_entry v 1536 _ b (by decide) (by decide),
    tile_entry v 1664 _ b (by decide) (by decide),
    tile_entry v 1792 _ b (by decide) (by decide),
    tile_entry v 1920 _ b (by decide) (by decide),
    tile_entry v 2048 _ b (by decide) (by decide),
    tile_entry v 2176 _ b (by decide) (by decide),
    tile_entry v 2304 _ b (by decide) (by decide),
    tile_entry v 2432 _ b (by decide) (by decide),
    tile_entry v 2560 _ b (by decide) (by decide),
    tile_entry v 2688 _ b (by decide) (by decide),
    tile_entry v 2816 _ b (by decide) (by decide),
    tile_entry v 2944 _ b (by decide) (by decide),
    tile_entry v 3072 _ b (by decide) (by decide),
    tile_entry v 3200 _ b (by decide) (by decide),
    tile_entry v 3328 _ b (by decide) (by decide),
    tile_entry v 3456 _ b (by decide) (by decide),
    tile_entry v 3584 _ b (by decide) (by decide),
    tile_entry v 3712 _ b (by decide) (by decide),
    tile_entry v 3840 _ b (by decide) (by decide),
    tile_entry v 3968 _ b (by decide) (by decide), trivial⟩

/-- The block the permutation's body stores, read at an index. -/
theorem out_apply (x : Vec Ideal S112x4096 .f32) (b : Fin 112) (k : Fin 4096) :
    out0_1 (F := Ideal) x (ix2 b k) = x (ix2 b (column k)) := by
  unfold_out out0_1
  have he : r0_0.emb (ix2 b k) = ix2 b k := by
    funext a
    match a with
    | 0 => exact Fin.ext ((rect_emb_val (S := S112x4096) _ _ _ _ _).trans (Nat.zero_add _))
    | 1 => exact Fin.ext ((rect_emb_val (S := S112x4096) _ _ _ _ _).trans (Nat.zero_add _))
  refine (congrArg _ he.symm).trans ((View.canon_cons_emb r0_0 _ [] (ix2 b k)).trans ?_)
  have hx : View.ld x r0_0 = x := View.ld_unit_lit (S := S112x4096) _ _ (by decide)
  rw [hx]
  refine Eq.trans ?_ (congrFun (shapeCast_id (s := S112x4096) x shapeCasts_S112x4096_S112x4096) (ix2 b (column k)))
  exact (joined_row b k (entry (k0_pay4 (F := Ideal) x) b) (tiles (k0_pay4 (F := Ideal) x)) (tiles_hold _ b)
    concatenates_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x128_S112x4096_d1).trans (dif_pos k.isLt)

end Cert.OutputIdeal.Permute
end
-- ==== Proof.OutputArray.lean ====
module

public import proofs.«01_k».proof.Proof.OutputBody
public import proofs.«01_k».proof.Proof.OutputNorm
public import proofs.«01_k».proof.Proof.OutputPermute
public import Idealize.ShloMosaic.Lib.Claim
public import Idealize.ShloMosaic.Lib.Pipeline.ValueKit

/-!
The array each of the three calls after the attention leaves, from what its windows hold when it starts: `final0` (the
permutation), `final1` (the output projection with its residual) and `final2` (the normalisation).
-/

@[expose] public section

set_option maxRecDepth 16384

noncomputable section

namespace Cert.OutputIdeal.Array

open Cert.OutputIdeal Cert.OutputIdeal.Gen Idealize.ShloMosaic Idealize.ShloMosaic.TcCoe Idealize.SL.Sem Cert.Weights Cert.Tiles
open Idealize.ShloMosaic.Pipeline (Dat)
open Cert.OutputIdeal.Norm (normal column)

/-- The activations `h` times a quantised weight stored with its rows last, at row `b` of the activations and row `n` of
    the weight. -/
def rowSum {N : Nat} (h : S112x4096.Idx → EReal) (Q : (⟨3, ![16, N, 128]⟩ : Shape).Idx → BitVec 8) (B : (⟨3, ![12, 16, N]⟩ : Shape).Idx → BitVec 8)
    (D M : (⟨2, ![16, N]⟩ : Shape).Idx → EReal) (b : Fin 112) (n : Fin N) : EReal :=
  ∑ κ : Fin 4096, h (ix2 b κ)
    * weight (fun j => Q (ix3 ⟨κ.val / 256, by omega⟩ n j)) (fun j => B (ix3 j ⟨κ.val / 256, by omega⟩ n))
        (D (ix2 ⟨κ.val / 256, by omega⟩ n)) (M (ix2 ⟨κ.val / 256, by omega⟩ n)) ⟨κ.val % 256, by omega⟩

/-- The activations times one tile of 256 weight columns. -/
def tileSum (x0 : Vec Ideal S112x4096 .bf16) (x1 : Vec Ideal S16x256x128 .i8) (x2 : Vec Ideal S12x16x256 .i8) (x3 x4 : Vec Ideal S16x256 .bf16) (b : Fin 112) (l : Fin 256) : EReal :=
  ∑ κ : Fin 4096, x0 (ix2 b κ) * tileW (s := 16) x1 x2 x3 x4 ⟨κ.val / 256, by omega⟩ ⟨κ.val % 256, by omega⟩ l

variable (V : (c : Dev nD) → (b : Ref sig .tc) → Buf (Elt Ideal) ((c : Thread nD τ).loc b))

/-! ### Call 0 -/

/-- The attention's output, its columns in the nibbles' order. -/
def paired (a : S112x4096.Idx → EReal) (y : S112x4096.Idx) : EReal := a (ix2 (y 0) (Permute.column (y 1)))

theorem final0 (c : Dev nD) : (dat0 V c).arrAt 1 cfg0.N = paired (V c main_v1) := by
  have idx : ∀ t : Fin cfg0.N, win0_0.index t = ![0, 0] ∧ win0_1.index t = ![0, 0] :=
    (by decide +kernel : ∀ t : Fin grid0.N, _)
  refine (dat0 V c).arrAt_eq_of_covers 1 _ (by decide +kernel) fun t hf y => ?_
  obtain ⟨b, k, rfl⟩ : ∃ (b : Fin 112) (k : Fin 4096), y = ix2 b k := ⟨y 0, y 1, by funext a; match a with | 0 => rfl | 1 => rfl⟩
  blk_simp
  rw [after0_1]
  refine (Permute.out_apply _ b k).trans ?_
  obtain ⟨e0, e1⟩ := idx t
  have hy : (win0_1.blk t).view.emb (ix2 b k) = ix2 b k := by blk_ext [e1]
  rw [hy]
  have h0 : ∀ k : Fin 4096, iblk0 V c 0 t (ix2 b k) = V c main_v1 (ix2 b k) := fun k => by blk_ext [iblk0, e0]
  exact h0 (Permute.column k)

/-! ### Call 1 -/

theorem idx1 : ∀ t : Fin cfg1.N, win1_0.index t = ![0, 0] ∧ win1_1.index t = ![0, t.val, 0] ∧ win1_2.index t = ![0, 0, t.val] ∧ win1_3.index t = ![0, t.val] ∧ win1_4.index t = ![0, t.val] ∧ win1_5.index t = ![0, t.val] ∧ win1_6.index t = ![0, t.val] :=
  (by decide +kernel : ∀ t : Fin grid1.N, _)

theorem blk1_1 (c : Dev nD) (t : Fin cfg1.N) (k : Fin 16) (l : Fin 256) (j : Fin 128) (h : 256 * t.val + l.val < 3840) :
    iblk1 V c 1 t (ix3 k l j) = V c main_v3 (ix3 k ⟨256 * t.val + l.val, h⟩ j) := by
  have e1 := (idx1 t).2.1
  have e : (win1_1.blk t).view.emb (ix3 k l j) = ix3 k ⟨256 * t.val + l.val, h⟩ j := by blk_ext [e1]
  exact congrArg (V c main_v3) e

theorem blk1_2 (c : Dev nD) (t : Fin cfg1.N) (k : Fin 16) (l : Fin 256) (j : Fin 12) (h : 256 * t.val + l.val < 3840) :
    iblk1 V c 2 t (ix3 j k l) = V c main_v4 (ix3 j k ⟨256 * t.val + l.val, h⟩) := by
  have e1 := (idx1 t).2.2.1
  have e : (win1_2.blk t).view.emb (ix3 j k l) = ix3 j k ⟨256 * t.val + l.val, h⟩ := by blk_ext [e1]
  exact congrArg (V c main_v4) e

theorem blk1_3 (c : Dev nD) (t : Fin cfg1.N) (k : Fin 16) (l : Fin 256) (h : 256 * t.val + l.val < 3840) :
    iblk1 V c 3 t (ix2 k l) = V c main_v5 (ix2 k ⟨256 * t.val + l.val, h⟩) := by
  have e1 := (idx1 t).2.2.2.1
  have e : (win1_3.blk t).view.emb (ix2 k l) = ix2 k ⟨256 * t.val + l.val, h⟩ := by blk_ext [e1]
  exact congrArg (V c main_v5) e

theorem blk1_4 (c : Dev nD) (t : Fin cfg1.N) (k : Fin 16) (l : Fin 256) (h : 256 * t.val + l.val < 3840) :
    iblk1 V c 4 t (ix2 k l) = V c main_v6 (ix2 k ⟨256 * t.val + l.val, h⟩) := by
  have e1 := (idx1 t).2.2.2.2.1
  have e : (win1_4.blk t).view.emb (ix2 k l) = ix2 k ⟨256 * t.val + l.val, h⟩ := by blk_ext [e1]
  exact congrArg (V c main_v6) e

theorem sum1 (c : Dev nD) (t : Fin cfg1.N) (b : Fin 112) (l : Fin 256) (h : 256 * t.val + l.val < 3840) :
    tileSum (iblk1 V c 0 t) (iblk1 V c 1 t) (iblk1 V c 2 t) (iblk1 V c 3 t) (iblk1 V c 4 t) b l
      = rowSum (N := 3840) (V c main_v2) (V c main_v3) (V c main_v4) (V c main_v5) (V c main_v6) b ⟨256 * t.val + l.val, h⟩ := by
  have e0 := (idx1 t).1
  have h0 : ∀ κ : Fin 4096, iblk1 V c 0 t (ix2 b κ) = V c main_v2 (ix2 b κ) := fun κ => by blk_ext [iblk1, e0]
  refine Finset.sum_congr rfl fun κ _ => ?_
  rw [h0 κ]
  unfold tileW
  simp only [blk1_1 V c t _ l _ h, blk1_2 V c t _ l _ h, blk1_3 V c t _ l h, blk1_4 V c t _ l h]

/-- A residual plus the activations times the weight. -/
def added (r : S112x3840.Idx → EReal) (h : S112x4096.Idx → EReal) (Q : (⟨3, ![16, 3840, 128]⟩ : Shape).Idx → BitVec 8) (B : (⟨3, ![12, 16, 3840]⟩ : Shape).Idx → BitVec 8)
    (D M : (⟨2, ![16, 3840]⟩ : Shape).Idx → EReal) (y : S112x3840.Idx) : EReal :=
  r (ix2 (y 0) (y 1)) + rowSum (N := 3840) h Q B D M (y 0) (y 1)

theorem final1 (c : Dev nD) : (dat1 V c).arrAt 6 cfg1.N = added (V c main_v0) (V c main_v2) (V c main_v3) (V c main_v4) (V c main_v5) (V c main_v6) := by
  refine (dat1 V c).arrAt_eq_of_covers 6 _ (by decide +kernel) fun t hf y => ?_
  obtain ⟨b, l, rfl⟩ : ∃ (b : Fin 112) (l : Fin 256), y = ix2 b l := ⟨y 0, y 1, by funext a; match a with | 0 => rfl | 1 => rfl⟩
  blk_simp
  rw [after1_6, outsAt1]
  refine (Body.out_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 _ scM1_1 _ scM1_2 _ _ _ _ _ _ _ b l).trans ?_
  have ht : t.val < 15 := t.isLt
  obtain ⟨e0, e1, e2, e3, e4, e5, e6⟩ := idx1 t
  have hl : 256 * t.val + l.val < 3840 := by omega
  have hy : (win1_6.blk t).view.emb (ix2 b l) = ix2 b ⟨256 * t.val + l.val, hl⟩ := by blk_ext [e6]
  rw [hy]
  have h5 : iblk1 V c 5 t (ix2 b l) = V c main_v0 (ix2 b ⟨256 * t.val + l.val, hl⟩) := by blk_ext [iblk1, e5]
  exact congrArg₂ (fun u v : EReal => u + v) h5 (sum1 V c t b l hl)

/-! ### Call 2 -/

/-- The normalised, scaled and permuted activations. -/
def permuted (x : S112x3840.Idx → EReal) (g : S1x3840.Idx → EReal) (y : S112x3840.Idx) : EReal :=
  normal (fun k => x (ix2 (y 0) k)) (fun k => g (ix2 0 k)) (column (y 1))

theorem final2 (c : Dev nD) : (dat2 V c).arrAt 2 cfg2.N = permuted (V c main_v7) (V c main_v8) := by
  have idx : ∀ t : Fin cfg2.N, win2_0.index t = ![0, 0] ∧ win2_1.index t = ![0, 0] ∧ win2_2.index t = ![0, 0] :=
    (by decide +kernel : ∀ t : Fin grid2.N, _)
  refine (dat2 V c).arrAt_eq_of_covers 2 _ (by decide +kernel) fun t hf y => ?_
  obtain ⟨b, k, rfl⟩ : ∃ (b : Fin 112) (k : Fin 3840), y = ix2 b k := ⟨y 0, y 1, by funext a; match a with | 0 => rfl | 1 => rfl⟩
  blk_simp
  rw [after2_2]
  refine (Norm.out_apply _ _ b k).trans ?_
  obtain ⟨e0, e1, e2⟩ := idx t
  have hy : (win2_2.blk t).view.emb (ix2 b k) = ix2 b k := by blk_ext [e2]
  rw [hy]
  have h0 : ∀ k : Fin 3840, iblk2 V c 0 t (ix2 b k) = V c main_v7 (ix2 b k) := fun k => by blk_ext [iblk2, e0]
  have h1 : ∀ k : Fin 3840, iblk2 V c 1 t (ix2 0 k) = V c main_v8 (ix2 0 k) := fun k => by blk_ext [iblk2, e1]
  exact congrArg₂ (fun u v => normal u v (column k)) (funext h0) (funext h1)

end Cert.OutputIdeal.Array
end
-- ==== Proof.OutputRun.lean ====
module

public import proofs.«01_k».proof.Proof.Gen.OutputIdeal.Frame

/-!
The run of the three calls after the attention, with what each result array holds at the end: `run`.
-/

@[expose] public section

set_option maxRecDepth 16384

noncomputable section

namespace Cert.OutputIdeal.Run

open Cert.OutputIdeal Cert.OutputIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing faulting, with the two result arrays at the last boundary's contents, the arguments as
    launched and every semaphore at zero. -/
theorem run : θ_run defs (onTc (τ := τ) (main (F := F))) ⟨m, fun _ => 0, ρ⟩ (fun r => (∀ c : Dev nD,
      r.2.mem ((c.tc : Thread nD τ).loc main_v7) = W6 m ρ c (Proc.devRef .tc main_v7)
      ∧ r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v7 (by decide)), h c _ (mem_uc main_v9 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩), funext fun g => hz g (.inr (no_unscoped g.2))⟩)

end Cert.OutputIdeal.Run
end
-- ==== Proof.OutputResult.lean ====
module

public import proofs.«01_k».proof.Proof.OutputArray
public import proofs.«01_k».proof.Proof.OutputRun

/-!
The two results of the calls after the attention, from the arguments: `hidden_result`, `normal_result`.
-/

@[expose] public section

set_option maxRecDepth 16384

noncomputable section

namespace Cert.OutputIdeal.Result

open Cert.OutputIdeal Cert.OutputIdeal.Gen Idealize.ShloMosaic Idealize.ShloMosaic.TcCoe Idealize.SL.Sem Cert.Weights Cert.Tiles
open Cert.OutputIdeal.Norm (normal column)
open Cert.OutputIdeal.Array

/-- The residual plus the attention's output times the output weight, at row `b` of the activations and row `n` of the
    weight; the weight's rows and the activations both in the nibbles' order. -/
def hidden (a : S112x16x256.Idx → EReal) (x : S112x1x3840.Idx → EReal) (q : S3840x16x128.Idx → BitVec 8)
    (s : S3840x16x12.Idx → BitVec 8) (d dm : S3840x16.Idx → EReal) (b : Fin 112) (n : Fin 3840) : EReal :=
  x (ix3 b 0 n) + ∑ κ : Fin 4096, shapeCast S112x4096 a shapeCasts_S112x16x256_S112x4096 (ix2 b (Permute.column κ))
    * weight (fun j => q (ix3 n ⟨κ.val / 256, by omega⟩ j)) (fun j => s (ix3 n ⟨κ.val / 256, by omega⟩ j))
        (d (ix2 n ⟨κ.val / 256, by omega⟩)) (dm (ix2 n ⟨κ.val / 256, by omega⟩)) ⟨κ.val % 256, by omega⟩

variable (m : (ℓ : Loc nD τ sig) → Buf (Elt Ideal) ℓ) (ρ : Dev nD → PrngReg)

/-! ### What each call finds -/

theorem entry_x (c : Dev nD) : V1 m ρ c main_v0 = shapeCast S112x3840 (m ((c : Thread nD τ).loc main_arg1)) shapeCasts_S112x1x3840_S112x3840 := by
  unfold_abbrev_sides
  after_results
  rfl
theorem entry_attn (c : Dev nD) : V1 m ρ c main_v1 = shapeCast S112x4096 (m ((c : Thread nD τ).loc main_arg0)) shapeCasts_S112x16x256_S112x4096 := by
  unfold_abbrev_sides
  after_results
  rfl
theorem entry_gain (c : Dev nD) : V5 m ρ c main_v8 = shapeCast S1x3840 (m ((c : Thread nD τ).loc main_arg2)) shapeCasts_S3840_S1x3840 := by
  have h : V5 m ρ c main_v8 = shapeCast S1x3840 (W4 m ρ c (Proc.devRef .tc main_arg2)) shapeCasts_S3840_S1x3840 := by
    unfold_abbrev_sides
    after_results
    rfl
  exact h.trans (congrArg (shapeCast S1x3840 · shapeCasts_S3840_S1x3840) (W4_args m ρ c main_arg2 (by decide)))

theorem cast_x (x : S112x1x3840.Idx → EReal) (b : Fin 112) (k : Fin 3840) : shapeCast S112x3840 x shapeCasts_S112x1x3840_S112x3840 (ix2 b k) = x (ix3 b 0 k) := by pointwise
theorem cast_gain (g : S3840.Idx → EReal) (k : Fin 3840) : shapeCast S1x3840 g shapeCasts_S3840_S1x3840 (ix2 0 k) = g (ix1 k) := by pointwise

theorem x_at3 (c : Dev nD) : V3 m ρ c main_v0 = shapeCast S112x3840 (m ((c : Thread nD τ).loc main_arg1)) shapeCasts_S112x1x3840_S112x3840 :=
  (W3_of m ρ c main_v0 (by decide)).trans ((W2_of m ρ c main_v0 (by decide +kernel)).trans (entry_x m ρ c))
theorem attn_at3 (c : Dev nD) : V3 m ρ c main_v2 = paired (shapeCast S112x4096 (m ((c : Thread nD τ).loc main_arg0)) shapeCasts_S112x16x256_S112x4096) :=
  (W3_of m ρ c main_v2 (by decide)).trans ((W2_arr m ρ c 1).trans ((final0 (V1 m ρ) c).trans (congrArg paired (entry_attn m ρ c))))

theorem entry1_0 (c : Dev nD) : V3 m ρ c main_v3 = transpose S16x3840x128 [1, 0, 2] (m ((c : Thread nD τ).loc main_arg3)) transposes_S3840x16x128_S16x3840x128_1_0_2 := by
  have h : V3 m ρ c main_v3 = transpose S16x3840x128 [1, 0, 2] (W2 m ρ c (Proc.devRef .tc main_arg3)) transposes_S3840x16x128_S16x3840x128_1_0_2 := by
    unfold_abbrev_sides
    after_results
  exact h.trans (congrArg (transpose S16x3840x128 [1, 0, 2] · transposes_S3840x16x128_S16x3840x128_1_0_2) (W2_args m ρ c main_arg3 (by decide)))
theorem entry1_1 (c : Dev nD) : V3 m ρ c main_v4 = transpose S12x16x3840 [2, 1, 0] (m ((c : Thread nD τ).loc main_arg4)) transposes_S3840x16x12_S12x16x3840_2_1_0 := by
  have h : V3 m ρ c main_v4 = transpose S12x16x3840 [2, 1, 0] (W2 m ρ c (Proc.devRef .tc main_arg4)) transposes_S3840x16x12_S12x16x3840_2_1_0 := by
    unfold_abbrev_sides
    after_results
  exact h.trans (congrArg (transpose S12x16x3840 [2, 1, 0] · transposes_S3840x16x12_S12x16x3840_2_1_0) (W2_args m ρ c main_arg4 (by decide)))
theorem entry1_2 (c : Dev nD) : V3 m ρ c main_v5 = transpose S16x3840 [1, 0] (m ((c : Thread nD τ).loc main_arg5)) transposes_S3840x16_S16x3840_1_0 := by
  have h : V3 m ρ c main_v5 = transpose S16x3840 [1, 0] (W2 m ρ c (Proc.devRef .tc main_arg5)) transposes_S3840x16_S16x3840_1_0 := by
    unfold_abbrev_sides
    after_results
  exact h.trans (congrArg (transpose S16x3840 [1, 0] · transposes_S3840x16_S16x3840_1_0) (W2_args m ρ c main_arg5 (by decide)))
theorem entry1_3 (c : Dev nD) : V3 m ρ c main_v6 = transpose S16x3840 [1, 0] (m ((c : Thread nD τ).loc main_arg6)) transposes_S3840x16_S16x3840_1_0 := by
  have h : V3 m ρ c main_v6 = transpose S16x3840 [1, 0] (W2 m ρ c (Proc.devRef .tc main_arg6)) transposes_S3840x16_S16x3840_1_0 := by
    unfold_abbrev_sides
    after_results
  exact h.trans (congrArg (transpose S16x3840 [1, 0] · transposes_S3840x16_S16x3840_1_0) (W2_args m ρ c main_arg6 (by decide)))

/-! ### The result arrays -/

theorem hidden_at4 (c : Dev nD) (b : Fin 112) (n : Fin 3840) : (W4 m ρ c (Proc.devRef .tc main_v7) : S112x3840.Idx → EReal) (ix2 b n)
    = hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b n := by
  refine (congrFun ((W4_arr m ρ c 6).trans (final1 (V3 m ρ) c)) (ix2 b n)).trans ?_
  refine congrArg₂ (fun u v : EReal => u + v) ((congrFun (x_at3 m ρ c) (ix2 b n)).trans (cast_x _ b n)) ?_
  show rowSum (N := 3840) (V3 m ρ c main_v2) (V3 m ρ c main_v3) (V3 m ρ c main_v4) (V3 m ρ c main_v5) (V3 m ρ c main_v6) b n = _
  rw [entry1_0, entry1_1, entry1_2, entry1_3]
  refine Finset.sum_congr rfl fun κ _ => ?_
  refine congrArg₂ (fun u v : EReal => u * v) (congrFun (attn_at3 m ρ c) (ix2 b κ)) ?_
  pointwise

theorem hidden_result (c : Dev nD) (b : Fin 112) (n : Fin 3840) : (W6 m ρ c (Proc.devRef .tc main_v7) : S112x3840.Idx → EReal) (ix2 b n)
    = hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b n :=
  (congrFun ((W6_of m ρ c main_v7 (by decide +kernel)).trans (W5_of m ρ c main_v7 (by decide))) (ix2 b n)).trans (hidden_at4 m ρ c b n)

theorem normal_result (c : Dev nD) (b : Fin 112) (κ : Fin 3840) : (W6 m ρ c (Proc.devRef .tc main_v9) : S112x3840.Idx → EReal) (ix2 b κ)
    = normal (hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b) (fun k => (m ((c : Thread nD τ).loc main_arg2)) (ix1 k)) (column κ) := by
  refine (congrFun ((W6_arr m ρ c 2).trans (final2 (V5 m ρ) c)) (ix2 b κ)).trans ?_
  refine congrArg₂ (fun u v => normal u v (column κ)) (funext fun k => ?_) (funext fun k => ?_)
  · exact (congrFun (W5_of m ρ c main_v7 (by decide)) (ix2 b k)).trans (hidden_at4 m ρ c b k)
  · exact (congrFun (entry_gain m ρ c) (ix2 0 k)).trans (cast_gain _ k)

end Cert.OutputIdeal.Result
end
-- ==== Proof.OutputRef.lean ====
module

public import proofs.«01_k».proof.Proof.BeforeRef
public import proofs.«01_k».proof.Proof.OutputResult
public import proofs.«01_k».proof.Proof.Gen.OutputRefIdeal.Run

/-!
What the reference of the calls after the attention computes, read at an index: `hidden_apply`, `normal_apply`.
-/

@[expose] public section

set_option maxRecDepth 16384

noncomputable section

namespace Cert.OutputRef

open Idealize.ShloMosaic Idealize.ShloMosaic.TcCoe Idealize.ShloMosaic.StableHlo Cert.Weights Cert.RefMath Cert.OutputRefIdeal Cert.OutputRefIdeal.Gen Cert.OutputRefIdeal.Value
open Cert.OutputIdeal.Norm (normal column)
open Cert.OutputIdeal.Result (hidden)

theorem fits : Fits 3840 16 :=
  ⟨by decide, by decide, by decide, by decide, by decide, by decide, by decide, by decide, by decide, by decide, by decide, by decide, by decide⟩

/-- The residual plus the product, at row `b` of the activations and row `n` of the weight. -/
theorem sum_apply (A : S112x16x256.Idx → EReal) (X : S112x1x3840.Idx → EReal) (q : S3840x16x128.Idx → BitVec 8) (B : S3840x16x12.Idx → BitVec 8) (D M : S3840x16.Idx → EReal)
    (b : Fin 112) (n : Fin 3840) (a : S112x4096.Idx → EReal) (ha : a = shapeCast S112x4096 A shapeCasts_S112x16x256_S112x4096) :
    addf (F := Ideal) (φ := .f32) (extf (F := Ideal) (φ := .bf16) .f32 (shapeCast S112x3840 X shapeCasts_S112x1x3840_S112x3840) bitsLt_bf16_f32)
      (addf (F := Ideal) (φ := .f32)
        (Host.dotGeneral (F := Ideal) (φ₁ := .bf16) (φ₂ := .bf16) dot_S112x16x4x32_S3840x16x4x32_S112x3840_231_231_0_0_n_n none (shapeCast S112x16x4x32 (extractStridedSlice S112x16x4x1x32 ![0, 0, 0, 0, 0] (shapeCast S112x16x4x2x32 a shapeCasts_S112x4096_S112x16x4x2x32) slices_S112x16x4x2x32_S112x16x4x1x32_0_0_0_0_0) shapeCasts_S112x16x4x1x32_S112x16x4x32) (lowHalf fits q B D M))
        (Host.dotGeneral (F := Ideal) (φ₁ := .bf16) (φ₂ := .bf16) dot_S112x16x4x32_S3840x16x4x32_S112x3840_231_231_0_0_n_n none (shapeCast S112x16x4x32 (extractStridedSlice S112x16x4x1x32 ![0, 0, 0, 1, 0] (shapeCast S112x16x4x2x32 a shapeCasts_S112x4096_S112x16x4x2x32) slices_S112x16x4x2x32_S112x16x4x1x32_0_0_0_1_0) shapeCasts_S112x16x4x1x32_S112x16x4x32) (highHalf fits q B D M))) (ix2 b n)
      = hidden A X q B D M b n := by
  subst ha
  refine congrArg₂ (fun u v : EReal => u + v) (Cert.OutputIdeal.Result.cast_x X b n) ?_
  exact plain_product fits (K := 4096) rfl dot_S112x16x4x32_S3840x16x4x32_S112x3840_231_231_0_0_n_n rfl rfl rfl rfl rfl rfl
    shapeCasts_S112x4096_S112x16x4x2x32 slices_S112x16x4x2x32_S112x16x4x1x32_0_0_0_0_0 slices_S112x16x4x2x32_S112x16x4x1x32_0_0_0_1_0
    shapeCasts_S112x16x4x1x32_S112x16x4x32 _ q B D M b n

/-- A row put into the nibbles' order. -/
theorem paired_apply (P : S112x3840.Idx → EReal) (b : Fin 112) (κ : Fin 3840) :
    shapeCast S112x3840 (transpose S112x60x32x2 [0, 1, 3, 2] (shapeCast S112x60x2x32 P shapeCasts_S112x3840_S112x60x2x32) transposes_S112x60x2x32_S112x60x32x2_0_1_3_2) shapeCasts_S112x60x32x2_S112x3840 (ix2 b κ)
      = P (ix2 b (column κ)) := by
  pointwise
  refine congrArg (fun j => P (ix2 b j)) (Fin.ext ?_)
  show κ.val / 64 * 64 + κ.val % 2 * 32 + κ.val / 2 % 32 = 64 * (κ.val / 64) + 32 * (κ.val % 2) + κ.val % 64 / 2
  omega

/-- The normalisation of the rows of `R`. -/
theorem norm_apply (R : S112x3840.Idx → EReal) (g : S3840.Idx → EReal) (b : Fin 112) (k : Fin 3840) :
    truncf (F := Ideal) (φ := .f32) .bf16 (mulf (F := Ideal) (φ := .f32) (mulf (F := Ideal) (φ := .f32) R (broadcastInDim S112x3840 ![0, 1] bcast_S112x1_S112x3840_0_1
      (Host.rsqrt (F := Ideal) (φ := .f32) (addf (F := Ideal) (φ := .f32) (Host.divf (F := Ideal) (φ := .f32) (broadcastInDim S112x1 ![0] bcast_S112_S112x1_0
        (Host.reduceAdd (F := Ideal) (φ := .f32) (mulf (F := Ideal) (φ := .f32) R R) (constant (F := Ideal) S_ .f32 0x00000000#32) reducesTo_S112x3840_S112_d1 h_S_))
        (broadcastInDim S112x1 ![] bcast_S_S112x1 (constant (F := Ideal) S_ .f32 0x45700000#32)))
        (broadcastInDim S112x1 ![] bcast_S_S112x1 (constant (F := Ideal) S_ .f32 0x358637BD#32))))))
      (broadcastInDim S112x3840 ![0, 1] bcast_S1x3840_S112x3840_0_1 (broadcastInDim S1x3840 ![1] bcast_S3840_S1x3840_1 g))) bitsLt_bf16_f32 (ix2 b k)
      = normal (fun k => R (ix2 b k)) (fun k => g (ix1 k)) k := by
  pointwise
  unfold normal
  rfl

variable (m : (ℓ : Loc nD τ sig) → Buf (Elt Ideal) ℓ)

/-- The activations before the second normalisation, as the reference computes them. -/
theorem hidden_apply (c : Dev nD) (b : Fin 112) (n : Fin 3840) : (res_main_v66 (F := Ideal) m c : S112x3840.Idx → EReal) (ix2 b n)
    = hidden (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) b n := by
  unfold res_main_v66
  exact sum_apply (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) b n _ rfl

/-- The normalised activations, as the reference computes them. -/
theorem normal_apply (c : Dev nD) (b : Fin 112) (κ : Fin 3840) : (res_main_v83 (F := Ideal) m c : S112x3840.Idx → EReal) (ix2 b κ)
    = normal (hidden (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) b) (fun k => (m ((c.tc : Thread nD τ).loc main_arg2)) (ix1 k)) (column κ) := by
  unfold res_main_v83
  refine (paired_apply _ b κ).trans ((norm_apply (res_main_v66 (F := Ideal) m c) (m ((c.tc : Thread nD τ).loc main_arg2)) b (column κ)).trans ?_)
  exact congrArg (fun u => normal u _ (column κ)) (funext fun k => hidden_apply m c b k)

end Cert.OutputRef
end
-- ==== Proof.OutputClaim.lean ====
module

public import proofs.«01_k».proof.Defs
public import proofs.«01_k».proof.Proof.Gen.Output.Frame
public import proofs.«01_k».proof.Proof.OutputResult
public import proofs.«01_k».proof.Proof.OutputRef
public import Idealize.ShloMosaic.Lib.Bf16PairInverse

/-!
The claims of the calls after the attention: their frames, the rewrites they were idealized by, and that they compute the reference.
-/

@[expose] public section

set_option maxRecDepth 16384

noncomputable section

namespace Cert.OutputProof

open Idealize.ShloMosaic Idealize.ShloMosaic.StableHlo Idealize.SL.Sem

theorem frame_p : Cert.quiescent_Output := fun m ρ _ => Cert.Output.Gen.frame m ρ
theorem frame_pi : Cert.quiescent_OutputIdeal := fun m ρ _ => Cert.OutputIdeal.Gen.frame m ρ
theorem frame_ri : Cert.quiescent_OutputRefIdeal := fun m ρ _ =>
  (θ_run Cert.OutputRefIdeal.defs _ _).mono (fun r h => ⟨fun c => (h c).2.2, sem_eq_zero_of_no_sems (by decide) r.2⟩)
    (Cert.OutputRefIdeal.Value.run (F := Ideal) m ρ)

theorem preserves : Cert.preserves_Output_OutputIdeal :=
  open Cert.OutputIdeal IdealRules.bf16_pair in
  ⟨bufferStatement S4x16x2x256 S4x16x1x256, packStatement S16x256, statement S1x16x2x256 S1x16x1x256, packStatement S128x256,
    statement S256x256 S128x256, statement S1x1x2x256 S1x1x1x256, statement S64x256 S32x256⟩

/-- The two memories agree on the arguments. -/
def Agree (m : (ℓ : Loc Cert.OutputIdeal.nD Cert.OutputIdeal.τ Cert.OutputIdeal.sig) → Buf (Elt Ideal) ℓ)
    (m' : (ℓ : Loc Cert.OutputRefIdeal.nD Cert.OutputRefIdeal.τ Cert.OutputRefIdeal.sig) → Buf (Elt Ideal) ℓ) (c : Dev Cert.OutputIdeal.nD) : Prop :=
  m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)
      ∧ m' ((c.tc : Thread Cert.OutputRefIdeal.nD Cert.OutputRefIdeal.τ).loc Cert.OutputRefIdeal.main_arg5) = m ((c.tc : Thread Cert.OutputIdeal.nD Cert.OutputIdeal.τ).loc Cert.OutputIdeal.main_arg5)
      ∧ m' ((c.tc : Thread Cert.OutputRefIdeal.nD Cert.OutputRefIdeal.τ).loc Cert.OutputRefIdeal.main_arg6) = m ((c.tc : Thread Cert.OutputIdeal.nD Cert.OutputIdeal.τ).loc Cert.OutputIdeal.main_arg6)

/-- The reference's activations before the second normalisation are the kernel's, of equal arguments. -/
theorem hiddens (m : (ℓ : Loc Cert.OutputIdeal.nD Cert.OutputIdeal.τ Cert.OutputIdeal.sig) → Buf (Elt Ideal) ℓ) (ρ : Dev Cert.OutputIdeal.nD → PrngReg)
    (m' : (ℓ : Loc Cert.OutputRefIdeal.nD Cert.OutputRefIdeal.τ Cert.OutputRefIdeal.sig) → Buf (Elt Ideal) ℓ) (c : Dev Cert.OutputIdeal.nD) (hag : Agree m m' c) :
    (Cert.OutputRefIdeal.Value.res_main_v66 (F := Ideal) m' c : Cert.OutputIdeal.S112x3840.Idx → EReal)
      = Cert.OutputIdeal.Gen.W6 m ρ c (Proc.devRef .tc Cert.OutputIdeal.main_v7) := by
  obtain ⟨h0, h1, h2, h3, h4, h5, h6⟩ := hag
  funext y
  obtain ⟨b, n, rfl⟩ : ∃ (b : Fin 112) (n : Fin 3840), y = ix2 b n := ⟨y 0, y 1, by funext a; fin_cases a <;> rfl⟩
  refine Eq.trans (Cert.OutputRef.hidden_apply m' c b n) (Eq.trans ?_ (Cert.OutputIdeal.Result.hidden_result m ρ c b n).symm)
  simp only [h0, h1, h2, h3, h4, h5, h6]

/-- The reference's normalised activations are the kernel's, of equal arguments. -/
theorem normals (m : (ℓ : Loc Cert.OutputIdeal.nD Cert.OutputIdeal.τ Cert.OutputIdeal.sig) → Buf (Elt Ideal) ℓ) (ρ : Dev Cert.OutputIdeal.nD → PrngReg)
    (m' : (ℓ : Loc Cert.OutputRefIdeal.nD Cert.OutputRefIdeal.τ Cert.OutputRefIdeal.sig) → Buf (Elt Ideal) ℓ) (c : Dev Cert.OutputIdeal.nD) (hag : Agree m m' c) :
    (Cert.OutputRefIdeal.Value.res_main_v83 (F := Ideal) m' c : Cert.OutputIdeal.S112x3840.Idx → EReal)
      = Cert.OutputIdeal.Gen.W6 m ρ c (Proc.devRef .tc Cert.OutputIdeal.main_v9) := by
  obtain ⟨h0, h1, h2, h3, h4, h5, h6⟩ := hag
  funext y
  obtain ⟨b, n, rfl⟩ : ∃ (b : Fin 112) (n : Fin 3840), y = ix2 b n := ⟨y 0, y 1, by funext a; fin_cases a <;> rfl⟩
  refine Eq.trans (Cert.OutputRef.normal_apply m' c b n) (Eq.trans ?_ (Cert.OutputIdeal.Result.normal_result m ρ c b n).symm)
  simp only [h0, h1, h2, h3, h4, h5, h6]

theorem algebraic : Cert.algebraic_OutputIdeal_OutputRefIdeal := by
  intro m ρ m' ρ' _ hag
  refine ⟨fun c => Cert.OutputIdeal.Gen.W6 m ρ c (Proc.devRef .tc Cert.OutputIdeal.main_v7), fun c => Cert.OutputIdeal.Gen.W6 m ρ c (Proc.devRef .tc Cert.OutputIdeal.main_v9), ?_, ?_⟩
  · exact (θ_run Cert.OutputIdeal.defs _ _).mono (fun r h c => h.1 c) (Cert.OutputIdeal.Run.run m ρ)
  · exact (θ_run Cert.OutputRefIdeal.defs _ _).mono (fun r h c => ⟨(h c).1.trans (hiddens m ρ m' c (hag c)), (h c).2.1.trans (normals m ρ m' c (hag c)), (h c).2.2⟩)
      (Cert.OutputRefIdeal.Value.run (F := Ideal) m' ρ')

end Cert.OutputProof
end
-- ==== Proof.GateUpRun.lean ====
/- The gate and up kernel's body run once, on any staging memrefs: both weight tiles are written into the one scratch
   buffer, one after the other, each by a counted loop whose pieces cover it, so that what the products read is the
   pieces alone. -/
module

public import proofs.«01_k».proof.Proof.Gen.GateUpIdeal.Frame
public import proofs.«01_k».proof.Proof.Gen.GateUpIdeal.Loops
public import Idealize.ShloMosaic.Lib.Claim

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer of the result's window, through which its contents are stated. -/
abbrev VO0_9 : View sig .tc .vmem S112x256 .bf16 := (Memref.whole cc0_stg9_0 : Memref sig .tc .vmem S112x256 .bf16).view

set_option backward.proofsInPublic true in
set_option maxHeartbeats 4000000 in
/-- The pieces the body stores into the result's buffer, with the proof that the body runs, from the inputs' buffers
    at their contents and the other buffers at any contents, to those pieces written and the inputs unchanged. -/
noncomputable def kernelRun0_A (c : Dev nD) (i : grid0.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S15x256x128 .i8) (harg6 : arg6.IsWhole) (arg7 : Memref sig .tc .vmem S12x15x256 .i8) (harg7 : arg7.IsWhole) (arg8 : Memref sig .tc .vmem S15x256 .bf16) (harg8 : arg8.IsWhole) (arg9 : Memref sig .tc .vmem S15x256 .bf16) (harg9 : arg9.IsWhole) (arg10 : Memref sig .tc .vmem S112x256 .bf16) (harg10 : arg10.IsWhole) (arg11 : Memref sig .tc .vmem S3840x256 .bf16) (harg11 : arg11.IsWhole) (arg12 : Memref sig .tc .vmem S4x15x2x256 .bf16) (harg12 : arg12.IsWhole) (arg13 : Memref sig .tc .vmem S4x15x2x256 .bf16) (harg13 : arg13.IsWhole)
    (x0 : Vec F S112x3840 .bf16) (x1 : Vec F S15x256x128 .i8) (x2 : Vec F S12x15x256 .i8) (x3 : Vec F S15x256 .bf16) (x4 : Vec F S15x256 .bf16) (x5 : Vec F S15x256x128 .i8) (x6 : Vec F S12x15x256 .i8) (x7 : Vec F S15x256 .bf16) (x8 : Vec F S15x256 .bf16) :
    { L9 : List (View.Piece (Elt F) S112x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_gate_up_eq_skeleton]; unfold cc0_gate_up_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    have hrd1 : ∀ (𝒱 : Variants) (c : Dev nD) (bd : Option 𝒱.V) (i : grid0.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S15x256x128 .i8) (harg6 : arg6.IsWhole) (arg7 : Memref sig .tc .vmem S12x15x256 .i8) (harg7 : arg7.IsWhole) (arg8 : Memref sig .tc .vmem S15x256 .bf16) (harg8 : arg8.IsWhole) (arg9 : Memref sig .tc .vmem S15x256 .bf16) (harg9 : arg9.IsWhole) (arg10 : Memref sig .tc .vmem S112x256 .bf16) (harg10 : arg10.IsWhole) (arg11 : Memref sig .tc .vmem S3840x256 .bf16) (harg11 : arg11.IsWhole) (arg12 : Memref sig .tc .vmem S4x15x2x256 .bf16) (harg12 : arg12.IsWhole) (arg13 : Memref sig .tc .vmem S4x15x2x256 .bf16) (harg13 : arg13.IsWhole) (v5 : FVec F S15x256 .f32) (v86 : IVec S15x256 32) (v113 : IVec S15x256 32) (v165 : FVec F S15x256 .f32) (v166_lo : FVec F S15x256 .bf16) (X_arg2 : BufTy.Contents (Elt F) arg2.view.ty) (X_arg12 : BufTy.Contents (Elt F) arg12.view.ty) (X_arg13 : BufTy.Contents (Elt F) arg13.view.ty) (hrdF : BufTy.Contents (Elt F) arg11.view.ty) (hrdB : LoadRect S3840x256), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X_arg2 X_arg12 X_arg13 (Scf.trips k0_t1_loop.lb k0_t1_loop.ub k0_t1_loop.st))) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X_arg2 X_arg12 X_arg13 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X_arg2 X_arg12 X_arg13 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X_arg2 X_arg12 X_arg13 (Scf.trips k0_t1_loop.lb k0_t1_loop.ub k0_t1_loop.st)) S64x256.size (by sl_kernel_rfl) (hrdB.idx hrdJ))
    have hrd2 : ∀ (𝒱 : Variants) (c : Dev nD) (bd : Option 𝒱.V) (i : grid0.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S15x256x128 .i8) (harg6 : arg6.IsWhole) (arg7 : Memref sig .tc .vmem S12x15x256 .i8) (harg7 : arg7.IsWhole) (arg8 : Memref sig .tc .vmem S15x256 .bf16) (harg8 : arg8.IsWhole) (arg9 : Memref sig .tc .vmem S15x256 .bf16) (harg9 : arg9.IsWhole) (arg10 : Memref sig .tc .vmem S112x256 .bf16) (harg10 : arg10.IsWhole) (arg11 : Memref sig .tc .vmem S3840x256 .bf16) (harg11 : arg11.IsWhole) (arg12 : Memref sig .tc .vmem S4x15x2x256 .bf16) (harg12 : arg12.IsWhole) (arg13 : Memref sig .tc .vmem S4x15x2x256 .bf16) (harg13 : arg13.IsWhole) (v181 : FVec F S112x256 .f32) (v187 : FVec F S15x256 .f32) (v353 : FVec F S15x256 .f32) (v354 : FVec F S15x256 .f32) (X_arg6 : BufTy.Contents (Elt F) arg6.view.ty) (X_arg12 : BufTy.Contents (Elt F) arg12.view.ty) (X_arg13 : BufTy.Contents (Elt F) arg13.view.ty) (hrdL : List (View.Piece (Elt F) S3840x256 .bf16)) (hrdF : BufTy.Contents (Elt F) arg11.view.ty) (hrdB : LoadRect S3840x256), arg11.view.readAt (Elt F) hrdB (arg11.view.writes (Elt F) hrdF (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X_arg6 X_arg12 X_arg13 (Scf.trips k0_t2_loop.lb k0_t2_loop.ub k0_t2_loop.st) ++ hrdL)) = arg11.view.readCov (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X_arg6 X_arg12 X_arg13 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X_arg6 X_arg12 X_arg13 hrdL hrdF hrdB => (congrArg _ (View.writes_append _ _ _ _)).trans (View.readAt_writes_of_cover _ _ _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X_arg6 X_arg12 X_arg13 (Scf.trips k0_t2_loop.lb k0_t2_loop.ub k0_t2_loop.st)) S64x256.size (by sl_kernel_rfl) (hrdB.idx hrdJ)))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.GateUpIdeal.Gen

end
-- ==== Proof.GateUpLaunch.lean ====
/- The gate and up kernel's launch: what the body leaves in the result's buffer at each point, the pipeline's proof data,
   the run, and the frame. -/
module

public import proofs.«01_k».proof.Proof.GateUpRun

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's current staging memref at point `t`, spelled as the pipeline passes it (`bodyAt0`), and its wholeness. -/
abbrev ms0_0 (t : Fin cfg0.N) : Memref sig .tc .vmem S112x3840 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S15x256x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x15x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S15x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S15x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S15x256x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x15x256 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S15x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S15x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S112x256 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S3840x256 .bf16 := Memref.whole cc0_scratch0
abbrev scM0_1 : Memref sig .tc .vmem S4x15x2x256 .bf16 := Memref.whole cc0_scratch1
abbrev scM0_2 : Memref sig .tc .vmem S4x15x2x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The one store of the result covers its buffer. -/
theorem cover0_A_9 (c : Dev nD) (i : grid0.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S15x256x128 .i8) (harg6 : arg6.IsWhole) (arg7 : Memref sig .tc .vmem S12x15x256 .i8) (harg7 : arg7.IsWhole) (arg8 : Memref sig .tc .vmem S15x256 .bf16) (harg8 : arg8.IsWhole) (arg9 : Memref sig .tc .vmem S15x256 .bf16) (harg9 : arg9.IsWhole) (arg10 : Memref sig .tc .vmem S112x256 .bf16) (harg10 : arg10.IsWhole) (arg11 : Memref sig .tc .vmem S3840x256 .bf16) (harg11 : arg11.IsWhole) (arg12 : Memref sig .tc .vmem S4x15x2x256 .bf16) (harg12 : arg12.IsWhole) (arg13 : Memref sig .tc .vmem S4x15x2x256 .bf16) (harg13 : arg13.IsWhole)
    (x0 : Vec F S112x3840 .bf16) (x1 : Vec F S15x256x128 .i8) (x2 : Vec F S12x15x256 .i8) (x3 : Vec F S15x256 .bf16) (x4 : Vec F S15x256 .bf16) (x5 : Vec F S15x256x128 .i8) (x6 : Vec F S12x15x256 .i8) (x7 : Vec F S15x256 .bf16) (x8 : Vec F S15x256 .bf16) (y : S112x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 S112x256.size (by sl_kernel_rfl) y

/-- What the run leaves in the result's staging buffer: its pieces read back. -/
def out0_A_9 (c : Dev nD) (i : grid0.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S15x256x128 .i8) (harg6 : arg6.IsWhole) (arg7 : Memref sig .tc .vmem S12x15x256 .i8) (harg7 : arg7.IsWhole) (arg8 : Memref sig .tc .vmem S15x256 .bf16) (harg8 : arg8.IsWhole) (arg9 : Memref sig .tc .vmem S15x256 .bf16) (harg9 : arg9.IsWhole) (arg10 : Memref sig .tc .vmem S112x256 .bf16) (harg10 : arg10.IsWhole) (arg11 : Memref sig .tc .vmem S3840x256 .bf16) (harg11 : arg11.IsWhole) (arg12 : Memref sig .tc .vmem S4x15x2x256 .bf16) (harg12 : arg12.IsWhole) (arg13 : Memref sig .tc .vmem S4x15x2x256 .bf16) (harg13 : arg13.IsWhole)
    (x0 : Vec F S112x3840 .bf16) (x1 : Vec F S15x256x128 .i8) (x2 : Vec F S12x15x256 .i8) (x3 : Vec F S15x256 .bf16) (x4 : Vec F S15x256 .bf16) (x5 : Vec F S15x256x128 .i8) (x6 : Vec F S12x15x256 .i8) (x7 : Vec F S15x256 .bf16) (x8 : Vec F S15x256 .bf16) : Vec F S112x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1)

/-- What the result's staging buffer holds after the body at point `t`. -/
def outsAt0 (c : Dev nD) (t : Fin cfg0.N) : Vec F S112x256 .bf16 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t)

/-- The proof data of the one pipeline: the arrays as the region finds them; after the body each input at its block and
    the result at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt0 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outsAt0 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  unfold out0_A_9
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, ⟨%e9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, the counters left out. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.GateUpIdeal.Gen

end
-- ==== Proof.GateUpBody.lean ====
module

public import proofs.«01_k».proof.Proof.GateUpLaunch
public import proofs.«01_k».proof.Proof.Scales

/-!
What the body of the gate and up projections computes for one block of 256 columns: what each of the two loops leaves
in the weight tile, and the block stored, the product of the activated gate with the up projection, its columns
permuted into the nibbles' order.
-/

@[expose] public section

set_option maxRecDepth 16384

noncomputable section

namespace Cert.GateUpIdeal.Body

open Cert.GateUpIdeal Cert.GateUpIdeal.Gen Idealize.ShloMosaic Idealize.ShloMosaic.TcCoe Idealize.SL.Sem Cert.Weights Cert.Tiles

/-- Pieces that fill the whole array, written over other pieces and read through their view. -/
theorem fills_read_over {sig : RefSig} {κ : Kind} {sp : Space} {S : Shape} {e : EltTy} {G : S.Idx → Elt Ideal e} {L : List (View.Piece (Elt Ideal) S e)}
    (h : Fills G (fun _ => True) L) (v : View sig κ sp S e) (f : v.ty.Contents (Elt Ideal)) (L' : List (View.Piece (Elt Ideal) S e)) :
    v.read (Elt Ideal) (v.writes (Elt Ideal) f (L ++ L')) = G := by
  rw [View.writes_append]
  exact h.read v _

section
variable (𝒱 : Variants) (c : Dev nD) (bd : Option 𝒱.V) (i : grid0.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S15x256x128 .i8) (harg6 : arg6.IsWhole) (arg7 : Memref sig .tc .vmem S12x15x256 .i8) (harg7 : arg7.IsWhole) (arg8 : Memref sig .tc .vmem S15x256 .bf16) (harg8 : arg8.IsWhole) (arg9 : Memref sig .tc .vmem S15x256 .bf16) (harg9 : arg9.IsWhole) (arg10 : Memref sig .tc .vmem S112x256 .bf16) (harg10 : arg10.IsWhole) (arg11 : Memref sig .tc .vmem S3840x256 .bf16) (harg11 : arg11.IsWhole) (arg12 : Memref sig .tc .vmem S4x15x2x256 .bf16) (harg12 : arg12.IsWhole) (arg13 : Memref sig .tc .vmem S4x15x2x256 .bf16) (harg13 : arg13.IsWhole)
section
variable (v5 : FVec Ideal S15x256 .f32) (v86 : IVec S15x256 32) (v113 : IVec S15x256 32) (v165 : FVec Ideal S15x256 .f32) (v166_lo : FVec Ideal S15x256 .bf16)
  (X2 : BufTy.Contents (Elt Ideal) arg2.view.ty) (X9 : BufTy.Contents (Elt Ideal) arg12.view.ty) (X10 : BufTy.Contents (Elt Ideal) arg13.view.ty)
/-- One trip of the gate projection's loop stores the rows of its super-block. -/
theorem trip_fills1 (k : Fin k0_t1_loop.trips) (hk : k.val < 15) :
    Fills (e := .bf16) (rowFrom (s := 15) (K := 3840) rfl (arg2.view.read (Elt Ideal) X2) (arg12.view.read (Elt Ideal) X9) (arg13.view.read (Elt Ideal) X10))
      (fun y => (y 0).val / 256 = k.val)
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X2 X9 X10 k) := by
  unfold tripL_k0_t1 trip_k0_t1
  refine Tiles.trip _ k.val (by omega) (fun g => k0_off6 k (BitVec.ofNat 32 (64 * g.val))) (fun g => k0_off6_eq k g) (fun g => k0_off6_inb k g)
    ![_, _, _, _] fun g x l => ?_
  fin_cases g
  · exact part_rows rfl _ _ _ k.val hk 0 _ _ (k0_off1_eq k) _ (k0_off2_eq k) _ _ x l
  · exact part_rows rfl _ _ _ k.val hk 1 _ _ (k0_off1_eq k) _ (k0_off3_eq k) _ _ x l
  · exact part_rows rfl _ _ _ k.val hk 2 _ _ (k0_off1_eq k) _ (k0_off4_eq k) _ _ x l
  · exact part_rows rfl _ _ _ k.val hk 3 _ _ (k0_off1_eq k) _ (k0_off5_eq k) _ _ x l

/-- What the loop leaves in the whole tile. -/
theorem tile_fills1 :
    Fills (e := .bf16) (rowFrom (s := 15) (K := 3840) rfl (arg2.view.read (Elt Ideal) X2) (arg12.view.read (Elt Ideal) X9) (arg13.view.read (Elt Ideal) X10))
      (fun _ => True)
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X2 X9 X10 15) := by
  have hN : k0_t1_loop.trips = 15 := by decide
  have h := Tiles.loop (K := 3840) (rowFrom (s := 15) (K := 3840) rfl (arg2.view.read (Elt Ideal) X2) (arg12.view.read (Elt Ideal) X9) (arg13.view.read (Elt Ideal) X10))
    (fun k => if hk : k < k0_t1_loop.trips then tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X2 X9 X10 ⟨k, hk⟩ else [])
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X2 X9 X10)
    15 rfl (fun k hk => by
      have hk' : k < k0_t1_loop.trips := hN ▸ hk
      rw [dif_pos hk']
      exact pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X2 X9 X10 ⟨k, hk'⟩)
    (fun k hk => by
      have hk' : k < k0_t1_loop.trips := hN ▸ hk
      rw [dif_pos hk']
      exact trip_fills1 𝒱 c bd i arg1 harg1 arg2 harg2 arg3 harg3 arg4 harg4 arg5 harg5 arg6 harg6 arg7 harg7 arg8 harg8 arg9 harg9 arg10 harg10 arg11 harg11 arg12 harg12 arg13 harg13 v5 v86 v113 v165 v166_lo X2 X9 X10 ⟨k, hk'⟩ hk)
    15 le_rfl
  exact ⟨h.1, fun y _ => h.2 y (by have : (y 0).val < 3840 := (y 0).isLt; omega)⟩

end
section
variable (v181 : FVec Ideal S112x256 .f32) (v187 : FVec Ideal S15x256 .f32) (v353 : FVec Ideal S15x256 .f32) (v354 : FVec Ideal S15x256 .f32)
  (X2 : BufTy.Contents (Elt Ideal) arg6.view.ty) (X9 : BufTy.Contents (Elt Ideal) arg12.view.ty) (X10 : BufTy.Contents (Elt Ideal) arg13.view.ty)
/-- One trip of the up projection's loop stores the rows of its super-block. -/
theorem trip_fills2 (k : Fin k0_t2_loop.trips) (hk : k.val < 15) :
    Fills (e := .bf16) (rowFrom (s := 15) (K := 3840) rfl (arg6.view.read (Elt Ideal) X2) (arg12.view.read (Elt Ideal) X9) (arg13.view.read (Elt Ideal) X10))
      (fun y => (y 0).val / 256 = k.val)
      (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X2 X9 X10 k) := by
  unfold tripL_k0_t2 trip_k0_t2
  refine Tiles.trip _ k.val (by omega) (fun g => k0_off12 k (BitVec.ofNat 32 (64 * g.val))) (fun g => k0_off12_eq k g) (fun g => k0_off12_inb k g)
    ![_, _, _, _] fun g x l => ?_
  fin_cases g
  · exact part_rows rfl _ _ _ k.val hk 0 _ _ (k0_off7_eq k) _ (k0_off8_eq k) _ _ x l
  · exact part_rows rfl _ _ _ k.val hk 1 _ _ (k0_off7_eq k) _ (k0_off9_eq k) _ _ x l
  · exact part_rows rfl _ _ _ k.val hk 2 _ _ (k0_off7_eq k) _ (k0_off10_eq k) _ _ x l
  · exact part_rows rfl _ _ _ k.val hk 3 _ _ (k0_off7_eq k) _ (k0_off11_eq k) _ _ x l

/-- What the loop leaves in the whole tile. -/
theorem tile_fills2 :
    Fills (e := .bf16) (rowFrom (s := 15) (K := 3840) rfl (arg6.view.read (Elt Ideal) X2) (arg12.view.read (Elt Ideal) X9) (arg13.view.read (Elt Ideal) X10))
      (fun _ => True)
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X2 X9 X10 15) := by
  have hN : k0_t2_loop.trips = 15 := by decide
  have h := Tiles.loop (K := 3840) (rowFrom (s := 15) (K := 3840) rfl (arg6.view.read (Elt Ideal) X2) (arg12.view.read (Elt Ideal) X9) (arg13.view.read (Elt Ideal) X10))
    (fun k => if hk : k < k0_t2_loop.trips then tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X2 X9 X10 ⟨k, hk⟩ else [])
    (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X2 X9 X10)
    15 rfl (fun k hk => by
      have hk' : k < k0_t2_loop.trips := hN ▸ hk
      rw [dif_pos hk']
      exact pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X2 X9 X10 ⟨k, hk'⟩)
    (fun k hk => by
      have hk' : k < k0_t2_loop.trips := hN ▸ hk
      rw [dif_pos hk']
      exact trip_fills2 𝒱 c bd i arg1 harg1 arg2 harg2 arg3 harg3 arg4 harg4 arg5 harg5 arg6 harg6 arg7 harg7 arg8 harg8 arg9 harg9 arg10 harg10 arg11 harg11 arg12 harg12 arg13 harg13 v181 v187 v353 v354 X2 X9 X10 ⟨k, hk'⟩ hk)
    15 le_rfl
  exact ⟨h.1, fun y _ => h.2 y (by have : (y 0).val < 3840 := (y 0).isLt; omega)⟩

end
/-- The scales the body stores for the up projection, and its offsets. -/
def upScales (x6 : Vec Ideal S12x15x256 .i8) (x7 : Vec Ideal S15x256 .bf16) : List (View.Piece (Elt Ideal) S4x15x2x256 .bf16) :=
  [⟨Rect.unit ![3, 0, 0, 0] S1x15x2x256.size inb_S4x15x2x256_S1x15x2x256_3_0_0_0, k0_pay121 (kernelRun0_A.sl.r_28 c arg8 harg8 x7) (kernelRun0_A.sl.r_45 c arg7 harg7 x6) (kernelRun0_A.sl.r_50 c arg7 harg7 x6)⟩,
   ⟨Rect.unit ![2, 0, 0, 0] S1x15x2x256.size inb_S4x15x2x256_S1x15x2x256_2_0_0_0, k0_pay119 (kernelRun0_A.sl.r_28 c arg8 harg8 x7) (kernelRun0_A.sl.r_33 c arg7 harg7 x6) (kernelRun0_A.sl.r_40 c arg7 harg7 x6)⟩,
   ⟨Rect.unit ![1, 0, 0, 0] S1x15x2x256.size inb_S4x15x2x256_S1x15x2x256_1_0_0_0, k0_pay115 (kernelRun0_A.sl.r_28 c arg8 harg8 x7) (kernelRun0_A.sl.r_43 c arg7 harg7 x6) (kernelRun0_A.sl.r_48 c arg7 harg7 x6)⟩,
   ⟨Rect.unit ![0, 0, 0, 0] S1x15x2x256.size inb_S4x15x2x256_S1x15x2x256_0_0_0_0, k0_pay113 (kernelRun0_A.sl.r_52 c arg7 harg7 arg8 harg8 x6 x7) (kernelRun0_A.sl.r_53 c arg7 harg7 arg8 harg8 x6 x7)⟩]
def upOffsets (x6 : Vec Ideal S12x15x256 .i8) (x8 : Vec Ideal S15x256 .bf16) : List (View.Piece (Elt Ideal) S4x15x2x256 .bf16) :=
  [⟨Rect.unit ![3, 0, 0, 0] S1x15x2x256.size inb_S4x15x2x256_S1x15x2x256_3_0_0_0, k0_pay124 (kernelRun0_A.sl.r_29 c arg9 harg9 x8) (kernelRun0_A.sl.r_56 c arg7 harg7 arg9 harg9 x6 x8) (kernelRun0_A.sl.r_57 c arg7 harg7 x6)⟩,
   ⟨Rect.unit ![2, 0, 0, 0] S1x15x2x256.size inb_S4x15x2x256_S1x15x2x256_2_0_0_0, k0_pay120 (kernelRun0_A.sl.r_29 c arg9 harg9 x8) (kernelRun0_A.sl.r_34 c arg7 harg7 x6) (kernelRun0_A.sl.r_41 c arg7 harg7 x6)⟩,
   ⟨Rect.unit ![1, 0, 0, 0] S1x15x2x256.size inb_S4x15x2x256_S1x15x2x256_1_0_0_0, k0_pay118 (kernelRun0_A.sl.r_54 c arg7 harg7 arg9 harg9 x6 x8) (kernelRun0_A.sl.r_55 c arg7 harg7 arg9 harg9 x6 x8)⟩,
   ⟨Rect.unit ![0, 0, 0, 0] S1x15x2x256.size inb_S4x15x2x256_S1x15x2x256_0_0_0_0, k0_pay114 (kernelRun0_A.sl.r_29 c arg9 harg9 x8) (kernelRun0_A.sl.r_32 c arg7 harg7 x6) (kernelRun0_A.sl.r_39 c arg7 harg7 x6)⟩]

/-- The scales of the gate projection. -/
theorem scale_fills1 (x2 : Vec Ideal S12x15x256 .i8) (x3 : Vec Ideal S15x256 .bf16) :
    Fills (e := .bf16) (scaleAt (s := 15) x2 x3) (fun _ => True) (kernelRun0_A.sl.HS1_4 c arg3 harg3 arg4 harg4 x2 x3) := by
  have hB : (arg3.view.read (Elt Ideal) (harg3.unread x2)) = x2 := harg3.read_unread _
  have hD : (shapeCast S15x256 (arg4.view.readAt (Elt Ideal) (Rect.unit (s := S15x256) ![0, 0] S15x256.size inb_S15x256_S15x256_0_0).toLoadRect (harg4.unread x3)) shapeCasts_S15x256_S15x256) = x3 := by
    rw [View.readAt_eq_ld]; rw [View.ld_unit_lit (S := S15x256) _ _ (by decide)]; exact (shapeCast_id (s := S15x256) _ _).trans (harg4.read_unread _)
  have h := Scales.fill_scales (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg4.view.readAt (Elt Ideal) (Rect.unit (s := S15x256) ![0, 0] S15x256.size inb_S15x256_S15x256_0_0).toLoadRect (harg4.unread x3)) shapeCasts_S15x256_S15x256) (by decide)
  have hG : scaleAt (s := 15) x2 x3 = scaleAt (s := 15) (arg3.view.read (Elt Ideal) (harg3.unread x2)) (shapeCast S15x256 (arg4.view.readAt (Elt Ideal) (Rect.unit (s := S15x256) ![0, 0] S15x256.size inb_S15x256_S15x256_0_0).toLoadRect (harg4.unread x3)) shapeCasts_S15x256_S15x256) := by rw [hB, hD]
  rw [hG]
  exact h

/-- The offsets of the gate projection. -/
theorem offset_fills1 (x2 : Vec Ideal S12x15x256 .i8) (x4 : Vec Ideal S15x256 .bf16) :
    Fills (e := .bf16) (offsetAt (s := 15) x2 x4) (fun _ => True) (kernelRun0_A.sl.HS2_4 c arg3 harg3 arg5 harg5 x2 x4) := by
  have hB : (arg3.view.read (Elt Ideal) (harg3.unread x2)) = x2 := harg3.read_unread _
  have hD : (shapeCast S15x256 (arg5.view.readAt (Elt Ideal) (Rect.unit (s := S15x256) ![0, 0] S15x256.size inb_S15x256_S15x256_0_0).toLoadRect (harg5.unread x4)) shapeCasts_S15x256_S15x256) = x4 := by
    rw [View.readAt_eq_ld]; rw [View.ld_unit_lit (S := S15x256) _ _ (by decide)]; exact (shapeCast_id (s := S15x256) _ _).trans (harg5.read_unread _)
  have h := Scales.fill_offsets (s := 15) shapeCasts_S1x15x256_S15x256 shapeCasts_S15x256_S1x15x256 shapeCasts_S1x15x256_S1x15x1x256 bitcasts_S1x15x2x256_w16_S1x15x1x256_w32
    (arg3.view.read (Elt Ideal) (harg3.unread x2)) (by decide) (shapeCast S15x256 (arg5.view.readAt (Elt Ideal) (Rect.unit (s := S15x256) ![0, 0] S15x256.size inb_S15x256_S15x256_0_0).toLoadRect (harg5.unread x4)) shapeCasts_S15x256_S15x256) (by decide)
  have hG : offsetAt (s := 15) x2 x4 = offsetAt (s := 15) (arg3.view.read (Elt Ideal) (harg3.unread x2)) (shapeCast S15x256 (arg5.view.readAt (Elt Ideal) (Rect.unit (s := S15x256) ![0, 0] S15x256.size inb_S15x256_S15x256_0_0).toLoadRect (harg5.unread x4)) shapeCasts_S15x256_S15x256) := by rw [hB, hD]
  rw [hG]
  exact h

/-- The scales of the up projection. -/
theorem scale_fills2 (x6 : Vec Ideal S12x15x256 .i8) (x7 : Vec Ideal S15x256 .bf16) :
    Fills (e := .bf16) (scaleAt (s := 15) x6 x7) (fun _ => True) (upScales c arg7 harg7 arg8 harg8 x6 x7) := by
  have hB : (arg7.view.read (Elt Ideal) (harg7.unread x6)) = x6 := harg7.read_unread _
  have hD : (shapeCast S15x256 (arg8.view.readAt (Elt Ideal) (Rect.unit (s := S15x256) ![0, 0] S15x256.size inb_S15x256_S15x256_0_0).toLoadRect (harg8.unread x7)) shapeCasts_S15x256_S15x256) = x7 := by
    rw [View.readAt_eq_ld]; rw [View.ld_unit_lit (S := S15x256) _ _ (by decide)]; exact (shapeCast_id (s := S15x256) _ _).trans (harg8.read_unread _)
  have h := Scales.fill_scales (s := 15) shapeCasts_S1x15x256_S15x256 shapeCasts_S15x256_S1x15x256 shapeCasts_S1x15x256_S1x15x1x256 bitcasts_S1x15x2x256_w16_S1x15x1x256_w32
    (arg7.view.read (Elt Ideal) (harg7.unread x6)) (by decide) (shapeCast S15x256 (arg8.view.readAt (Elt Ideal) (Rect.unit (s := S15x256) ![0, 0] S15x256.size inb_S15x256_S15x256_0_0).toLoadRect (harg8.unread x7)) shapeCasts_S15x256_S15x256) (by decide)
  have hG : scaleAt (s := 15) x6 x7 = scaleAt (s := 15) (arg7.view.read (Elt Ideal) (harg7.unread x6)) (shapeCast S15x256 (arg8.view.readAt (Elt Ideal) (Rect.unit (s := S15x256) ![0, 0] S15x256.size inb_S15x256_S15x256_0_0).toLoadRect (harg8.unread x7)) shapeCasts_S15x256_S15x256) := by rw [hB, hD]
  rw [hG]
  exact h

/-- The offsets of the up projection. -/
theorem offset_fills2 (x6 : Vec Ideal S12x15x256 .i8) (x8 : Vec Ideal S15x256 .bf16) :
    Fills (e := .bf16) (offsetAt (s := 15) x6 x8) (fun _ => True) (upOffsets c arg7 harg7 arg9 harg9 x6 x8) := by
  have hB : (arg7.view.read (Elt Ideal) (harg7.unread x6)) = x6 := harg7.read_unread _
  have hD : (shapeCast S15x256 (arg9.view.readAt (Elt Ideal) (Rect.unit (s := S15x256) ![0, 0] S15x256.size inb_S15x256_S15x256_0_0).toLoadRect (harg9.unread x8)) shapeCasts_S15x256_S15x256) = x8 := by
    rw [View.readAt_eq_ld]; rw [View.ld_unit_lit (S := S15x256) _ _ (by decide)]; exact (shapeCast_id (s := S15x256) _ _).trans (harg9.read_unread _)
  have h := Scales.fill_offsets (s := 15) shapeCasts_S1x15x256_S15x256 shapeCasts_S15x256_S1x15x256 shapeCasts_S1x15x256_S1x15x1x256 bitcasts_S1x15x2x256_w16_S1x15x1x256_w32
    (arg7.view.read (Elt Ideal) (harg7.unread x6)) (by decide) (shapeCast S15x256 (arg9.view.readAt (Elt Ideal) (Rect.unit (s := S15x256) ![0, 0] S15x256.size inb_S15x256_S15x256_0_0).toLoadRect (harg9.unread x8)) shapeCasts_S15x256_S15x256) (by decide)
  have hG : offsetAt (s := 15) x6 x8 = offsetAt (s := 15) (arg7.view.read (Elt Ideal) (harg7.unread x6)) (shapeCast S15x256 (arg9.view.readAt (Elt Ideal) (Rect.unit (s := S15x256) ![0, 0] S15x256.size inb_S15x256_S15x256_0_0).toLoadRect (harg9.unread x8)) shapeCasts_S15x256_S15x256) := by rw [hB, hD]
  rw [hG]
  exact h

/-- One column block's product: the activations times the block of a quantised weight. -/
def product (x0 : Vec Ideal S112x3840 .bf16) (q : Vec Ideal S15x256x128 .i8) (bs : Vec Ideal S12x15x256 .i8) (d dm : Vec Ideal S15x256 .bf16)
    (b : Fin 112) (l : Fin 256) : EReal :=
  ∑ κ : Fin 3840, x0 (ix2 b κ) * tileW (s := 15) q bs d dm ⟨κ.val / 256, by omega⟩ ⟨κ.val % 256, by omega⟩ l

/-- The gate projection as the body holds it. -/
theorem gate_apply (x0 : Vec Ideal S112x3840 .bf16) (x1 : Vec Ideal S15x256x128 .i8) (x2 : Vec Ideal S12x15x256 .i8) (x3 x4 : Vec Ideal S15x256 .bf16) (b : Fin 112) (l : Fin 256) :
    kernelRun0_A.sl.r_27 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 (ix2 b l) = product x0 x1 x2 x3 x4 b l := by
  unfold kernelRun0_A.sl.r_27
  rw [show Scf.trips k0_t1_loop.lb k0_t1_loop.ub k0_t1_loop.st = 15 from by decide,
    (tile_fills1 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ _).readCov,
    (scale_fills1 c arg3 harg3 arg4 harg4 x2 x3).read, (offset_fills1 c arg3 harg3 arg5 harg5 x2 x4).read, harg2.read_unread]
  simp only [View.readAt_eq_ld]
  rw [View.ld_unit_lit (S := S112x3840) _ _ (by decide), View.ld_unit_lit (S := S3840x256) _ _ (by decide), harg1.read_unread]
  pointwise [k0_pay78]
  exact Finset.sum_congr rfl fun κ _ => congrArg (x0 (ix2 b κ) * ·) (rowFrom_scales (s := 15) rfl x1 x2 x3 x4 κ l)

/-- The activated gate times the up projection, as the body holds it. -/
theorem act_apply (x0 : Vec Ideal S112x3840 .bf16) (x1 : Vec Ideal S15x256x128 .i8) (x2 : Vec Ideal S12x15x256 .i8) (x3 x4 : Vec Ideal S15x256 .bf16) (x5 : Vec Ideal S15x256x128 .i8) (x6 : Vec Ideal S12x15x256 .i8) (x7 x8 : Vec Ideal S15x256 .bf16) (b : Fin 112) (l : Fin 256) :
    kernelRun0_A.sl.r_58 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 b l)
      = product x0 x1 x2 x3 x4 b l * Ideal.logistic (product x0 x1 x2 x3 x4 b l) * product x0 x5 x6 x7 x8 b l := by
  have hS : arg12.view.read (Elt Ideal) (arg12.view.writes (Elt Ideal) arg12.view.junk (
      ⟨Rect.unit ![3, 0, 0, 0] S1x15x2x256.size inb_S4x15x2x256_S1x15x2x256_3_0_0_0, k0_pay121 (kernelRun0_A.sl.r_28 c arg8 harg8 x7) (kernelRun0_A.sl.r_45 c arg7 harg7 x6) (kernelRun0_A.sl.r_50 c arg7 harg7 x6)⟩ ::
      ⟨Rect.unit ![2, 0, 0, 0] S1x15x2x256.size inb_S4x15x2x256_S1x15x2x256_2_0_0_0, k0_pay119 (kernelRun0_A.sl.r_28 c arg8 harg8 x7) (kernelRun0_A.sl.r_33 c arg7 harg7 x6) (kernelRun0_A.sl.r_40 c arg7 harg7 x6)⟩ ::
      ⟨Rect.unit ![1, 0, 0, 0] S1x15x2x256.size inb_S4x15x2x256_S1x15x2x256_1_0_0_0, k0_pay115 (kernelRun0_A.sl.r_28 c arg8 harg8 x7) (kernelRun0_A.sl.r_43 c arg7 harg7 x6) (kernelRun0_A.sl.r_48 c arg7 harg7 x6)⟩ ::
      ⟨Rect.unit ![0, 0, 0, 0] S1x15x2x256.size inb_S4x15x2x256_S1x15x2x256_0_0_0_0, k0_pay113 (kernelRun0_A.sl.r_52 c arg7 harg7 arg8 harg8 x6 x7) (kernelRun0_A.sl.r_53 c arg7 harg7 arg8 harg8 x6 x7)⟩ :: kernelRun0_A.sl.HS1_4 c arg3 harg3 arg4 harg4 x2 x3)) = scaleAt (s := 15) x6 x7 :=
    fills_read_over (scale_fills2 c arg7 harg7 arg8 harg8 x6 x7) arg12.view _ _
  have hO : arg13.view.read (Elt Ideal) (arg13.view.writes (Elt Ideal) arg13.view.junk (
      ⟨Rect.unit ![3, 0, 0, 0] S1x15x2x256.size inb_S4x15x2x256_S1x15x2x256_3_0_0_0, k0_pay124 (kernelRun0_A.sl.r_29 c arg9 harg9 x8) (kernelRun0_A.sl.r_56 c arg7 harg7 arg9 harg9 x6 x8) (kernelRun0_A.sl.r_57 c arg7 harg7 x6)⟩ ::
      ⟨Rect.unit ![2, 0, 0, 0] S1x15x2x256.size inb_S4x15x2x256_S1x15x2x256_2_0_0_0, k0_pay120 (kernelRun0_A.sl.r_29 c arg9 harg9 x8) (kernelRun0_A.sl.r_34 c arg7 harg7 x6) (kernelRun0_A.sl.r_41 c arg7 harg7 x6)⟩ ::
      ⟨Rect.unit ![1, 0, 0, 0] S1x15x2x256.size inb_S4x15x2x256_S1x15x2x256_1_0_0_0, k0_pay118 (kernelRun0_A.sl.r_54 c arg7 harg7 arg9 harg9 x6 x8) (kernelRun0_A.sl.r_55 c arg7 harg7 arg9 harg9 x6 x8)⟩ ::
      ⟨Rect.unit ![0, 0, 0, 0] S1x15x2x256.size inb_S4x15x2x256_S1x15x2x256_0_0_0_0, k0_pay114 (kernelRun0_A.sl.r_29 c arg9 harg9 x8) (kernelRun0_A.sl.r_32 c arg7 harg7 x6) (kernelRun0_A.sl.r_39 c arg7 harg7 x6)⟩ :: kernelRun0_A.sl.HS2_4 c arg3 harg3 arg5 harg5 x2 x4)) = offsetAt (s := 15) x6 x8 :=
    fills_read_over (offset_fills2 c arg7 harg7 arg9 harg9 x6 x8) arg13.view _ _
  unfold kernelRun0_A.sl.r_58
  rw [show Scf.trips k0_t2_loop.lb k0_t2_loop.ub k0_t2_loop.st = 15 from by decide,
    (tile_fills2 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _).readCov,
    hS, hO, harg6.read_unread]
  simp only [View.readAt_eq_ld]
  rw [View.ld_unit_lit (S := S112x3840) _ _ (by decide), View.ld_unit_lit (S := S3840x256) _ _ (by decide), harg1.read_unread]
  pointwise [k0_pay129]
  rw [gate_apply]
  exact congrArg (_ * ·) (Finset.sum_congr rfl fun κ _ => congrArg (x0 (ix2 b κ) * ·) (rowFrom_scales (s := 15) rfl x5 x6 x7 x8 κ l))

/-- The column of a tile of 128 whose value the permutation brings to column `j`. -/
def perm (j : Fin 128) : Fin 128 := ⟨64 * (j.val / 64) + 32 * (j.val % 2) + j.val % 64 / 2, by omega⟩

/-- The lane index each element is gathered from, before its two casts. -/
def lanes : IVec S112x128 32 :=
  select (cmpi CmpIPredicate.slt k0_pay130 (broadcast S112x128 0#32)) (addi k0_pay130 (broadcast S112x128 128#32)) k0_pay130

theorem lanes_eq (h) (h') : shapeCast S112x128 (shapeCast S112x128x1 lanes h) h' = lanes := by
  rw [shapeCast_comp]
  exact shapeCast_id (s := S112x128) _ _

theorem lanes_apply (b : Fin 112) (j : Fin 128) : (lanes (ix2 b j)).toNat % 128 = (perm j).val := by
  have h : ∀ j : Fin 128, (lanes (ix2 (0 : Fin 112) j)).toNat % 128 = (perm j).val := by decide +kernel
  exact h j

theorem gather_apply (x : FVec Ideal S112x128 .f32) (b : Fin 112) (j : Fin 128) : dynamicGather 1 x lanes (ix2 b j) = x (ix2 b (perm j)) := by
  rw [dynamicGather_apply]
  refine congrArg x (funext fun a => ?_)
  match a with
  | 0 => rfl
  | 1 => exact Fin.ext (lanes_apply b j)

/-- The column of a block whose value the permutation brings to column `l`. -/
def column (l : Fin 256) : Fin 256 :=
  ⟨64 * (l.val / 64) + 32 * (l.val % 2) + l.val % 64 / 2, by omega⟩

/-- The stored block is the block the body holds, its columns permuted within each tile of 128. -/
theorem permuted_apply (v : FVec Ideal S112x256 .f32) (b : Fin 112) (l : Fin 256) :
    k0_pay1 (F := Ideal) v k0_pay130 (extractStridedSlice S112x128 ![0, 0] v slices_S112x256_o0_0_S112x128) k0_pay132 (ix2 b l) = v (ix2 b (column l)) := by
  have h2 : k0_pay132 = lanes := lanes_eq _ _
  have h1 : k0_pay1 (F := Ideal) v k0_pay130 (extractStridedSlice S112x128 ![0, 0] v slices_S112x256_o0_0_S112x128) k0_pay132
      = concatenate S112x256 1 [⟨S112x128, dynamicGather 1 (extractStridedSlice S112x128 ![0, 0] v slices_S112x256_o0_0_S112x128) lanes⟩,
        ⟨S112x128, dynamicGather 1 (extractStridedSlice S112x128 ![0, 128] v slices_S112x256_o0_128_S112x128) lanes⟩]
        concatenates_S112x128_S112x128_S112x256_d1 := by
    rw [h2]
    exact congrArg (fun w : IVec S112x128 32 => concatenate S112x256 1 [⟨S112x128, dynamicGather 1 (extractStridedSlice S112x128 ![0, 0] v slices_S112x256_o0_0_S112x128) lanes⟩,
        ⟨S112x128, dynamicGather 1 (extractStridedSlice S112x128 ![0, 128] v slices_S112x256_o0_128_S112x128) w⟩]
        concatenates_S112x128_S112x128_S112x256_d1) (lanes_eq shapeCasts_S112x128_S112x128x1 shapeCasts_S112x128x1_S112x128)
  rw [h1]
  by_cases hl : l.val < 128
  · have e : column l = ⟨(perm ⟨l.val, hl⟩).val, by omega⟩ := Fin.ext (by simp only [column, perm])
    rw [e]
    have g := gather_apply (extractStridedSlice S112x128 ![0, 0] v slices_S112x256_o0_0_S112x128) b ⟨l.val, hl⟩
    generalize dynamicGather 1 (extractStridedSlice S112x128 ![0, 0] v slices_S112x256_o0_0_S112x128) lanes = G at g ⊢
    pointwise
    rw [dif_pos hl]
    refine g.trans ?_
    pointwise
  · have e : column l = ⟨128 + (perm ⟨l.val - 128, by omega⟩).val, by omega⟩ := Fin.ext (by simp only [column, perm]; omega)
    rw [e]
    have g := gather_apply (extractStridedSlice S112x128 ![0, 128] v slices_S112x256_o0_128_S112x128) b ⟨l.val - 128, by omega⟩
    generalize dynamicGather 1 (extractStridedSlice S112x128 ![0, 128] v slices_S112x256_o0_128_S112x128) lanes = G at g ⊢
    pointwise
    rw [dif_neg hl]
    refine g.trans ?_
    pointwise

/-- The block the body stores, read at an index. -/
theorem out_apply (x0 : Vec Ideal S112x3840 .bf16) (x1 : Vec Ideal S15x256x128 .i8) (x2 : Vec Ideal S12x15x256 .i8) (x3 x4 : Vec Ideal S15x256 .bf16) (x5 : Vec Ideal S15x256x128 .i8) (x6 : Vec Ideal S12x15x256 .i8) (x7 x8 : Vec Ideal S15x256 .bf16) (b : Fin 112) (l : Fin 256) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 b l)
      = product x0 x1 x2 x3 x4 b (column l) * Ideal.logistic (product x0 x1 x2 x3 x4 b (column l)) * product x0 x5 x6 x7 x8 b (column l) := by
  unfold out0_A_9 kernelRun0_A
  dsimp only
  refine (congrFun ((Tiles.whole (S := S112x256) (e := .bf16) _ ![0, 0] (by decide) _).read VO0_9 _) (ix2 b l)).trans ?_
  exact (permuted_apply _ b l).trans (act_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 b (column l))

end

end Cert.GateUpIdeal.Body
end
-- ==== Proof.GateUpArray.lean ====
module

public import proofs.«01_k».proof.Proof.GateUpBody
public import Idealize.ShloMosaic.Lib.Claim
public import Idealize.ShloMosaic.Lib.Pipeline.ValueKit

/-!
The array the gate and up projections leave, from their arguments: `final`; and the run that says so.
-/

@[expose] public section

set_option maxRecDepth 16384

noncomputable section

namespace Cert.GateUpIdeal.Body

open Cert.GateUpIdeal Cert.GateUpIdeal.Gen Idealize.ShloMosaic Idealize.ShloMosaic.TcCoe Idealize.SL.Sem Cert.Weights Cert.Tiles
open Idealize.ShloMosaic.Pipeline (Dat)

/-- The activations times a quantised weight, at row `b` of the activations and row `n` of the weight. -/
def projection (a : S112x3840.Idx → EReal) (q : S15360x15x128.Idx → BitVec 8) (s : S15360x15x12.Idx → BitVec 8) (d dm : S15360x15.Idx → EReal)
    (b : Fin 112) (n : Fin 15360) : EReal :=
  ∑ κ : Fin 3840, a (ix2 b κ)
    * weight (fun j => q (ix3 n ⟨κ.val / 256, by omega⟩ j)) (fun j => s (ix3 n ⟨κ.val / 256, by omega⟩ j))
        (d (ix2 n ⟨κ.val / 256, by omega⟩)) (dm (ix2 n ⟨κ.val / 256, by omega⟩)) ⟨κ.val % 256, by omega⟩

/-- The column whose value stands at column `n` once every 64 columns are put in the nibbles' order. -/
def source (n : Fin 15360) : Fin 15360 := ⟨64 * (n.val / 64) + 32 * (n.val % 2) + n.val % 64 / 2, by omega⟩

/-- The activated gate times the up projection, its columns in the nibbles' order. -/
def result (a : S112x3840.Idx → EReal) (gq : S15360x15x128.Idx → BitVec 8) (gs : S15360x15x12.Idx → BitVec 8) (gd gm : S15360x15.Idx → EReal)
    (uq : S15360x15x128.Idx → BitVec 8) (us : S15360x15x12.Idx → BitVec 8) (ud um : S15360x15.Idx → EReal) (y : S112x15360.Idx) : EReal :=
  projection a gq gs gd gm (y 0) (source (y 1)) * Ideal.logistic (projection a gq gs gd gm (y 0) (source (y 1)))
    * projection a uq us ud um (y 0) (source (y 1))

variable (m : (ℓ : Loc nD τ sig) → Buf (Elt Ideal) ℓ)

theorem idx_facts : ∀ t : Fin cfg0.N, win0_0.index t = ![0, 0] ∧ win0_1.index t = ![0, t.val, 0] ∧ win0_2.index t = ![0, 0, t.val]
    ∧ win0_3.index t = ![0, t.val] ∧ win0_4.index t = ![0, t.val] ∧ win0_5.index t = ![0, t.val, 0] ∧ win0_6.index t = ![0, 0, t.val]
    ∧ win0_7.index t = ![0, t.val] ∧ win0_8.index t = ![0, t.val] ∧ win0_9.index t = ![0, t.val] :=
  (by decide +kernel : ∀ t : Fin grid0.N, _)

/-! What the host's transposes hold when the kernel starts. -/

theorem V_0 (c : Dev nD) : V m c main_v0 = transpose S15x15360x128 [1, 0, 2] (m ((c : Thread nD τ).loc main_arg1)) transposes_S15360x15x128_S15x15360x128_1_0_2 := by
  unfold_abbrev_sides
  after_results
theorem V_1 (c : Dev nD) : V m c main_v1 = transpose S12x15x15360 [2, 1, 0] (m ((c : Thread nD τ).loc main_arg2)) transposes_S15360x15x12_S12x15x15360_2_1_0 := by
  unfold_abbrev_sides
  after_results
theorem V_2 (c : Dev nD) : V m c main_v2 = transpose S15x15360 [1, 0] (m ((c : Thread nD τ).loc main_arg3)) transposes_S15360x15_S15x15360_1_0 := by
  unfold_abbrev_sides
  after_results
theorem V_3 (c : Dev nD) : V m c main_v3 = transpose S15x15360 [1, 0] (m ((c : Thread nD τ).loc main_arg4)) transposes_S15360x15_S15x15360_1_0 := by
  unfold_abbrev_sides
  after_results
theorem V_4 (c : Dev nD) : V m c main_v4 = transpose S15x15360x128 [1, 0, 2] (m ((c : Thread nD τ).loc main_arg5)) transposes_S15360x15x128_S15x15360x128_1_0_2 := by
  unfold_abbrev_sides
  after_results
theorem V_5 (c : Dev nD) : V m c main_v5 = transpose S12x15x15360 [2, 1, 0] (m ((c : Thread nD τ).loc main_arg6)) transposes_S15360x15x12_S12x15x15360_2_1_0 := by
  unfold_abbrev_sides
  after_results
theorem V_6 (c : Dev nD) : V m c main_v6 = transpose S15x15360 [1, 0] (m ((c : Thread nD τ).loc main_arg7)) transposes_S15360x15_S15x15360_1_0 := by
  unfold_abbrev_sides
  after_results
theorem V_7 (c : Dev nD) : V m c main_v7 = transpose S15x15360 [1, 0] (m ((c : Thread nD τ).loc main_arg8)) transposes_S15360x15_S15x15360_1_0 := by
  unfold_abbrev_sides
  after_results

/-! Each window's block, read in the argument it comes from. -/

theorem blk1 (c : Dev nD) (t : Fin cfg0.N) (k : Fin 15) (l : Fin 256) (j : Fin 128) (h : 256 * t.val + l.val < 15360) :
    iblk m c 1 t (ix3 k l j) = m ((c : Thread nD τ).loc main_arg1) (ix3 ⟨256 * t.val + l.val, h⟩ k j) := by
  have e1 := (idx_facts t).2.1
  have e : (win0_1.blk t).view.emb (ix3 k l j) = ix3 k ⟨256 * t.val + l.val, h⟩ j := by blk_ext [e1]
  have h' : iblk m c 1 t (ix3 k l j) = V m c main_v0 (ix3 k ⟨256 * t.val + l.val, h⟩ j) := congrArg (V m c main_v0) e
  rw [h', V_0]
  pointwise

theorem blk2 (c : Dev nD) (t : Fin cfg0.N) (k : Fin 15) (l : Fin 256) (j : Fin 12) (h : 256 * t.val + l.val < 15360) :
    iblk m c 2 t (ix3 j k l) = m ((c : Thread nD τ).loc main_arg2) (ix3 ⟨256 * t.val + l.val, h⟩ k j) := by
  have e1 := (idx_facts t).2.2.1
  have e : (win0_2.blk t).view.emb (ix3 j k l) = ix3 j k ⟨256 * t.val + l.val, h⟩ := by blk_ext [e1]
  have h' : iblk m c 2 t (ix3 j k l) = V m c main_v1 (ix3 j k ⟨256 * t.val + l.val, h⟩) := congrArg (V m c main_v1) e
  rw [h', V_1]
  pointwise

theorem blk3 (c : Dev nD) (t : Fin cfg0.N) (k : Fin 15) (l : Fin 256) (h : 256 * t.val + l.val < 15360) :
    iblk m c 3 t (ix2 k l) = m ((c : Thread nD τ).loc main_arg3) (ix2 ⟨256 * t.val + l.val, h⟩ k) := by
  have e1 := (idx_facts t).2.2.2.1
  have e : (win0_3.blk t).view.emb (ix2 k l) = ix2 k ⟨256 * t.val + l.val, h⟩ := by blk_ext [e1]
  have h' : iblk m c 3 t (ix2 k l) = V m c main_v2 (ix2 k ⟨256 * t.val + l.val, h⟩) := congrArg (V m c main_v2) e
  rw [h', V_2]
  pointwise

theorem blk4 (c : Dev nD) (t : Fin cfg0.N) (k : Fin 15) (l : Fin 256) (h : 256 * t.val + l.val < 15360) :
    iblk m c 4 t (ix2 k l) = m ((c : Thread nD τ).loc main_arg4) (ix2 ⟨256 * t.val + l.val, h⟩ k) := by
  have e1 := (idx_facts t).2.2.2.2.1
  have e : (win0_4.blk t).view.emb (ix2 k l) = ix2 k ⟨256 * t.val + l.val, h⟩ := by blk_ext [e1]
  have h' : iblk m c 4 t (ix2 k l) = V m c main_v3 (ix2 k ⟨256 * t.val + l.val, h⟩) := congrArg (V m c main_v3) e
  rw [h', V_3]
  pointwise

theorem blk5 (c : Dev nD) (t : Fin cfg0.N) (k : Fin 15) (l : Fin 256) (j : Fin 128) (h : 256 * t.val + l.val < 15360) :
    iblk m c 5 t (ix3 k l j) = m ((c : Thread nD τ).loc main_arg5) (ix3 ⟨256 * t.val + l.val, h⟩ k j) := by
  have e1 := (idx_facts t).2.2.2.2.2.1
  have e : (win0_5.blk t).view.emb (ix3 k l j) = ix3 k ⟨256 * t.val + l.val, h⟩ j := by blk_ext [e1]
  have h' : iblk m c 5 t (ix3 k l j) = V m c main_v4 (ix3 k ⟨256 * t.val + l.val, h⟩ j) := congrArg (V m c main_v4) e
  rw [h', V_4]
  pointwise

theorem blk6 (c : Dev nD) (t : Fin cfg0.N) (k : Fin 15) (l : Fin 256) (j : Fin 12) (h : 256 * t.val + l.val < 15360) :
    iblk m c 6 t (ix3 j k l) = m ((c : Thread nD τ).loc main_arg6) (ix3 ⟨256 * t.val + l.val, h⟩ k j) := by
  have e1 := (idx_facts t).2.2.2.2.2.2.1
  have e : (win0_6.blk t).view.emb (ix3 j k l) = ix3 j k ⟨256 * t.val + l.val, h⟩ := by blk_ext [e1]
  have h' : iblk m c 6 t (ix3 j k l) = V m c main_v5 (ix3 j k ⟨256 * t.val + l.val, h⟩) := congrArg (V m c main_v5) e
  rw [h', V_5]
  pointwise

theorem blk7 (c : Dev nD) (t : Fin cfg0.N) (k : Fin 15) (l : Fin 256) (h : 256 * t.val + l.val < 15360) :
    iblk m c 7 t (ix2 k l) = m ((c : Thread nD τ).loc main_arg7) (ix2 ⟨256 * t.val + l.val, h⟩ k) := by
  have e1 := (idx_facts t).2.2.2.2.2.2.2.1
  have e : (win0_7.blk t).view.emb (ix2 k l) = ix2 k ⟨256 * t.val + l.val, h⟩ := by blk_ext [e1]
  have h' : iblk m c 7 t (ix2 k l) = V m c main_v6 (ix2 k ⟨256 * t.val + l.val, h⟩) := congrArg (V m c main_v6) e
  rw [h', V_6]
  pointwise

theorem blk8 (c : Dev nD) (t : Fin cfg0.N) (k : Fin 15) (l : Fin 256) (h : 256 * t.val + l.val < 15360) :
    iblk m c 8 t (ix2 k l) = m ((c : Thread nD τ).loc main_arg8) (ix2 ⟨256 * t.val + l.val, h⟩ k) := by
  have e1 := (idx_facts t).2.2.2.2.2.2.2.2.1
  have e : (win0_8.blk t).view.emb (ix2 k l) = ix2 k ⟨256 * t.val + l.val, h⟩ := by blk_ext [e1]
  have h' : iblk m c 8 t (ix2 k l) = V m c main_v7 (ix2 k ⟨256 * t.val + l.val, h⟩) := congrArg (V m c main_v7) e
  rw [h', V_7]
  pointwise

/-- The gate projection of a column block, from the arguments. -/
theorem gate_block (c : Dev nD) (t : Fin cfg0.N) (b : Fin 112) (l : Fin 256) (h : 256 * t.val + l.val < 15360) :
    product (iblk m c 0 t) (iblk m c 1 t) (iblk m c 2 t) (iblk m c 3 t) (iblk m c 4 t) b l
      = projection (m ((c : Thread nD τ).loc main_arg0)) (m ((c : Thread nD τ).loc main_arg1)) (m ((c : Thread nD τ).loc main_arg2)) (m ((c : Thread nD τ).loc main_arg3)) (m ((c : Thread nD τ).loc main_arg4)) b ⟨256 * t.val + l.val, h⟩ := by
  have e0 := (idx_facts t).1
  have h0 : ∀ κ : Fin 3840, iblk m c 0 t (ix2 b κ) = m ((c : Thread nD τ).loc main_arg0) (ix2 b κ) := fun κ => by blk_ext [iblk, V, e0]
  unfold product projection
  refine Finset.sum_congr rfl fun κ _ => ?_
  rw [h0 κ]
  unfold tileW
  simp only [blk1 m c t _ l _ h, blk2 m c t _ l _ h, blk3 m c t _ l h, blk4 m c t _ l h]

/-- The up projection of a column block, from the arguments. -/
theorem up_block (c : Dev nD) (t : Fin cfg0.N) (b : Fin 112) (l : Fin 256) (h : 256 * t.val + l.val < 15360) :
    product (iblk m c 0 t) (iblk m c 5 t) (iblk m c 6 t) (iblk m c 7 t) (iblk m c 8 t) b l
      = projection (m ((c : Thread nD τ).loc main_arg0)) (m ((c : Thread nD τ).loc main_arg5)) (m ((c : Thread nD τ).loc main_arg6)) (m ((c : Thread nD τ).loc main_arg7)) (m ((c : Thread nD τ).loc main_arg8)) b ⟨256 * t.val + l.val, h⟩ := by
  have e0 := (idx_facts t).1
  have h0 : ∀ κ : Fin 3840, iblk m c 0 t (ix2 b κ) = m ((c : Thread nD τ).loc main_arg0) (ix2 b κ) := fun κ => by blk_ext [iblk, V, e0]
  unfold product projection
  refine Finset.sum_congr rfl fun κ _ => ?_
  rw [h0 κ]
  unfold tileW
  simp only [blk5 m c t _ l _ h, blk6 m c t _ l _ h, blk7 m c t _ l h, blk8 m c t _ l h]

theorem final (c : Dev nD) : (dats (F := Ideal) m 0 c).arrAt 9 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats (F := Ideal) m 0 c).arrAt_eq_of_covers 9 _ (by decide +kernel) fun t hf y => ?_
  obtain ⟨b, l, rfl⟩ : ∃ (b : Fin 112) (l : Fin 256), y = ix2 b l := ⟨y 0, y 1, by funext a; match a with | 0 => rfl | 1 => rfl⟩
  blk_simp
  rw [after0_9, outsAt0]
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 _ scM0_1 _ scM0_2 _ _ _ _ _ _ _ _ _ _ b l).trans ?_
  have ht : t.val < 60 := t.isLt
  have e9 := (idx_facts t).2.2.2.2.2.2.2.2.2
  have hy : (win0_9.blk t).view.emb (ix2 b l) = ix2 b ⟨256 * t.val + l.val, by omega⟩ := by blk_ext [e9]
  rw [hy, gate_block m c t b (column l) (by omega), up_block m c t b (column l) (by omega)]
  have e : (⟨256 * t.val + (column l).val, by omega⟩ : Fin 15360) = source ⟨256 * t.val + l.val, by omega⟩ := by
    refine Fin.ext ?_
    simp only [column, source]
    omega
  rw [e]
  rfl

/-- Every run of the kernel leaves that array and every argument as it was. -/
theorem run_result (ρ : Dev nD → PrngReg) : θ_run defs (onTc (τ := τ) (main (F := Ideal))) ⟨m, fun _ => 0, ρ⟩ (fun r => ∀ c : Dev nD,
    r.2.mem ((c.tc : Thread nD τ).loc main_v8) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 9).trans (final m c), h.2 c⟩) (θ_run_and (run_main m ρ) (unchanged m ρ))

end Cert.GateUpIdeal.Body
end
-- ==== Proof.GateUpBits.lean ====
module

public import proofs.«01_k».proof.Proof.Gen.GateUp.Frame
public import proofs.«01_k».proof.Proof.Gen.GateUp.Skeleton
public import proofs.«01_k».proof.Proof.Gen.GateUp.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-!
The frame of the gate and up projections at machine words: the body runs to completion at every grid point, whatever
it leaves in its output, and the launch leaves every argument as it was.
-/

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S112x3840 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S15x256x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x15x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S15x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S15x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S15x256x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x15x256 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S15x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S15x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S112x256 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S3840x256 .bf16 := Memref.whole cc0_scratch0
abbrev scM0_1 : Memref sig .tc .vmem S4x15x256 .i32 := Memref.whole cc0_scratch1
abbrev scM0_2 : Memref sig .tc .vmem S4x15x256 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 1000000 in
/-- The body's triple: on whole staging memrefs — the inputs' at their contents,
    the FORGOTTEN outputs' (9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S112x3840 .bf16) (harg1 : arg1.IsWhole) (arg2 : Memref sig .tc .vmem S15x256x128 .i8) (harg2 : arg2.IsWhole) (arg3 : Memref sig .tc .vmem S12x15x256 .i8) (harg3 : arg3.IsWhole) (arg4 : Memref sig .tc .vmem S15x256 .bf16) (harg4 : arg4.IsWhole) (arg5 : Memref sig .tc .vmem S15x256 .bf16) (harg5 : arg5.IsWhole) (arg6 : Memref sig .tc .vmem S15x256x128 .i8) (harg6 : arg6.IsWhole) (arg7 : Memref sig .tc .vmem S12x15x256 .i8) (harg7 : arg7.IsWhole) (arg8 : Memref sig .tc .vmem S15x256 .bf16) (harg8 : arg8.IsWhole) (arg9 : Memref sig .tc .vmem S15x256 .bf16) (harg9 : arg9.IsWhole) (arg10 : Memref sig .tc .vmem S112x256 .bf16) (harg10 : arg10.IsWhole) (arg11 : Memref sig .tc .vmem S3840x256 .bf16) (harg11 : arg11.IsWhole) (arg12 : Memref sig .tc .vmem S4x15x256 .i32) (harg12 : arg12.IsWhole) (arg13 : Memref sig .tc .vmem S4x15x256 .i32) (harg13 : arg13.IsWhole)
    (x0 : Vec F S112x3840 .bf16) (x1 : Vec F S15x256x128 .i8) (x2 : Vec F S12x15x256 .i8) (x3 : Vec F S15x256 .bf16) (x4 : Vec F S15x256 .bf16) (x5 : Vec F S15x256x128 .i8) (x6 : Vec F S12x15x256 .i8) (x7 : Vec F S15x256 .bf16) (x8 : Vec F S15x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
    intro E K
    simp only [cc0_gate_up_eq_skeleton]; unfold cc0_gate_up_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The output windows this certificate FORGETS (9): nothing reads what the kernel leaves in them, so nothing
    of it is named (Lib/Pipeline/Dat.lean `Dat.toRForget`). -/
def forgets0 : Fin 10 → Bool := fun w => w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forget m ρ (fun c => (dats m 0 c).toRForget forgets0) (A_eq m) (run_main m ρ)

/-- THE FRAME: `Cert.quiescent_GateUp`'s statement (Defs.lean) at any `F` — Proof.lean cites it at `Bits`:
    `theorem Cert.Proof.claim : Cert.Claim := ⟨Cert.GateUp.Gen.facts, fun m ρ _ => Cert.GateUp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.GateUp.Gen

end
-- ==== Proof.GateUpRef.lean ====
module

public import proofs.«01_k».proof.Proof.RefMath
public import proofs.«01_k».proof.Proof.GateUpArray
public import proofs.«01_k».proof.Proof.Gen.GateUpRefIdeal.Run

/-!
What the reference of the gate and up projections computes: `reference`, the array the kernel leaves.
-/

@[expose] public section

set_option maxRecDepth 16384

noncomputable section

namespace Cert.GateUpRef

open Idealize.ShloMosaic Cert.Weights Cert.RefMath Cert.GateUpRefIdeal Cert.GateUpRefIdeal.Gen Cert.GateUpIdeal.Body

theorem fits : Fits 15360 15 :=
  ⟨by decide, by decide, by decide, by decide, by decide, by decide, by decide, by decide, by decide, by decide, by decide, by decide, by decide⟩

/-- The reference's rearrangement of the columns. -/
theorem rearranged (v : S112x15360.Idx → EReal) (x : Fin 112) (n : Fin 15360) :
    shapeCast S112x15360 (transpose S112x240x32x2 [0, 1, 3, 2] (shapeCast S112x240x2x32 v shapeCasts_S112x15360_S112x240x2x32)
      transposes_S112x240x2x32_S112x240x32x2_0_1_3_2) shapeCasts_S112x240x32x2_S112x15360 (ix2 x n) = v (ix2 x (source n)) := by
  pointwise
  refine congrArg (fun k => v (ix2 x k)) (Fin.ext ?_)
  simp only [source]
  omega

/-- The reference's logistic function. -/
theorem logistic_eq (v : FVec Ideal S112x15360 .f32) (y : S112x15360.Idx) :
    Host.divf (broadcastInDim S112x15360 ![] bcast_S_S112x15360 (constant (F := Ideal) S_ .f32 0x3F800000#32))
      (addf (broadcastInDim S112x15360 ![] bcast_S_S112x15360 (constant (F := Ideal) S_ .f32 0x3F800000#32)) (Host.exp (Host.negf v))) y = Ideal.logistic (v y) := by
  pointwise
  rfl

theorem reference (m : (ℓ : Loc nD τ sig) → Buf (Elt Ideal) ℓ) (c : Dev nD) :
    Cert.GateUpRefIdeal.Value.res_out0 m c = Cert.GateUpIdeal.Body.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  funext y
  obtain ⟨x, k, rfl⟩ : ∃ (x : Fin 112) (k : Fin 15360), y = ix2 x k := ⟨y 0, y 1, by funext a; fin_cases a <;> rfl⟩
  have eg := permuted_product fits (K := 3840) rfl dot_S112x15x4x32_S15360x15x4x32_S112x15360_231_231_0_0_n_n rfl rfl rfl rfl rfl rfl
    shapeCasts_S112x3840_S112x15x4x32x2 slices_S112x15x4x32x2_S112x15x4x32x1_0_0_0_0_0 slices_S112x15x4x32x2_S112x15x4x32x1_0_0_0_0_1
    shapeCasts_S112x15x4x32x1_S112x15x4x32 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) x (source k)
  have eu := permuted_product fits (K := 3840) rfl dot_S112x15x4x32_S15360x15x4x32_S112x15360_231_231_0_0_n_n rfl rfl rfl rfl rfl rfl
    shapeCasts_S112x3840_S112x15x4x32x2 slices_S112x15x4x32x2_S112x15x4x32x1_0_0_0_0_0 slices_S112x15x4x32x2_S112x15x4x32x1_0_0_0_0_1
    shapeCasts_S112x15x4x32x1_S112x15x4x32 (m ((c.tc : Thread nD τ).loc main_arg0)) (m ((c.tc : Thread nD τ).loc main_arg5)) (m ((c.tc : Thread nD τ).loc main_arg6))
    (m ((c.tc : Thread nD τ).loc main_arg7)) (m ((c.tc : Thread nD τ).loc main_arg8)) x (source k)
  refine Eq.trans (rearranged _ x k) ?_
  refine congrArg₂ (fun u v : EReal => u * v) (congrArg₂ (fun u v : EReal => u * v) eg ?_) eu
  exact (logistic_eq _ _).trans (congrArg Ideal.logistic eg)

end Cert.GateUpRef
end
-- ==== Proof.GateUpClaim.lean ====
module

public import proofs.«01_k».proof.Proof.GateUpArray
public import proofs.«01_k».proof.Proof.Gen.GateUpRefIdeal.Run
public import proofs.«01_k».proof.Defs
public import proofs.«01_k».proof.Proof.GateUpBits
public import proofs.«01_k».proof.Proof.GateUpRef
public import Idealize.ShloMosaic.Lib.Bf16PairInverse

/-!
The claims of the gate and up projections: its frames, the rewrites it was idealized by, and that it computes the reference.
-/

@[expose] public section

noncomputable section

namespace Cert.GateUpProof

open Idealize.ShloMosaic Idealize.SL.Sem

theorem frame_p : Cert.quiescent_GateUp := fun m ρ _ => Cert.GateUp.Gen.frame m ρ
theorem frame_pi : Cert.quiescent_GateUpIdeal := fun m ρ _ => Cert.GateUpIdeal.Gen.frame m ρ
theorem frame_ri : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

theorem preserves : Cert.preserves_GateUp_GateUpIdeal :=
  open Cert.GateUpIdeal IdealRules.bf16_pair in
  ⟨bufferStatement S4x15x2x256 S4x15x1x256, packStatement S15x256, statement S1x15x2x256 S1x15x1x256, packStatement S128x256,
    statement S256x256 S128x256, statement S1x1x2x256 S1x1x1x256, statement S64x256 S32x256⟩

theorem algebraic : Cert.algebraic_GateUpIdeal_GateUpRefIdeal := by
  intro m ρ m' ρ' _ hag
  refine ⟨_, Cert.GateUpIdeal.Body.run_result m ρ, ?_⟩
  · refine (θ_run Cert.GateUpRefIdeal.defs _ _).mono (fun r h c => ⟨((h c).1.trans (Cert.GateUpRef.reference m' c)).trans ?_, (h c).2⟩)
      (Cert.GateUpRefIdeal.Value.run (F := Ideal) m' ρ')
    obtain ⟨h0, h1, h2, h3, h4, h5, h6, h7, h8⟩ := hag c
    rw [h0, h1, h2, h3, h4, h5, h6, h7, h8]

end Cert.GateUpProof
end
-- ==== Proof.DownBody.lean ====
module

public import proofs.«01_k».proof.Proof.Gen.DownIdeal.Value
public import proofs.«01_k».proof.Proof.Scales

/-!
What the kernel's body computes for one block of 256 output columns: `tile_fills` (the loop leaves the
dequantised weights in the tile) and `block_eq` (the block the body stores).
-/

@[expose] public section

set_option maxRecDepth 16384

noncomputable section

namespace Cert.DownIdeal.Body

open Cert.DownIdeal Cert.DownIdeal.Gen Idealize.ShloMosaic Idealize.ShloMosaic.TcCoe Idealize.SL.Sem Cert.Weights Cert.Tiles

section
variable (𝒱 : Variants) (c : Dev nD) (bd : Option 𝒱.V) (i : grid0.Coords) (arg1 : Memref sig .tc .vmem S112x15360 .bf16) (harg1 : arg1.IsWhole) (arg2 : Memref sig .tc .vmem S60x256x128 .i8) (harg2 : arg2.IsWhole) (arg3 : Memref sig .tc .vmem S12x60x256 .i8) (harg3 : arg3.IsWhole) (arg4 : Memref sig .tc .vmem S60x256 .bf16) (harg4 : arg4.IsWhole) (arg5 : Memref sig .tc .vmem S60x256 .bf16) (harg5 : arg5.IsWhole) (arg6 : Memref sig .tc .vmem S112x256 .f32) (harg6 : arg6.IsWhole) (arg7 : Memref sig .tc .vmem S112x256 .bf16) (harg7 : arg7.IsWhole) (arg8 : Memref sig .tc .vmem S15360x256 .bf16) (harg8 : arg8.IsWhole) (arg9 : Memref sig .tc .vmem S4x60x2x256 .bf16) (harg9 : arg9.IsWhole) (arg10 : Memref sig .tc .vmem S4x60x2x256 .bf16) (harg10 : arg10.IsWhole)
  (X2 : BufTy.Contents (Elt Ideal) arg2.view.ty) (X9 : BufTy.Contents (Elt Ideal) arg9.view.ty) (X10 : BufTy.Contents (Elt Ideal) arg10.view.ty)

/-- One trip stores the rows of its super-block. -/
theorem trip_fills (k : Fin k0_t1_loop.trips) (hk : k.val < 60) :
    Fills (e := .bf16) (rowFrom (s := 60) (K := 15360) rfl (arg2.view.read (Elt Ideal) X2) (arg9.view.read (Elt Ideal) X9) (arg10.view.read (Elt Ideal) X10))
      (fun y => (y 0).val / 256 = k.val)
      (tripL_k0_t1 (F := Ideal) 𝒱 c bd i arg1 harg1 arg2 harg2 arg3 harg3 arg4 harg4 arg5 harg5 arg6 harg6 arg7 harg7 arg8 harg8 arg9 harg9 arg10 harg10 X2 X9 X10 k) := by
  unfold tripL_k0_t1 trip_k0_t1
  refine Tiles.trip _ k.val (by omega) (fun g => k0_off6 k (BitVec.ofNat 32 (64 * g.val))) (fun g => k0_off6_eq k g) (fun g => k0_off6_inb k g)
    ![_, _, _, _] fun g x l => ?_
  fin_cases g
  · exact part_rows rfl _ _ _ k.val hk 0 _ _ (k0_off1_eq k) _ (k0_off2_eq k) _ _ x l
  · exact part_rows rfl _ _ _ k.val hk 1 _ _ (k0_off1_eq k) _ (k0_off3_eq k) _ _ x l
  · exact part_rows rfl _ _ _ k.val hk 2 _ _ (k0_off1_eq k) _ (k0_off4_eq k) _ _ x l
  · exact part_rows rfl _ _ _ k.val hk 3 _ _ (k0_off1_eq k) _ (k0_off5_eq k) _ _ x l

/-- What the loop leaves in the whole tile. -/
theorem tile_fills :
    Fills (e := .bf16) (rowFrom (s := 60) (K := 15360) rfl (arg2.view.read (Elt Ideal) X2) (arg9.view.read (Elt Ideal) X9) (arg10.view.read (Elt Ideal) X10))
      (fun _ => True)
      (pb_k0_t1 (F := Ideal) 𝒱 c bd i arg1 harg1 arg2 harg2 arg3 harg3 arg4 harg4 arg5 harg5 arg6 harg6 arg7 harg7 arg8 harg8 arg9 harg9 arg10 harg10 X2 X9 X10 60) := by
  have hN : k0_t1_loop.trips = 60 := by decide
  have h := Tiles.loop (K := 15360) (rowFrom (s := 60) (K := 15360) rfl (arg2.view.read (Elt Ideal) X2) (arg9.view.read (Elt Ideal) X9) (arg10.view.read (Elt Ideal) X10))
    (fun k => if hk : k < k0_t1_loop.trips then tripL_k0_t1 (F := Ideal) 𝒱 c bd i arg1 harg1 arg2 harg2 arg3 harg3 arg4 harg4 arg5 harg5 arg6 harg6 arg7 harg7 arg8 harg8 arg9 harg9 arg10 harg10 X2 X9 X10 ⟨k, hk⟩ else [])
    (pb_k0_t1 (F := Ideal) 𝒱 c bd i arg1 harg1 arg2 harg2 arg3 harg3 arg4 harg4 arg5 harg5 arg6 harg6 arg7 harg7 arg8 harg8 arg9 harg9 arg10 harg10 X2 X9 X10)
    60 rfl (fun k hk => by
      have hk' : k < k0_t1_loop.trips := hN ▸ hk
      rw [dif_pos hk']
      exact pb_k0_t1_succ 𝒱 c bd i arg1 harg1 arg2 harg2 arg3 harg3 arg4 harg4 arg5 harg5 arg6 harg6 arg7 harg7 arg8 harg8 arg9 harg9 arg10 harg10 X2 X9 X10 ⟨k, hk'⟩)
    (fun k hk => by
      have hk' : k < k0_t1_loop.trips := hN ▸ hk
      rw [dif_pos hk']
      exact trip_fills 𝒱 c bd i arg1 harg1 arg2 harg2 arg3 harg3 arg4 harg4 arg5 harg5 arg6 harg6 arg7 harg7 arg8 harg8 arg9 harg9 arg10 harg10 X2 X9 X10 ⟨k, hk'⟩ hk)
    60 le_rfl
  exact ⟨h.1, fun y _ => h.2 y (by have : (y 0).val < 15360 := (y 0).isLt; omega)⟩

/-- The scales the body stores. -/
theorem scale_fills (x2 : Vec Ideal S12x60x256 .i8) (x3 : Vec Ideal S60x256 .bf16) :
    Fills (e := .bf16) (scaleAt (s := 60) x2 x3) (fun _ => True) (kernelRun0_A.sl.HS1_4 c arg3 harg3 arg4 harg4 x2 x3) := by
  have hB : arg3.view.read (Elt Ideal) (harg3.unread x2) = x2 := harg3.read_unread _
  have hD : shapeCast S60x256 (arg4.view.readAt (Elt Ideal) (Rect.unit (s := S60x256) ![0, 0] S60x256.size inb_S60x256_S60x256_0_0).toLoadRect (harg4.unread x3)) shapeCasts_S60x256_S60x256 = x3 := by
    rw [View.readAt_eq_ld]; rw [View.ld_unit_lit (S := S60x256) _ _ (by decide)]; exact (shapeCast_id (s := S60x256) _ _).trans (harg4.read_unread _)
  have h := Scales.fill_scales (s := 60) shapeCasts_S1x60x256_S60x256 shapeCasts_S60x256_S1x60x256 shapeCasts_S1x60x256_S1x60x1x256 bitcasts_S1x60x2x256_w16_S1x60x1x256_w32
    (arg3.view.read (Elt Ideal) (harg3.unread x2)) (by decide) (shapeCast S60x256 (arg4.view.readAt (Elt Ideal) (Rect.unit (s := S60x256) ![0, 0] S60x256.size inb_S60x256_S60x256_0_0).toLoadRect (harg4.unread x3)) shapeCasts_S60x256_S60x256) (by decide)
  have hG : scaleAt (s := 60) x2 x3 = scaleAt (s := 60) (arg3.view.read (Elt Ideal) (harg3.unread x2)) (shapeCast S60x256 (arg4.view.readAt (Elt Ideal) (Rect.unit (s := S60x256) ![0, 0] S60x256.size inb_S60x256_S60x256_0_0).toLoadRect (harg4.unread x3)) shapeCasts_S60x256_S60x256) := by rw [hB, hD]
  rw [hG]
  exact h

/-- The offsets the body stores. -/
theorem offset_fills (x2 : Vec Ideal S12x60x256 .i8) (x4 : Vec Ideal S60x256 .bf16) :
    Fills (e := .bf16) (offsetAt (s := 60) x2 x4) (fun _ => True) (kernelRun0_A.sl.HS2_4 c arg3 harg3 arg5 harg5 x2 x4) := by
  have hB : arg3.view.read (Elt Ideal) (harg3.unread x2) = x2 := harg3.read_unread _
  have hD : shapeCast S60x256 (arg5.view.readAt (Elt Ideal) (Rect.unit (s := S60x256) ![0, 0] S60x256.size inb_S60x256_S60x256_0_0).toLoadRect (harg5.unread x4)) shapeCasts_S60x256_S60x256 = x4 := by
    rw [View.readAt_eq_ld]; rw [View.ld_unit_lit (S := S60x256) _ _ (by decide)]; exact (shapeCast_id (s := S60x256) _ _).trans (harg5.read_unread _)
  have h := Scales.fill_offsets (s := 60) shapeCasts_S1x60x256_S60x256 shapeCasts_S60x256_S1x60x256 shapeCasts_S1x60x256_S1x60x1x256 bitcasts_S1x60x2x256_w16_S1x60x1x256_w32
    (arg3.view.read (Elt Ideal) (harg3.unread x2)) (by decide) (shapeCast S60x256 (arg5.view.readAt (Elt Ideal) (Rect.unit (s := S60x256) ![0, 0] S60x256.size inb_S60x256_S60x256_0_0).toLoadRect (harg5.unread x4)) shapeCasts_S60x256_S60x256) (by decide)
  have hG : offsetAt (s := 60) x2 x4 = offsetAt (s := 60) (arg3.view.read (Elt Ideal) (harg3.unread x2)) (shapeCast S60x256 (arg5.view.readAt (Elt Ideal) (Rect.unit (s := S60x256) ![0, 0] S60x256.size inb_S60x256_S60x256_0_0).toLoadRect (harg5.unread x4)) shapeCasts_S60x256_S60x256) := by rw [hB, hD]
  rw [hG]
  exact h

/-- The block the body stores, read at an index. -/
theorem out_apply (x0 : Vec Ideal S112x15360 .bf16) (x1 : Vec Ideal S60x256x128 .i8) (x2 : Vec Ideal S12x60x256 .i8) (x3 : Vec Ideal S60x256 .bf16) (x4 : Vec Ideal S60x256 .bf16) (x5 : Vec Ideal S112x256 .f32) (b : Fin 112) (l : Fin 256) :
    out0_A_6 (F := Ideal) c i arg1 harg1 arg2 harg2 arg3 harg3 arg4 harg4 arg5 harg5 arg6 harg6 arg7 harg7 arg8 harg8 arg9 harg9 arg10 harg10 x0 x1 x2 x3 x4 x5 (ix2 b l)
      = x5 (ix2 b l) + ∑ κ : Fin 15360, x0 (ix2 b κ) * tileW (s := 60) x1 x2 x3 x4 ⟨κ.val / 256, by omega⟩ ⟨κ.val % 256, by omega⟩ l := by
  unfold out0_A_6 kernelRun0_A
  dsimp only
  rw [show Scf.trips (0#32) (Scalar.addi 0#32 60#32) 1#32 = 60 from by decide,
    (tile_fills Variants.none c none i arg1 harg1 arg2 harg2 arg3 harg3 arg4 harg4 arg5 harg5 arg6 harg6 arg7 harg7 arg8 harg8 arg9 harg9 arg10 harg10 _ _ _).readCov,
    (scale_fills c arg3 harg3 arg4 harg4 x2 x3).read, (offset_fills c arg3 harg3 arg5 harg5 x2 x4).read, harg2.read_unread]
  refine (congrFun ((Tiles.whole (S := S112x256) (e := .bf16) _ ![0, 0] (by decide) _).read VO0_6 _) (ix2 b l)).trans ?_
  simp only [View.readAt_eq_ld]
  rw [View.ld_unit_lit (S := S112x15360) _ _ (by decide), View.ld_unit_lit (S := S15360x256) _ _ (by decide), View.ld_unit_lit (S := S112x256) _ _ (by decide), harg1.read_unread, harg6.read_unread]
  pointwise [k0_pay7]
  exact congrArg (x5 (ix2 b l) + ·) (Finset.sum_congr rfl fun κ _ => congrArg (x0 (ix2 b κ) * ·) (rowFrom_scales (s := 60) rfl x1 x2 x3 x4 κ l))

end

end Cert.DownIdeal.Body
end
-- ==== Proof.DownArray.lean ====
module

public import proofs.«01_k».proof.Proof.DownBody
public import Idealize.ShloMosaic.Lib.Claim
public import Idealize.ShloMosaic.Lib.Pipeline.ValueKit

/-!
The array the kernel leaves, from its arguments: `final`.
-/

@[expose] public section

set_option maxRecDepth 16384

noncomputable section

namespace Cert.DownIdeal.Body

open Cert.DownIdeal Cert.DownIdeal.Gen Idealize.ShloMosaic Idealize.ShloMosaic.TcCoe Idealize.SL.Sem Cert.Weights Cert.Tiles
open Idealize.ShloMosaic.Pipeline (Dat)

/-- The product plus the residual, from the arguments: activations in the nibbles' order, the residual, and the
    quantised weight. -/
def result (a : S112x15360.Idx → EReal) (r : S112x3840.Idx → EReal) (q : S3840x60x128.Idx → BitVec 8) (b : S3840x60x12.Idx → BitVec 8)
    (d dm : S3840x60.Idx → EReal) (y : S112x3840.Idx) : EReal :=
  r y + ∑ κ : Fin 15360, a (ix2 (y 0) κ)
    * weight (fun j => q (ix3 (y 1) ⟨κ.val / 256, by omega⟩ j)) (fun j => b (ix3 (y 1) ⟨κ.val / 256, by omega⟩ j))
        (d (ix2 (y 1) ⟨κ.val / 256, by omega⟩)) (dm (ix2 (y 1) ⟨κ.val / 256, by omega⟩)) ⟨κ.val % 256, by omega⟩

variable (m : (ℓ : Loc nD τ sig) → Buf (Elt Ideal) ℓ)

theorem idx_facts : ∀ t : Fin cfg0.N, win0_0.index t = ![0, 0] ∧ win0_1.index t = ![0, t.val, 0] ∧ win0_2.index t = ![0, 0, t.val]
    ∧ win0_3.index t = ![0, t.val] ∧ win0_4.index t = ![0, t.val] ∧ win0_5.index t = ![0, t.val] ∧ win0_6.index t = ![0, t.val] :=
  (by decide +kernel : ∀ t : Fin grid0.N, _)

/-- What the host's transposes hold when the kernel starts. -/
theorem V_codes (c : Dev nD) : V m c main_v0 = transpose S60x3840x128 [1, 0, 2] (m ((c : Thread nD τ).loc main_arg2)) transposes_S3840x60x128_S60x3840x128_1_0_2 := by
  unfold_abbrev_sides
  after_results
theorem V_bytes (c : Dev nD) : V m c main_v1 = transpose S12x60x3840 [2, 1, 0] (m ((c : Thread nD τ).loc main_arg3)) transposes_S3840x60x12_S12x60x3840_2_1_0 := by
  unfold_abbrev_sides
  after_results
theorem V_d (c : Dev nD) : V m c main_v2 = transpose S60x3840 [1, 0] (m ((c : Thread nD τ).loc main_arg4)) transposes_S3840x60_S60x3840_1_0 := by
  unfold_abbrev_sides
  after_results
theorem V_dmin (c : Dev nD) : V m c main_v3 = transpose S60x3840 [1, 0] (m ((c : Thread nD τ).loc main_arg5)) transposes_S3840x60_S60x3840_1_0 := by
  unfold_abbrev_sides
  after_results

/-! Each window's block, read in the argument it comes from. -/

theorem blk1 (c : Dev nD) (t : Fin cfg0.N) (k : Fin 60) (l : Fin 256) (j : Fin 128) (h : 256 * t.val + l.val < 3840) :
    iblk m c 1 t (ix3 k l j) = m ((c : Thread nD τ).loc main_arg2) (ix3 ⟨256 * t.val + l.val, h⟩ k j) := by
  have e1 := (idx_facts t).2.1
  have e : (win0_1.blk t).view.emb (ix3 k l j) = ix3 k ⟨256 * t.val + l.val, h⟩ j := by blk_ext [e1]
  have h' : iblk m c 1 t (ix3 k l j) = V m c main_v0 (ix3 k ⟨256 * t.val + l.val, h⟩ j) := congrArg (V m c main_v0) e
  rw [h', V_codes]
  pointwise

theorem blk2 (c : Dev nD) (t : Fin cfg0.N) (k : Fin 60) (l : Fin 256) (j : Fin 12) (h : 256 * t.val + l.val < 3840) :
    iblk m c 2 t (ix3 j k l) = m ((c : Thread nD τ).loc main_arg3) (ix3 ⟨256 * t.val + l.val, h⟩ k j) := by
  have e1 := (idx_facts t).2.2.1
  have e : (win0_2.blk t).view.emb (ix3 j k l) = ix3 j k ⟨256 * t.val + l.val, h⟩ := by blk_ext [e1]
  have h' : iblk m c 2 t (ix3 j k l) = V m c main_v1 (ix3 j k ⟨256 * t.val + l.val, h⟩) := congrArg (V m c main_v1) e
  rw [h', V_bytes]
  pointwise

theorem blk3 (c : Dev nD) (t : Fin cfg0.N) (k : Fin 60) (l : Fin 256) (h : 256 * t.val + l.val < 3840) :
    iblk m c 3 t (ix2 k l) = m ((c : Thread nD τ).loc main_arg4) (ix2 ⟨256 * t.val + l.val, h⟩ k) := by
  have e1 := (idx_facts t).2.2.2.1
  have e : (win0_3.blk t).view.emb (ix2 k l) = ix2 k ⟨256 * t.val + l.val, h⟩ := by blk_ext [e1]
  have h' : iblk m c 3 t (ix2 k l) = V m c main_v2 (ix2 k ⟨256 * t.val + l.val, h⟩) := congrArg (V m c main_v2) e
  rw [h', V_d]
  pointwise

theorem blk4 (c : Dev nD) (t : Fin cfg0.N) (k : Fin 60) (l : Fin 256) (h : 256 * t.val + l.val < 3840) :
    iblk m c 4 t (ix2 k l) = m ((c : Thread nD τ).loc main_arg5) (ix2 ⟨256 * t.val + l.val, h⟩ k) := by
  have e1 := (idx_facts t).2.2.2.2.1
  have e : (win0_4.blk t).view.emb (ix2 k l) = ix2 k ⟨256 * t.val + l.val, h⟩ := by blk_ext [e1]
  have h' : iblk m c 4 t (ix2 k l) = V m c main_v3 (ix2 k ⟨256 * t.val + l.val, h⟩) := congrArg (V m c main_v3) e
  rw [h', V_dmin]
  pointwise

theorem final (c : Dev nD) : (dats (F := Ideal) m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats (F := Ideal) m 0 c).arrAt_eq_of_covers 6 _ (by decide +kernel) fun t hf y => ?_
  obtain ⟨b, l, rfl⟩ : ∃ (b : Fin 112) (l : Fin 256), y = ix2 b l := ⟨y 0, y 1, by funext a; match a with | 0 => rfl | 1 => rfl⟩
  blk_simp
  rw [after0_6, outsAt0]
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 _ scM0_1 _ scM0_2 _ _ _ _ _ _ _ b l).trans ?_
  have ht : t.val < 15 := t.isLt
  obtain ⟨e0, e1, e2, e3, e4, e5, e6⟩ := idx_facts t
  have hy : (win0_6.blk t).view.emb (ix2 b l) = ix2 b ⟨256 * t.val + l.val, by omega⟩ := by blk_ext [e6]
  rw [hy]
  have h5 : iblk m c 5 t (ix2 b l) = m ((c : Thread nD τ).loc main_arg1) (ix2 b ⟨256 * t.val + l.val, by omega⟩) := by
    blk_ext [iblk, V, e5]
  have h0 : ∀ κ : Fin 15360, iblk m c 0 t (ix2 b κ) = m ((c : Thread nD τ).loc main_arg0) (ix2 b κ) := fun κ => by blk_ext [iblk, V, e0]
  refine congr (congrArg HAdd.hAdd h5) (Finset.sum_congr rfl fun κ _ => ?_)
  rw [h0 κ]
  unfold tileW
  simp only [blk1 m c t _ l _ (show 256 * t.val + l.val < 3840 by omega), blk2 m c t _ l _ (show 256 * t.val + l.val < 3840 by omega),
    blk3 m c t _ l (show 256 * t.val + l.val < 3840 by omega), blk4 m c t _ l (show 256 * t.val + l.val < 3840 by omega)]
  rfl

end Cert.DownIdeal.Body
end
-- ==== Proof.DownRef.lean ====
module

public import proofs.«01_k».proof.Proof.RefMath
public import proofs.«01_k».proof.Proof.DownArray
public import proofs.«01_k».proof.Proof.Gen.DownRefIdeal.Run

/-!
What the reference computes: `reference`, the array the kernel leaves.
-/

@[expose] public section

set_option maxRecDepth 16384

noncomputable section

namespace Cert.DownRef

open Idealize.ShloMosaic Cert.Weights Cert.RefMath Cert.DownRefIdeal Cert.DownRefIdeal.Gen

theorem fits : Fits 3840 60 :=
  ⟨by decide, by decide, by decide, by decide, by decide, by decide, by decide, by decide, by decide, by decide, by decide, by decide, by decide⟩

theorem reference (m : (ℓ : Loc nD τ sig) → Buf (Elt Ideal) ℓ) (c : Dev nD) :
    Cert.DownRefIdeal.Value.res_out0 m c = Cert.DownIdeal.Body.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := by
  funext y
  obtain ⟨x, k, rfl⟩ : ∃ (x : Fin 112) (k : Fin 3840), y = ix2 x k := ⟨y 0, y 1, by funext a; fin_cases a <;> rfl⟩
  exact congrArg₂ (fun u v : EReal => u + v) rfl
    (permuted_product fits (K := 15360) rfl dot_S112x60x4x32_S3840x60x4x32_S112x3840_231_231_0_0_n_n rfl rfl rfl rfl rfl rfl
      shapeCasts_S112x15360_S112x60x4x32x2 slices_S112x60x4x32x2_S112x60x4x32x1_0_0_0_0_0 slices_S112x60x4x32x2_S112x60x4x32x1_0_0_0_0_1
      shapeCasts_S112x60x4x32x1_S112x60x4x32 (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) x k)

end Cert.DownRef
end
-- ==== Proof.DownClaim.lean ====
module

public import proofs.«01_k».proof.Proof.Gen.DownIdeal.Value
public import proofs.«01_k».proof.Proof.Gen.DownRefIdeal.Run
public import proofs.«01_k».proof.Defs
public import proofs.«01_k».proof.Proof.Gen.Down.Frame
public import proofs.«01_k».proof.Proof.DownRef
public import Idealize.ShloMosaic.Lib.Bf16PairInverse

/-!
The claims of the down projection: its frames, the rewrites it was idealized by, and that it computes the reference.
-/

@[expose] public section

noncomputable section

namespace Cert.DownProof

open Idealize.ShloMosaic Idealize.SL.Sem

theorem frame_p : Cert.quiescent_Down := fun m ρ _ => Cert.Down.Gen.frame m ρ
theorem frame_pi : Cert.quiescent_DownIdeal := fun m ρ _ => Cert.DownIdeal.Gen.frame m ρ
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem preserves : Cert.preserves_Down_DownIdeal :=
  open Cert.DownIdeal IdealRules.bf16_pair in
  ⟨bufferStatement S4x60x2x256 S4x60x1x256, packStatement S60x256, statement S1x60x2x256 S1x60x1x256, packStatement S128x256,
    statement S256x256 S128x256, statement S1x1x2x256 S1x1x1x256, statement S64x256 S32x256⟩

theorem algebraic : Cert.algebraic_DownIdeal_DownRefIdeal := by
  intro m ρ m' ρ' _ hag
  refine ⟨fun c => (Cert.DownIdeal.Gen.dats m 0 c).arrAt 6 Cert.DownIdeal.cfg0.N, ?_, ?_⟩
  · exact Cert.DownIdeal.Value.run_blocks m ρ
  · refine (θ_run Cert.DownRefIdeal.defs _ _).mono (fun r h c => ⟨((h c).1.trans (Cert.DownRef.reference m' c)).trans ?_, (h c).2⟩)
      (Cert.DownRefIdeal.Value.run (F := Ideal) m' ρ')
    obtain ⟨h0, h1, h2, h3, h4, h5⟩ := hag c
    rw [h0, h1, h2, h3, h4, h5]
    exact (Cert.DownIdeal.Body.final m c).symm

end Cert.DownProof
end
-- ==== Proof.lean ====
module

public import proofs.«01_k».proof.Defs
public import proofs.«01_k».proof.Proof.Gen.Before.Frame
public import proofs.«01_k».proof.Proof.Gen.BeforeIdeal.Frame
public import proofs.«01_k».proof.Proof.Gen.BeforeRefIdeal.Run
public import proofs.«01_k».proof.Proof.Gen.Attention.Frame
public import proofs.«01_k».proof.Proof.Gen.AttentionIdeal.Frame
public import proofs.«01_k».proof.Proof.Gen.AttentionRefIdeal.Run
public import proofs.«01_k».proof.Proof.Gen.Output.Frame
public import proofs.«01_k».proof.Proof.Gen.OutputIdeal.Frame
public import proofs.«01_k».proof.Proof.Gen.OutputRefIdeal.Run
public import proofs.«01_k».proof.Proof.Gen.GateUp.Frame
public import proofs.«01_k».proof.Proof.Gen.GateUp.Loops
public import proofs.«01_k».proof.Proof.Gen.GateUpIdeal.Frame
public import proofs.«01_k».proof.Proof.Gen.GateUpIdeal.Loops
public import proofs.«01_k».proof.Proof.Gen.GateUpRefIdeal.Run
public import proofs.«01_k».proof.Proof.Gen.DownIdeal.Value
public import proofs.«01_k».proof.Proof.Gen.DownRefIdeal.Run
public import proofs.«01_k».proof.Proof.Gen.Down.Frame
public import proofs.«01_k».proof.Proof.BeforeClaim
public import proofs.«01_k».proof.Proof.Gen.Pre_lengths_in_cache
public import proofs.«01_k».proof.Proof.AttentionClaim
public import proofs.«01_k».proof.Proof.OutputClaim
public import proofs.«01_k».proof.Proof.GateUpClaim
public import proofs.«01_k».proof.Proof.DownClaim

/-!
The claims of the calls taken: their frames, the rewrites they were idealized by, and (but for the attention) that they compute
their references.
-/

@[expose] public section

noncomputable section

namespace Cert.Proof

theorem claim : Cert.Claim :=
  ⟨Cert.Before.Gen.facts, Cert.BeforeIdeal.Gen.facts, Cert.BeforeRefIdeal.Gen.facts,
    Cert.Attention.Gen.facts, Cert.AttentionIdeal.Gen.facts, Cert.AttentionRefIdeal.Gen.facts,
    Cert.Output.Gen.facts, Cert.OutputIdeal.Gen.facts, Cert.OutputRefIdeal.Gen.facts, Cert.GateUp.Gen.facts, Cert.GateUpIdeal.Gen.facts, Cert.GateUpRefIdeal.Gen.facts,
    Cert.Down.Gen.facts, Cert.DownIdeal.Gen.facts, Cert.DownRefIdeal.Gen.facts, Cert.Pre_lengths_in_cache.Gen.facts,
    BeforeProof.frame_p, BeforeProof.frame_pi, BeforeProof.frame_ri,
    AttentionProof.frame_p, AttentionProof.frame_pi, AttentionProof.frame_ri, OutputProof.frame_p, OutputProof.frame_pi, OutputProof.frame_ri,
    GateUpProof.frame_p, GateUpProof.frame_pi, GateUpProof.frame_ri,
    DownProof.frame_p, DownProof.frame_pi, DownProof.frame_ri, BeforeProof.preserves, BeforeProof.algebraic,
    AttentionProof.preserves, OutputProof.preserves, OutputProof.algebraic,
    GateUpProof.preserves, GateUpProof.algebraic, DownProof.preserves, DownProof.algebraic⟩

end Cert.Proof
end
